-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2.1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2.2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "masked" .f32 0xF149F2CA#32 ⊥
  ∧ IdealRules.named_const.Statement Cert.KernelIdeal.κ "scale_log2e" .f32 0x3E38AA3B#32 (((1 / 8) * (Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v89) = v0 c
          ∧ r.2.mem ((c.tc : Thread Cert.Reference3Ideal.nD Cert.Reference3Ideal.τ).loc Cert.Reference3Ideal.main_v91) = v1 c
          ∧ r.2.mem ((c.tc : Thread Cert.Reference3Ideal.nD Cert.Reference3Ideal.τ).loc Cert.Reference3Ideal.main_v92) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal (hKernel3Ideal := hKernel3Ideal) (hReference3Ideal := hReference3Ideal)
-- ==== Pre_finite_scores.lean ====
abbrev S16384x1536 : Shape := ⟨2, ![16384, 1536]⟩
abbrev S8x257 : Shape := ⟨2, ![8, 257]⟩
abbrev S16384x1024 : Shape := ⟨2, ![16384, 1024]⟩
abbrev S_ : Shape := ⟨0, ![]⟩

class Facts : Prop where
  slices_S16384x1536_S16384x1024_0_0 : S16384x1536.Slices ![0, 0] S16384x1024
  bitsLt_bf16_f32 : FTy.bits .bf16 < FTy.bits .f32
  bcast_S_S16384x1024 : S_.BroadcastsInDim S16384x1024 (![] : Fin 0 → Fin S16384x1024.rank)
  bcast_S_S8x257 : S_.BroadcastsInDim S8x257 (![] : Fin 0 → Fin S8x257.rank)

variable [Facts]

def fn {F : FTy → Type} [FloatOps F] (main_arg0 : FVec F S16384x1536 .bf16) (main_arg1 : FVec F S8x257 .f32) : IVec S16384x1024 1 × IVec S8x257 1 :=
  let main_v0 : FVec F S16384x1024 .bf16 := (extractStridedSlice S16384x1024 ![0, 0] · slices_S16384x1536_S16384x1024_0_0) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_v5 : FVec F S8x257 .f32 := Host.absf main_arg1
  let main_cst_0 : FVec F S_ .f32 := constant S_ .f32 0x7F800000#32
  let main_v6 : FVec F S8x257 .f32 := broadcastInDim S8x257 ![] bcast_S_S8x257 main_cst_0
  let main_v7 : IVec S8x257 1 := cmpf .olt main_v5 main_v6
  (main_v4, main_v7)
-- ==== Pre_routed.lean ====
abbrev S81920x1024 : Shape := ⟨2, ![81920, 1024]⟩
abbrev S160 : Shape := ⟨1, ![160]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩
abbrev S159 : Shape := ⟨1, ![159]⟩

class Facts : Prop where
  shapeCasts_S1_S_ : S1.ShapeCasts S_
  slices_S160_S1_0 : S160.Slices ![0] S1
  slices_S160_S159_0 : S160.Slices ![0] S159
  concatenates_S1_S159_S160_d0 : Shape.Concatenates [S1, S159] S160 0
  bcast_S_S1 : S_.BroadcastsInDim S1 (![] : Fin 0 → Fin S1.rank)
  bcast_S_S160 : S_.BroadcastsInDim S160 (![] : Fin 0 → Fin S160.rank)

variable [Facts]

def fn_part2 {F : FTy → Type} [FloatOps F] (main_arg4 : IVec S160 32) (main_v1 : IVec S_ 32) (main_v12 : IVec S1 1) (main_v17 : IVec S160 1) (main_v25 : IVec S160 1) (main_v27 : IVec S160 1) (main_v37 : IVec S160 1) (main_v39 : IVec S160 32) : IVec S1 1 × IVec S160 1 × IVec S160 1 × IVec S160 1 × IVec S160 1 × IVec S160 1 :=
  let main_v40 : IVec S160 32 := broadcastInDim S160 ![] bcast_S_S160 main_v1
  let main_v41 : IVec S160 1 := cmpi .ne main_v39 main_v40
  let main_c_7 : IVec S_ 32 := constantI S_ 32 0#32
  let main_v42 : IVec S160 32 := broadcastInDim S160 ![] bcast_S_S160 main_c_7
  let main_v43 : IVec S160 1 := cmpi .slt main_arg4 main_v42
  let main_v44 : IVec S160 1 := ori main_v41 main_v43
  (main_v12, main_v17, main_v25, main_v27, main_v37, main_v44)

def fn_part1 {F : FTy → Type} [FloatOps F] (main_arg1 : IVec S160 32) (main_arg3 : IVec S160 32) (main_arg4 : IVec S160 32) (main_v0 : IVec S160 32) (main_v1 : IVec S_ 32) (main_v4 : IVec S160 32) (main_v7 : IVec S160 32) (main_v12 : IVec S1 1) (main_v17 : IVec S160 1) (main_v18 : IVec S160 32) : IVec S1 1 × IVec S160 1 × IVec S160 1 × IVec S160 1 × IVec S160 1 × IVec S160 1 :=
  let main_v19 : IVec S160 1 := cmpi .sge main_arg3 main_v18
  let main_c_4 : IVec S_ 32 := constantI S_ 32 0#32
  let main_v20 : IVec S160 32 := broadcastInDim S160 ![] bcast_S_S160 main_c_4
  let main_v21 : IVec S160 1 := cmpi .sgt main_arg3 main_v20
  let main_v22 : IVec S160 32 := broadcastInDim S160 ![] bcast_S_S160 main_v1
  let main_v23 : IVec S160 1 := cmpi .slt main_v0 main_v22
  let main_v24 : IVec S160 1 := cmpi .eq main_v21 main_v23
  let main_v25 : IVec S160 1 := andi main_v19 main_v24
  let main_c_5 : IVec S_ 32 := constantI S_ 32 32#32
  let main_v26 : IVec S160 32 := broadcastInDim S160 ![] bcast_S_S160 main_c_5
  let main_v27 : IVec S160 1 := cmpi .slt main_arg4 main_v26
  let main_v28 : IVec S160 32 := broadcastInDim S160 ![] bcast_S_S160 main_v1
  let main_v29 : IVec S160 1 := cmpi .sge main_v0 main_v28
  let main_v30 : IVec S160 1 := cmpi .eq main_arg1 main_v4
  let main_v31 : IVec S160 1 := cmpi .eq main_arg4 main_v7
  let main_v32 : IVec S160 1 := andi main_v30 main_v31
  let main_v33 : IVec S160 1 := ori main_v29 main_v32
  let main_v34 : IVec S160 1 := cmpi .ne main_arg1 main_v4
  let main_v35 : IVec S160 1 := cmpi .eq main_v7 main_arg1
  let main_v36 : IVec S160 1 := andi main_v34 main_v35
  let main_v37 : IVec S160 1 := ori main_v33 main_v36
  let main_c_6 : IVec S_ 32 := constantI S_ 32 1#32
  let main_v38 : IVec S160 32 := broadcastInDim S160 ![] bcast_S_S160 main_c_6
  let main_v39 : IVec S160 32 := addi main_v0 main_v38
  fn_part2 (F := F) main_arg4 main_v1 main_v12 main_v17 main_v25 main_v27 main_v37 main_v39

def fn {F : FTy → Type} [FloatOps F] (main_arg0 : FVec F S81920x1024 .f32) (main_arg1 : IVec S160 32) (main_arg2 : IVec S1 32) (main_arg3 : IVec S160 32) (main_arg4 : IVec S160 32) (main_arg5 : FVec F S32x1024x2048 .f32) (main_arg6 : FVec F S32x1x2048 .f32) (main_arg7 : FVec F S32x1024x1024 .f32) (main_arg8 : FVec F S32x1x1024 .f32) : IVec S1 1 × IVec S160 1 × IVec S160 1 × IVec S160 1 × IVec S160 1 × IVec S160 1 :=
  let main_v0 : IVec S160 32 := iotaInDim S160 32 0
  let main_v1 : IVec S_ 32 := shapeCast S_ main_arg2 shapeCasts_S1_S_
  let main_v2 : IVec S1 32 := (extractStridedSlice S1 ![0] · slices_S160_S1_0) main_arg1
  let main_v3 : IVec S159 32 := (extractStridedSlice S159 ![0] · slices_S160_S159_0) main_arg1
  let main_v4 : IVec S160 32 := (fun a b => concatenate S160 0 [⟨S1, a⟩, ⟨S159, b⟩] concatenates_S1_S159_S160_d0) main_v2 main_v3
  let main_v5 : IVec S1 32 := (extractStridedSlice S1 ![0] · slices_S160_S1_0) main_arg4
  let main_v6 : IVec S159 32 := (extractStridedSlice S159 ![0] · slices_S160_S159_0) main_arg4
  let main_v7 : IVec S160 32 := (fun a b => concatenate S160 0 [⟨S1, a⟩, ⟨S159, b⟩] concatenates_S1_S159_S160_d0) main_v5 main_v6
  let main_c : IVec S_ 32 := constantI S_ 32 0#32
  let main_v8 : IVec S1 32 := broadcastInDim S1 ![] bcast_S_S1 main_c
  let main_v9 : IVec S1 1 := cmpi .sge main_arg2 main_v8
  let main_c_0 : IVec S_ 32 := constantI S_ 32 160#32
  let main_v10 : IVec S1 32 := broadcastInDim S1 ![] bcast_S_S1 main_c_0
  let main_v11 : IVec S1 1 := cmpi .sle main_arg2 main_v10
  let main_v12 : IVec S1 1 := andi main_v9 main_v11
  let main_c_1 : IVec S_ 32 := constantI S_ 32 0#32
  let main_v13 : IVec S160 32 := broadcastInDim S160 ![] bcast_S_S160 main_c_1
  let main_v14 : IVec S160 1 := cmpi .sge main_arg1 main_v13
  let main_c_2 : IVec S_ 32 := constantI S_ 32 32#32
  let main_v15 : IVec S160 32 := broadcastInDim S160 ![] bcast_S_S160 main_c_2
  let main_v16 : IVec S160 1 := cmpi .slt main_arg1 main_v15
  let main_v17 : IVec S160 1 := andi main_v14 main_v16
  let main_c_3 : IVec S_ 32 := constantI S_ 32 0#32
  let main_v18 : IVec S160 32 := broadcastInDim S160 ![] bcast_S_S160 main_c_3
  fn_part1 (F := F) main_arg1 main_arg3 main_arg4 main_v0 main_v1 main_v4 main_v7 main_v12 main_v17 main_v18
-- ==== Kernel.lean ====
abbrev S16384x1536 : Shape := ⟨2, ![16384, 1536]⟩
abbrev S8x257 : Shape := ⟨2, ![8, 257]⟩
abbrev S8x1 : Shape := ⟨2, ![8, 1]⟩
abbrev S8x127 : Shape := ⟨2, ![8, 127]⟩
abbrev S8x639 : Shape := ⟨2, ![8, 639]⟩
abbrev S8x1023 : Shape := ⟨2, ![8, 1023]⟩
abbrev S_ : Shape := ⟨0, ![]⟩
abbrev S8x1024 : Shape := ⟨2, ![8, 1024]⟩
abbrev S8x1x1024 : Shape := ⟨3, ![8, 1, 1024]⟩
abbrev S16384x512 : Shape := ⟨2, ![16384, 512]⟩
abbrev S512x512 : Shape := ⟨2, ![512, 512]⟩
abbrev S256x512 : Shape := ⟨2, ![256, 512]⟩
abbrev S8x256x768 : Shape := ⟨3, ![8, 256, 768]⟩
abbrev S256x768 : Shape := ⟨2, ![256, 768]⟩
abbrev S1x1x1024 : Shape := ⟨3, ![1, 1, 1024]⟩
abbrev S1x1024 : Shape := ⟨2, ![1, 1024]⟩
abbrev S256x1024 : Shape := ⟨2, ![256, 1024]⟩
abbrev S1x256x768 : Shape := ⟨3, ![1, 256, 768]⟩
abbrev S1x128 : Shape := ⟨2, ![1, 128]⟩
abbrev S256x128 : Shape := ⟨2, ![256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 13
  | .vmem => 22
  | .smem => 0
  | _ => 0

abbrev bufTy : (tb : Table) → Fin (tcTables nBuf tb) → BufTy
  | .hbm, ⟨0, _⟩ => ⟨S16384x1536, .bf16⟩
  | .hbm, ⟨1, _⟩ => ⟨S8x257, .f32⟩
  | .hbm, ⟨2, _⟩ => ⟨S8x1, .f32⟩
  | .hbm, ⟨3, _⟩ => ⟨S8x127, .f32⟩
  | .hbm, ⟨4, _⟩ => ⟨S8x1, .f32⟩
  | .hbm, ⟨5, _⟩ => ⟨S8x639, .f32⟩
  | .hbm, ⟨6, _⟩ => ⟨S8x1023, .f32⟩
  | .hbm, ⟨7, _⟩ => ⟨S8x1023, .f32⟩
  | .hbm, ⟨8, _⟩ => ⟨S_, .i32⟩
  | .hbm, ⟨9, _⟩ => ⟨S_, .f32⟩
  | .hbm, ⟨10, _⟩ => ⟨S8x1024, .f32⟩
  | .hbm, ⟨11, _⟩ => ⟨S8x1x1024, .f32⟩
  | .hbm, ⟨12, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S256x512, .bf16⟩
  | .local _ .vmem, ⟨18, _⟩ => ⟨S8x1x1024, .f32⟩
  | .local _ .vmem, ⟨19, _⟩ => ⟨S512x512, .bf16⟩
  | .local _ .vmem, ⟨20, _⟩ => ⟨S512x512, .bf16⟩
  | .local _ .vmem, ⟨21, _⟩ => ⟨S8x256x768, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c1_i32 : BitVec 32 := 1#32
  let c0_i32_2 : BitVec 32 := 0#32
  ![v5.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c1_i32_1 : BitVec 32 := 1#32
  let c0_i32_2 : BitVec 32 := 0#32
  ![v5.toNat, c1_i32_1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c1_i32 : BitVec 32 := 1#32
  let c0_i32_2 : BitVec 32 := 0#32
  ![v5.toNat, c1_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c1_i32 : BitVec 32 := 1#32
  let c0_i32_1 : BitVec 32 := 0#32
  ![v5.toNat, c1_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c0_i32 : BitVec 32 := 0#32
  let v3 : BitVec 32 := Scalar.addi v2 c0_i32
  let c0_i32_1 : BitVec 32 := 0#32
  let v4 : BitVec 32 := Scalar.maxsi v3 c0_i32_1
  let v5 : BitVec 32 := Scalar.addi v0 v4
  let c2_i32_2 : BitVec 32 := 2#32
  let c0_i32_3 : BitVec 32 := 0#32
  ![v5.toNat, c2_i32_2.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c1_i32 : BitVec 32 := 1#32
  let v3 : BitVec 32 := Scalar.addi v2 c1_i32
  let c0_i32 : BitVec 32 := 0#32
  let v4 : BitVec 32 := Scalar.maxsi v3 c0_i32
  let v5 : BitVec 32 := Scalar.addi v0 v4
  let c2_i32_1 : BitVec 32 := 2#32
  let c0_i32_2 : BitVec 32 := 0#32
  ![v5.toNat, c2_i32_1.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c2_i32_1 : BitVec 32 := 2#32
  let v3 : BitVec 32 := Scalar.addi v2 c2_i32_1
  let c0_i32 : BitVec 32 := 0#32
  let v4 : BitVec 32 := Scalar.maxsi v3 c0_i32
  let v5 : BitVec 32 := Scalar.addi v0 v4
  let c2_i32_2 : BitVec 32 := 2#32
  let c0_i32_3 : BitVec 32 := 0#32
  ![v5.toNat, c2_i32_2.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c2_i32 : BitVec 32 := 2#32
  let v1 : BitVec 32 := Scalar.muli arg1 c2_i32
  let c2_i32_0 : BitVec 32 := 2#32
  let v2 : BitVec 32 := Scalar.subi v1 c2_i32_0
  let c3_i32 : BitVec 32 := 3#32
  let v3 : BitVec 32 := Scalar.addi v2 c3_i32
  let c0_i32 : BitVec 32 := 0#32
  let v4 : BitVec 32 := Scalar.maxsi v3 c0_i32
  let v5 : BitVec 32 := Scalar.addi v0 v4
  let c2_i32_1 : BitVec 32 := 2#32
  let c0_i32_2 : BitVec 32 := 0#32
  ![v5.toNat, c2_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S8x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "log2e" => some (((Real.log 2)⁻¹ : ℝ) : EReal)
  | "masked" => some ⊥
  | "scale_log2e" => some (((1 / 8) * (Real.log 2)⁻¹ : ℝ) : EReal)
  | _ => none
-- ==== ReferenceIdeal.lean ====
abbrev S16384x1536 : Shape := ⟨2, ![16384, 1536]⟩
abbrev S8x257 : Shape := ⟨2, ![8, 257]⟩
abbrev S2x8192x1536 : Shape := ⟨3, ![2, 8192, 1536]⟩
abbrev S2x8192x512 : Shape := ⟨3, ![2, 8192, 512]⟩
abbrev S2x8192x8x64 : Shape := ⟨4, ![2, 8192, 8, 64]⟩
abbrev S2x128x64x8x64 : Shape := ⟨5, ![2, 128, 64, 8, 64]⟩
abbrev S_ : Shape := ⟨0, ![]⟩
abbrev S2x136x64x8x64 : Shape := ⟨5, ![2, 136, 64, 8, 64]⟩
abbrev S2x128x576x8x64 : Shape := ⟨5, ![2, 128, 576, 8, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S128 : Shape := ⟨1, ![128]⟩
abbrev S128x1 : Shape := ⟨2, ![128, 1]⟩
abbrev S128x576 : Shape := ⟨2, ![128, 576]⟩
abbrev S2x128x8x64x576 : Shape := ⟨5, ![2, 128, 8, 64, 576]⟩
abbrev S1x1x8x64x576 : Shape := ⟨5, ![1, 1, 8, 64, 576]⟩
abbrev S1x128x1x1x576 : Shape := ⟨5, ![1, 128, 1, 1, 576]⟩
abbrev S2x128x8x64 : Shape := ⟨4, ![2, 128, 8, 64]⟩
abbrev S2x128x8x64x1 : Shape := ⟨5, ![2, 128, 8, 64, 1]⟩
abbrev S2x128x8x64x64 : Shape := ⟨5, ![2, 128, 8, 64, 64]⟩
abbrev S16384x512 : Shape := ⟨2, ![16384, 512]⟩

abbrev nBuf : Space → Nat
  | .hbm => 111
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S8x257, .f32⟩
  | .hbm, ⟨2, _⟩ => ⟨S16384x1536, .f32⟩
  | .hbm, ⟨3, _⟩ => ⟨S2x8192x1536, .f32⟩
  | .hbm, ⟨4, _⟩ => ⟨S2x8192x512, .f32⟩
  | .hbm, ⟨5, _⟩ => ⟨S2x8192x512, .f32⟩
  | .hbm, ⟨6, _⟩ => ⟨S2x8192x512, .f32⟩
  | .hbm, ⟨7, _⟩ => ⟨S2x8192x8x64, .f32⟩
  | .hbm, ⟨8, _⟩ => ⟨S2x8192x8x64, .f32⟩
  | .hbm, ⟨9, _⟩ => ⟨S2x8192x8x64, .f32⟩
  | .hbm, ⟨10, _⟩ => ⟨S2x128x64x8x64, .f32⟩
  | .hbm, ⟨11, _⟩ => ⟨S2x128x64x8x64, .f32⟩
  | .hbm, ⟨12, _⟩ => ⟨S_, .i32⟩
  | .hbm, ⟨13, _⟩ => ⟨S_, .f32⟩
  | .hbm, ⟨14, _⟩ => ⟨S2x136x64x8x64, .f32⟩
  | .hbm, ⟨15, _⟩ => ⟨S2x128x64x8x64, .f32⟩
  | .hbm, ⟨16, _⟩ => ⟨S2x128x64x8x64, .f32⟩
  | .hbm, ⟨17, _⟩ => ⟨S2x128x64x8x64, .f32⟩
  | .hbm, ⟨18, _⟩ => ⟨S2x128x64x8x64, .f32⟩
  | .hbm, ⟨19, _⟩ => ⟨S2x128x64x8x64, .f32⟩
  | .hbm, ⟨20, _⟩ => ⟨S2x128x64x8x64, .f32⟩
  | .hbm, ⟨21, _⟩ => ⟨S2x128x64x8x64, .f32⟩
  | .hbm, ⟨22, _⟩ => ⟨S2x128x64x8x64, .f32⟩
  | .hbm, ⟨23, _⟩ => ⟨S2x128x64x8x64, .f32⟩
  | .hbm, ⟨24, _⟩ => ⟨S2x128x576x8x64, .f32⟩
  | .hbm, ⟨25, _⟩ => ⟨S2x128x64x8x64, .f32⟩
  | .hbm, ⟨26, _⟩ => ⟨S_, .i32⟩
  | .hbm, ⟨27, _⟩ => ⟨S_, .f32⟩
  | .hbm, ⟨28, _⟩ => ⟨S2x136x64x8x64, .f32⟩
  | .hbm, ⟨29, _⟩ => ⟨S2x128x64x8x64, .f32⟩
  | .hbm, ⟨30, _⟩ => ⟨S2x128x64x8x64, .f32⟩
  | .hbm, ⟨31, _⟩ => ⟨S2x128x64x8x64, .f32⟩
  | .hbm, ⟨32, _⟩ => ⟨S2x128x64x8x64, .f32⟩
  | .hbm, ⟨33, _⟩ => ⟨S2x128x64x8x64, .f32⟩
  | .hbm, ⟨34, _⟩ => ⟨S2x128x64x8x64, .f32⟩
  | .hbm, ⟨35, _⟩ => ⟨S2x128x64x8x64, .f32⟩
  | .hbm, ⟨36, _⟩ => ⟨S2x128x64x8x64, .f32⟩
  | .hbm, ⟨37, _⟩ => ⟨S2x128x64x8x64, .f32⟩
  | .hbm, ⟨38, _⟩ => ⟨S2x128x576x8x64, .f32⟩
  | .hbm, ⟨39, _⟩ => ⟨S64, .i32⟩
  | .hbm, ⟨40, _⟩ => ⟨S64x1, .i32⟩
  | .hbm, ⟨41, _⟩ => ⟨S_, .i32⟩
  | .hbm, ⟨42, _⟩ => ⟨S64x1, .i32⟩
  | .hbm, ⟨43, _⟩ => ⟨S64x1, .i32⟩
  | .hbm, ⟨44, _⟩ => ⟨S576, .i32⟩
  | .hbm, ⟨45, _⟩ => ⟨S1x576, .i32⟩
  | .hbm, ⟨46, _⟩ => ⟨S64x576, .i32⟩
  | .hbm, ⟨47, _⟩ => ⟨S64x576, .i32⟩
  | .hbm, ⟨48, _⟩ => ⟨S64x576, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S64x576, .i32⟩
  | .hbm, ⟨53, _⟩ => ⟨S64x576, .i32⟩
  | .hbm, ⟨54, _⟩ => ⟨S_, .i32⟩
  | .hbm, ⟨55, _⟩ => ⟨S64x576, .i32⟩
  | .hbm, ⟨56, _⟩ => ⟨S64x576, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i1⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S64x576, .i32⟩
  | .hbm, ⟨67, _⟩ => ⟨S64x576x1, .i32⟩
  | .hbm, ⟨68, _⟩ => ⟨S8x64x576, .f32⟩
  | .hbm, ⟨69, _⟩ => ⟨S128, .i32⟩
  | .hbm, ⟨70, _⟩ => ⟨S128x1, .i32⟩
  | .hbm, ⟨71, _⟩ => ⟨S_, .i32⟩
  | .hbm, ⟨72, _⟩ => ⟨S128x1, .i32⟩
  | .hbm, ⟨73, _⟩ => ⟨S128x1, .i32⟩
  | .hbm, ⟨74, _⟩ => ⟨S128x576, .i32⟩
  | .hbm, ⟨75, _⟩ => ⟨S128x576, .i32⟩
  | .hbm, ⟨76, _⟩ => ⟨S128x576, .i32⟩
  | .hbm, ⟨77, _⟩ => ⟨S_, .i32⟩
  | .hbm, ⟨78, _⟩ => ⟨S128x576, .i32⟩
  | .hbm, ⟨79, _⟩ => ⟨S128x576, .i1⟩
  | .hbm, ⟨80, _⟩ => ⟨S2x128x8x64x576, .f32⟩
  | .hbm, ⟨81, _⟩ => ⟨S_, .f32⟩
  | .hbm, ⟨82, _⟩ => ⟨S2x128x8x64x576, .f32⟩
  | .hbm, ⟨83, _⟩ => ⟨S2x128x8x64x576, .f32⟩
  | .hbm, ⟨84, _⟩ => ⟨S1x1x8x64x576, .f32⟩
  | .hbm, ⟨85, _⟩ => ⟨S2x128x8x64x576, .f32⟩
  | .hbm, ⟨86, _⟩ => ⟨S2x128x8x64x576, .f32⟩
  | .hbm, ⟨87, _⟩ => ⟨S1x128x1x1x576, .i1⟩
  | .hbm, ⟨88, _⟩ => ⟨S_, .f32⟩
  | .hbm, ⟨89, _⟩ => ⟨S_, .f32⟩
  | .hbm, ⟨90, _⟩ => ⟨S2x128x8x64x576, .i1⟩
  | .hbm, ⟨91, _⟩ => ⟨S2x128x8x64x576, .f32⟩
  | .hbm, ⟨92, _⟩ => ⟨S2x128x8x64x576, .f32⟩
  | .hbm, ⟨93, _⟩ => ⟨S_, .f32⟩
  | .hbm, ⟨94, _⟩ => ⟨S2x128x8x64, .f32⟩
  | .hbm, ⟨95, _⟩ => ⟨S_, .f32⟩
  | .hbm, ⟨96, _⟩ => ⟨S2x128x8x64, .f32⟩
  | .hbm, ⟨97, _⟩ => ⟨S2x128x8x64, .f32⟩
  | .hbm, ⟨98, _⟩ => ⟨S2x128x8x64x1, .f32⟩
  | .hbm, ⟨99, _⟩ => ⟨S2x128x8x64x576, .f32⟩
  | .hbm, ⟨100, _⟩ => ⟨S2x128x8x64x576, .f32⟩
  | .hbm, ⟨101, _⟩ => ⟨S2x128x8x64x576, .f32⟩
  | .hbm, ⟨102, _⟩ => ⟨S_, .f32⟩
  | .hbm, ⟨103, _⟩ => ⟨S2x128x8x64, .f32⟩
  | .hbm, ⟨104, _⟩ => ⟨S2x128x8x64x1, .f32⟩
  | .hbm, ⟨105, _⟩ => ⟨S2x128x8x64x576, .f32⟩
  | .hbm, ⟨106, _⟩ => ⟨S2x128x8x64x576, .f32⟩
  | .hbm, ⟨107, _⟩ => ⟨S2x128x8x64x64, .f32⟩
  | .hbm, ⟨108, _⟩ => ⟨S2x128x64x8x64, .f32⟩
  | .hbm, ⟨109, _⟩ => ⟨S16384x512, .f32⟩
  | .hbm, ⟨110, _⟩ => ⟨S16384x512, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_c_0 : Ref sig .tc := ⟨.hbm, 26, rfl⟩
abbrev main_call1_v0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_c_1 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_2 : Ref sig .tc := ⟨.hbm, 49, rfl⟩
abbrev main_c_3 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v68 : Ref sig .tc := ⟨.hbm, 92, rfl⟩
abbrev main_cst_10 : Ref sig .tc := ⟨.hbm, 93, rfl⟩
abbrev main_v69 : Ref sig .tc := ⟨.hbm, 94, rfl⟩
abbrev main_cst_11 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_12 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel2.lean ====
abbrev S81920x1024 : Shape := ⟨2, ![81920, 1024]⟩
abbrev S160 : Shape := ⟨1, ![160]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S512x1024 : Shape := ⟨2, ![512, 1024]⟩
abbrev S1x1x2048 : Shape := ⟨3, ![1, 1, 2048]⟩
abbrev S1x1x1024 : Shape := ⟨3, ![1, 1, 1024]⟩
abbrev S1024x2048 : Shape := ⟨2, ![1024, 2048]⟩
abbrev S1024x1024 : Shape := ⟨2, ![1024, 1024]⟩
abbrev S2 : Shape := ⟨1, ![2]⟩
abbrev S_ : Shape := ⟨0, ![]⟩
abbrev S1x1024x2048 : Shape := ⟨3, ![1, 1024, 2048]⟩
abbrev S1x1024x1024 : Shape := ⟨3, ![1, 1024, 1024]⟩
abbrev S128x2048 : Shape := ⟨2, ![128, 2048]⟩
abbrev S128x1024 : Shape := ⟨2, ![128, 1024]⟩
abbrev S1024x512 : Shape := ⟨2, ![1024, 512]⟩
abbrev S512x512 : Shape := ⟨2, ![512, 512]⟩
abbrev S1x1x512 : Shape := ⟨3, ![1, 1, 512]⟩
abbrev S1x512 : Shape := ⟨2, ![1, 512]⟩
abbrev S1x1024 : Shape := ⟨2, ![1, 1024]⟩
abbrev S256x1024 : Shape := ⟨2, ![256, 1024]⟩
abbrev S256x512 : Shape := ⟨2, ![256, 512]⟩

abbrev nBuf : Space → Nat
  | .hbm => 6
  | .vmem => 12
  | .smem => 4
  | _ => 0

abbrev bufTy : (tb : Table) → Fin (tcTables nBuf tb) → BufTy
  | .hbm, ⟨0, _⟩ => ⟨S81920x1024, .f32⟩
  | .hbm, ⟨1, _⟩ => ⟨S32x1024x2048, .f32⟩
  | .hbm, ⟨2, _⟩ => ⟨S32x1x2048, .f32⟩
  | .hbm, ⟨3, _⟩ => ⟨S32x1024x1024, .f32⟩
  | .hbm, ⟨4, _⟩ => ⟨S32x1x1024, .f32⟩
  | .hbm, ⟨5, _⟩ => ⟨S81920x1024, .f32⟩
  | .local _ .vmem, ⟨0, _⟩ => ⟨S512x1024, .f32⟩
  | .local _ .vmem, ⟨1, _⟩ => ⟨S512x1024, .f32⟩
  | .local _ .vmem, ⟨2, _⟩ => ⟨S1x1x2048, .f32⟩
  | .local _ .vmem, ⟨3, _⟩ => ⟨S1x1x2048, .f32⟩
  | .local _ .vmem, ⟨4, _⟩ => ⟨S1x1x1024, .f32⟩
  | .local _ .vmem, ⟨5, _⟩ => ⟨S1x1x1024, .f32⟩
  | .local _ .vmem, ⟨6, _⟩ => ⟨S512x1024, .f32⟩
  | .local _ .vmem, ⟨7, _⟩ => ⟨S512x1024, .f32⟩
  | .local _ .vmem, ⟨8, _⟩ => ⟨S1024x2048, .f32⟩
  | .local _ .vmem, ⟨9, _⟩ => ⟨S1024x1024, .f32⟩
  | .local _ .vmem, ⟨10, _⟩ => ⟨S1024x2048, .bf16⟩
  | .local _ .vmem, ⟨11, _⟩ => ⟨S1024x1024, .bf16⟩
  | .local _ .smem, ⟨0, _⟩ => ⟨S160, .i32⟩
  | .local _ .smem, ⟨1, _⟩ => ⟨S1, .i32⟩
  | .local _ .smem, ⟨2, _⟩ => ⟨S160, .i32⟩
  | .local _ .smem, ⟨3, _⟩ => ⟨S160, .i32⟩
  | _, _ => ⟨S81920x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg1.idx, main_arg2.idx, main_arg3.idx, main_arg4.idx], fun | 0 => main_arg1.names | 1 => main_arg2.names | 2 => main_arg3.names | 3 => main_arg4.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v2 : BitVec 32 := Scalar.subi arg0 c1_i32
  let c0_i32 : BitVec 32 := 0#32
  let v3 : BitVec 32 := Scalar.maxsi v2 c0_i32
  let v4 : Index := Scalar.indexCast v3
  ![v4.toNat]
def k0_off3 (v31 : BitVec 32) : Fin 3 → Nat :=
  let c0_i32_13 : BitVec 32 := 0#32
  let c0_i32_14 : BitVec 32 := 0#32
  ![v31.toNat, 0, 0]
def k0_cond1 (i : grid0.Coords) (v1 : BitVec 32) : BitVec 1 :=
  let arg0 : BitVec 32 := BitVec.ofNat 32 (i 0).val
  let c0_i32_2 : BitVec 32 := 0#32
  let v13 : BitVec 1 := Scalar.cmpi .eq arg0 c0_i32_2
  let c0_i32_3 : BitVec 32 := 0#32
  let v14 : BitVec 1 := Scalar.cmpi .sgt v1 c0_i32_3
  let v15 : BitVec 1 := Scalar.andi v13 v14
  let v16 : BitVec 32 := Scalar.extui v15
  let c0_i32_4 : BitVec 32 := 0#32
  let v17 : BitVec 1 := Scalar.cmpi .ne v16 c0_i32_4
  v17

def k0_off4 (v31 : BitVec 32) : Fin 3 → Nat :=
  let c0_i32_16 : BitVec 32 := 0#32
  let c0_i32_17 : BitVec 32 := 0#32
  ![v31.toNat, 0, 0]

def k0_chk1 (i : grid0.Coords) (v1 : BitVec 32) (v31 : BitVec 32) : Prop :=
  (∀ (k0_h1 : k0_cond1 i v1 = 1#1), ∀ a, (k0_off3 v31) a + S1x1024x2048.size a ≤ S32x1024x2048.size a) ∧
  (∀ (k0_h1 : k0_cond1 i v1 = 1#1), ∀ a, (k0_off4 v31) a + S1x1024x1024.size a ≤ S32x1024x1024.size a)
theorem k0_off3_inb : ∀ (i : grid0.Coords) (v1 : BitVec 32) (v31 : BitVec 32) (k0_hw1 : k0_chk1 i v1 v31), ∀ (k0_h1 : k0_cond1 i v1 = 1#1), ∀ a, (k0_off3 v31) a + S1x1024x2048.size a ≤ S32x1024x2048.size a := fun i v1 v31 k0_hw1 k0_h1 => k0_hw1.1 k0_h1
theorem k0_off4_inb : ∀ (i : grid0.Coords) (v1 : BitVec 32) (v31 : BitVec 32) (k0_hw1 : k0_chk1 i v1 v31), ∀ (k0_h1 : k0_cond1 i v1 = 1#1), ∀ a, (k0_off4 v31) a + S1x1024x1024.size a ≤ S32x1024x1024.size a := fun i v1 v31 k0_hw1 k0_h1 => k0_hw1.2 k0_h1

def k0_off5 (i : grid0.Coords) : Fin 1 → Nat :=
  let arg0 : BitVec 32 := BitVec.ofNat 32 (i 0).val
  let v31 : Index := Scalar.indexCast arg0
  ![v31.toNat]
def k0_off6 (v32 : BitVec 32) : Fin 3 → Nat :=
  let c0_i32_13 : BitVec 32 := 0#32
  let c0_i32_14 : BitVec 32 := 0#32
  ![v32.toNat, 0, 0]
def k0_cond2 (i : grid0.Coords) (v1 : BitVec 32) (v5 : BitVec 32) (v9 : BitVec 32) : BitVec 1 :=
  let c0_i32_0 : BitVec 32 := 0#32
  let v6 : BitVec 1 := Scalar.cmpi .sgt v1 c0_i32_0
  let arg0 : BitVec 32 := BitVec.ofNat 32 (i 0).val
  let c0_i32_1 : BitVec 32 := 0#32
  let v7 : BitVec 1 := Scalar.cmpi .eq arg0 c0_i32_1
  let v10 : BitVec 1 := Scalar.cmpi .ne v9 v5
  let v11 : BitVec 1 := Scalar.ori v7 v10
  let v12 : BitVec 1 := Scalar.andi v6 v11
  let v18 : BitVec 32 := Scalar.extui v12
  let c0_i32_5 : BitVec 32 := 0#32
  let v19 : BitVec 1 := Scalar.cmpi .ne v18 c0_i32_5
  v19

def k0_off7 (v32 : BitVec 32) : Fin 3 → Nat :=
  let c0_i32_16 : BitVec 32 := 0#32
  let c0_i32_17 : BitVec 32 := 0#32
  ![v32.toNat, 0, 0]

def k0_chk2 (i : grid0.Coords) (v1 : BitVec 32) (v5 : BitVec 32) (v9 : BitVec 32) (v32 : BitVec 32) : Prop :=
  (∀ (k0_h2 : k0_cond2 i v1 v5 v9 = 1#1), ∀ a, (k0_off6 v32) a + S1x1024x2048.size a ≤ S32x1024x2048.size a) ∧
  (∀ (k0_h2 : k0_cond2 i v1 v5 v9 = 1#1), ∀ a, (k0_off7 v32) a + S1x1024x1024.size a ≤ S32x1024x1024.size a)
theorem k0_off6_inb : ∀ (i : grid0.Coords) (v1 : BitVec 32) (v5 : BitVec 32) (v9 : BitVec 32) (v32 : BitVec 32) (k0_hw2 : k0_chk2 i v1 v5 v9 v32), ∀ (k0_h2 : k0_cond2 i v1 v5 v9 = 1#1), ∀ a, (k0_off6 v32) a + S1x1024x2048.size a ≤ S32x1024x2048.size a := fun i v1 v5 v9 v32 k0_hw2 k0_h2 => k0_hw2.1 k0_h2
theorem k0_off7_inb : ∀ (i : grid0.Coords) (v1 : BitVec 32) (v5 : BitVec 32) (v9 : BitVec 32) (v32 : BitVec 32) (k0_hw2 : k0_chk2 i v1 v5 v9 v32), ∀ (k0_h2 : k0_cond2 i v1 v5 v9 = 1#1), ∀ a, (k0_off7 v32) a + S1x1024x1024.size a ≤ S32x1024x1024.size a := fun i v1 v5 v9 v32 k0_hw2 k0_h2 => k0_hw2.2 k0_h2

def k0_off8 (i : grid0.Coords) : Fin 1 → Nat :=
  let arg0 : BitVec 32 := BitVec.ofNat 32 (i 0).val
  let v121 : Index := Scalar.indexCast arg0
  ![v121.toNat]
def k0_off9 (i : grid0.Coords) : Fin 1 → Nat :=
  let arg0 : BitVec 32 := BitVec.ofNat 32 (i 0).val
  let v126 : Index := Scalar.indexCast arg0
  ![v126.toNat]
def k0_off10 (v127 : BitVec 32) : Fin 3 → Nat :=
  let c0_i32_77 : BitVec 32 := 0#32
  let c0_i32_78 : BitVec 32 := 0#32
  ![v127.toNat, 0, 0]
def k0_cond3 (v122 : BitVec 32) : BitVec 1 :=
  let c0_i32_74 : BitVec 32 := 0#32
  let v123 : BitVec 1 := Scalar.cmpi .sge v122 c0_i32_74
  let v124 : BitVec 32 := Scalar.extui v123
  let c0_i32_75 : BitVec 32 := 0#32
  let v125 : BitVec 1 := Scalar.cmpi .ne v124 c0_i32_75
  v125

def k0_off11 (v127 : BitVec 32) : Fin 3 → Nat :=
  let c0_i32_80 : BitVec 32 := 0#32
  let c0_i32_81 : BitVec 32 := 0#32
  ![v127.toNat, 0, 0]

def k0_chk3 (i : grid0.Coords) (v1 : BitVec 32) (v5 : BitVec 32) (v9 : BitVec 32) (v122 : BitVec 32) (v127 : BitVec 32) : Prop :=
  (∀ (k0_h2 : k0_cond2 i v1 v5 v9 = 1#1), ∀ (k0_h3 : k0_cond3 v122 = 1#1), ∀ a, (k0_off10 v127) a + S1x1024x2048.size a ≤ S32x1024x2048.size a) ∧
  (∀ (k0_h2 : k0_cond2 i v1 v5 v9 = 1#1), ∀ (k0_h3 : k0_cond3 v122 = 1#1), ∀ a, (k0_off11 v127) a + S1x1024x1024.size a ≤ S32x1024x1024.size a)
theorem k0_off10_inb : ∀ (i : grid0.Coords) (v1 : BitVec 32) (v5 : BitVec 32) (v9 : BitVec 32) (v122 : BitVec 32) (v127 : BitVec 32) (k0_hw3 : k0_chk3 i v1 v5 v9 v122 v127), ∀ (k0_h2 : k0_cond2 i v1 v5 v9 = 1#1), ∀ (k0_h3 : k0_cond3 v122 = 1#1), ∀ a, (k0_off10 v127) a + S1x1024x2048.size a ≤ S32x1024x2048.size a := fun i v1 v5 v9 v122 v127 k0_hw3 k0_h2 k0_h3 => k0_hw3.1 k0_h2 k0_h3
theorem k0_off11_inb : ∀ (i : grid0.Coords) (v1 : BitVec 32) (v5 : BitVec 32) (v9 : BitVec 32) (v122 : BitVec 32) (v127 : BitVec 32) (k0_hw3 : k0_chk3 i v1 v5 v9 v122 v127), ∀ (k0_h2 : k0_cond2 i v1 v5 v9 = 1#1), ∀ (k0_h3 : k0_cond3 v122 = 1#1), ∀ a, (k0_off11 v127) a + S1x1024x1024.size a ≤ S32x1024x1024.size a := fun i v1 v5 v9 v122 v127 k0_hw3 k0_h2 k0_h3 => k0_hw3.2 k0_h2 k0_h3

def k0_cond4 (v1 : BitVec 32) : BitVec 1 :=
  let c256_i32 : BitVec 32 := 256#32
  let v20 : BitVec 1 := Scalar.cmpi .sgt v1 c256_i32
  let v21 : BitVec 32 := Scalar.extui v20
  let c0_i32_6 : BitVec 32 := 0#32
  let v22 : BitVec 1 := Scalar.cmpi .ne v21 c0_i32_6
  v22

def k0_cond5 (v1 : BitVec 32) : BitVec 1 :=
  let c0_i32_7 : BitVec 32 := 0#32
  let v23 : BitVec 1 := Scalar.cmpi .sgt v1 c0_i32_7
  let c256_i32_8 : BitVec 32 := 256#32
  let v24 : BitVec 1 := Scalar.cmpi .sle v1 c256_i32_8
  let v25 : BitVec 1 := Scalar.andi v23 v24
  let v26 : BitVec 32 := Scalar.extui v25
  let c0_i32_9 : BitVec 32 := 0#32
  let v27 : BitVec 1 := Scalar.cmpi .ne v26 c0_i32_9
  v27

def k0_cond6 (v1 : BitVec 32) : BitVec 1 :=
  let c0_i32_10 : BitVec 32 := 0#32
  let v28 : BitVec 1 := Scalar.cmpi .eq v1 c0_i32_10
  let v29 : BitVec 32 := Scalar.extui v28
  let c0_i32_11 : BitVec 32 := 0#32
  let v30 : BitVec 1 := Scalar.cmpi .ne v29 c0_i32_11
  v30

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let c0_i32_1 : BitVec 32 := 0#32
  ![v3.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S81920x1024 : Shape := ⟨2, ![81920, 1024]⟩
abbrev S160 : Shape := ⟨1, ![160]⟩
abbrev S1 : Shape := ⟨1, ![1]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S160x512x1024 : Shape := ⟨3, ![160, 512, 1024]⟩
abbrev S_ : Shape := ⟨0, ![]⟩
abbrev S160x1 : Shape := ⟨2, ![160, 1]⟩
abbrev S160x1024x2048 : Shape := ⟨3, ![160, 1024, 2048]⟩
abbrev S160x512x2048 : Shape := ⟨3, ![160, 512, 2048]⟩
abbrev S160x1x2048 : Shape := ⟨3, ![160, 1, 2048]⟩
abbrev S160x1024x1024 : Shape := ⟨3, ![160, 1024, 1024]⟩
abbrev S160x1x1024 : Shape := ⟨3, ![160, 1, 1024]⟩
abbrev S512 : Shape := ⟨1, ![512]⟩
abbrev S160x1x1 : Shape := ⟨3, ![160, 1, 1]⟩
abbrev S1x512x1 : Shape := ⟨3, ![1, 512, 1]⟩
abbrev S160x512x1 : Shape := ⟨3, ![160, 512, 1]⟩

abbrev nBuf : Space → Nat
  | .hbm => 114
  | .vmem => 0
  | .smem => 0
  | _ => 0

abbrev bufTy : (tb : Table) → Fin (tcTables nBuf tb) → BufTy
  | .hbm, ⟨0, _⟩ => ⟨S81920x1024, .f32⟩
  | .hbm, ⟨1, _⟩ => ⟨S160, .i32⟩
  | .hbm, ⟨2, _⟩ => ⟨S1, .i32⟩
  | .hbm, ⟨3, _⟩ => ⟨S160, .i32⟩
  | .hbm, ⟨4, _⟩ => ⟨S160, .i32⟩
  | .hbm, ⟨5, _⟩ => ⟨S32x1024x2048, .f32⟩
  | .hbm, ⟨6, _⟩ => ⟨S32x1x2048, .f32⟩
  | .hbm, ⟨7, _⟩ => ⟨S32x1024x1024, .f32⟩
  | .hbm, ⟨8, _⟩ => ⟨S32x1x1024, .f32⟩
  | .hbm, ⟨9, _⟩ => ⟨S160x512x1024, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x1024x2048, .f32⟩
  | .hbm, ⟨19, _⟩ => ⟨S160x512x2048, .f32⟩
  | .hbm, ⟨20, _⟩ => ⟨S_, .i32⟩
  | .hbm, ⟨21, _⟩ => ⟨S160, .i32⟩
  | .hbm, ⟨22, _⟩ => ⟨S160, .i1⟩
  | .hbm, ⟨23, _⟩ => ⟨S_, .i32⟩
  | .hbm, ⟨24, _⟩ => ⟨S160, .i32⟩
  | .hbm, ⟨25, _⟩ => ⟨S160, .i32⟩
  | .hbm, ⟨26, _⟩ => ⟨S160, .i32⟩
  | .hbm, ⟨27, _⟩ => ⟨S160x1, .i32⟩
  | .hbm, ⟨28, _⟩ => ⟨S160x1x2048, .f32⟩
  | .hbm, ⟨29, _⟩ => ⟨S160x512x2048, .f32⟩
  | .hbm, ⟨30, _⟩ => ⟨S160x512x2048, .f32⟩
  | .hbm, ⟨31, _⟩ => ⟨S160x512x1024, .f32⟩
  | .hbm, ⟨32, _⟩ => ⟨S_, .f32⟩
  | .hbm, ⟨33, _⟩ => ⟨S160x512x1024, .f32⟩
  | .hbm, ⟨34, _⟩ => ⟨S160x512x1024, .f32⟩
  | .hbm, ⟨35, _⟩ => ⟨S160x512x1024, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S160x512x1024, .f32⟩
  | .hbm, ⟨40, _⟩ => ⟨S160x512x1024, .f32⟩
  | .hbm, ⟨41, _⟩ => ⟨S_, .f32⟩
  | .hbm, ⟨42, _⟩ => ⟨S160x512x1024, .f32⟩
  | .hbm, ⟨43, _⟩ => ⟨S160x512x1024, .f32⟩
  | .hbm, ⟨44, _⟩ => ⟨S_, .f32⟩
  | .hbm, ⟨45, _⟩ => ⟨S160x512x1024, .f32⟩
  | .hbm, ⟨46, _⟩ => ⟨S160x512x1024, .f32⟩
  | .hbm, ⟨47, _⟩ => ⟨S160x512x1024, .f32⟩
  | .hbm, ⟨48, _⟩ => ⟨S160x512x1024, .f32⟩
  | .hbm, ⟨49, _⟩ => ⟨S_, .f32⟩
  | .hbm, ⟨50, _⟩ => ⟨S160x512x1024, .f32⟩
  | .hbm, ⟨51, _⟩ => ⟨S160x512x1024, .f32⟩
  | .hbm, ⟨52, _⟩ => ⟨S_, .f32⟩
  | .hbm, ⟨53, _⟩ => ⟨S160x512x1024, .f32⟩
  | .hbm, ⟨54, _⟩ => ⟨S160x512x1024, .f32⟩
  | .hbm, ⟨55, _⟩ => ⟨S160x512x1024, .f32⟩
  | .hbm, ⟨56, _⟩ => ⟨S_, .f32⟩
  | .hbm, ⟨57, _⟩ => ⟨S160x512x1024, .f32⟩
  | .hbm, ⟨58, _⟩ => ⟨S160x512x1024, .f32⟩
  | .hbm, ⟨59, _⟩ => ⟨S160x512x1024, .f32⟩
  | .hbm, ⟨60, _⟩ => ⟨S_, .i32⟩
  | .hbm, ⟨61, _⟩ => ⟨S160, .i32⟩
  | .hbm, ⟨62, _⟩ => ⟨S160, .i1⟩
  | .hbm, ⟨63, _⟩ => ⟨S_, .i32⟩
  | .hbm, ⟨64, _⟩ => ⟨S160, .i32⟩
  | .hbm, ⟨65, _⟩ => ⟨S160, .i32⟩
  | .hbm, ⟨66, _⟩ => ⟨S160, .i32⟩
  | .hbm, ⟨67, _⟩ => ⟨S160x1, .i32⟩
  | .hbm, ⟨68, _⟩ => ⟨S160x1024x1024, .f32⟩
  | .hbm, ⟨69, _⟩ => ⟨S160x512x1024, .f32⟩
  | .hbm, ⟨70, _⟩ => ⟨S_, .i32⟩
  | .hbm, ⟨71, _⟩ => ⟨S160, .i32⟩
  | .hbm, ⟨72, _⟩ => ⟨S160, .i1⟩
  | .hbm, ⟨73, _⟩ => ⟨S_, .i32⟩
  | .hbm, ⟨74, _⟩ => ⟨S160, .i32⟩
  | .hbm, ⟨75, _⟩ => ⟨S160, .i32⟩
  | .hbm, ⟨76, _⟩ => ⟨S160, .i32⟩
  | .hbm, ⟨77, _⟩ => ⟨S160x1, .i32⟩
  | .hbm, ⟨78, _⟩ => ⟨S160x1x1024, .f32⟩
  | .hbm, ⟨79, _⟩ => ⟨S160x512x1024, .f32⟩
  | .hbm, ⟨80, _⟩ => ⟨S160x512x1024, .f32⟩
  | .hbm, ⟨81, _⟩ => ⟨S512, .i32⟩
  | .hbm, ⟨82, _⟩ => ⟨S_, .i32⟩
  | .hbm, ⟨83, _⟩ => ⟨S_, .i32⟩
  | .hbm, ⟨84, _⟩ => ⟨S512, .i32⟩
  | .hbm, ⟨85, _⟩ => ⟨S512, .i32⟩
  | .hbm, ⟨86, _⟩ => ⟨S512, .i32⟩
  | .hbm, ⟨87, _⟩ => ⟨S_, .i32⟩
  | .hbm, ⟨88, _⟩ => ⟨S512, .i32⟩
  | .hbm, ⟨89, _⟩ => ⟨S512, .i1⟩
  | .hbm, ⟨90, _⟩ => ⟨S512, .i32⟩
  | .hbm, ⟨91, _⟩ => ⟨S512, .i32⟩
  | .hbm, ⟨92, _⟩ => ⟨S_, .i32⟩
  | .hbm, ⟨93, _⟩ => ⟨S512, .i32⟩
  | .hbm, ⟨94, _⟩ => ⟨S512, .i1⟩
  | .hbm, ⟨95, _⟩ => ⟨S512, .i1⟩
  | .hbm, ⟨96, _⟩ => ⟨S_, .i32⟩
  | .hbm, ⟨97, _⟩ => ⟨S512, .i32⟩
  | .hbm, ⟨98, _⟩ => ⟨S512, .i32⟩
  | .hbm, ⟨99, _⟩ => ⟨S512, .i32⟩
  | .hbm, ⟨100, _⟩ => ⟨S_, .i32⟩
  | .hbm, ⟨101, _⟩ => ⟨S512, .i32⟩
  | .hbm, ⟨102, _⟩ => ⟨S512, .i32⟩
  | .hbm, ⟨103, _⟩ => ⟨S160x1x1, .i32⟩
  | .hbm, ⟨104, _⟩ => ⟨S1x512x1, .i32⟩
  | .hbm, ⟨105, _⟩ => ⟨S160x512x1, .i32⟩
  | .hbm, ⟨106, _⟩ => ⟨S160x512x1, .i32⟩
  | .hbm, ⟨107, _⟩ => ⟨S160x512x1, .i1⟩
  | .hbm, ⟨108, _⟩ => ⟨S_, .f32⟩
  | .hbm, ⟨109, _⟩ => ⟨S_, .f32⟩
  | .hbm, ⟨110, _⟩ => ⟨S160x512x1024, .i1⟩
  | .hbm, ⟨111, _⟩ => ⟨S160x512x1024, .f32⟩
  | .hbm, ⟨112, _⟩ => ⟨S160x512x1024, .f32⟩
  | .hbm, ⟨113, _⟩ => ⟨S81920x1024, .f32⟩
  | _, _ => ⟨S81920x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_cst_4 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_v22 : Ref sig .tc := ⟨.hbm, 43, rfl⟩
abbrev main_cst_5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_6 : Ref sig .tc := ⟨.hbm, 49, rfl⟩
abbrev main_v27 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_11 : Ref sig .tc := ⟨.hbm, 70, rfl⟩
abbrev main_v43 : Ref sig .tc := ⟨.hbm, 71, rfl⟩
abbrev main_v44 : Ref sig .tc := ⟨.hbm, 72, rfl⟩
abbrev main_c_12 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_13 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_c : Ref sig .tc := ⟨.hbm, 92, rfl⟩
abbrev main_call1_v9 : Ref sig .tc := ⟨.hbm, 93, rfl⟩
abbrev main_call1_v10 : Ref sig .tc := ⟨.hbm, 94, rfl⟩
abbrev main_call1_v11 : Ref sig .tc := ⟨.hbm, 95, rfl⟩
abbrev main_call1_c_0 : Ref sig .tc := ⟨.hbm, 96, rfl⟩
abbrev main_call1_v12 : Ref sig .tc := ⟨.hbm, 97, rfl⟩
abbrev main_call1_v13 : Ref sig .tc := ⟨.hbm, 98, rfl⟩
abbrev main_v53 : Ref sig .tc := ⟨.hbm, 99, rfl⟩
abbrev main_c_14 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_15 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v61 : Ref sig .tc := ⟨.hbm, 112, rfl⟩
abbrev main_v62 : Ref sig .tc := ⟨.hbm, 113, rfl⟩

abbrev nD : Nat := 1
abbrev τ : Topo := Topo.v7x

variable {F : FTy → Type} [FloatOps F]
-- ==== Kernel3.lean ====
abbrev S16384x1024 : Shape := ⟨2, ![16384, 1024]⟩
abbrev S2x6x1024 : Shape := ⟨3, ![2, 6, 1024]⟩
abbrev S4x1024 : Shape := ⟨2, ![4, 1024]⟩
abbrev S1024x3584 : Shape := ⟨2, ![1024, 3584]⟩
abbrev S1024x128 : Shape := ⟨2, ![1024, 128]⟩
abbrev S4x1536 : Shape := ⟨2, ![4, 1536]⟩
abbrev S16384x1536 : Shape := ⟨2, ![16384, 1536]⟩
abbrev S16384x512 : Shape := ⟨2, ![16384, 512]⟩
abbrev S16384x128 : Shape := ⟨2, ![16384, 128]⟩
abbrev S512x1024 : Shape := ⟨2, ![512, 1024]⟩
abbrev S1x6x1024 : Shape := ⟨3, ![1, 6, 1024]⟩
abbrev S512x1536 : Shape := ⟨2, ![512, 1536]⟩
abbrev S512x512 : Shape := ⟨2, ![512, 512]⟩
abbrev S512x128 : Shape := ⟨2, ![512, 128]⟩
abbrev S520x1536 : Shape := ⟨2, ![520, 1536]⟩
abbrev S8x1536 : Shape := ⟨2, ![8, 1536]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1024x512 : Shape := ⟨2, ![1024, 512]⟩
abbrev S1x128 : Shape := ⟨2, ![1, 128]⟩

abbrev nBuf : Space → Nat
  | .hbm => 10
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S4x1024, .f32⟩
  | .hbm, ⟨3, _⟩ => ⟨S1024x3584, .bf16⟩
  | .hbm, ⟨4, _⟩ => ⟨S1024x128, .bf16⟩
  | .hbm, ⟨5, _⟩ => ⟨S4x1536, .f32⟩
  | .hbm, ⟨6, _⟩ => ⟨S16384x1536, .f32⟩
  | .hbm, ⟨7, _⟩ => ⟨S16384x512, .f32⟩
  | .hbm, ⟨8, _⟩ => ⟨S16384x128, .f32⟩
  | .hbm, ⟨9, _⟩ => ⟨S16384x1536, .bf16⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S4x1024, .f32⟩
  | .local _ .vmem, ⟨5, _⟩ => ⟨S1024x3584, .bf16⟩
  | .local _ .vmem, ⟨6, _⟩ => ⟨S1024x128, .bf16⟩
  | .local _ .vmem, ⟨7, _⟩ => ⟨S4x1536, .f32⟩
  | .local _ .vmem, ⟨8, _⟩ => ⟨S512x1536, .f32⟩
  | .local _ .vmem, ⟨9, _⟩ => ⟨S512x1536, .f32⟩
  | .local _ .vmem, ⟨10, _⟩ => ⟨S512x512, .f32⟩
  | .local _ .vmem, ⟨11, _⟩ => ⟨S512x512, .f32⟩
  | .local _ .vmem, ⟨12, _⟩ => ⟨S512x128, .f32⟩
  | .local _ .vmem, ⟨13, _⟩ => ⟨S512x128, .f32⟩
  | .local _ .vmem, ⟨14, _⟩ => ⟨S512x1536, .bf16⟩
  | .local _ .vmem, ⟨15, _⟩ => ⟨S512x1536, .bf16⟩
  | .local _ .vmem, ⟨16, _⟩ => ⟨S520x1536, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3584 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x1024 : Shape := ⟨2, ![16384, 1024]⟩
abbrev S2x6x1024 : Shape := ⟨3, ![2, 6, 1024]⟩
abbrev S4x1024 : Shape := ⟨2, ![4, 1024]⟩
abbrev S1024x3584 : Shape := ⟨2, ![1024, 3584]⟩
abbrev S1024x128 : Shape := ⟨2, ![1024, 128]⟩
abbrev S4x1536 : Shape := ⟨2, ![4, 1536]⟩
abbrev S2x8192x1024 : Shape := ⟨3, ![2, 8192, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1x1024 : Shape := ⟨2, ![1, 1024]⟩
abbrev S1024 : Shape := ⟨1, ![1024]⟩
abbrev S1x1x1024 : Shape := ⟨3, ![1, 1, 1024]⟩
abbrev S2x8192x3584 : Shape := ⟨3, ![2, 8192, 3584]⟩
abbrev S2x8192x128 : Shape := ⟨3, ![2, 8192, 128]⟩
abbrev S2x8192x1536 : Shape := ⟨3, ![2, 8192, 1536]⟩
abbrev S2x8195x1536 : Shape := ⟨3, ![2, 8195, 1536]⟩
abbrev S1x1536 : Shape := ⟨2, ![1, 1536]⟩
abbrev S1536 : Shape := ⟨1, ![1536]⟩
abbrev S1x1x1536 : Shape := ⟨3, ![1, 1, 1536]⟩
abbrev S2x8192x12x128 : Shape := ⟨4, ![2, 8192, 12, 128]⟩
abbrev S2x8192x4x128 : Shape := ⟨4, ![2, 8192, 4, 128]⟩
abbrev S2x8192x4 : Shape := ⟨3, ![2, 8192, 4]⟩
abbrev S2x8192x4x1 : Shape := ⟨4, ![2, 8192, 4, 1]⟩
abbrev S16384x1536 : Shape := ⟨2, ![16384, 1536]⟩
abbrev S2x8192x512 : Shape := ⟨3, ![2, 8192, 512]⟩
abbrev S16384x512 : Shape := ⟨2, ![16384, 512]⟩
abbrev S16384x128 : Shape := ⟨2, ![16384, 128]⟩

abbrev nBuf : Space → Nat
  | .hbm => 116
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S4x1024, .f32⟩
  | .hbm, ⟨3, _⟩ => ⟨S1024x3584, .bf16⟩
  | .hbm, ⟨4, _⟩ => ⟨S1024x128, .bf16⟩
  | .hbm, ⟨5, _⟩ => ⟨S4x1536, .f32⟩
  | .hbm, ⟨6, _⟩ => ⟨S2x8192x1024, .f32⟩
  | .hbm, ⟨7, _⟩ => ⟨S2x1x1024, .f32⟩
  | .hbm, ⟨8, _⟩ => ⟨S2x1x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S1024x3584, .f32⟩
  | .hbm, ⟨35, _⟩ => ⟨S2x8192x3584, .f32⟩
  | .hbm, ⟨36, _⟩ => ⟨S1024x128, .f32⟩
  | .hbm, ⟨37, _⟩ => ⟨S2x8192x128, .f32⟩
  | .hbm, ⟨38, _⟩ => ⟨S2x8192x1536, .f32⟩
  | .hbm, ⟨39, _⟩ => ⟨S_, .i32⟩
  | .hbm, ⟨40, _⟩ => ⟨S_, .f32⟩
  | .hbm, ⟨41, _⟩ => ⟨S2x8195x1536, .f32⟩
  | .hbm, ⟨42, _⟩ => ⟨S2x8192x1536, .f32⟩
  | .hbm, ⟨43, _⟩ => ⟨S1x1536, .f32⟩
  | .hbm, ⟨44, _⟩ => ⟨S1536, .f32⟩
  | .hbm, ⟨45, _⟩ => ⟨S1x1x1536, .f32⟩
  | .hbm, ⟨46, _⟩ => ⟨S2x8192x1536, .f32⟩
  | .hbm, ⟨47, _⟩ => ⟨S2x8192x1536, .f32⟩
  | .hbm, ⟨48, _⟩ => ⟨S_, .f32⟩
  | .hbm, ⟨49, _⟩ => ⟨S2x8192x1536, .f32⟩
  | .hbm, ⟨50, _⟩ => ⟨S2x8192x1536, .f32⟩
  | .hbm, ⟨51, _⟩ => ⟨S2x8192x1536, .f32⟩
  | .hbm, ⟨52, _⟩ => ⟨S1x1536, .f32⟩
  | .hbm, ⟨53, _⟩ => ⟨S1536, .f32⟩
  | .hbm, ⟨54, _⟩ => ⟨S1x1x1536, .f32⟩
  | .hbm, ⟨55, _⟩ => ⟨S2x8192x1536, .f32⟩
  | .hbm, ⟨56, _⟩ => ⟨S2x8192x1536, .f32⟩
  | .hbm, ⟨57, _⟩ => ⟨S2x8192x1536, .f32⟩
  | .hbm, ⟨58, _⟩ => ⟨S2x8192x1536, .f32⟩
  | .hbm, ⟨59, _⟩ => ⟨S1x1536, .f32⟩
  | .hbm, ⟨60, _⟩ => ⟨S1536, .f32⟩
  | .hbm, ⟨61, _⟩ => ⟨S1x1x1536, .f32⟩
  | .hbm, ⟨62, _⟩ => ⟨S2x8192x1536, .f32⟩
  | .hbm, ⟨63, _⟩ => ⟨S2x8192x1536, .f32⟩
  | .hbm, ⟨64, _⟩ => ⟨S2x8192x1536, .f32⟩
  | .hbm, ⟨65, _⟩ => ⟨S2x8192x1536, .f32⟩
  | .hbm, ⟨66, _⟩ => ⟨S1x1536, .f32⟩
  | .hbm, ⟨67, _⟩ => ⟨S1536, .f32⟩
  | .hbm, ⟨68, _⟩ => ⟨S1x1x1536, .f32⟩
  | .hbm, ⟨69, _⟩ => ⟨S2x8192x1536, .f32⟩
  | .hbm, ⟨70, _⟩ => ⟨S2x8192x1536, .f32⟩
  | .hbm, ⟨71, _⟩ => ⟨S2x8192x1536, .f32⟩
  | .hbm, ⟨72, _⟩ => ⟨S2x8192x1536, .f32⟩
  | .hbm, ⟨73, _⟩ => ⟨S2x8192x1536, .f32⟩
  | .hbm, ⟨74, _⟩ => ⟨S_, .f32⟩
  | .hbm, ⟨75, _⟩ => ⟨S2x8192x1536, .f32⟩
  | .hbm, ⟨76, _⟩ => ⟨S2x8192x1536, .f32⟩
  | .hbm, ⟨77, _⟩ => ⟨S_, .f32⟩
  | .hbm, ⟨78, _⟩ => ⟨S2x8192x1536, .f32⟩
  | .hbm, ⟨79, _⟩ => ⟨S2x8192x1536, .f32⟩
  | .hbm, ⟨80, _⟩ => ⟨S2x8192x1536, .f32⟩
  | .hbm, ⟨81, _⟩ => ⟨S2x8192x12x128, .f32⟩
  | .hbm, ⟨82, _⟩ => ⟨S2x8192x4x128, .f32⟩
  | .hbm, ⟨83, _⟩ => ⟨S2x8192x4x128, .f32⟩
  | .hbm, ⟨84, _⟩ => ⟨S2x8192x4x128, .f32⟩
  | .hbm, ⟨85, _⟩ => ⟨S2x8192x4x128, .f32⟩
  | .hbm, ⟨86, _⟩ => ⟨S_, .f32⟩
  | .hbm, ⟨87, _⟩ => ⟨S2x8192x4, .f32⟩
  | .hbm, ⟨88, _⟩ => ⟨S2x8192x4x1, .f32⟩
  | .hbm, ⟨89, _⟩ => ⟨S_, .f32⟩
  | .hbm, ⟨90, _⟩ => ⟨S2x8192x4x1, .f32⟩
  | .hbm, ⟨91, _⟩ => ⟨S2x8192x4x1, .f32⟩
  | .hbm, ⟨92, _⟩ => ⟨S2x8192x4x1, .f32⟩
  | .hbm, ⟨93, _⟩ => ⟨S2x8192x4x128, .f32⟩
  | .hbm, ⟨94, _⟩ => ⟨S2x8192x4x128, .f32⟩
  | .hbm, ⟨95, _⟩ => ⟨S_, .f32⟩
  | .hbm, ⟨96, _⟩ => ⟨S2x8192x4x128, .f32⟩
  | .hbm, ⟨97, _⟩ => ⟨S2x8192x4x128, .f32⟩
  | .hbm, ⟨98, _⟩ => ⟨S2x8192x4x128, .f32⟩
  | .hbm, ⟨99, _⟩ => ⟨S_, .f32⟩
  | .hbm, ⟨100, _⟩ => ⟨S2x8192x4, .f32⟩
  | .hbm, ⟨101, _⟩ => ⟨S2x8192x4x1, .f32⟩
  | .hbm, ⟨102, _⟩ => ⟨S_, .f32⟩
  | .hbm, ⟨103, _⟩ => ⟨S2x8192x4x1, .f32⟩
  | .hbm, ⟨104, _⟩ => ⟨S2x8192x4x1, .f32⟩
  | .hbm, ⟨105, _⟩ => ⟨S2x8192x4x1, .f32⟩
  | .hbm, ⟨106, _⟩ => ⟨S2x8192x4x128, .f32⟩
  | .hbm, ⟨107, _⟩ => ⟨S2x8192x4x128, .f32⟩
  | .hbm, ⟨108, _⟩ => ⟨S2x8192x12x128, .f32⟩
  | .hbm, ⟨109, _⟩ => ⟨S16384x1536, .f32⟩
  | .hbm, ⟨110, _⟩ => ⟨S2x8192x512, .f32⟩
  | .hbm, ⟨111, _⟩ => ⟨S16384x512, .f32⟩
  | .hbm, ⟨112, _⟩ => ⟨S16384x128, .f32⟩
  | .hbm, ⟨113, _⟩ => ⟨S2x8192x1536, .f32⟩
  | .hbm, ⟨114, _⟩ => ⟨S16384x1536, .f32⟩
  | .hbm, ⟨115, _⟩ => ⟨S16384x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c : Ref sig .tc := ⟨.hbm, 39, rfl⟩
abbrev main_call0_v0 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_4 : Ref sig .tc := ⟨.hbm, 74, rfl⟩
abbrev main_v61 : Ref sig .tc := ⟨.hbm, 75, rfl⟩
abbrev main_v62 : Ref sig .tc := ⟨.hbm, 76, rfl⟩
abbrev main_cst_5 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_cst_7 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_cst_8 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_9 : Ref sig .tc := ⟨.hbm, 99, rfl⟩
abbrev main_v81 : Ref sig .tc := ⟨.hbm, 100, rfl⟩
abbrev main_v82 : Ref sig .tc := ⟨.hbm, 101, rfl⟩
abbrev main_cst_10 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Proof.Softmax.lean ====
/- The softmax-weighted sum in base two and in base e, over the extended reals.

   The kernel multiplies its scores by `1 / log 2`, takes powers of two, and divides once at the end; the reference
   exponentiates the scores themselves and divides every weight. Its keys are also a larger set: keys outside the band
   carry the score −∞. `softmax_rescaled` says that the two weighted sums are equal. -/
module

public import Idealize.ShloMosaic.PureOps.Ideal

@[expose] public section

noncomputable section

namespace Cert.Attn

open Idealize.ShloMosaic
open scoped BigOperators

/-- The reciprocal of the natural logarithm of two. -/
def invLog2 : ℝ := (Real.log 2)⁻¹

theorem log2_pos : 0 < Real.log 2 := Real.log_pos (by norm_num)

theorem invLog2_pos : 0 < invLog2 := inv_pos.mpr log2_pos

/-- Two to the power of a rescaled difference is `e` to the power of the difference. -/
theorem exp2_rescaled (x y : ℝ) :
    Ideal.exp2 ((invLog2 : EReal) * (x : EReal) - (invLog2 : EReal) * (y : EReal)) = Ideal.exp ((x : EReal) - (y : EReal)) := by
  rw [← EReal.coe_mul, ← EReal.coe_mul, ← EReal.coe_sub, ← EReal.coe_sub, Ideal.exp2_coe, Ideal.exp_coe]
  congr 1
  show (2 : ℝ) ^ (invLog2 * x - invLog2 * y) = _
  rw [Real.rpow_def_of_pos (by norm_num : (0 : ℝ) < 2)]
  congr 1
  unfold invLog2
  have := log2_pos.ne'
  field_simp

/-- A nonnegative real factor distributes over a sum of extended reals. -/
theorem coe_mul_sum {κ : Type*} (t : Finset κ) (c : ℝ) (hc : 0 ≤ c) (f : κ → EReal) :
    (c : EReal) * ∑ k ∈ t, f k = ∑ k ∈ t, (c : EReal) * f k := by
  classical
  induction t using Finset.induction_on with
  | empty => simp
  | insert a t ha ih =>
    rw [Finset.sum_insert ha, Finset.sum_insert ha,
      EReal.left_distrib_of_nonneg_of_ne_top (by exact_mod_cast hc) (EReal.coe_ne_top c), ih]

/-- The coercion of a finite sum of reals. -/
theorem coe_sum {κ : Type*} (t : Finset κ) (f : κ → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

variable {κ ι : Type*} [Fintype κ] [Fintype ι]

/-- The largest of finitely many scores that are never `+∞` and not all `−∞` is a real number. -/
theorem exists_sup_eq_coe (s : κ → EReal) (htop : ∀ k, s k ≠ ⊤) (hex : ∃ k, s k ≠ ⊥) :
    ∃ M : ℝ, Finset.univ.sup s = (M : EReal) ∧ ∃ k, s k = (M : EReal) := by
  obtain ⟨k₀, hk₀⟩ := hex
  obtain ⟨k, -, hk⟩ := Finset.exists_mem_eq_sup Finset.univ ⟨k₀, Finset.mem_univ _⟩ s
  have hle : s k₀ ≤ s k := hk ▸ Finset.le_sup (Finset.mem_univ k₀)
  have hb : s k ≠ ⊥ := fun h => hk₀ (le_bot_iff.mp (h ▸ hle))
  refine ⟨(s k).toReal, ?_, k, ?_⟩
  · rw [hk, EReal.coe_toReal (htop k) hb]
  · rw [EReal.coe_toReal (htop k) hb]

/-- The largest rescaled score, over the larger set of keys, is the rescaled largest score. -/
theorem sup_rescaled (e : κ → ι) (s : κ → EReal) (s' : ι → EReal)
    (hin : ∀ k, s' (e k) = (invLog2 : EReal) * s k) (hout : ∀ i, (∀ k, e k ≠ i) → s' i = ⊥)
    (htop : ∀ k, s k ≠ ⊤) (M : ℝ) (hM : Finset.univ.sup s = (M : EReal)) (hk : ∃ k, s k = (M : EReal)) :
    Finset.univ.sup s' = (invLog2 : EReal) * (M : EReal) := by
  apply le_antisymm
  · apply Finset.sup_le
    intro i _
    by_cases h : ∃ k, e k = i
    · obtain ⟨k, rfl⟩ := h
      rw [hin]
      have hle : s k ≤ M := hM ▸ Finset.le_sup (Finset.mem_univ k)
      exact mul_le_mul_of_nonneg_left hle (by exact_mod_cast invLog2_pos.le)
    · rw [hout i (fun k hk => h ⟨k, hk⟩)]
      exact bot_le
  · obtain ⟨k, hk⟩ := hk
    rw [← hk, ← hin]
    exact Finset.le_sup (f := s') (Finset.mem_univ _)

/-- The softmax-weighted sum: base two with rescaled scores, a larger set of keys and one division at the end, against
    base `e` with each weight divided. -/
theorem softmax_rescaled (e : κ → ι) (he : Function.Injective e) (s v : κ → EReal) (s' v' : ι → EReal)
    (hin : ∀ k, s' (e k) = (invLog2 : EReal) * s k) (hout : ∀ i, (∀ k, e k ≠ i) → s' i = ⊥)
    (hv : ∀ k, s k ≠ ⊥ → v' (e k) = v k) (htop : ∀ k, s k ≠ ⊤) (hex : ∃ k, s k ≠ ⊥) :
    Ideal.div (∑ i, Ideal.exp2 (s' i - Finset.univ.sup s') * v' i) (∑ i, Ideal.exp2 (s' i - Finset.univ.sup s'))
      = ∑ k, v k * Ideal.div (Ideal.exp (s k - Finset.univ.sup s)) (∑ k, Ideal.exp (s k - Finset.univ.sup s)) := by
  classical
  obtain ⟨M, hM, k₀, hk₀⟩ := exists_sup_eq_coe s htop hex
  rw [sup_rescaled e s s' hin hout htop M hM ⟨k₀, hk₀⟩, hM]
  -- the weights, as real numbers
  let w : κ → ℝ := fun k => if s k = ⊥ then 0 else Real.exp ((s k).toReal - M)
  have hw0 : ∀ k, 0 ≤ w k := fun k => by
    dsimp only [w]; split_ifs
    · exact le_rfl
    · exact (Real.exp_pos _).le
  have hw : ∀ k, Ideal.exp (s k - M) = (w k : EReal) := fun k => by
    dsimp only [w]; split_ifs with h
    · rw [h, EReal.bot_sub, Ideal.exp_bot]; rfl
    · conv_lhs => rw [← EReal.coe_toReal (htop k) h]
      rw [← EReal.coe_sub, Ideal.exp_coe]
  have hw' : ∀ k, Ideal.exp2 (s' (e k) - (invLog2 : EReal) * M) = (w k : EReal) := fun k => by
    rw [hin]
    by_cases h : s k = ⊥
    · rw [h, EReal.coe_mul_bot_of_pos invLog2_pos, EReal.bot_sub, Ideal.exp2_bot]
      dsimp only [w]; rw [if_pos h]; rfl
    · rw [← hw]
      conv_lhs => rw [← EReal.coe_toReal (htop k) h]
      conv_rhs => rw [← EReal.coe_toReal (htop k) h]
      exact exp2_rescaled _ _
  have hz : ∀ i, i ∉ Finset.univ.image e → Ideal.exp2 (s' i - (invLog2 : EReal) * M) = 0 := fun i hi => by
    rw [hout i (fun k hk => hi (Finset.mem_image.mpr ⟨k, Finset.mem_univ _, hk⟩)), EReal.bot_sub, Ideal.exp2_bot]
  have hsum : ∀ f : ι → EReal, (∀ i, i ∉ Finset.univ.image e → f i = 0) → ∑ i, f i = ∑ k, f (e k) := fun f hf => by
    rw [← Finset.sum_image (f := f) (s := Finset.univ) (g := e) (fun a _ b _ h => he h)]
    exact (Finset.sum_subset (Finset.subset_univ _) (fun i _ hi => hf i hi)).symm
  have hD : (0 : ℝ) < ∑ k, w k := by
    refine Finset.sum_pos' (fun k _ => hw0 k) ⟨k₀, Finset.mem_univ _, ?_⟩
    dsimp only [w]
    rw [if_neg (by rw [hk₀]; exact EReal.coe_ne_bot M)]
    exact Real.exp_pos _
  rw [hsum (fun i => Ideal.exp2 (s' i - (invLog2 : EReal) * M)) hz,
    hsum (fun i => Ideal.exp2 (s' i - (invLog2 : EReal) * M) * v' i) (fun i hi => by
      show Ideal.exp2 _ * _ = _
      rw [hz i hi, zero_mul])]
  simp only [hw', hw]
  rw [← coe_sum, Ideal.div_coe hD.ne', mul_comm, coe_mul_sum _ _ (by positivity)]
  refine Finset.sum_congr rfl fun k _ => ?_
  rw [Ideal.div_coe hD.ne']
  by_cases h : s k = ⊥
  · have : w k = 0 := by dsimp only [w]; rw [if_pos h]
    rw [this]; simp
  · rw [hv k h, mul_comm, mul_comm (w k : EReal), mul_assoc]
end Cert.Attn

end
-- ==== Proof.Head.lean ====
/- What the kernel computes for one head of one 256-row tile, as one function of the values it loads.

   The kernel's body repeats the same computation for two tiles of eight heads. Here it is written once, over the
   bounds of the head's lanes, and read element by element. -/
module

public import proofs.«01_k».proof.Proof.Gen.KernelIdeal.Skeleton
public import Idealize.ShloMosaic.Lib.Pointwise
public import proofs.«01_k».proof.Proof.Softmax

@[expose] public section

set_option maxRecDepth 16384

noncomputable section

namespace Cert.Attn

open Idealize.ShloMosaic Idealize.ShloMosaic.TcCoe Idealize.SL.Sem
open Cert.KernelIdeal Cert.KernelIdeal.Gen

section Vectors

variable {F : FTy → Type} [FloatOps F] [Named F]

/-- Which of the 128 lanes lie between the two bounds, on every row. -/
def laneMask (lo hi : BitVec 32) : IVec S256x128 1 :=
  let lane : IVec S1x128 32 := iota .tc S1x128 32 [1] iota_S1x128_d1_w32
  broadcastTo S256x128 (shapeCast S1x128 (andi (cmpi .sge lane (broadcast S1x128 lo)) (cmpi .slt lane (broadcast S1x128 hi))) shapeCasts_S1x128_S1x128)
    broadcasts_S1x128_S256x128

/-- The head's queries, the other head's lanes set to zero, scaled. -/
def scaledQuery (lo hi : BitVec 32) (q : Vec F S256x128 .bf16) : FVec F S256x128 .bf16 :=
  truncf .bf16 (mulf (extf .f32 (select (laneMask lo hi) q (broadcast S256x128 (Scalar.ofBits .bf16 0x0000#16 : F .bf16)) : FVec F S256x128 .bf16) bitsLt_bf16_f32)
    (broadcast S256x128 (Named.named κ "scale_log2e" 0x3E38AA3B#32 : F .f32))) bitsLt_bf16_f32

/-- The scores of one window of 256 keys. -/
def windowScore (qs k : Vec F S256x128 .bf16) (b : Vec F S1x256x256 .f32) : FVec F S256x256 .f32 :=
  addf (matmul dot_S256x128_S256x128_S256x256_1_1_0_0_n_n none qs k (constant S256x256 .f32 0x00000000#32) : FVec F S256x256 .f32)
    (shapeCast S256x256 b shapeCasts_S1x256x256_S256x256)

/-- Scores kept where the flag is set, masked otherwise. -/
def keepIf (c : BitVec 1) (s : FVec F S256x256 .f32) : FVec F S256x256 .f32 :=
  Scalar.select c s (broadcast S256x256 (Named.named κ "masked" 0xF149F2CA#32 : F .f32))

/-- Each row's largest score. -/
def rowMax (s0 s1 s2 : FVec F S256x256 .f32) : FVec F S256x1 .f32 :=
  shapeCast S256x1 (multiReduction .maximumf [1] S256 (maximumf (maximumf s0 s1) s2) 0xFF800000#32 reduces_S256x256_S256 (.inl rfl) rfl)
    shapeCasts_S256_S256x1

/-- The unnormalised weights of one window. -/
def weight (s : FVec F S256x256 .f32) (top : FVec F S256x1 .f32) : FVec F S256x256 .f32 :=
  exp2 (subf s (broadcastTo S256x256 top broadcasts_S256x1_S256x256))

/-- Each row's total weight. -/
def rowSum (p0 p1 p2 : FVec F S256x256 .f32) : FVec F S256x1 .f32 :=
  shapeCast S256x1 (multiReduction .add [1] S256 (addf (addf p0 p1) p2) 0x00000000#32 reduces_S256x256_S256 (.inl rfl) rfl)
    shapeCasts_S256_S256x1

/-- The weighted sum of one window's values. -/
def windowOut (p : FVec F S256x256 .f32) (v : Vec F S256x128 .bf16) : FVec F S256x128 .f32 :=
  matmul dot_S256x256_S256x128_S256x128_1_0_0_1_n_n none (truncf .bf16 p bitsLt_bf16_f32) v (constant S256x128 .f32 0x00000000#32)

/-- The head's output from its three windows' weights: the weighted sum over the total weight. -/
def normalised (p0 p1 p2 : FVec F S256x256 .f32) (v0 v1 v2 : Vec F S256x128 .bf16) : FVec F S256x128 .f32 :=
  divf (addf (addf (windowOut p0 v0) (windowOut p1 v1)) (windowOut p2 v2)) (broadcastTo S256x128 (rowSum p0 p1 p2) broadcasts_S256x1_S256x128)

/-- The head's output from its three windows' scores. -/
def attend (s0 s1 s2 : FVec F S256x256 .f32) (v0 v1 v2 : Vec F S256x128 .bf16) : FVec F S256x128 .f32 :=
  normalised (weight s0 (rowMax s0 s1 s2)) (weight s1 (rowMax s0 s1 s2)) (weight s2 (rowMax s0 s1 s2)) v0 v1 v2

/-- One head of one tile. -/
def head (lo hi : BitVec 32) (c0 c1 : BitVec 1) (q k0 k1 k2 v0 v1 v2 : Vec F S256x128 .bf16) (b0 b1 b2 : Vec F S1x256x256 .f32) :
    FVec F S256x128 .f32 :=
  attend (keepIf c0 (windowScore (scaledQuery lo hi q) k0 b0)) (keepIf c1 (windowScore (scaledQuery lo hi q) k1 b1))
    (windowScore (scaledQuery lo hi q) k2 b2) v0 v1 v2

/-- Whether window `j` of the tile `t` of a step lies at or after the sequence's start. -/
def started (step t least : BitVec 32) : BitVec 1 :=
  Scalar.cmpi .sge (Scalar.addi (Scalar.muli step 2#32) t) least

/-- Two heads side by side: the second head's lanes from its own output, the others from the first head's. -/
def pair (t step : BitVec 32) (q k0 k1 k2 v0 v1 v2 : Vec F S256x128 .bf16) (b0 b1 b2 b0' b1' b2' : Vec F S1x256x256 .f32) :
    FVec F S256x128 .bf16 :=
  truncf .bf16 (select (laneMask 64#32 128#32)
    (head 64#32 128#32 (started step t 2#32) (started step t 1#32) q k0 k1 k2 v0 v1 v2 b0' b1' b2')
    (head 0#32 64#32 (started step t 2#32) (started step t 1#32) q k0 k1 k2 v0 v1 v2 b0 b1 b2)) bitsLt_bf16_f32

end Vectors

end Cert.Attn

end
-- ==== Proof.Block.lean ====
/- What one grid point leaves in the output block and in the carried bias table.

   The output block is eight stored pieces, two tiles by four pairs of heads; each is `pair` of the values loaded for it.
   The bias table is eight stored planes, one for each head. -/
module

public import proofs.«01_k».proof.Proof.Gen.KernelIdeal.Frame
public import proofs.«01_k».proof.Proof.Head
public import Idealize.ShloMosaic.Lib.Pipeline.Value

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F] [Named F]

/-! ## The parts of the blocks that one pair of heads of one tile reads -/

/-- Tile `t` of the query block, the lanes of the pair `g`. -/
def tileOf (t : Fin 2) (g : Fin 4) (x : Vec F S512x512 .bf16) : Vec F S256x128 .bf16 :=
  fun z => x (ix2 ⟨256 * t.val + (z 0).val, by have h := (z 0).isLt; have : (z 0).val < 256 := h; omega⟩
    ⟨128 * g.val + (z 1).val, by have h := (z 1).isLt; have : (z 1).val < 128 := h; omega⟩)

/-- A window of keys or values, the lanes of the pair `g`. -/
def windowOf (g : Fin 4) (x : Vec F S256x512 .bf16) : Vec F S256x128 .bf16 :=
  fun z => x (ix2 (z 0) ⟨128 * g.val + (z 1).val, by have h := (z 1).isLt; have : (z 1).val < 128 := h; omega⟩)

/-- The bias of head `h` against the window `j`. -/
def biasOf (h : Fin 8) (j : Fin 3) (x : Vec F S8x256x768 .f32) : Vec F S1x256x256 .f32 :=
  fun z => x (ix3 h (z 1) ⟨256 * j.val + (z 2).val, by have h := (z 2).isLt; have : (z 2).val < 256 := h; omega⟩)

theorem readAt_tile {a : Memref sig .tc .vmem S512x512 .bf16} (h : a.IsWhole) (x : Vec F S512x512 .bf16) (t : Fin 2) (g : Fin 4)
    {off : Fin 2 → ℕ} {inb} (h0 : off 0 = 256 * t.val) (h1 : off 1 = 128 * g.val) :
    View.readAt (Elt F) a.view (Rect.unit (s := S512x512) off S256x128.size inb).toLoadRect (h.unread x) = tileOf t g x := by
  rw [View.readAt_eq_ld, h.read_unread]
  funext z
  show x _ = x _
  congr 1
  funext d
  apply Fin.ext
  match d with
  | ⟨0, _⟩ => show off 0 + 1 * (z 0).val = _; rw [h0, Nat.one_mul]; rfl
  | ⟨1, _⟩ => show off 1 + 1 * (z 1).val = _; rw [h1, Nat.one_mul]; rfl

theorem readAt_window {a : Memref sig .tc .vmem S256x512 .bf16} (h : a.IsWhole) (x : Vec F S256x512 .bf16) (g : Fin 4)
    {off : Fin 2 → ℕ} {inb} (h0 : off 0 = 0) (h1 : off 1 = 128 * g.val) :
    View.readAt (Elt F) a.view (Rect.unit (s := S256x512) off S256x128.size inb).toLoadRect (h.unread x) = windowOf g x := by
  rw [View.readAt_eq_ld, h.read_unread]
  funext z
  show x _ = x _
  congr 1
  funext d
  apply Fin.ext
  match d with
  | ⟨0, _⟩ => show off 0 + 1 * (z 0).val = (z 0).val; rw [h0, Nat.one_mul, Nat.zero_add]
  | ⟨1, _⟩ => show off 1 + 1 * (z 1).val = _; rw [h1, Nat.one_mul]; rfl

theorem bias_idx (h : Fin 8) (j : Fin 3) {off : Fin 3 → ℕ} {inb} (h0 : off 0 = h.val) (h1 : off 1 = 0) (h2 : off 2 = 256 * j.val)
    (x : Vec F S8x256x768 .f32) (z : S1x256x256.Idx) :
    x ((Rect.unit (s := S8x256x768) off S1x256x256.size inb).idx z) = biasOf h j x z := by
  have hz : (z 0).val = 0 := by have := (z 0).isLt; have : (z 0).val < 1 := this; omega
  show x _ = x _
  congr 1
  funext d
  apply Fin.ext
  match d with
  | ⟨0, _⟩ => show off 0 + 1 * (z 0).val = h.val; rw [h0, hz]; rfl
  | ⟨1, _⟩ => show off 1 + 1 * (z 1).val = (z 1).val; rw [h1, Nat.one_mul, Nat.zero_add]
  | ⟨2, _⟩ => show off 2 + 1 * (z 2).val = _; rw [h2, Nat.one_mul]; rfl

theorem readAt_bias {a : Memref sig .tc .vmem S8x256x768 .f32} (h : a.IsWhole) (x : Vec F S8x256x768 .f32) (hd : Fin 8) (j : Fin 3)
    {off : Fin 3 → ℕ} {inb} (h0 : off 0 = hd.val) (h1 : off 1 = 0) (h2 : off 2 = 256 * j.val) :
    View.readAt (Elt F) a.view (Rect.unit (s := S8x256x768) off S1x256x256.size inb).toLoadRect (h.unread x) = biasOf hd j x := by
  rw [View.readAt_eq_ld, h.read_unread]
  exact funext fun z => bias_idx hd j h0 h1 h2 x z

theorem readCov_bias (v : View sig .tc .vmem S8x256x768 .f32) (L : List (View.Piece (Elt F) S8x256x768 .f32)) (x : Vec F S8x256x768 .f32)
    (hb : View.canon L = x) (hd : Fin 8) (j : Fin 3)
    {off : Fin 3 → ℕ} {inb} (h0 : off 0 = hd.val) (h1 : off 1 = 0) (h2 : off 2 = 256 * j.val) :
    View.readCov v L (Rect.unit (s := S8x256x768) off S1x256x256.size inb).toLoadRect = biasOf hd j x := by
  rw [View.readCov_eq_canon', hb]
  exact funext fun z => bias_idx hd j h0 h1 h2 x z

/-! ## The block -/

/-- The output of one tile's pair of heads, from the blocks: window `j` of tile `t` is the window `t + j` of the step. -/
def blockPair (step : BitVec 32) (x : Vec F S512x512 .bf16) (kw vw : Fin 4 → Vec F S256x512 .bf16) (bias : Vec F S8x256x768 .f32)
    (t : Fin 2) (g : Fin 4) : FVec F S256x128 .bf16 :=
  let w : Fin 3 → Fin 4 := fun j => ⟨t.val + j.val, by omega⟩
  let h : Fin 2 → Fin 8 := fun e => ⟨2 * g.val + e.val, by omega⟩
  pair (BitVec.ofNat 32 t.val) step (tileOf t g x) (windowOf g (kw (w 0))) (windowOf g (kw (w 1))) (windowOf g (kw (w 2)))
    (windowOf g (vw (w 0))) (windowOf g (vw (w 1))) (windowOf g (vw (w 2)))
    (biasOf (h 0) 0 bias) (biasOf (h 0) 1 bias) (biasOf (h 0) 2 bias) (biasOf (h 1) 0 bias) (biasOf (h 1) 1 bias) (biasOf (h 1) 2 bias)

/-- The whole output block. -/
def blockOut (step : BitVec 32) (x : Vec F S512x512 .bf16) (kw vw : Fin 4 → Vec F S256x512 .bf16) (bias : Vec F S8x256x768 .f32) :
    Vec F S512x512 .bf16 := fun y =>
  blockPair step x kw vw bias ⟨(y 0).val / 256, by have h : (y 0).val < 512 := (y 0).isLt; omega⟩
    ⟨(y 1).val / 128, by have h : (y 1).val < 512 := (y 1).isLt; omega⟩
    (ix2 ⟨(y 0).val % 256, Nat.mod_lt _ (by decide)⟩ ⟨(y 1).val % 128, Nat.mod_lt _ (by decide)⟩)

/-- The block at a place inside the piece of tile `t` and pair `g`. -/
theorem blockOut_emb (step : BitVec 32) (x : Vec F S512x512 .bf16) (kw vw : Fin 4 → Vec F S256x512 .bf16) (bias : Vec F S8x256x768 .f32)
    (t : Fin 2) (g : Fin 4) (y : S512x512.Idx) (z : S256x128.Idx)
    (h0 : (y 0).val = 256 * t.val + 1 * (z 0).val) (h1 : (y 1).val = 128 * g.val + 1 * (z 1).val) :
    blockOut step x kw vw bias y = blockPair step x kw vw bias t g z := by
  have hz0 : (z 0).val < 256 := (z 0).isLt
  have hz1 : (z 1).val < 128 := (z 1).isLt
  unfold blockOut
  have ht : (⟨(y 0).val / 256, by have h : (y 0).val < 512 := (y 0).isLt; omega⟩ : Fin 2) = t := by
    apply Fin.ext; show (y 0).val / 256 = t.val; omega
  have hg : (⟨(y 1).val / 128, by have h : (y 1).val < 512 := (y 1).isLt; omega⟩ : Fin 4) = g := by
    apply Fin.ext; show (y 1).val / 128 = g.val; omega
  rw [ht, hg]
  congr 1
  · funext d
    apply Fin.ext
    match d with
    | ⟨0, _⟩ => show (y 0).val % 256 = (z 0).val; omega
    | ⟨1, _⟩ => show (y 1).val % 128 = (z 1).val; omega

/-- A stored piece is the block's pair once each loaded value is the part of the block it names. -/
theorem pair_eq_blockPair (step : BitVec 32) (x : Vec F S512x512 .bf16) (kw vw : Fin 4 → Vec F S256x512 .bf16) (bias : Vec F S8x256x768 .f32)
    {t : Fin 2} {g : Fin 4} {tw : BitVec 32} (ht : tw = BitVec.ofNat 32 t.val)
    {q k0 k1 k2 v0 v1 v2 : Vec F S256x128 .bf16} {b0 b1 b2 b0' b1' b2' : Vec F S1x256x256 .f32}
    (hq : q = tileOf t g x)
    (hk0 : k0 = windowOf g (kw ⟨t.val + 0, by omega⟩)) (hk1 : k1 = windowOf g (kw ⟨t.val + 1, by omega⟩)) (hk2 : k2 = windowOf g (kw ⟨t.val + 2, by omega⟩))
    (hv0 : v0 = windowOf g (vw ⟨t.val + 0, by omega⟩)) (hv1 : v1 = windowOf g (vw ⟨t.val + 1, by omega⟩)) (hv2 : v2 = windowOf g (vw ⟨t.val + 2, by omega⟩))
    (hb0 : b0 = biasOf ⟨2 * g.val + 0, by omega⟩ 0 bias) (hb1 : b1 = biasOf ⟨2 * g.val + 0, by omega⟩ 1 bias) (hb2 : b2 = biasOf ⟨2 * g.val + 0, by omega⟩ 2 bias)
    (hb0' : b0' = biasOf ⟨2 * g.val + 1, by omega⟩ 0 bias) (hb1' : b1' = biasOf ⟨2 * g.val + 1, by omega⟩ 1 bias) (hb2' : b2' = biasOf ⟨2 * g.val + 1, by omega⟩ 2 bias) :
    pair tw step q k0 k1 k2 v0 v1 v2 b0 b1 b2 b0' b1' b2' = blockPair step x kw vw bias t g := by
  subst ht hq hk0 hk1 hk2 hv0 hv1 hv2 hb0 hb1 hb2 hb0' hb1' hb2'
  rfl

/-! ## The bias table -/

/-- The pairs of a row and a key of the three windows in which the key's chunk is the row's or one of the eight before. -/
def allowedMask : IVec S256x768 1 :=
  let row := shrsi (iota .tc S256x768 32 [0] iota_S256x768_d0_w32) (broadcast S256x768 6#32)
  let col := subi (shrsi (iota .tc S256x768 32 [1] iota_S256x768_d1_w32) (broadcast S256x768 6#32)) (broadcast S256x768 8#32)
  andi (cmpi .sle col row) (cmpi .sge col (subi row (broadcast S256x768 8#32)))

/-- A head's plane of the bias table: its reversed bias row rolled by one more place on each row, rescaled, masked. -/
def biasPlane (rev : Vec F S1x1x1024 .f32) : FVec F S1x256x768 .f32 :=
  shapeCast S1x256x768 (select allowedMask
    (mulf (extractStridedSlice S256x768 ![0, 0] (dynamicRotate 1 769#32 (some (1, 0))
        (broadcastTo S256x1024 (shapeCast S1x1024 (shapeCast S1x1024 rev shapeCasts_S1x1x1024_S1x1024) shapeCasts_S1x1024_S1x1024) broadcasts_S1x1024_S256x1024)
        rotates_S256x1024_d1s1a0) slices_S256x1024_o0_0_S256x768)
      (broadcast S256x768 (Named.named κ "log2e" 0x3FB8AA3B#32 : F .f32)))
    (broadcast S256x768 (Named.named κ "masked" 0xF149F2CA#32 : F .f32)) : FVec F S256x768 .f32) shapeCasts_S256x768_S1x256x768

/-- The reversed bias row of head `h`. -/
def revRow (h : Fin 8) (x : Vec F S8x1x1024 .f32) : Vec F S1x1x1024 .f32 := fun z => x (ix3 h (z 1) (z 2))

/-- The table of all heads. -/
def biasTable (x : Vec F S8x1x1024 .f32) : Vec F S8x256x768 .f32 := fun y => biasPlane (revRow (y 0) x) (ix3 0 (y 1) (y 2))

theorem readAt_rev {a : Memref sig .tc .vmem S8x1x1024 .f32} (h : a.IsWhole) (x : Vec F S8x1x1024 .f32) (hd : Fin 8)
    {off : Fin 3 → ℕ} {inb} (h0 : off 0 = hd.val) (h1 : off 1 = 0) (h2 : off 2 = 0) :
    View.readAt (Elt F) a.view (Rect.unit (s := S8x1x1024) off S1x1x1024.size inb).toLoadRect (h.unread x) = revRow hd x := by
  rw [View.readAt_eq_ld, h.read_unread]
  funext z
  have hz : (z 0).val = 0 := by have := (z 0).isLt; have : (z 0).val < 1 := this; omega
  show x _ = x _
  congr 1
  funext d
  apply Fin.ext
  match d with
  | ⟨0, _⟩ => show off 0 + 1 * (z 0).val = hd.val; rw [h0, hz]; rfl
  | ⟨1, _⟩ => show off 1 + 1 * (z 1).val = (z 1).val; rw [h1, Nat.one_mul, Nat.zero_add]
  | ⟨2, _⟩ => show off 2 + 1 * (z 2).val = (z 2).val; rw [h2, Nat.one_mul, Nat.zero_add]

/-- The table at a place of head `h`'s plane. -/
theorem biasTable_emb (x : Vec F S8x1x1024 .f32) (h : Fin 8) (y : S8x256x768.Idx) (z : S1x256x768.Idx)
    (h0 : (y 0).val = h.val + 1 * (z 0).val) (h1 : (y 1).val = 0 + 1 * (z 1).val) (h2 : (y 2).val = 0 + 1 * (z 2).val) :
    biasTable x y = biasPlane (revRow h x) z := by
  have hz : (z 0).val = 0 := by have := (z 0).isLt; have : (z 0).val < 1 := this; omega
  unfold biasTable
  congr 1
  · congr 2; apply Fin.ext; show (y 0).val = h.val; omega
  · funext d
    apply Fin.ext
    match d with
    | ⟨0, _⟩ => exact hz.symm
    | ⟨1, _⟩ => show (y 1).val = (z 1).val; omega
    | ⟨2, _⟩ => show (y 2).val = (z 2).val; omega

/-! ## The two cases of a grid point -/

variable (c : Dev nD) (i : grid0.Coords) (arg2 : Memref sig .tc .vmem S512x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x512 .bf16) (harg7 : arg7.IsWhole) (arg8 : Memref sig .tc .vmem S256x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S8x1x1024 .f32) (harg11 : arg11.IsWhole) (arg12 : Memref sig .tc .vmem S512x512 .bf16) (harg12 : arg12.IsWhole) (arg13 : Memref sig .tc .vmem S8x256x768 .f32) (harg13 : arg13.IsWhole)

/-- The planes that the first grid point stores make up the bias table. -/
theorem canon_bias (hc0 : cond0_0 i) (x0 : Vec F S512x512 .bf16) (x1 x2 x3 x4 x5 x6 x7 x8 : Vec F S256x512 .bf16) (x9 : Vec F S8x1x1024 .f32) :
    View.canon (kernelRun0_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 = biasTable x9 := by
  funext y
  refine View.canon_apply_of_pieces (biasTable x9) _ ?_ y (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 y)
  unfold kernelRun0_A
  dsimp only
  sl_unfold_words
  simp only [List.forall_mem_cons]
  refine ⟨?_, ?_, ?_, ?_, ?_, ?_, ?_, ?_, fun _ h => absurd h List.not_mem_nil⟩
  · intro x
    exact (congrFun (congrArg biasPlane (readAt_rev harg11 x9 7 rfl rfl rfl)) x).trans (biasTable_emb _ 7 _ _ rfl rfl rfl).symm
  · intro x
    exact (congrFun (congrArg biasPlane (readAt_rev harg11 x9 6 rfl rfl rfl)) x).trans (biasTable_emb _ 6 _ _ rfl rfl rfl).symm
  · intro x
    exact (congrFun (congrArg biasPlane (readAt_rev harg11 x9 5 rfl rfl rfl)) x).trans (biasTable_emb _ 5 _ _ rfl rfl rfl).symm
  · intro x
    exact (congrFun (congrArg biasPlane (readAt_rev harg11 x9 4 rfl rfl rfl)) x).trans (biasTable_emb _ 4 _ _ rfl rfl rfl).symm
  · intro x
    exact (congrFun (congrArg biasPlane (readAt_rev harg11 x9 3 rfl rfl rfl)) x).trans (biasTable_emb _ 3 _ _ rfl rfl rfl).symm
  · intro x
    exact (congrFun (congrArg biasPlane (readAt_rev harg11 x9 2 rfl rfl rfl)) x).trans (biasTable_emb _ 2 _ _ rfl rfl rfl).symm
  · intro x
    exact (congrFun (congrArg biasPlane (readAt_rev harg11 x9 1 rfl rfl rfl)) x).trans (biasTable_emb _ 1 _ _ rfl rfl rfl).symm
  · intro x
    exact (congrFun (congrArg biasPlane (readAt_rev harg11 x9 0 rfl rfl rfl)) x).trans (biasTable_emb _ 0 _ _ rfl rfl rfl).symm

/-- The first grid point leaves the bias table in the scratch. -/
theorem sout_A (hc0 : cond0_0 i) (x0 : Vec F S512x512 .bf16) (x1 x2 x3 x4 x5 x6 x7 x8 : Vec F S256x512 .bf16) (x9 : Vec F S8x1x1024 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 = biasTable x9 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  exact canon_bias c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9

/-- The first grid point leaves the block over the bias table it has just stored. -/
theorem out_A (hc0 : cond0_0 i) (x0 : Vec F S512x512 .bf16) (x1 x2 x3 x4 x5 x6 x7 x8 : Vec F S256x512 .bf16) (x9 : Vec F S8x1x1024 .f32) :
    out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
      = blockOut (BitVec.ofNat 32 (i 1).val) x0 ![x1, x2, x3, x4] ![x5, x6, x7, x8] (biasTable x9) := by
  have hb := canon_bias c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9
  unfold kernelRun0_A at hb
  dsimp only at hb
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9)]
  funext y
  refine View.canon_apply_of_pieces _ _ ?_ y (cover0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 y)
  unfold kernelRun0_A
  dsimp only
  sl_unfold_words
  simp only [List.forall_mem_cons]
  refine ⟨?_, ?_, ?_, ?_, ?_, ?_, ?_, ?_, fun _ h => absurd h List.not_mem_nil⟩
  · intro x
    refine (congrFun (pair_eq_blockPair (BitVec.ofNat 32 (i 1).val) x0 ![x1, x2, x3, x4] ![x5, x6, x7, x8] (biasTable x9) (t := 1) (g := 3) rfl
      (readAt_tile harg2 x0 1 3 rfl rfl)
      (readAt_window harg4 x2 3 rfl rfl)      (readAt_window harg5 x3 3 rfl rfl)      (readAt_window harg6 x4 3 rfl rfl)
      (readAt_window harg8 x6 3 rfl rfl)      (readAt_window harg9 x7 3 rfl rfl)      (readAt_window harg10 x8 3 rfl rfl)
      (readCov_bias arg13.view _ _ hb 6 0 rfl rfl rfl)      (readCov_bias arg13.view _ _ hb 6 1 rfl rfl rfl)      (readCov_bias arg13.view _ _ hb 6 2 rfl rfl rfl)
      (readCov_bias arg13.view _ _ hb 7 0 rfl rfl rfl)      (readCov_bias arg13.view _ _ hb 7 1 rfl rfl rfl)      (readCov_bias arg13.view _ _ hb 7 2 rfl rfl rfl)
      : _ = _) x).trans (blockOut_emb _ _ _ _ _ 1 3 _ _ rfl rfl).symm
  · intro x
    refine (congrFun (pair_eq_blockPair (BitVec.ofNat 32 (i 1).val) x0 ![x1, x2, x3, x4] ![x5, x6, x7, x8] (biasTable x9) (t := 1) (g := 2) rfl
      (readAt_tile harg2 x0 1 2 rfl rfl)
      (readAt_window harg4 x2 2 rfl rfl)      (readAt_window harg5 x3 2 rfl rfl)      (readAt_window harg6 x4 2 rfl rfl)
      (readAt_window harg8 x6 2 rfl rfl)      (readAt_window harg9 x7 2 rfl rfl)      (readAt_window harg10 x8 2 rfl rfl)
      (readCov_bias arg13.view _ _ hb 4 0 rfl rfl rfl)      (readCov_bias arg13.view _ _ hb 4 1 rfl rfl rfl)      (readCov_bias arg13.view _ _ hb 4 2 rfl rfl rfl)
      (readCov_bias arg13.view _ _ hb 5 0 rfl rfl rfl)      (readCov_bias arg13.view _ _ hb 5 1 rfl rfl rfl)      (readCov_bias arg13.view _ _ hb 5 2 rfl rfl rfl)
      : _ = _) x).trans (blockOut_emb _ _ _ _ _ 1 2 _ _ rfl rfl).symm
  · intro x
    refine (congrFun (pair_eq_blockPair (BitVec.ofNat 32 (i 1).val) x0 ![x1, x2, x3, x4] ![x5, x6, x7, x8] (biasTable x9) (t := 1) (g := 1) rfl
      (readAt_tile harg2 x0 1 1 rfl rfl)
      (readAt_window harg4 x2 1 rfl rfl)      (readAt_window harg5 x3 1 rfl rfl)      (readAt_window harg6 x4 1 rfl rfl)
      (readAt_window harg8 x6 1 rfl rfl)      (readAt_window harg9 x7 1 rfl rfl)      (readAt_window harg10 x8 1 rfl rfl)
      (readCov_bias arg13.view _ _ hb 2 0 rfl rfl rfl)      (readCov_bias arg13.view _ _ hb 2 1 rfl rfl rfl)      (readCov_bias arg13.view _ _ hb 2 2 rfl rfl rfl)
      (readCov_bias arg13.view _ _ hb 3 0 rfl rfl rfl)      (readCov_bias arg13.view _ _ hb 3 1 rfl rfl rfl)      (readCov_bias arg13.view _ _ hb 3 2 rfl rfl rfl)
      : _ = _) x).trans (blockOut_emb _ _ _ _ _ 1 1 _ _ rfl rfl).symm
  · intro x
    refine (congrFun (pair_eq_blockPair (BitVec.ofNat 32 (i 1).val) x0 ![x1, x2, x3, x4] ![x5, x6, x7, x8] (biasTable x9) (t := 1) (g := 0) rfl
      (readAt_tile harg2 x0 1 0 rfl rfl)
      (readAt_window harg4 x2 0 rfl rfl)      (readAt_window harg5 x3 0 rfl rfl)      (readAt_window harg6 x4 0 rfl rfl)
      (readAt_window harg8 x6 0 rfl rfl)      (readAt_window harg9 x7 0 rfl rfl)      (readAt_window harg10 x8 0 rfl rfl)
      (readCov_bias arg13.view _ _ hb 0 0 rfl rfl rfl)      (readCov_bias arg13.view _ _ hb 0 1 rfl rfl rfl)      (readCov_bias arg13.view _ _ hb 0 2 rfl rfl rfl)
      (readCov_bias arg13.view _ _ hb 1 0 rfl rfl rfl)      (readCov_bias arg13.view _ _ hb 1 1 rfl rfl rfl)      (readCov_bias arg13.view _ _ hb 1 2 rfl rfl rfl)
      : _ = _) x).trans (blockOut_emb _ _ _ _ _ 1 0 _ _ rfl rfl).symm
  · intro x
    refine (congrFun (pair_eq_blockPair (BitVec.ofNat 32 (i 1).val) x0 ![x1, x2, x3, x4] ![x5, x6, x7, x8] (biasTable x9) (t := 0) (g := 3) rfl
      (readAt_tile harg2 x0 0 3 rfl rfl)
      (readAt_window harg3 x1 3 rfl rfl)      (readAt_window harg4 x2 3 rfl rfl)      (readAt_window harg5 x3 3 rfl rfl)
      (readAt_window harg7 x5 3 rfl rfl)      (readAt_window harg8 x6 3 rfl rfl)      (readAt_window harg9 x7 3 rfl rfl)
      (readCov_bias arg13.view _ _ hb 6 0 rfl rfl rfl)      (readCov_bias arg13.view _ _ hb 6 1 rfl rfl rfl)      (readCov_bias arg13.view _ _ hb 6 2 rfl rfl rfl)
      (readCov_bias arg13.view _ _ hb 7 0 rfl rfl rfl)      (readCov_bias arg13.view _ _ hb 7 1 rfl rfl rfl)      (readCov_bias arg13.view _ _ hb 7 2 rfl rfl rfl)
      : _ = _) x).trans (blockOut_emb _ _ _ _ _ 0 3 _ _ rfl rfl).symm
  · intro x
    refine (congrFun (pair_eq_blockPair (BitVec.ofNat 32 (i 1).val) x0 ![x1, x2, x3, x4] ![x5, x6, x7, x8] (biasTable x9) (t := 0) (g := 2) rfl
      (readAt_tile harg2 x0 0 2 rfl rfl)
      (readAt_window harg3 x1 2 rfl rfl)      (readAt_window harg4 x2 2 rfl rfl)      (readAt_window harg5 x3 2 rfl rfl)
      (readAt_window harg7 x5 2 rfl rfl)      (readAt_window harg8 x6 2 rfl rfl)      (readAt_window harg9 x7 2 rfl rfl)
      (readCov_bias arg13.view _ _ hb 4 0 rfl rfl rfl)      (readCov_bias arg13.view _ _ hb 4 1 rfl rfl rfl)      (readCov_bias arg13.view _ _ hb 4 2 rfl rfl rfl)
      (readCov_bias arg13.view _ _ hb 5 0 rfl rfl rfl)      (readCov_bias arg13.view _ _ hb 5 1 rfl rfl rfl)      (readCov_bias arg13.view _ _ hb 5 2 rfl rfl rfl)
      : _ = _) x).trans (blockOut_emb _ _ _ _ _ 0 2 _ _ rfl rfl).symm
  · intro x
    refine (congrFun (pair_eq_blockPair (BitVec.ofNat 32 (i 1).val) x0 ![x1, x2, x3, x4] ![x5, x6, x7, x8] (biasTable x9) (t := 0) (g := 1) rfl
      (readAt_tile harg2 x0 0 1 rfl rfl)
      (readAt_window harg3 x1 1 rfl rfl)      (readAt_window harg4 x2 1 rfl rfl)      (readAt_window harg5 x3 1 rfl rfl)
      (readAt_window harg7 x5 1 rfl rfl)      (readAt_window harg8 x6 1 rfl rfl)      (readAt_window harg9 x7 1 rfl rfl)
      (readCov_bias arg13.view _ _ hb 2 0 rfl rfl rfl)      (readCov_bias arg13.view _ _ hb 2 1 rfl rfl rfl)      (readCov_bias arg13.view _ _ hb 2 2 rfl rfl rfl)
      (readCov_bias arg13.view _ _ hb 3 0 rfl rfl rfl)      (readCov_bias arg13.view _ _ hb 3 1 rfl rfl rfl)      (readCov_bias arg13.view _ _ hb 3 2 rfl rfl rfl)
      : _ = _) x).trans (blockOut_emb _ _ _ _ _ 0 1 _ _ rfl rfl).symm
  · intro x
    refine (congrFun (pair_eq_blockPair (BitVec.ofNat 32 (i 1).val) x0 ![x1, x2, x3, x4] ![x5, x6, x7, x8] (biasTable x9) (t := 0) (g := 0) rfl
      (readAt_tile harg2 x0 0 0 rfl rfl)
      (readAt_window harg3 x1 0 rfl rfl)      (readAt_window harg4 x2 0 rfl rfl)      (readAt_window harg5 x3 0 rfl rfl)
      (readAt_window harg7 x5 0 rfl rfl)      (readAt_window harg8 x6 0 rfl rfl)      (readAt_window harg9 x7 0 rfl rfl)
      (readCov_bias arg13.view _ _ hb 0 0 rfl rfl rfl)      (readCov_bias arg13.view _ _ hb 0 1 rfl rfl rfl)      (readCov_bias arg13.view _ _ hb 0 2 rfl rfl rfl)
      (readCov_bias arg13.view _ _ hb 1 0 rfl rfl rfl)      (readCov_bias arg13.view _ _ hb 1 1 rfl rfl rfl)      (readCov_bias arg13.view _ _ hb 1 2 rfl rfl rfl)
      : _ = _) x).trans (blockOut_emb _ _ _ _ _ 0 0 _ _ rfl rfl).symm

/-- A later grid point leaves the block over the bias table that the scratch holds. -/
theorem out_B (hc0 : ¬cond0_0 i) (x0 : Vec F S512x512 .bf16) (x1 x2 x3 x4 x5 x6 x7 x8 : Vec F S256x512 .bf16) (x9 : Vec F S8x1x1024 .f32) (xs0 : Vec F S8x256x768 .f32) :
    out0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0
      = blockOut (BitVec.ofNat 32 (i 1).val) x0 ![x1, x2, x3, x4] ![x5, x6, x7, x8] xs0 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0)]
  funext y
  refine View.canon_apply_of_pieces _ _ ?_ y (cover0_B_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0 y)
  unfold kernelRun0_B
  dsimp only
  sl_unfold_words
  simp only [List.forall_mem_cons]
  refine ⟨?_, ?_, ?_, ?_, ?_, ?_, ?_, ?_, fun _ h => absurd h List.not_mem_nil⟩
  · intro x
    refine (congrFun (pair_eq_blockPair (BitVec.ofNat 32 (i 1).val) x0 ![x1, x2, x3, x4] ![x5, x6, x7, x8] xs0 (t := 1) (g := 3) rfl
      (readAt_tile harg2 x0 1 3 rfl rfl)
      (readAt_window harg4 x2 3 rfl rfl)      (readAt_window harg5 x3 3 rfl rfl)      (readAt_window harg6 x4 3 rfl rfl)
      (readAt_window harg8 x6 3 rfl rfl)      (readAt_window harg9 x7 3 rfl rfl)      (readAt_window harg10 x8 3 rfl rfl)
      (readAt_bias harg13 xs0 6 0 rfl rfl rfl)      (readAt_bias harg13 xs0 6 1 rfl rfl rfl)      (readAt_bias harg13 xs0 6 2 rfl rfl rfl)
      (readAt_bias harg13 xs0 7 0 rfl rfl rfl)      (readAt_bias harg13 xs0 7 1 rfl rfl rfl)      (readAt_bias harg13 xs0 7 2 rfl rfl rfl)
      : _ = _) x).trans (blockOut_emb _ _ _ _ _ 1 3 _ _ rfl rfl).symm
  · intro x
    refine (congrFun (pair_eq_blockPair (BitVec.ofNat 32 (i 1).val) x0 ![x1, x2, x3, x4] ![x5, x6, x7, x8] xs0 (t := 1) (g := 2) rfl
      (readAt_tile harg2 x0 1 2 rfl rfl)
      (readAt_window harg4 x2 2 rfl rfl)      (readAt_window harg5 x3 2 rfl rfl)      (readAt_window harg6 x4 2 rfl rfl)
      (readAt_window harg8 x6 2 rfl rfl)      (readAt_window harg9 x7 2 rfl rfl)      (readAt_window harg10 x8 2 rfl rfl)
      (readAt_bias harg13 xs0 4 0 rfl rfl rfl)      (readAt_bias harg13 xs0 4 1 rfl rfl rfl)      (readAt_bias harg13 xs0 4 2 rfl rfl rfl)
      (readAt_bias harg13 xs0 5 0 rfl rfl rfl)      (readAt_bias harg13 xs0 5 1 rfl rfl rfl)      (readAt_bias harg13 xs0 5 2 rfl rfl rfl)
      : _ = _) x).trans (blockOut_emb _ _ _ _ _ 1 2 _ _ rfl rfl).symm
  · intro x
    refine (congrFun (pair_eq_blockPair (BitVec.ofNat 32 (i 1).val) x0 ![x1, x2, x3, x4] ![x5, x6, x7, x8] xs0 (t := 1) (g := 1) rfl
      (readAt_tile harg2 x0 1 1 rfl rfl)
      (readAt_window harg4 x2 1 rfl rfl)      (readAt_window harg5 x3 1 rfl rfl)      (readAt_window harg6 x4 1 rfl rfl)
      (readAt_window harg8 x6 1 rfl rfl)      (readAt_window harg9 x7 1 rfl rfl)      (readAt_window harg10 x8 1 rfl rfl)
      (readAt_bias harg13 xs0 2 0 rfl rfl rfl)      (readAt_bias harg13 xs0 2 1 rfl rfl rfl)      (readAt_bias harg13 xs0 2 2 rfl rfl rfl)
      (readAt_bias harg13 xs0 3 0 rfl rfl rfl)      (readAt_bias harg13 xs0 3 1 rfl rfl rfl)      (readAt_bias harg13 xs0 3 2 rfl rfl rfl)
      : _ = _) x).trans (blockOut_emb _ _ _ _ _ 1 1 _ _ rfl rfl).symm
  · intro x
    refine (congrFun (pair_eq_blockPair (BitVec.ofNat 32 (i 1).val) x0 ![x1, x2, x3, x4] ![x5, x6, x7, x8] xs0 (t := 1) (g := 0) rfl
      (readAt_tile harg2 x0 1 0 rfl rfl)
      (readAt_window harg4 x2 0 rfl rfl)      (readAt_window harg5 x3 0 rfl rfl)      (readAt_window harg6 x4 0 rfl rfl)
      (readAt_window harg8 x6 0 rfl rfl)      (readAt_window harg9 x7 0 rfl rfl)      (readAt_window harg10 x8 0 rfl rfl)
      (readAt_bias harg13 xs0 0 0 rfl rfl rfl)      (readAt_bias harg13 xs0 0 1 rfl rfl rfl)      (readAt_bias harg13 xs0 0 2 rfl rfl rfl)
      (readAt_bias harg13 xs0 1 0 rfl rfl rfl)      (readAt_bias harg13 xs0 1 1 rfl rfl rfl)      (readAt_bias harg13 xs0 1 2 rfl rfl rfl)
      : _ = _) x).trans (blockOut_emb _ _ _ _ _ 1 0 _ _ rfl rfl).symm
  · intro x
    refine (congrFun (pair_eq_blockPair (BitVec.ofNat 32 (i 1).val) x0 ![x1, x2, x3, x4] ![x5, x6, x7, x8] xs0 (t := 0) (g := 3) rfl
      (readAt_tile harg2 x0 0 3 rfl rfl)
      (readAt_window harg3 x1 3 rfl rfl)      (readAt_window harg4 x2 3 rfl rfl)      (readAt_window harg5 x3 3 rfl rfl)
      (readAt_window harg7 x5 3 rfl rfl)      (readAt_window harg8 x6 3 rfl rfl)      (readAt_window harg9 x7 3 rfl rfl)
      (readAt_bias harg13 xs0 6 0 rfl rfl rfl)      (readAt_bias harg13 xs0 6 1 rfl rfl rfl)      (readAt_bias harg13 xs0 6 2 rfl rfl rfl)
      (readAt_bias harg13 xs0 7 0 rfl rfl rfl)      (readAt_bias harg13 xs0 7 1 rfl rfl rfl)      (readAt_bias harg13 xs0 7 2 rfl rfl rfl)
      : _ = _) x).trans (blockOut_emb _ _ _ _ _ 0 3 _ _ rfl rfl).symm
  · intro x
    refine (congrFun (pair_eq_blockPair (BitVec.ofNat 32 (i 1).val) x0 ![x1, x2, x3, x4] ![x5, x6, x7, x8] xs0 (t := 0) (g := 2) rfl
      (readAt_tile harg2 x0 0 2 rfl rfl)
      (readAt_window harg3 x1 2 rfl rfl)      (readAt_window harg4 x2 2 rfl rfl)      (readAt_window harg5 x3 2 rfl rfl)
      (readAt_window harg7 x5 2 rfl rfl)      (readAt_window harg8 x6 2 rfl rfl)      (readAt_window harg9 x7 2 rfl rfl)
      (readAt_bias harg13 xs0 4 0 rfl rfl rfl)      (readAt_bias harg13 xs0 4 1 rfl rfl rfl)      (readAt_bias harg13 xs0 4 2 rfl rfl rfl)
      (readAt_bias harg13 xs0 5 0 rfl rfl rfl)      (readAt_bias harg13 xs0 5 1 rfl rfl rfl)      (readAt_bias harg13 xs0 5 2 rfl rfl rfl)
      : _ = _) x).trans (blockOut_emb _ _ _ _ _ 0 2 _ _ rfl rfl).symm
  · intro x
    refine (congrFun (pair_eq_blockPair (BitVec.ofNat 32 (i 1).val) x0 ![x1, x2, x3, x4] ![x5, x6, x7, x8] xs0 (t := 0) (g := 1) rfl
      (readAt_tile harg2 x0 0 1 rfl rfl)
      (readAt_window harg3 x1 1 rfl rfl)      (readAt_window harg4 x2 1 rfl rfl)      (readAt_window harg5 x3 1 rfl rfl)
      (readAt_window harg7 x5 1 rfl rfl)      (readAt_window harg8 x6 1 rfl rfl)      (readAt_window harg9 x7 1 rfl rfl)
      (readAt_bias harg13 xs0 2 0 rfl rfl rfl)      (readAt_bias harg13 xs0 2 1 rfl rfl rfl)      (readAt_bias harg13 xs0 2 2 rfl rfl rfl)
      (readAt_bias harg13 xs0 3 0 rfl rfl rfl)      (readAt_bias harg13 xs0 3 1 rfl rfl rfl)      (readAt_bias harg13 xs0 3 2 rfl rfl rfl)
      : _ = _) x).trans (blockOut_emb _ _ _ _ _ 0 1 _ _ rfl rfl).symm
  · intro x
    refine (congrFun (pair_eq_blockPair (BitVec.ofNat 32 (i 1).val) x0 ![x1, x2, x3, x4] ![x5, x6, x7, x8] xs0 (t := 0) (g := 0) rfl
      (readAt_tile harg2 x0 0 0 rfl rfl)
      (readAt_window harg3 x1 0 rfl rfl)      (readAt_window harg4 x2 0 rfl rfl)      (readAt_window harg5 x3 0 rfl rfl)
      (readAt_window harg7 x5 0 rfl rfl)      (readAt_window harg8 x6 0 rfl rfl)      (readAt_window harg9 x7 0 rfl rfl)
      (readAt_bias harg13 xs0 0 0 rfl rfl rfl)      (readAt_bias harg13 xs0 0 1 rfl rfl rfl)      (readAt_bias harg13 xs0 0 2 rfl rfl rfl)
      (readAt_bias harg13 xs0 1 0 rfl rfl rfl)      (readAt_bias harg13 xs0 1 1 rfl rfl rfl)      (readAt_bias harg13 xs0 1 2 rfl rfl rfl)
      : _ = _) x).trans (blockOut_emb _ _ _ _ _ 0 0 _ _ rfl rfl).symm

end Cert.Attn

end
-- ==== Proof.Array.lean ====
/- What the result array holds after the run: row `r` belongs to the block of grid point `r / 512`, and that block is
   `blockOut` of the parts of the packed queries, keys and values the point reads, over the one bias table. -/
module

public import proofs.«01_k».proof.Proof.Block

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F] [Named F]

/-! ## The parts of the packed array one grid point reads -/

/-- The queries of grid point `t`: 512 rows of the first 512 columns. -/
def queriesOf (X : Vec F S16384x1536 .bf16) (t : Fin 32) : Vec F S512x512 .bf16 :=
  fun z => X (ix2 ⟨512 * t.val + (z 0).val, by have h : (z 0).val < 512 := (z 0).isLt; omega⟩
    ⟨(z 1).val, by have h : (z 1).val < 512 := (z 1).isLt; omega⟩)

/-- The tile number, counted over both batch entries, of window `w` of grid point `t`: two tiles back from its first
    query tile, `w` forward, and never before the first tile of the batch entry. -/
def tileNo (t : Fin 32) (w : Fin 4) : ℕ := 32 * (t.val / 16) + (2 * (t.val % 16) + w.val - 2)

theorem tileNo_lt (t : Fin 32) (w : Fin 4) : tileNo t w < 64 := by unfold tileNo; omega

/-- Window `w` of grid point `t` in the column third `s` (1 for keys, 2 for values). -/
def windowAt (X : Vec F S16384x1536 .bf16) (s : Fin 3) (t : Fin 32) (w : Fin 4) : Vec F S256x512 .bf16 :=
  fun z => X (ix2 ⟨256 * tileNo t w + (z 0).val, by have h : (z 0).val < 256 := (z 0).isLt; have := tileNo_lt t w; omega⟩
    ⟨512 * s.val + (z 1).val, by have h : (z 1).val < 512 := (z 1).isLt; omega⟩)

/-- The result array: each block from the parts its grid point reads and the bias table. -/
def attnArray (X : Vec F S16384x1536 .bf16) (rev : Vec F S8x1x1024 .f32) : Vec F S16384x512 .bf16 :=
  fun y =>
    let t : Fin 32 := ⟨(y 0).val / 512, by have h : (y 0).val < 16384 := (y 0).isLt; omega⟩
    blockOut (BitVec.ofNat 32 (t.val % 16)) (queriesOf X t) (windowAt X 1 t) (windowAt X 2 t) (biasTable rev)
      (ix2 ⟨(y 0).val % 512, Nat.mod_lt _ (by decide)⟩ (y 1))

/-! ## Which blocks the windows name at each grid point -/

theorem coord_1 : ∀ t : Fin grid0.N, (grid0.coords t 1).val = t.val % 16 := by decide +kernel

theorem index_0 : ∀ t : Fin grid0.N, win0_0.index t = ![t.val, 0] := by decide +kernel
theorem index_1 : ∀ t : Fin grid0.N, win0_1.index t = ![32 * (t.val / 16) + (2 * (t.val % 16) + 0 - 2), 1] := by decide +kernel
theorem index_2 : ∀ t : Fin grid0.N, win0_2.index t = ![32 * (t.val / 16) + (2 * (t.val % 16) + 1 - 2), 1] := by decide +kernel
theorem index_3 : ∀ t : Fin grid0.N, win0_3.index t = ![32 * (t.val / 16) + (2 * (t.val % 16) + 2 - 2), 1] := by decide +kernel
theorem index_4 : ∀ t : Fin grid0.N, win0_4.index t = ![32 * (t.val / 16) + (2 * (t.val % 16) + 3 - 2), 1] := by decide +kernel
theorem index_5 : ∀ t : Fin grid0.N, win0_5.index t = ![32 * (t.val / 16) + (2 * (t.val % 16) + 0 - 2), 2] := by decide +kernel
theorem index_6 : ∀ t : Fin grid0.N, win0_6.index t = ![32 * (t.val / 16) + (2 * (t.val % 16) + 1 - 2), 2] := by decide +kernel
theorem index_7 : ∀ t : Fin grid0.N, win0_7.index t = ![32 * (t.val / 16) + (2 * (t.val % 16) + 2 - 2), 2] := by decide +kernel
theorem index_8 : ∀ t : Fin grid0.N, win0_8.index t = ![32 * (t.val / 16) + (2 * (t.val % 16) + 3 - 2), 2] := by decide +kernel
theorem index_10 : ∀ t : Fin grid0.N, win0_10.index t = ![t.val, 0] := by decide +kernel

set_option backward.isDefEq.respectTransparency false

variable (m : (ℓ : Loc nD τ sig) → Buf (Elt F) ℓ) (ρ : Dev nD → PrngReg)

/-- The packed queries, keys and values as launched. -/
abbrev packed (c : Dev nD) : Vec F S16384x1536 .bf16 := m ((c : Thread nD τ).loc main_arg0)

/-- The reversed bias rows the host leaves for the kernel. -/
abbrev reversed (c : Dev nD) : Vec F S8x1x1024 .f32 := V m c main_v7

theorem iblk_0 (c : Dev nD) (t : Fin 32) : iblk m c 0 t = queriesOf (packed m c) t := by
  funext z
  show V m c main_arg0 (((cfg0.win 0).blk t).view.emb z) = _
  rw [V_main_arg0]
  show packed m c _ = packed m c _
  congr 1
  funext d
  apply Fin.ext
  match d with
  | ⟨0, _⟩ => show win0_0.index t 0 * 512 + 1 * (z 0).val = 512 * t.val + (z 0).val; rw [index_0]; show t.val * 512 + _ = _; omega
  | ⟨1, _⟩ => show win0_0.index t 1 * 512 + 1 * (z 1).val = (z 1).val; rw [index_0]; show 0 * 512 + _ = _; omega

theorem iblk_9 (c : Dev nD) (t : Fin 32) : iblk m c 9 t = reversed m c := by
  funext z
  show V m c main_v7 (((cfg0.win 9).blk t).view.emb z) = V m c main_v7 z
  congr 1
  funext d
  apply Fin.ext
  match d with
  | ⟨0, _⟩ => show 0 * 8 + 1 * (z 0).val = (z 0).val; omega
  | ⟨1, _⟩ => show 0 * 1 + 1 * (z 1).val = (z 1).val; omega
  | ⟨2, _⟩ => show 0 * 1024 + 1 * (z 2).val = (z 2).val; omega

/-- Reading a 256-row window of the packed array at a block index. -/
theorem packed_window (X : Vec F S16384x1536 .bf16) (s : Fin 3) (t : Fin 32) (w : Fin 4) (z : S256x512.Idx) (i : S16384x1536.Idx)
    (ix : Fin 2 → ℕ) (hx : ix = ![32 * (t.val / 16) + (2 * (t.val % 16) + w.val - 2), s.val])
    (h0 : (i 0).val = ix 0 * 256 + 1 * (z 0).val) (h1 : (i 1).val = ix 1 * 512 + 1 * (z 1).val) :
    X i = windowAt X s t w z := by
  subst hx
  have e0 : (i 0).val = (32 * (t.val / 16) + (2 * (t.val % 16) + w.val - 2)) * 256 + 1 * (z 0).val := h0
  have e1 : (i 1).val = s.val * 512 + 1 * (z 1).val := h1
  show X i = X _
  congr 1
  funext d
  apply Fin.ext
  match d with
  | ⟨0, _⟩ => show (i 0).val = 256 * tileNo t w + (z 0).val; unfold tileNo; omega
  | ⟨1, _⟩ => show (i 1).val = 512 * s.val + (z 1).val; omega

theorem iblk_1 (c : Dev nD) (t : Fin 32) : iblk m c 1 t = windowAt (packed m c) 1 t 0 := by
  funext z
  show V m c main_arg0 (((cfg0.win 1).blk t).view.emb z) = _
  rw [V_main_arg0]
  exact packed_window (packed m c) 1 t 0 z _ _ (index_1 t) rfl rfl

theorem iblk_2 (c : Dev nD) (t : Fin 32) : iblk m c 2 t = windowAt (packed m c) 1 t 1 := by
  funext z
  show V m c main_arg0 (((cfg0.win 2).blk t).view.emb z) = _
  rw [V_main_arg0]
  exact packed_window (packed m c) 1 t 1 z _ _ (index_2 t) rfl rfl

theorem iblk_3 (c : Dev nD) (t : Fin 32) : iblk m c 3 t = windowAt (packed m c) 1 t 2 := by
  funext z
  show V m c main_arg0 (((cfg0.win 3).blk t).view.emb z) = _
  rw [V_main_arg0]
  exact packed_window (packed m c) 1 t 2 z _ _ (index_3 t) rfl rfl

theorem iblk_4 (c : Dev nD) (t : Fin 32) : iblk m c 4 t = windowAt (packed m c) 1 t 3 := by
  funext z
  show V m c main_arg0 (((cfg0.win 4).blk t).view.emb z) = _
  rw [V_main_arg0]
  exact packed_window (packed m c) 1 t 3 z _ _ (index_4 t) rfl rfl

theorem iblk_5 (c : Dev nD) (t : Fin 32) : iblk m c 5 t = windowAt (packed m c) 2 t 0 := by
  funext z
  show V m c main_arg0 (((cfg0.win 5).blk t).view.emb z) = _
  rw [V_main_arg0]
  exact packed_window (packed m c) 2 t 0 z _ _ (index_5 t) rfl rfl

theorem iblk_6 (c : Dev nD) (t : Fin 32) : iblk m c 6 t = windowAt (packed m c) 2 t 1 := by
  funext z
  show V m c main_arg0 (((cfg0.win 6).blk t).view.emb z) = _
  rw [V_main_arg0]
  exact packed_window (packed m c) 2 t 1 z _ _ (index_6 t) rfl rfl

theorem iblk_7 (c : Dev nD) (t : Fin 32) : iblk m c 7 t = windowAt (packed m c) 2 t 2 := by
  funext z
  show V m c main_arg0 (((cfg0.win 7).blk t).view.emb z) = _
  rw [V_main_arg0]
  exact packed_window (packed m c) 2 t 2 z _ _ (index_7 t) rfl rfl

theorem iblk_8 (c : Dev nD) (t : Fin 32) : iblk m c 8 t = windowAt (packed m c) 2 t 3 := by
  funext z
  show V m c main_arg0 (((cfg0.win 8).blk t).view.emb z) = _
  rw [V_main_arg0]
  exact packed_window (packed m c) 2 t 3 z _ _ (index_8 t) rfl rfl

/-! ## What each grid point leaves -/

/-- The carried bias table after every grid point is the one the first point stored. -/
theorem table_eq (c : Dev nD) : ∀ (n : ℕ) (hn : n < cfg0.N), (outsAt0 m c n hn).2 = biasTable (reversed m c)
  | 0, hn => by
    rw [outsAt0_A m c ⟨0, hn⟩ rfl]
    dsimp only
    rw [sout_A, iblk_9]
  | n + 1, hn => by
    have h0 : ¬ (n + 1) % 32 = 0 := by have : n + 1 < 32 := hn; omega
    exact (congrArg Prod.snd (outsAt0_B m c ⟨n + 1, hn⟩ h0)).trans (table_eq c n _)

theorem windows_eq {α : Type*} (f : Fin 4 → α) : ![f 0, f 1, f 2, f 3] = f := by
  funext i; fin_cases i <;> rfl

/-- What grid point `t` leaves in the output block. -/
theorem block_eq (c : Dev nD) (t : Fin 32) :
    (outsAt0 m c t.val t.isLt).1 = blockOut (BitVec.ofNat 32 (t.val % 16)) (queriesOf (packed m c) t)
      (windowAt (packed m c) 1 t) (windowAt (packed m c) 2 t) (biasTable (reversed m c)) := by
  have key : ∀ xs, xs = biasTable (reversed m c) →
      blockOut (BitVec.ofNat 32 (grid0.coords t 1).val) (iblk m c 0 t) ![iblk m c 1 t, iblk m c 2 t, iblk m c 3 t, iblk m c 4 t]
        ![iblk m c 5 t, iblk m c 6 t, iblk m c 7 t, iblk m c 8 t] xs
      = blockOut (BitVec.ofNat 32 (t.val % 16)) (queriesOf (packed m c) t)
      (windowAt (packed m c) 1 t) (windowAt (packed m c) 2 t) (biasTable (reversed m c)) := by
    intro xs hxs
    rw [hxs, coord_1, iblk_0, iblk_1, iblk_2, iblk_3, iblk_4, iblk_5, iblk_6, iblk_7, iblk_8, windows_eq, windows_eq]
  by_cases h0 : t.val % 32 = 0
  · rw [outsAt0_A m c t h0]
    dsimp only
    rw [out_A]
    exact key _ (by rw [iblk_9])
  · rw [outsAt0_B m c t h0]
    dsimp only
    rw [out_B]
    exact key _ (table_eq m c _ _)

/-! ## The result array -/

theorem index_inj : ∀ t t' : Fin cfg0.N, win0_10.index t = win0_10.index t' → t = t' := by
  intro t t' h
  rw [index_10, index_10] at h
  exact Fin.ext (congrFun h 0)

theorem blocks_disjoint : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (index_inj t t' h)

theorem always_flushed : ∀ t : Fin grid0.N, win0_10.flush t = true := by decide +kernel

/-- After the run the result array is `attnArray` of the launched arrays. -/
theorem final_eq (c : Dev nD) : (dats m 0 c).arrAt 10 cfg0.N = attnArray (packed m c) (reversed m c) := by
  funext y
  have hy : (y 0).val < 16384 := (y 0).isLt
  let t : Fin 32 := ⟨(y 0).val / 512, by omega⟩
  let z : S512x512.Idx := ix2 ⟨(y 0).val % 512, Nat.mod_lt _ (by decide)⟩ (y 1)
  have hb := (dats m 0 c).read_blk_arrAt_eq_flushed 10 blocks_disjoint cfg0.N t t.isLt (always_flushed t)
  have hfl : (dats m 0 c).flushed 10 t = (cfg0.win 10).cut (grid0.coords t) ((outsAt0 m c t.val t.isLt).1) := by
    show (cfg0.win 10).cut (grid0.coords t) ((dats m 0 c).after 10 t) = _
    rw [after0_10]
  rw [hfl, block_eq m c t] at hb
  have he : ((cfg0.win 10).blk t).view.emb z = y := by
    funext d
    apply Fin.ext
    match d with
    | ⟨0, _⟩ =>
      show win0_10.index t 0 * 512 + 1 * ((y 0).val % 512) = (y 0).val
      rw [index_10]
      show (y 0).val / 512 * 512 + 1 * ((y 0).val % 512) = (y 0).val
      omega
    | ⟨1, _⟩ =>
      show win0_10.index t 1 * 512 + 1 * (y 1).val = (y 1).val
      rw [index_10]
      show 0 * 512 + 1 * (y 1).val = (y 1).val
      omega
  have h := congrFun hb z
  refine Eq.trans (b := (dats m 0 c).arrAt 10 cfg0.N (((cfg0.win 10).blk t).view.emb z)) (by rw [he]) ?_
  exact h

/-- The run: the result array holds `attnArray` of the arguments, and the arguments are as launched. -/
theorem run_array : θ_run defs (onTc (τ := τ) (main (F := F))) ⟨m, fun _ => 0, ρ⟩ fun r => ∀ c : Dev nD,
      r.2.mem ((c : Thread nD τ).loc main_v8) = attnArray (packed m c) (reversed m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 10).trans (final_eq m c),
     ((h c).1 8).trans (((dats m 0 c).arrAt_in 8 rfl _).trans ((A_eq m c 8).trans (V_main_arg0 m c))),
     ((h c).2 main_arg1 (Pipeline.mem_restRefs_of main_arg1 (by decide) (by decide))).trans (V_main_arg1 m c)⟩) (run_main m ρ)

end Cert.Attn
-- ==== Proof.HeadAt.lean ====
/- The head's computation read element by element, over the extended reals. -/
module

public import proofs.«01_k».proof.Proof.Head

@[expose] public section

set_option maxRecDepth 16384

noncomputable section

namespace Cert.Attn

open Idealize.ShloMosaic Idealize.ShloMosaic.TcCoe Idealize.SL.Sem
open Cert.KernelIdeal Cert.KernelIdeal.Gen
open scoped BigOperators

/-! ## The named constants -/

theorem named_masked : (Named.named κ "masked" 0xF149F2CA#32 : Ideal .f32) = (⊥ : EReal) := rfl

/-- The factor of the queries: an eighth of the reciprocal logarithm. -/
theorem named_scale : (Named.named κ "scale_log2e" 0x3E38AA3B#32 : Ideal .f32) = (((1 / 8 : ℝ) * invLog2 : ℝ) : EReal) := rfl

theorem named_log2e : (Named.named κ "log2e" 0x3FB8AA3B#32 : Ideal .f32) = (invLog2 : EReal) := rfl

/-! ## Each step at an element -/

/-- The first head's lanes are the lower half. -/
theorem laneMask_low (r : Fin 256) (l : Fin 128) : laneMask 0#32 64#32 (ix2 r l) = if l.val / 64 = 0 then 1#1 else 0#1 := by
  pointwise [laneMask]
  revert l
  decide +kernel

/-- The second head's lanes are the upper half. -/
theorem laneMask_high (r : Fin 256) (l : Fin 128) : laneMask 64#32 128#32 (ix2 r l) = if l.val / 64 = 1 then 1#1 else 0#1 := by
  pointwise [laneMask]
  revert l
  decide +kernel

theorem scaledQuery_apply (lo hi : BitVec 32) (q : Vec Ideal S256x128 .bf16) (r : Fin 256) (l : Fin 128) :
    scaledQuery lo hi q (ix2 r l)
      = if laneMask lo hi (ix2 r l) = 1#1 then q (ix2 r l) * (((1 / 8 : ℝ) * invLog2 : ℝ) : EReal) else 0 := by
  pointwise [scaledQuery]
  rw [named_scale]
  rfl

theorem windowScore_apply (qs k : Vec Ideal S256x128 .bf16) (b : Vec Ideal S1x256x256 .f32) (r c : Fin 256) :
    windowScore qs k b (ix2 r c) = (∑ l : Fin 128, qs (ix2 r l) * k (ix2 c l)) + b (ix3 0 r c) := by
  pointwise [windowScore]

theorem keepIf_apply (c : BitVec 1) (s : FVec Ideal S256x256 .f32) (r d : Fin 256) :
    keepIf c s (ix2 r d) = if c = 1#1 then s (ix2 r d) else ⊥ := by
  pointwise [keepIf]
  rw [named_masked]
  rfl

theorem rowMax_apply (s0 s1 s2 : FVec Ideal S256x256 .f32) (r : Fin 256) :
    rowMax s0 s1 s2 (ix2 r 0) = Finset.univ.sup (fun c : Fin 256 => max (max (s0 (ix2 r c)) (s1 (ix2 r c))) (s2 (ix2 r c))) := by
  pointwise [rowMax]
  rw [show Ideal.ofBits .f32 0xFF800000#32 = (⊥ : EReal) from by simp [Ideal.ofBits, Ideal.ieee]]
  rfl

theorem weight_apply (s : FVec Ideal S256x256 .f32) (top : FVec Ideal S256x1 .f32) (r c : Fin 256) :
    weight s top (ix2 r c) = Ideal.exp2 (s (ix2 r c) - top (ix2 r 0)) := by
  pointwise [weight]
  rfl

theorem rowSum_apply (p0 p1 p2 : FVec Ideal S256x256 .f32) (r : Fin 256) :
    rowSum p0 p1 p2 (ix2 r 0) = ∑ c : Fin 256, (p0 (ix2 r c) + p1 (ix2 r c) + p2 (ix2 r c)) := by
  pointwise [rowSum]

theorem windowOut_apply (p : FVec Ideal S256x256 .f32) (v : Vec Ideal S256x128 .bf16) (r : Fin 256) (l : Fin 128) :
    windowOut p v (ix2 r l) = ∑ c : Fin 256, p (ix2 r c) * v (ix2 c l) := by
  pointwise [windowOut]

theorem normalised_apply (p0 p1 p2 : FVec Ideal S256x256 .f32) (v0 v1 v2 : Vec Ideal S256x128 .bf16) (r : Fin 256) (l : Fin 128) :
    normalised p0 p1 p2 v0 v1 v2 (ix2 r l)
      = Ideal.div (windowOut p0 v0 (ix2 r l) + windowOut p1 v1 (ix2 r l) + windowOut p2 v2 (ix2 r l)) (rowSum p0 p1 p2 (ix2 r 0)) := by
  pointwise [normalised]

/-! ## The softmax-weighted sum over the three windows together -/

/-- Base-two softmax over all keys of the three windows, of values `v`. -/
def weightedSum (s v : Fin 3 × Fin 256 → EReal) : EReal :=
  Ideal.div (∑ i, Ideal.exp2 (s i - Finset.univ.sup s) * v i) (∑ i, Ideal.exp2 (s i - Finset.univ.sup s))

/-- The largest of a row's scores, taken window against window first. -/
theorem sup_three (s : Fin 3 → Fin 256 → EReal) :
    Finset.univ.sup (fun c : Fin 256 => max (max (s 0 c) (s 1 c)) (s 2 c)) = Finset.univ.sup (fun i : Fin 3 × Fin 256 => s i.1 i.2) := by
  apply le_antisymm
  · refine Finset.sup_le fun c _ => max_le (max_le ?_ ?_) ?_
    · exact Finset.le_sup (f := fun i : Fin 3 × Fin 256 => s i.1 i.2) (Finset.mem_univ (0, c))
    · exact Finset.le_sup (f := fun i : Fin 3 × Fin 256 => s i.1 i.2) (Finset.mem_univ (1, c))
    · exact Finset.le_sup (f := fun i : Fin 3 × Fin 256 => s i.1 i.2) (Finset.mem_univ (2, c))
  · refine Finset.sup_le fun i _ => ?_
    obtain ⟨j, c⟩ := i
    refine le_trans ?_ (Finset.le_sup (f := fun c : Fin 256 => max (max (s 0 c) (s 1 c)) (s 2 c)) (Finset.mem_univ c))
    fin_cases j
    · exact le_max_of_le_left (le_max_left _ _)
    · exact le_max_of_le_left (le_max_right _ _)
    · exact le_max_right _ _

/-- The head's output at an element is the softmax-weighted sum of the three windows' values. -/
theorem attend_apply (s0 s1 s2 : FVec Ideal S256x256 .f32) (v0 v1 v2 : Vec Ideal S256x128 .bf16) (r : Fin 256) (l : Fin 128) :
    attend s0 s1 s2 v0 v1 v2 (ix2 r l)
      = weightedSum (fun i => (![s0, s1, s2] : Fin 3 → FVec Ideal S256x256 .f32) i.1 (ix2 r i.2))
          (fun i => (![v0, v1, v2] : Fin 3 → Vec Ideal S256x128 .bf16) i.1 (ix2 i.2 l)) := by
  unfold attend weightedSum
  rw [normalised_apply, rowSum_apply]
  simp only [windowOut_apply, weight_apply, rowMax_apply]
  rw [sup_three (fun j c => (![s0, s1, s2] : Fin 3 → FVec Ideal S256x256 .f32) j (ix2 r c)) |>.symm]
  simp only [Fintype.sum_prod_type, Fin.sum_univ_three, Finset.sum_add_distrib]
  rfl

/-! ## Two heads side by side -/

/-- A window's score at an element: the product over the lanes of the head `hh` of the pair, scaled, and the bias; masked
    where the flag is not set. -/
def scoreAt (hh : ℕ) (c : Prop) [Decidable c] (q k : Fin 128 → EReal) (b : EReal) : EReal :=
  if c then (∑ l : Fin 128, (if l.val / 64 = hh then q l * (((1 / 8 : ℝ) * invLog2 : ℝ) : EReal) else 0) * k l) + b else ⊥

/-- One head at an element. -/
theorem head_apply (hh : ℕ) (lo hi : BitVec 32) (hm : ∀ (r : Fin 256) (l : Fin 128), laneMask lo hi (ix2 r l) = if l.val / 64 = hh then 1#1 else 0#1)
    (c0 c1 : BitVec 1) (q : Vec Ideal S256x128 .bf16) (k v : Fin 3 → Vec Ideal S256x128 .bf16) (b : Fin 3 → Vec Ideal S1x256x256 .f32)
    (r : Fin 256) (l : Fin 128) :
    head lo hi c0 c1 q (k 0) (k 1) (k 2) (v 0) (v 1) (v 2) (b 0) (b 1) (b 2) (ix2 r l)
      = weightedSum (fun i => scoreAt hh ((![c0, c1, 1#1] : Fin 3 → BitVec 1) i.1 = 1#1) (fun l => q (ix2 r l)) (fun l => k i.1 (ix2 i.2 l)) (b i.1 (ix3 0 r i.2)))
          (fun i => v i.1 (ix2 i.2 l)) := by
  unfold head
  rw [attend_apply]
  have hq : ∀ l : Fin 128, scaledQuery lo hi q (ix2 r l) = if l.val / 64 = hh then q (ix2 r l) * (((1 / 8 : ℝ) * invLog2 : ℝ) : EReal) else 0 := fun l => by
    rw [scaledQuery_apply, hm]
    by_cases h : l.val / 64 = hh
    · rw [if_pos h, if_pos rfl, if_pos h]
    · rw [if_neg h, if_neg (by decide), if_neg h]
  congr 1
  · funext i
    obtain ⟨j, c⟩ := i
    fin_cases j
    · refine (keepIf_apply _ _ _ _).trans ?_
      rw [windowScore_apply]; simp only [hq]; rfl
    · refine (keepIf_apply _ _ _ _).trans ?_
      rw [windowScore_apply]; simp only [hq]; rfl
    · refine (windowScore_apply _ _ _ _ _).trans ?_
      simp only [hq]; unfold scoreAt; exact (if_pos rfl).symm
  · funext i
    obtain ⟨j, c⟩ := i
    fin_cases j <;> rfl

/-- The pair at an element: the head its lane lies in. -/
theorem pair_apply (t step : BitVec 32) (q : Vec Ideal S256x128 .bf16) (k v : Fin 3 → Vec Ideal S256x128 .bf16)
    (b b' : Fin 3 → Vec Ideal S1x256x256 .f32) (r : Fin 256) (l : Fin 128) :
    pair t step q (k 0) (k 1) (k 2) (v 0) (v 1) (v 2) (b 0) (b 1) (b 2) (b' 0) (b' 1) (b' 2) (ix2 r l)
      = weightedSum (fun i => scoreAt (l.val / 64) ((![started step t 2#32, started step t 1#32, 1#1] : Fin 3 → BitVec 1) i.1 = 1#1)
            (fun l => q (ix2 r l)) (fun l => k i.1 (ix2 i.2 l)) (if l.val / 64 = 1 then b' i.1 (ix3 0 r i.2) else b i.1 (ix3 0 r i.2)))
          (fun i => v i.1 (ix2 i.2 l)) := by
  have hl := l.isLt
  show Scalar.select (laneMask 64#32 128#32 (ix2 r l)) (head _ _ _ _ _ _ _ _ _ _ _ _ _ _ (ix2 r l)) (head _ _ _ _ _ _ _ _ _ _ _ _ _ _ (ix2 r l)) = _
  rw [laneMask_high, head_apply 1 64#32 128#32 laneMask_high, head_apply 0 0#32 64#32 laneMask_low]
  by_cases h : l.val / 64 = 1
  · simp only [if_pos h, h]; rfl
  · have h0 : l.val / 64 = 0 := by omega
    simp only [if_neg h, h0]; rfl

end Cert.Attn

end
-- ==== Proof.Table.lean ====
/- The bias table at an element, from the bias array as launched. -/
module

public import proofs.«01_k».proof.Proof.Array
public import proofs.«01_k».proof.Proof.HeadAt

@[expose] public section

set_option maxRecDepth 16384

noncomputable section

namespace Cert.Attn

open Idealize.ShloMosaic Idealize.ShloMosaic.TcCoe Idealize.SL.Sem
open Cert.KernelIdeal Cert.KernelIdeal.Gen

/-- The reversed rows the host forms: each row's first value repeated, the row, its last value repeated, all read
    backwards, and a zero appended. -/
def reversedRows {F : FTy → Type} [FloatOps F] [Named F] (B : Vec F S8x257 .f32) : Vec F S8x1x1024 .f32 :=
  broadcastInDim S8x1x1024 ![0, 2] bcast_S8x1024_S8x1x1024_0_2
    (pad S8x1024 ![0, 0] ![0, 1] ![0, 0]
      (Host.reverse [1] (concatenate S8x1023 1
        [⟨S8x127, broadcastInDim S8x127 ![0, 1] bcast_S8x1_S8x127_0_1 (extractStridedSlice S8x1 ![0, 0] B slices_S8x257_S8x1_0_0)⟩,
         ⟨S8x257, B⟩,
         ⟨S8x639, broadcastInDim S8x639 ![0, 1] bcast_S8x1_S8x639_0_1 (extractStridedSlice S8x1 ![0, 256] B slices_S8x257_S8x1_0_256)⟩]
        concatenates_S8x127_S8x257_S8x639_S8x1023_d1))
      (sitofp .f32 (constantI S_ 32 0#32)) pads_S8x1023_S8x1024_000_010 h_S_)

/-- What the host leaves for the kernel is those rows of the launched bias array. -/
theorem reversed_eq {F : FTy → Type} [FloatOps F] [Named F] (m : (ℓ : Loc nD τ sig) → Buf (Elt F) ℓ) (c : Dev nD) :
    reversed m c = reversedRows (m ((c : Thread nD τ).loc main_arg1)) := rfl

/-- The reversed row of head `h` at `i` is the bias at the clipped offset. -/
theorem reversedRows_apply (B : Vec Ideal S8x257 .f32) (h : Fin 8) (i : Fin 1024) (hi : i.val < 1023) :
    reversedRows B (ix3 h 0 i) = B (ix2 h ⟨min (1022 - i.val - 127) 256, by omega⟩) := by
  pointwise [reversedRows]
  refine (dif_pos hi).trans ?_
  by_cases h1 : 1023 - (i.val + 1) < 127
  · refine (dif_pos h1).trans ?_
    show B (ix2 h 0) = _
    congr 2
    apply Fin.ext
    show 0 = min (1022 - i.val - 127) 256
    omega
  · refine (dif_neg h1).trans ?_
    by_cases h2 : 1023 - (i.val + 1) - 127 < 257
    · refine (dif_pos h2).trans ?_
      show B (ix2 h ⟨1023 - (i.val + 1) - 127, _⟩) = _
      congr 2
      apply Fin.ext
      show 1023 - (i.val + 1) - 127 = min (1022 - i.val - 127) 256
      omega
    · refine (dif_neg h2).trans ?_
      show B (ix2 h 256) = _
      congr 2
      apply Fin.ext
      show 256 = min (1022 - i.val - 127) 256
      omega

theorem chunk_word : ∀ n : Fin 768, IntOp.shrsi ArithUnit.vector (BitVec.ofNat 32 n.val) 6#32 = BitVec.ofNat 32 (n.val / 64) := by
  decide +kernel

theorem chunk_test : ∀ (a : Fin 4) (b : Fin 12),
    IntOp.andi (IntOp.cmpi CmpIPredicate.sle (IntOp.subi (BitVec.ofNat 32 b.val) 8#32) (BitVec.ofNat 32 a.val))
      (IntOp.cmpi CmpIPredicate.sge (IntOp.subi (BitVec.ofNat 32 b.val) 8#32) (IntOp.subi (BitVec.ofNat 32 a.val) 8#32))
    = if a.val ≤ b.val ∧ b.val ≤ a.val + 8 then 1#1 else 0#1 := by
  decide +kernel

/-- A key of the three windows is kept when its chunk is the row's chunk or one of the eight before. -/
theorem allowedMask_apply (r : Fin 256) (c : Fin 768) :
    allowedMask (ix2 r c) = if r.val / 64 ≤ c.val / 64 ∧ c.val / 64 ≤ r.val / 64 + 8 then 1#1 else 0#1 := by
  pointwise [allowedMask]
  rw [chunk_word c, chunk_word ⟨r.val, by omega⟩]
  exact chunk_test ⟨r.val / 64, by omega⟩ ⟨c.val / 64, by omega⟩

theorem biasPlane_apply (rev : Vec Ideal S1x1x1024 .f32) (r : Fin 256) (c : Fin 768) :
    biasPlane rev (ix3 0 r c)
      = if r.val / 64 ≤ c.val / 64 ∧ c.val / 64 ≤ r.val / 64 + 8 then rev (ix3 0 0 ⟨c.val + 255 - r.val, by omega⟩) * (invLog2 : EReal) else ⊥ := by
  pointwise [biasPlane]
  rw [named_masked, named_log2e, allowedMask_apply]
  have e : (⟨(c.val + 1024 - (769 + r.val) % 1024) % 1024, Nat.mod_lt _ (by decide)⟩ : Fin 1024) = ⟨c.val + 255 - r.val, by omega⟩ := by
    apply Fin.ext
    show (c.val + 1024 - (769 + r.val) % 1024) % 1024 = c.val + 255 - r.val
    omega
  split_ifs with hc
  · refine (if_pos rfl).trans ?_
    rw [e]
  · exact if_neg (by decide)

/-- The place, in a row of the bias array, of the offset between row `r` and key `c` of the three windows. -/
def offsetOf (r : Fin 256) (c : Fin 768) : Fin 257 := ⟨min (512 + r.val + 128 - c.val) 256, by omega⟩

/-- The bias table at head `h`, row `r` and key `c`: the rescaled bias at their offset, or nothing outside the band. -/
theorem biasTable_apply (B : Vec Ideal S8x257 .f32) (h : Fin 8) (r : Fin 256) (c : Fin 768) :
    biasTable (reversedRows B) (ix3 h r c)
      = if r.val / 64 ≤ c.val / 64 ∧ c.val / 64 ≤ r.val / 64 + 8 then B (ix2 h (offsetOf r c)) * (invLog2 : EReal) else ⊥ := by
  refine (biasPlane_apply (revRow h (reversedRows B)) r c).trans ?_
  refine ite_congr rfl (fun _ => ?_) (fun _ => rfl)
  congr 1
  refine (reversedRows_apply B h ⟨c.val + 255 - r.val, by omega⟩ (by show c.val + 255 - r.val < 1023; omega)).trans ?_
  congr 2
  apply Fin.ext
  show min (1022 - (c.val + 255 - r.val) - 127) 256 = min (512 + r.val + 128 - c.val) 256
  omega

end Cert.Attn
-- ==== Proof.RefBand.lean ====
/- The reference's queries, and the bands of keys and values before each chunk, at an element. -/
module

public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read
open scoped BigOperators

/-- Element `d` of head `h` in the column third `s` of a row of the packed array. -/
def packedAt (X : Vec Ideal S16384x1536 .bf16) (s : Fin 3) (row : Fin 16384) (h : Fin 8) (d : Fin 64) : EReal :=
  X (ix2 row ⟨512 * s.val + 64 * h.val + d.val, by omega⟩)

/-- The row of the packed array of chunk `n` of batch entry `b`, place `r`. -/
def rowAt (b : Fin 2) (n : Fin 128) (r : Fin 64) : Fin 16384 := ⟨8192 * b.val + 64 * n.val + r.val, by omega⟩

/-- Element `d` of head `h` at place `k` of the band before chunk `n`: zero before the first row. -/
def bandAt (X : Vec Ideal S16384x1536 .bf16) (s : Fin 3) (b : Fin 2) (n : Fin 128) (k : Fin 576) (h : Fin 8) (d : Fin 64) : EReal :=
  if hk : 512 ≤ 64 * n.val + k.val then
    packedAt X s ⟨8192 * b.val + (64 * n.val + k.val - 512), by omega⟩ h d
  else 0

/-- The queries, cut into chunks. -/
theorem query_apply (X : Vec Ideal S16384x1536 .bf16) (b : Fin 2) (n : Fin 128) (r : Fin 64) (h : Fin 8) (d : Fin 64) :
    val_main_v8 (F := Ideal) X (ix5 b n r h d) = packedAt X 0 (rowAt b n r) h d := by
  pointwise [val_main_v8, val_main_v5, val_main_v2, val_main_v1, val_main_v0]
  unfold packedAt rowAt
  congr 2 <;> apply Fin.ext
  · show b.val * 8192 + (n.val * 64 + r.val) = 8192 * b.val + 64 * n.val + r.val; omega
  · show h.val * 64 + d.val = 512 * 0 + 64 * h.val + d.val; omega

/-- The keys, cut into chunks. -/
theorem key_apply (X : Vec Ideal S16384x1536 .bf16) (b : Fin 2) (n : Fin 128) (r : Fin 64) (h : Fin 8) (d : Fin 64) :
    val_main_v9 (F := Ideal) X (ix5 b n r h d) = packedAt X 1 (rowAt b n r) h d := by
  pointwise [val_main_v9, val_main_v6, val_main_v3, val_main_v1, val_main_v0]
  unfold packedAt rowAt
  congr 2 <;> apply Fin.ext
  · show b.val * 8192 + (n.val * 64 + r.val) = 8192 * b.val + 64 * n.val + r.val; omega
  · show 512 + (h.val * 64 + d.val) = 512 * 1 + 64 * h.val + d.val; omega

/-- The values, cut into chunks. -/
theorem value_apply (X : Vec Ideal S16384x1536 .bf16) (b : Fin 2) (n : Fin 128) (r : Fin 64) (h : Fin 8) (d : Fin 64) :
    val_main_v21 (F := Ideal) X (ix5 b n r h d) = packedAt X 2 (rowAt b n r) h d := by
  pointwise [val_main_v21, val_main_v7, val_main_v4, val_main_v1, val_main_v0]
  unfold packedAt rowAt
  congr 2 <;> apply Fin.ext
  · show b.val * 8192 + (n.val * 64 + r.val) = 8192 * b.val + 64 * n.val + r.val; omega
  · show 1024 + (h.val * 64 + d.val) = 512 * 2 + 64 * h.val + d.val; omega

theorem zero_word : ((FloatOps.sitofp FTy.f32 0#32 : Ideal .f32) : EReal) = 0 := by
  show (((0#32 : BitVec 32).toInt : ℝ) : EReal) = 0
  norm_num

/-- The padded keys at a chunk and a place that together make place `k` of the band before chunk `n`. -/
theorem paddedKey_apply (X : Vec Ideal S16384x1536 .bf16) (b : Fin 2) (n : Fin 128) (k : Fin 576) (p : Fin 136) (r : Fin 64)
    (h : Fin 8) (d : Fin 64) (hp : 64 * p.val + r.val = 64 * n.val + k.val) :
    val_main_v10 (F := Ideal) X (ix5 b p r h d) = bandAt X 1 b n k h d := by
  pointwise [val_main_v10]
  unfold bandAt
  by_cases hk : 512 ≤ 64 * n.val + k.val
  · rw [dif_pos hk, dif_pos ⟨by omega, by omega⟩, key_apply]
    congr 1
    apply Fin.ext
    show 8192 * b.val + 64 * (p.val - 8) + r.val = 8192 * b.val + (64 * n.val + k.val - 512)
    omega
  · rw [dif_neg hk, dif_neg (by omega)]
    exact zero_word

/-- The padded values, likewise. -/
theorem paddedValue_apply (X : Vec Ideal S16384x1536 .bf16) (b : Fin 2) (n : Fin 128) (k : Fin 576) (p : Fin 136) (r : Fin 64)
    (h : Fin 8) (d : Fin 64) (hp : 64 * p.val + r.val = 64 * n.val + k.val) :
    val_main_v22 (F := Ideal) X (ix5 b p r h d) = bandAt X 2 b n k h d := by
  pointwise [val_main_v22]
  unfold bandAt
  by_cases hk : 512 ≤ 64 * n.val + k.val
  · rw [dif_pos hk, dif_pos ⟨by omega, by omega⟩, value_apply]
    congr 1
    apply Fin.ext
    show 8192 * b.val + 64 * (p.val - 8) + r.val = 8192 * b.val + (64 * n.val + k.val - 512)
    omega
  · rw [dif_neg hk, dif_neg (by omega)]
    exact zero_word

/-- The keys' band: nine shifted copies side by side. -/
theorem bandKey_apply (X : Vec Ideal S16384x1536 .bf16) (b : Fin 2) (n : Fin 128) (k : Fin 576) (h : Fin 8) (d : Fin 64) :
    val_main_v20 (F := Ideal) X (ix5 b n k h d) = bandAt X 1 b n k h d := by
  pointwise [val_main_v20, val_main_v11, val_main_v12, val_main_v13, val_main_v14, val_main_v15, val_main_v16, val_main_v17, val_main_v18, val_main_v19, concatenate_cons_apply]
  by_cases h0 : k.val < 64
  · exact (dif_pos h0).trans (paddedKey_apply X b n k _ _ h d (by show 64 * n.val + (k.val) = 64 * n.val + k.val; omega))
  refine (dif_neg h0).trans ?_
  by_cases h1 : k.val - 64 < 64
  · exact (dif_pos h1).trans (paddedKey_apply X b n k _ _ h d (by show 64 * (1 + n.val) + (k.val - 64) = 64 * n.val + k.val; omega))
  refine (dif_neg h1).trans ?_
  by_cases h2 : k.val - 64 - 64 < 64
  · exact (dif_pos h2).trans (paddedKey_apply X b n k _ _ h d (by show 64 * (2 + n.val) + (k.val - 64 - 64) = 64 * n.val + k.val; omega))
  refine (dif_neg h2).trans ?_
  by_cases h3 : k.val - 64 - 64 - 64 < 64
  · exact (dif_pos h3).trans (paddedKey_apply X b n k _ _ h d (by show 64 * (3 + n.val) + (k.val - 64 - 64 - 64) = 64 * n.val + k.val; omega))
  refine (dif_neg h3).trans ?_
  by_cases h4 : k.val - 64 - 64 - 64 - 64 < 64
  · exact (dif_pos h4).trans (paddedKey_apply X b n k _ _ h d (by show 64 * (4 + n.val) + (k.val - 64 - 64 - 64 - 64) = 64 * n.val + k.val; omega))
  refine (dif_neg h4).trans ?_
  by_cases h5 : k.val - 64 - 64 - 64 - 64 - 64 < 64
  · exact (dif_pos h5).trans (paddedKey_apply X b n k _ _ h d (by show 64 * (5 + n.val) + (k.val - 64 - 64 - 64 - 64 - 64) = 64 * n.val + k.val; omega))
  refine (dif_neg h5).trans ?_
  by_cases h6 : k.val - 64 - 64 - 64 - 64 - 64 - 64 < 64
  · exact (dif_pos h6).trans (paddedKey_apply X b n k _ _ h d (by show 64 * (6 + n.val) + (k.val - 64 - 64 - 64 - 64 - 64 - 64) = 64 * n.val + k.val; omega))
  refine (dif_neg h6).trans ?_
  by_cases h7 : k.val - 64 - 64 - 64 - 64 - 64 - 64 - 64 < 64
  · exact (dif_pos h7).trans (paddedKey_apply X b n k _ _ h d (by show 64 * (7 + n.val) + (k.val - 64 - 64 - 64 - 64 - 64 - 64 - 64) = 64 * n.val + k.val; omega))
  refine (dif_neg h7).trans ?_
  exact paddedKey_apply X b n k _ _ h d (by show 64 * (8 + n.val) + (k.val - 64 - 64 - 64 - 64 - 64 - 64 - 64 - 64) = 64 * n.val + k.val; omega)

/-- The values' band, likewise. -/
theorem bandValue_apply (X : Vec Ideal S16384x1536 .bf16) (b : Fin 2) (n : Fin 128) (k : Fin 576) (h : Fin 8) (d : Fin 64) :
    val_main_v32 (F := Ideal) X (ix5 b n k h d) = bandAt X 2 b n k h d := by
  pointwise [val_main_v32, val_main_v23, val_main_v24, val_main_v25, val_main_v26, val_main_v27, val_main_v28, val_main_v29, val_main_v30, val_main_v31, concatenate_cons_apply]
  by_cases h0 : k.val < 64
  · exact (dif_pos h0).trans (paddedValue_apply X b n k _ _ h d (by show 64 * n.val + (k.val) = 64 * n.val + k.val; omega))
  refine (dif_neg h0).trans ?_
  by_cases h1 : k.val - 64 < 64
  · exact (dif_pos h1).trans (paddedValue_apply X b n k _ _ h d (by show 64 * (1 + n.val) + (k.val - 64) = 64 * n.val + k.val; omega))
  refine (dif_neg h1).trans ?_
  by_cases h2 : k.val - 64 - 64 < 64
  · exact (dif_pos h2).trans (paddedValue_apply X b n k _ _ h d (by show 64 * (2 + n.val) + (k.val - 64 - 64) = 64 * n.val + k.val; omega))
  refine (dif_neg h2).trans ?_
  by_cases h3 : k.val - 64 - 64 - 64 < 64
  · exact (dif_pos h3).trans (paddedValue_apply X b n k _ _ h d (by show 64 * (3 + n.val) + (k.val - 64 - 64 - 64) = 64 * n.val + k.val; omega))
  refine (dif_neg h3).trans ?_
  by_cases h4 : k.val - 64 - 64 - 64 - 64 < 64
  · exact (dif_pos h4).trans (paddedValue_apply X b n k _ _ h d (by show 64 * (4 + n.val) + (k.val - 64 - 64 - 64 - 64) = 64 * n.val + k.val; omega))
  refine (dif_neg h4).trans ?_
  by_cases h5 : k.val - 64 - 64 - 64 - 64 - 64 < 64
  · exact (dif_pos h5).trans (paddedValue_apply X b n k _ _ h d (by show 64 * (5 + n.val) + (k.val - 64 - 64 - 64 - 64 - 64) = 64 * n.val + k.val; omega))
  refine (dif_neg h5).trans ?_
  by_cases h6 : k.val - 64 - 64 - 64 - 64 - 64 - 64 < 64
  · exact (dif_pos h6).trans (paddedValue_apply X b n k _ _ h d (by show 64 * (6 + n.val) + (k.val - 64 - 64 - 64 - 64 - 64 - 64) = 64 * n.val + k.val; omega))
  refine (dif_neg h6).trans ?_
  by_cases h7 : k.val - 64 - 64 - 64 - 64 - 64 - 64 - 64 < 64
  · exact (dif_pos h7).trans (paddedValue_apply X b n k _ _ h d (by show 64 * (7 + n.val) + (k.val - 64 - 64 - 64 - 64 - 64 - 64 - 64) = 64 * n.val + k.val; omega))
  refine (dif_neg h7).trans ?_
  exact paddedValue_apply X b n k _ _ h d (by show 64 * (8 + n.val) + (k.val - 64 - 64 - 64 - 64 - 64 - 64 - 64 - 64) = 64 * n.val + k.val; omega)

end Cert.Attn.Ref
-- ==== Proof.RefBias.lean ====
/- The reference's bias and its test of a band's places, at an element. -/
module

public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read
open scoped BigOperators

/-- The row of the bias array the gather reads for place `k` of the band and row `r` of the chunk. -/
theorem gather_apply (B : Vec Ideal S8x257 .f32) (idx : IVec S64x576x1 32) (h : Fin 8) (r : Fin 64) (k : Fin 576) :
    Host.gather gather_S8x257_S64x576x1_S8x64x576_0_1_n_n_1_2_81 B idx (ix3 h r k)
      = B (ix2 h ⟨min (idx (ix3 r k 0)).toInt.toNat 256, by omega⟩) := by
  unfold Host.gather
  congr 1
  funext a
  refine Fin.ext ?_
  match a with
  | 0 =>
    show GatherDims.start _ (ix3 h r k) idx 0 + GatherDims.batchCoord _ (ix3 h r k) 0 + GatherDims.offCoord _ (ix3 h r k) 0 = _
    rw [GatherDims.batchCoord_eq_zero _ _ _ (by decide)]
    unfold GatherDims.start
    rw [dif_neg (by decide)]
    unfold GatherDims.offCoord
    rw [dif_pos (by decide)]
    show 0 + 0 + h.val = h.val
    omega
  | 1 =>
    show GatherDims.start _ (ix3 h r k) idx 1 + GatherDims.batchCoord _ (ix3 h r k) 1 + GatherDims.offCoord _ (ix3 h r k) 1 = _
    rw [GatherDims.batchCoord_eq_zero _ _ _ (by decide), GatherDims.offCoord_eq_zero _ _ _ (by decide)]
    simp only [Nat.add_zero]
    unfold GatherDims.start
    rw [dif_pos (by decide)]
    have hsi : gather_S8x257_S64x576x1_S8x64x576_0_1_n_n_1_2_81.siIdx (ix3 h r k)
        ⟨List.idxOf (1 : Fin 2) gather_S8x257_S64x576x1_S8x64x576_0_1_n_n_1_2_81.startIndexMap, List.idxOf_lt_length_iff.2 (by decide)⟩ = ix3 r k 0 := by
      funext b
      refine Fin.ext ?_
      match b with
      | 0 => rfl
      | 1 => rfl
      | 2 => rfl
    rw [hsi]
    rfl

theorem position_word : ∀ x : Fin 8768, IntOp.cmpi CmpIPredicate.sge (BitVec.ofNat 32 x.val) 512#32 = if 512 ≤ x.val then 1#1 else 0#1 := by
  decide +kernel

/-- A place of the band is valid when it is not before the first row. -/
theorem valid_apply (n : Fin 128) (k : Fin 576) :
    val_main_v60 (F := Ideal) (ix2 n k) = if 512 ≤ 64 * n.val + k.val then 1#1 else 0#1 := by
  pointwise [val_main_v60, val_main_v59, val_main_v58, val_main_v57, val_main_v56, val_main_v55, val_main_v54, val_main_v53, val_main_v52, val_main_v38, val_main_v37, val_main_c_7, val_main_c_8]
  have e : IntOp.addi (IntOp.muli (BitVec.ofNat 32 n.val) 64#32) (BitVec.ofNat 32 k.val) = BitVec.ofNat 32 (64 * n.val + k.val) := by
    unfold IntOp.addi IntOp.muli
    apply BitVec.eq_of_toNat_eq
    simp only [BitVec.toNat_add, BitVec.toNat_mul, BitVec.toNat_ofNat]
    omega
  rw [e]
  exact position_word ⟨64 * n.val + k.val, by omega⟩

theorem offset_word : ∀ y : Fin 639,
    (let o := IntOp.addi (IntOp.minsi 128#32 (IntOp.maxsi 4294967168#32 (IntOp.subi (BitVec.ofNat 32 y.val) 63#32))) 128#32
     Scalar.select (IntOp.cmpi CmpIPredicate.slt o 0#32) (IntOp.addi o 257#32) o) = BitVec.ofNat 32 (min (y.val + 65) 256) := by
  decide +kernel

/-- The clipped offset as a place in a row of the bias array. -/
theorem start_apply (r : Fin 64) (k : Fin 576) :
    val_main_v50 (F := Ideal) (ix3 r k 0) = BitVec.ofNat 32 (min (r.val + 640 - k.val) 256) := by
  pointwise [val_main_v50, val_main_v49, val_main_v48, val_main_v47, val_main_v46, val_main_v45, val_main_v44, val_main_v43, val_main_v42, val_main_call2_v4, val_main_call2_v2, val_main_call2_v1,val_main_v41, val_main_v40, val_main_v39, val_main_v38, val_main_v37, val_main_v36, val_main_v35, val_main_v34, val_main_v33, val_main_c_1, val_main_c_2, val_main_c_3, val_main_c_4, val_main_c_5, val_main_c_6, val_main_call2_v0, val_main_call2_v3]
  have e : IntOp.subi (IntOp.addi (BitVec.ofNat 32 r.val) 512#32) (BitVec.ofNat 32 k.val)
      = IntOp.subi (BitVec.ofNat 32 (r.val + 575 - k.val)) 63#32 := by
    unfold IntOp.addi IntOp.subi
    apply BitVec.eq_of_toNat_eq
    simp only [BitVec.toNat_add, BitVec.toNat_sub, BitVec.toNat_ofNat]
    omega
  rw [e]
  refine (offset_word ⟨r.val + 575 - k.val, by omega⟩).trans ?_
  congr 2
  show r.val + 575 - k.val + 65 = _
  omega

theorem place_word : ∀ x : Fin 257, (BitVec.ofNat 32 x.val).toInt.toNat = x.val := by decide +kernel

/-- The bias of head `h`, row `r` of the chunk and place `k` of the band. -/
theorem bias_apply (B : Vec Ideal S8x257 .f32) (h : Fin 8) (r : Fin 64) (k : Fin 576) :
    val_main_v51 (F := Ideal) B (ix3 h r k) = B (ix2 h ⟨min (r.val + 640 - k.val) 256, by omega⟩) := by
  unfold val_main_v51
  refine (gather_apply B _ h r k).trans (congrArg B (congrArg (ix2 h) (Fin.ext ?_)))
  show min (val_main_v50 (F := Ideal) (ix3 r k 0)).toInt.toNat 256 = min (r.val + 640 - k.val) 256
  have hw := place_word ⟨min (r.val + 640 - k.val) 256, by omega⟩
  rw [start_apply]
  exact (congrArg (min · 256) hw).trans (by show min (min (r.val + 640 - k.val) 256) 256 = _; omega)

end Cert.Attn.Ref
-- ==== Proof.Reference.lean ====
/- The reference read element by element, over the extended reals: a softmax over the band of each query. -/
module

public import proofs.«01_k».proof.Proof.RefBand
public import proofs.«01_k».proof.Proof.RefBias
public import Idealize.ShloMosaic.Lib.Pointwise

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Read
open scoped BigOperators

/-- The score of place `k` of the band of row `r` of chunk `n`: nothing before the first row. -/
def bandScore (X : Vec Ideal S16384x1536 .bf16) (B : Vec Ideal S8x257 .f32) (b : Fin 2) (n : Fin 128) (h : Fin 8) (r : Fin 64) (k : Fin 576) : EReal :=
  if 512 ≤ 64 * n.val + k.val then
    (∑ d, packedAt X 0 (rowAt b n r) h d * bandAt X 1 b n k h d) * ((1 / 8 : ℝ) : EReal) + B (ix2 h ⟨min (r.val + 640 - k.val) 256, by omega⟩)
  else ⊥

theorem eighth_word : (FloatOps.ofBits .f32 0x3E000000#32 : Ideal .f32) = (((1 / 8 : ℝ)) : EReal) := by
  show Ideal.ofBits .f32 0x3E000000#32 = _
  simp [Ideal.ofBits, Ideal.ieee]
  norm_num
  rw [← EReal.coe_mul]
  norm_num

theorem bottom_word : (FloatOps.ofBits .f32 0xFF800000#32 : Ideal .f32) = (⊥ : EReal) := by
  show Ideal.ofBits .f32 0xFF800000#32 = _
  simp [Ideal.ofBits, Ideal.ieee]

theorem zero_bits : (FloatOps.ofBits .f32 0x00000000#32 : Ideal .f32) = (0 : EReal) := by
  show Ideal.ofBits .f32 0x00000000#32 = _
  simp [Ideal.ofBits, Ideal.ieee]

theorem dot_apply (X : Vec Ideal S16384x1536 .bf16) (b : Fin 2) (n : Fin 128) (h : Fin 8) (r : Fin 64) (k : Fin 576) :
    val_main_v61 (F := Ideal) X (ix5 b n h r k) = ∑ d, packedAt X 0 (rowAt b n r) h d * bandAt X 1 b n k h d := by
  rw [val_main_v61_apply]
  refine Finset.sum_congr rfl fun d _ => ?_
  have el : lidx_main_v61 (ix5 b n h r k) d = ix5 b n r h d := by
    funext a; match a with | 0 => rfl | 1 => rfl | 2 => rfl | 3 => rfl | 4 => rfl
  have er : ridx_main_v61 (ix5 b n h r k) d = ix5 b n k h d := by
    funext a; match a with | 0 => rfl | 1 => rfl | 2 => rfl | 3 => rfl | 4 => rfl
  rw [el, er, query_apply, bandKey_apply]

/-- The masked scores. -/
theorem score_apply (X : Vec Ideal S16384x1536 .bf16) (B : Vec Ideal S8x257 .f32) (b : Fin 2) (n : Fin 128) (h : Fin 8) (r : Fin 64) (k : Fin 576) :
    val_main_v68 (F := Ideal) X B (ix5 b n h r k) = bandScore X B b n h r k := by
  pointwise [val_main_v68, val_main_call3_v1, val_main_call3_v2, val_main_call3_v0, val_main_cst_9, val_main_v67, val_main_v66, val_main_v65, val_main_v64, val_main_v63, val_main_v62, val_main_cst]
  rw [valid_apply, dot_apply, bias_apply]
  have e8 : Ideal.ofBits .f32 0x3E000000#32 = ((1 / 8 : ℝ) : EReal) := eighth_word
  rw [e8]
  unfold bandScore
  by_cases hk : 512 ≤ 64 * n.val + k.val
  · rw [if_pos hk, if_pos hk]; rfl
  · rw [if_neg hk, if_neg hk]; exact bottom_word

theorem reduceMax_apply (y : FVec Ideal S2x128x8x64x576 .f32) (z : FVec Ideal S_ .f32) (b : Fin 2) (n : Fin 128) (h : Fin 8) (r : Fin 64) :
    Host.reduce FloatOps.maximumf y z reducesTo_S2x128x8x64x576_S2x128x8x64_d4 h_S_ (ix4 b n h r)
      = Finset.fold max (z (Shape.Idx.first h_S_) : EReal) (fun k => y (ix5 b n h r k)) Finset.univ := by
  pointwise []

theorem reduceAdd_apply (y : FVec Ideal S2x128x8x64x576 .f32) (z : FVec Ideal S_ .f32) (b : Fin 2) (n : Fin 128) (h : Fin 8) (r : Fin 64) :
    Host.reduceAdd y z reducesTo_S2x128x8x64x576_S2x128x8x64_d4 h_S_ (ix4 b n h r)
      = (z (Shape.Idx.first h_S_) : EReal) + ∑ k, y (ix5 b n h r k) := by
  pointwise []

theorem weight_apply (X : Vec Ideal S16384x1536 .bf16) (B : Vec Ideal S8x257 .f32) (b : Fin 2) (n : Fin 128) (h : Fin 8) (r : Fin 64) (k : Fin 576) :
    val_main_v75 (F := Ideal) X B (ix5 b n h r k) = Ideal.exp (val_main_v68 (F := Ideal) X B (ix5 b n h r k) - val_main_v71 (F := Ideal) X B (ix4 b n h r)) := by
  pointwise [val_main_v75, val_main_v74, val_main_v73, val_main_v72]

/-- A maximum folded from −∞ is the supremum. -/
theorem fold_max {κ : Type} [Fintype κ] (f : κ → EReal) : max (⊥ : EReal) (Finset.fold max (⊥ : EReal) f Finset.univ) = Finset.univ.sup f :=
  max_eq_right bot_le

theorem maximumf_apply (x y : FVec Ideal S2x128x8x64 .f32) (b : Fin 2) (n : Fin 128) (h : Fin 8) (r : Fin 64) :
    maximumf x y (ix4 b n h r) = max (x (ix4 b n h r) : EReal) (y (ix4 b n h r)) := by
  pointwise []

theorem floor_apply (b : Fin 2) (n : Fin 128) (h : Fin 8) (r : Fin 64) : val_main_v70 (F := Ideal) (ix4 b n h r) = (⊥ : EReal) := by
  pointwise [val_main_v70, val_main_cst_11]
  exact bottom_word

theorem reduced_apply (X : Vec Ideal S16384x1536 .bf16) (B : Vec Ideal S8x257 .f32) (b : Fin 2) (n : Fin 128) (h : Fin 8) (r : Fin 64) :
    val_main_v69 (F := Ideal) X B (ix4 b n h r) = Finset.fold max (⊥ : EReal) (fun k => bandScore X B b n h r k) Finset.univ := by
  have ez : val_main_cst_10 (F := Ideal) (Shape.Idx.first h_S_) = (⊥ : EReal) := bottom_word
  have hs : (fun k => val_main_v68 (F := Ideal) X B (ix5 b n h r k)) = fun k => bandScore X B b n h r k := funext fun k => score_apply X B b n h r k
  unfold val_main_v69
  refine (reduceMax_apply _ _ b n h r).trans ?_
  rw [ez, hs]

/-- The largest score of a query. -/
theorem top_apply (X : Vec Ideal S16384x1536 .bf16) (B : Vec Ideal S8x257 .f32) (b : Fin 2) (n : Fin 128) (h : Fin 8) (r : Fin 64) :
    val_main_v71 (F := Ideal) X B (ix4 b n h r) = Finset.univ.sup (fun k => bandScore X B b n h r k) := by
  unfold val_main_v71
  refine (maximumf_apply _ _ b n h r).trans ?_
  rw [floor_apply, reduced_apply]
  exact fold_max _

/-- The normaliser of a query: the sum of its weights. -/
theorem total_apply (X : Vec Ideal S16384x1536 .bf16) (B : Vec Ideal S8x257 .f32) (b : Fin 2) (n : Fin 128) (h : Fin 8) (r : Fin 64) :
    val_main_v76 (F := Ideal) X B (ix4 b n h r) = ∑ k, val_main_v75 (F := Ideal) X B (ix5 b n h r k) := by
  have ez : val_main_cst_12 (F := Ideal) (Shape.Idx.first h_S_) = (0 : EReal) := zero_bits
  rw [val_main_v76, reduceAdd_apply, ez, zero_add]

theorem probability_apply (X : Vec Ideal S16384x1536 .bf16) (B : Vec Ideal S8x257 .f32) (b : Fin 2) (n : Fin 128) (h : Fin 8) (r : Fin 64) (k : Fin 576) :
    val_main_v79 (F := Ideal) X B (ix5 b n h r k) = Ideal.div (val_main_v75 (F := Ideal) X B (ix5 b n h r k)) (val_main_v76 (F := Ideal) X B (ix4 b n h r)) := by
  pointwise [val_main_v79, val_main_v78, val_main_v77]

theorem out_apply (X : Vec Ideal S16384x1536 .bf16) (B : Vec Ideal S8x257 .f32) (b : Fin 2) (n : Fin 128) (h : Fin 8) (r : Fin 64) (d : Fin 64) :
    val_main_v80 (F := Ideal) X B (ix5 b n h d r) = ∑ k, bandAt X 2 b n k h d * val_main_v79 (F := Ideal) X B (ix5 b n h r k) := by
  rw [val_main_v80_apply]
  refine Finset.sum_congr rfl fun k _ => ?_
  have el : lidx_main_v80 (ix5 b n h d r) k = ix5 b n k h d := by
    funext a; match a with | 0 => rfl | 1 => rfl | 2 => rfl | 3 => rfl | 4 => rfl
  have er : ridx_main_v80 (ix5 b n h d r) k = ix5 b n h r k := by
    funext a; match a with | 0 => rfl | 1 => rfl | 2 => rfl | 3 => rfl | 4 => rfl
  rw [el, er, bandValue_apply]

theorem result_apply (X : Vec Ideal S16384x1536 .bf16) (B : Vec Ideal S8x257 .f32) (row : Fin 16384) (col : Fin 512) :
    val_main_v83 (F := Ideal) X B (ix2 row col)
      = val_main_v80 (F := Ideal) X B (ix5 ⟨row.val / 8192, by omega⟩ ⟨row.val % 8192 / 64, by omega⟩ ⟨col.val / 64, by omega⟩ ⟨col.val % 64, by omega⟩ ⟨row.val % 64, by omega⟩) := by
  pointwise [val_main_v83, val_main_v82, val_main_v81]
  exact congrArg (fun z : Fin 128 => val_main_v80 (F := Ideal) X B (ix5 _ z _ _ _)) (Fin.ext (by show row.val / 64 % 128 = row.val % 8192 / 64; omega))

/-- The reference's result at an element: the values of the band weighted by the softmax of the scores. -/
theorem reference_apply (X : Vec Ideal S16384x1536 .bf16) (B : Vec Ideal S8x257 .f32) (b : Fin 2) (n : Fin 128) (h : Fin 8) (r : Fin 64) (d : Fin 64) :
    val_main_v80 (F := Ideal) X B (ix5 b n h d r)
      = ∑ k, bandAt X 2 b n k h d * Ideal.div (Ideal.exp (bandScore X B b n h r k - Finset.univ.sup (fun k => bandScore X B b n h r k)))
          (∑ k, Ideal.exp (bandScore X B b n h r k - Finset.univ.sup (fun k => bandScore X B b n h r k))) := by
  rw [out_apply]
  simp only [probability_apply, total_apply, weight_apply, top_apply, score_apply]

end Cert.Attn.Ref
-- ==== Proof.Equation.lean ====
/- The kernel's result is the reference's result, over the extended reals, for real queries, keys and bias. -/
module

public import proofs.«01_k».proof.Proof.Array
public import proofs.«01_k».proof.Proof.Table
public import proofs.«01_k».proof.Proof.Softmax
public import proofs.«01_k».proof.Proof.HeadAt
public import proofs.«01_k».proof.Proof.Reference

@[expose] public section

set_option maxRecDepth 16384

noncomputable section

namespace Cert.Attn

open Idealize.ShloMosaic Idealize.ShloMosaic.TcCoe Idealize.SL.Sem
open Cert.KernelIdeal Cert.KernelIdeal.Gen
open Cert.Attn.Ref (packedAt rowAt bandAt bandScore)
open scoped BigOperators

/-! ## One score -/

/-- The factor an eighth of `1 / log 2` on the queries, and `1 / log 2` on the bias, give `1 / log 2` times the score. -/
theorem rescaled_score (q k : Fin 64 → ℝ) (b : ℝ) :
    (∑ d, ((q d : EReal) * (((1 / 8 : ℝ) * invLog2 : ℝ) : EReal)) * (k d : EReal)) + (b : EReal) * (invLog2 : EReal)
      = (invLog2 : EReal) * ((∑ d, (q d : EReal) * (k d : EReal)) * ((1 / 8 : ℝ) : EReal) + (b : EReal)) := by
  simp only [← EReal.coe_mul, ← coe_sum, ← EReal.coe_add]
  congr 1
  rw [mul_add, Finset.sum_mul, Finset.mul_sum]
  congr 1
  · exact Finset.sum_congr rfl fun d _ => by ring
  · ring

/-- A sum over the 128 lanes in which only the lanes of the head `hh` count is the sum over that head's 64 lanes. -/
theorem sum_half (hh : ℕ) (hlt : hh < 2) (f : Fin 128 → EReal) :
    (∑ l : Fin 128, if l.val / 64 = hh then f l else 0) = ∑ d : Fin 64, f ⟨64 * hh + d.val, by omega⟩ := by
  rw [← Finset.sum_filter]
  refine (Finset.sum_nbij (fun d : Fin 64 => (⟨64 * hh + d.val, by omega⟩ : Fin 128)) ?_ ?_ ?_ ?_).symm
  · intro d _
    exact Finset.mem_filter.mpr ⟨Finset.mem_univ _, by show (64 * hh + d.val) / 64 = hh; omega⟩
  · intro d _ d' _ h
    have := congrArg Fin.val h
    apply Fin.ext
    have e : 64 * hh + d.val = 64 * hh + d'.val := this
    omega
  · intro l hl
    have h := (Finset.mem_filter.mp hl).2
    exact ⟨⟨l.val % 64, by omega⟩, Finset.mem_coe.mpr (Finset.mem_univ _), Fin.ext (by show 64 * hh + l.val % 64 = l.val; omega)⟩
  · intro d _; rfl

/-- One score of the kernel, over the head's own lanes. -/
theorem scoreAt_eq (hh : ℕ) (hlt : hh < 2) (c : Prop) [Decidable c] (q k : Fin 128 → EReal) (b : EReal) :
    scoreAt hh c q k b = if c then (∑ d : Fin 64, (q ⟨64 * hh + d.val, by omega⟩ * (((1 / 8 : ℝ) * invLog2 : ℝ) : EReal)) * k ⟨64 * hh + d.val, by omega⟩) + b else ⊥ := by
  unfold scoreAt
  rw [← sum_half hh hlt (fun l => (q l * (((1 / 8 : ℝ) * invLog2 : ℝ) : EReal)) * k l)]
  congr 2
  refine Finset.sum_congr rfl fun l _ => ?_
  by_cases h : l.val / 64 = hh
  · rw [if_pos h, if_pos h]
  · rw [if_neg h, if_neg h, zero_mul]

/-! ## Which windows count -/

theorem started_two : ∀ (s : Fin 16) (t : Fin 2), started (BitVec.ofNat 32 s.val) (BitVec.ofNat 32 t.val) 2#32 = 1#1 ↔ 2 ≤ 2 * s.val + t.val := by
  decide +kernel

theorem started_one : ∀ (s : Fin 16) (t : Fin 2), started (BitVec.ofNat 32 s.val) (BitVec.ofNat 32 t.val) 1#32 = 1#1 ↔ 1 ≤ 2 * s.val + t.val := by
  decide +kernel

/-- Window `j` of tile `t` of a step counts when it does not lie before the sequence. -/
theorem flag_iff (s : Fin 16) (t : Fin 2) (j : Fin 3) :
    (![started (BitVec.ofNat 32 s.val) (BitVec.ofNat 32 t.val) 2#32, started (BitVec.ofNat 32 s.val) (BitVec.ofNat 32 t.val) 1#32, 1#1] : Fin 3 → BitVec 1) j = 1#1
      ↔ 2 ≤ 2 * s.val + t.val + j.val := by
  match j with
  | 0 => exact started_two s t
  | 1 => exact (started_one s t).trans (by show _ ↔ 2 ≤ 2 * s.val + t.val + 1; omega)
  | 2 => exact ⟨fun _ => by show 2 ≤ 2 * s.val + t.val + 2; omega, fun _ => rfl⟩

/-! ## The kernel's result at an element -/

section
variable (X : Vec Ideal S16384x1536 .bf16) (B : Vec Ideal S8x257 .f32)

/-- The score of key `i` of the three windows of tile `tt` of grid point `t`, for row `r` of the tile and head `2 g + e`. -/
def tileScore (t : Fin 32) (tt : Fin 2) (g : Fin 4) (e : Fin 2) (r : Fin 256) (i : Fin 3 × Fin 256) : EReal :=
  if 2 ≤ 2 * (t.val % 16) + tt.val + i.1.val then
    (∑ d : Fin 64, (X (ix2 ⟨512 * t.val + (256 * tt.val + r.val), by omega⟩ ⟨128 * g.val + (64 * e.val + d.val), by omega⟩) * (((1 / 8 : ℝ) * invLog2 : ℝ) : EReal))
        * windowAt X 1 t ⟨tt.val + i.1.val, by omega⟩ (ix2 i.2 ⟨128 * g.val + (64 * e.val + d.val), by omega⟩))
      + biasTable (reversedRows B) (ix3 ⟨2 * g.val + e.val, by omega⟩ r ⟨256 * i.1.val + i.2.val, by omega⟩)
  else ⊥

/-- The value of key `i`, lane `l` of the pair `g`. -/
def tileValue (t : Fin 32) (tt : Fin 2) (g : Fin 4) (l : Fin 128) (i : Fin 3 × Fin 256) : EReal :=
  windowAt X 2 t ⟨tt.val + i.1.val, by omega⟩ (ix2 i.2 ⟨128 * g.val + l.val, by omega⟩)

theorem blockPair_apply (t : Fin 32) (tt : Fin 2) (g : Fin 4) (r : Fin 256) (l : Fin 128) :
    blockPair (BitVec.ofNat 32 (t.val % 16)) (queriesOf X t) (windowAt X 1 t) (windowAt X 2 t) (biasTable (reversedRows B)) tt g (ix2 r l)
      = weightedSum (tileScore X B t tt g ⟨l.val / 64, by omega⟩ r) (tileValue X t tt g l) := by
  refine (pair_apply (BitVec.ofNat 32 tt.val) (BitVec.ofNat 32 (t.val % 16)) (tileOf tt g (queriesOf X t))
    (fun j => windowOf g (windowAt X 1 t ⟨tt.val + j.val, by omega⟩)) (fun j => windowOf g (windowAt X 2 t ⟨tt.val + j.val, by omega⟩))
    (fun j => biasOf ⟨2 * g.val + 0, by omega⟩ j (biasTable (reversedRows B))) (fun j => biasOf ⟨2 * g.val + 1, by omega⟩ j (biasTable (reversedRows B))) r l).trans ?_
  refine congrArg₂ weightedSum (funext fun i => ?_) rfl
  rw [scoreAt_eq _ (by omega)]
  unfold tileScore
  have hf := flag_iff ⟨t.val % 16, by omega⟩ tt i.1
  have hb : (if l.val / 64 = 1 then biasOf ⟨2 * g.val + 1, by omega⟩ i.1 (biasTable (reversedRows B)) (ix3 0 r i.2)
      else biasOf ⟨2 * g.val + 0, by omega⟩ i.1 (biasTable (reversedRows B)) (ix3 0 r i.2))
      = biasTable (reversedRows B) (ix3 ⟨2 * g.val + l.val / 64, by omega⟩ r ⟨256 * i.1.val + i.2.val, by omega⟩) := by
    have hl := l.isLt
    by_cases h : l.val / 64 = 1
    · rw [if_pos h]
      show biasTable (reversedRows B) (ix3 ⟨2 * g.val + 1, _⟩ r _) = _
      exact congrArg (fun z => biasTable (reversedRows B) (ix3 z r _)) (Fin.ext (by show 2 * g.val + 1 = 2 * g.val + l.val / 64; omega))
    · rw [if_neg h]
      show biasTable (reversedRows B) (ix3 ⟨2 * g.val + 0, _⟩ r _) = _
      exact congrArg (fun z => biasTable (reversedRows B) (ix3 z r _)) (Fin.ext (by show 2 * g.val + 0 = 2 * g.val + l.val / 64; omega))
  by_cases h : 2 ≤ 2 * (t.val % 16) + tt.val + i.1.val
  · rw [if_pos (hf.mpr h), if_pos h, hb]; rfl
  · rw [if_neg (fun h' => h (hf.mp h')), if_neg h]

theorem attnArray_apply (row : Fin 16384) (col : Fin 512) :
    attnArray X (reversedRows B) (ix2 row col)
      = weightedSum (tileScore X B ⟨row.val / 512, by omega⟩ ⟨row.val % 512 / 256, by omega⟩ ⟨col.val / 128, by omega⟩ ⟨col.val % 128 / 64, by omega⟩ ⟨row.val % 512 % 256, by omega⟩)
          (tileValue X ⟨row.val / 512, by omega⟩ ⟨row.val % 512 / 256, by omega⟩ ⟨col.val / 128, by omega⟩ ⟨col.val % 128, by omega⟩) :=
  blockPair_apply X B ⟨row.val / 512, by omega⟩ ⟨row.val % 512 / 256, by omega⟩ ⟨col.val / 128, by omega⟩ ⟨row.val % 512 % 256, by omega⟩ ⟨col.val % 128, by omega⟩

/-! ## The band's places among the windows' keys -/

/-- Place `k` of the band of a row of the tile's chunk `a`, among the keys of the tile's three windows. -/
def keyOf (a : Fin 4) (k : Fin 576) : Fin 3 × Fin 256 := (⟨(64 * a.val + k.val) / 256, by omega⟩, ⟨(64 * a.val + k.val) % 256, by omega⟩)

theorem keyOf_injective (a : Fin 4) : Function.Injective (keyOf a) := by
  intro k k' h
  have h1 : (64 * a.val + k.val) / 256 = (64 * a.val + k'.val) / 256 := congrArg (fun i => i.1.val) h
  have h2 : (64 * a.val + k.val) % 256 = (64 * a.val + k'.val) % 256 := congrArg (fun i => i.2.val) h
  apply Fin.ext
  omega

/-- The queries, keys and bias are real numbers. -/
def Real : Prop := (∀ (row : Fin 16384) (col : Fin 1024), ∃ x : ℝ, X (ix2 row ⟨col.val, by omega⟩) = (x : EReal)) ∧ ∀ h o, ∃ x : ℝ, B (ix2 h o) = (x : EReal)

variable {X B}

theorem packed_real (hX : Real X B) (s : Fin 2) (row : Fin 16384) (h : Fin 8) (d : Fin 64) :
    ∃ x : ℝ, packedAt X ⟨s.val, by omega⟩ row h d = (x : EReal) :=
  hX.1 row ⟨512 * s.val + 64 * h.val + d.val, by omega⟩

theorem band_real (hX : Real X B) (b : Fin 2) (n : Fin 128) (k : Fin 576) (h : Fin 8) (d : Fin 64) :
    ∃ x : ℝ, bandAt X 1 b n k h d = (x : EReal) := by
  unfold bandAt
  by_cases hk : 512 ≤ 64 * n.val + k.val
  · rw [dif_pos hk]; exact packed_real hX 1 _ h d
  · rw [dif_neg hk]; exact ⟨0, rfl⟩

/-- A score of the band is a real number where the band has a key. -/
theorem bandScore_real (hX : Real X B) (b : Fin 2) (n : Fin 128) (h : Fin 8) (r : Fin 64) (k : Fin 576) (hk : 512 ≤ 64 * n.val + k.val) :
    ∃ x : ℝ, bandScore X B b n h r k = (x : EReal) := by
  choose q hq using fun d => packed_real hX 0 (rowAt b n r) h d
  choose y hy using fun d => band_real hX b n k h d
  obtain ⟨c, hc⟩ := hX.2 h ⟨min (r.val + 640 - k.val) 256, by omega⟩
  unfold bandScore
  rw [if_pos hk, hc]
  have e : ∀ d, packedAt X 0 (rowAt b n r) h d * bandAt X 1 b n k h d = ((q d * y d : ℝ) : EReal) := fun d => by
    rw [hy d, EReal.coe_mul]; exact congrArg (· * _) (hq d)
  rw [Finset.sum_congr rfl fun d _ => e d, ← coe_sum, ← EReal.coe_mul, ← EReal.coe_add]
  exact ⟨_, rfl⟩

/-! ## The two sides' scores and values -/

/-- The coordinates of a row and a head on the two sides. -/
structure Agree (t : Fin 32) (tt : Fin 2) (g : Fin 4) (e : Fin 2) (r : Fin 256) (b : Fin 2) (n : Fin 128) (h : Fin 8) (r' : Fin 64) : Prop where
  batch : b.val = t.val / 16
  chunk : n.val = 4 * (2 * (t.val % 16) + tt.val) + r.val / 64
  head : h.val = 2 * g.val + e.val
  row : r'.val = r.val % 64

variable {t : Fin 32} {tt : Fin 2} {g : Fin 4} {e : Fin 2} {r : Fin 256} {b : Fin 2} {n : Fin 128} {h : Fin 8} {r' : Fin 64}

/-- A key of a window that counts is the band's key. -/
theorem window_eq_band (H : Agree t tt g e r b n h r') (s : Fin 3) (k : Fin 576) (hk : 512 ≤ 64 * n.val + k.val) (d : Fin 64)
    (l : Fin 512) (hl : l.val = 64 * h.val + d.val) (w : Fin 4) (hw : w.val = tt.val + (64 * (r.val / 64) + k.val) / 256)
    (c : Fin 256) (hc : c.val = (64 * (r.val / 64) + k.val) % 256) :
    windowAt X s t w (ix2 c l) = bandAt X s b n k h d := by
  obtain ⟨hb, hn, hh, hr⟩ := H
  unfold bandAt
  rw [dif_pos hk]
  show X (ix2 _ _) = X (ix2 _ _)
  refine congrArg X (congrArg₂ ix2 (Fin.ext ?_) (Fin.ext ?_))
  · show 256 * tileNo t w + c.val = 8192 * b.val + (64 * n.val + k.val - 512)
    unfold tileNo
    omega
  · show 512 * s.val + l.val = 512 * s.val + 64 * h.val + d.val
    omega

theorem score_in (hX : Real X B) (H : Agree t tt g e r b n h r') (k : Fin 576) :
    tileScore X B t tt g e r (keyOf ⟨r.val / 64, by omega⟩ k) = (invLog2 : EReal) * bandScore X B b n h r' k := by
  have H' := H
  obtain ⟨hb, hn, hh, hr⟩ := H'
  have hkl := k.isLt
  by_cases hk : 512 ≤ 64 * n.val + k.val
  · choose q hq using fun d => packed_real hX 0 (rowAt b n r') h d
    choose y hy using fun d => band_real hX b n k h d
    obtain ⟨c, hc⟩ := hX.2 h ⟨min (r'.val + 640 - k.val) 256, by omega⟩
    have hcond : 2 ≤ 2 * (t.val % 16) + tt.val + (64 * (r.val / 64) + k.val) / 256 := by omega
    have e1 : tileScore X B t tt g e r (keyOf ⟨r.val / 64, by omega⟩ k)
        = (∑ d, ((q d : EReal) * (((1 / 8 : ℝ) * invLog2 : ℝ) : EReal)) * (y d : EReal)) + (c : EReal) * (invLog2 : EReal) := by
      refine (if_pos hcond).trans (congrArg₂ (· + ·) (Finset.sum_congr rfl fun d _ => congrArg₂ (· * ·) (congrArg (· * _) ?_) ?_) ?_)
      · refine Eq.trans ?_ (hq d)
        show X (ix2 _ _) = X (ix2 _ _)
        refine congrArg X (congrArg₂ ix2 (Fin.ext ?_) (Fin.ext ?_))
        · show 512 * t.val + (256 * tt.val + r.val) = 8192 * b.val + 64 * n.val + r'.val
          omega
        · show 128 * g.val + (64 * e.val + d.val) = 512 * 0 + 64 * h.val + d.val
          omega
      · refine Eq.trans ?_ (hy d)
        exact window_eq_band H 1 k hk d _ (by show 128 * g.val + (64 * e.val + d.val) = _; omega) _ rfl _ rfl
      · rw [biasTable_apply, if_pos (by constructor <;> (show _ ≤ _; simp only [keyOf]; omega))]
        refine congrArg (· * _) (Eq.trans ?_ hc)
        refine congrArg B (congrArg₂ ix2 (Fin.ext ?_) (Fin.ext ?_))
        · show 2 * g.val + e.val = h.val
          omega
        · show min (512 + r.val + 128 - (256 * ((64 * (r.val / 64) + k.val) / 256) + (64 * (r.val / 64) + k.val) % 256)) 256 = min (r'.val + 640 - k.val) 256
          omega
    have e2 : bandScore X B b n h r' k = (∑ d, (q d : EReal) * (y d : EReal)) * ((1 / 8 : ℝ) : EReal) + (c : EReal) := by
      refine (if_pos hk).trans (congrArg₂ (· + ·) (congrArg (· * _) (Finset.sum_congr rfl fun d _ => congrArg₂ (· * ·) (hq d) (hy d))) hc)
    rw [e1, e2]
    exact rescaled_score q y c
  · have hcond : ¬ 2 ≤ 2 * (t.val % 16) + tt.val + (64 * (r.val / 64) + k.val) / 256 := by omega
    have e1 : tileScore X B t tt g e r (keyOf ⟨r.val / 64, by omega⟩ k) = ⊥ := if_neg hcond
    have e2 : bandScore X B b n h r' k = ⊥ := if_neg hk
    rw [e1, e2, EReal.coe_mul_bot_of_pos invLog2_pos]

theorem score_out (i : Fin 3 × Fin 256) (hi : ∀ k, keyOf ⟨r.val / 64, by omega⟩ k ≠ i) :
    tileScore X B t tt g e r i = ⊥ := by
  obtain ⟨j, c⟩ := i
  have hout : ¬ (r.val / 64 ≤ (256 * j.val + c.val) / 64 ∧ (256 * j.val + c.val) / 64 ≤ r.val / 64 + 8) := by
    rintro ⟨h1, h2⟩
    refine hi ⟨256 * j.val + c.val - 64 * (r.val / 64), by omega⟩ (Prod.ext (Fin.ext ?_) (Fin.ext ?_))
    · show (64 * (r.val / 64) + (256 * j.val + c.val - 64 * (r.val / 64))) / 256 = j.val
      omega
    · show (64 * (r.val / 64) + (256 * j.val + c.val - 64 * (r.val / 64))) % 256 = c.val
      omega
  unfold tileScore
  split
  · rw [biasTable_apply, if_neg hout, EReal.add_bot]
  · rfl

/-- The two weighted sums are equal. -/
theorem weighted_eq (hX : Real X B) (H : Agree t tt g e r b n h r') (l : Fin 128) (d : Fin 64) (hl : 128 * g.val + l.val = 64 * h.val + d.val) :
    weightedSum (tileScore X B t tt g e r) (tileValue X t tt g l)
      = ∑ k, bandAt X 2 b n k h d * Ideal.div (Ideal.exp (bandScore X B b n h r' k - Finset.univ.sup (fun k => bandScore X B b n h r' k)))
          (∑ k, Ideal.exp (bandScore X B b n h r' k - Finset.univ.sup (fun k => bandScore X B b n h r' k))) := by
  refine softmax_rescaled (keyOf ⟨r.val / 64, by omega⟩) (keyOf_injective _) (fun k => bandScore X B b n h r' k) (fun k => bandAt X 2 b n k h d)
    _ _ (score_in hX H) score_out ?_ ?_ ?_
  · intro k hk
    have hk' : 512 ≤ 64 * n.val + k.val := by
      by_contra hn
      exact hk (if_neg hn)
    exact window_eq_band H 2 k hk' d _ hl _ rfl _ rfl
  · intro k
    by_cases hk : 512 ≤ 64 * n.val + k.val
    · obtain ⟨x, hx⟩ := bandScore_real hX b n h r' k hk
      show bandScore X B b n h r' k ≠ ⊤
      rw [hx]; exact EReal.coe_ne_top x
    · show bandScore X B b n h r' k ≠ ⊤
      rw [show bandScore X B b n h r' k = ⊥ from if_neg hk]; exact bot_ne_top
  · obtain ⟨x, hx⟩ := bandScore_real hX b n h r' 512 (by show 512 ≤ 64 * n.val + 512; omega)
    exact ⟨512, by show bandScore X B b n h r' 512 ≠ ⊥; rw [hx]; exact EReal.coe_ne_bot x⟩

end

/-- The kernel's element is the reference's. -/
theorem element_eq (X : Vec Ideal S16384x1536 .bf16) (B : Vec Ideal S8x257 .f32) (hX : Real X B) (row : Fin 16384) (col : Fin 512) :
    attnArray X (reversedRows B) (ix2 row col) = Cert.ReferenceIdeal.Read.val_main_v83 (F := Ideal) X B (ix2 row col) := by
  rw [attnArray_apply]
  refine Eq.trans ?_ ((Ref.result_apply X B row col).trans (Ref.reference_apply X B _ _ _ _ _)).symm
  refine weighted_eq hX ⟨?_, ?_, ?_, ?_⟩ _ _ ?_
  · show row.val / 8192 = row.val / 512 / 16; omega
  · show row.val % 8192 / 64 = 4 * (2 * (row.val / 512 % 16) + row.val % 512 / 256) + row.val % 512 % 256 / 64; omega
  · show col.val / 64 = 2 * (col.val / 128) + col.val % 128 / 64; omega
  · show row.val % 64 = row.val % 512 % 256 % 64; omega
  · show 128 * (col.val / 128) + col.val % 128 = 64 * (col.val / 64) + col.val % 64; omega

/-- The kernel's array is the reference's. -/
theorem arrays_eq (X : Vec Ideal S16384x1536 .bf16) (B : Vec Ideal S8x257 .f32) (hX : Real X B) :
    attnArray X (reversedRows B) = Cert.ReferenceIdeal.Read.val_main_v83 (F := Ideal) X B := by
  funext y
  have hy : y = ix2 (y 0 : Fin 16384) (y 1 : Fin 512) := by
    funext a; match a with | 0 => rfl | 1 => rfl
  exact (congrArg (attnArray X (reversedRows B)) hy).trans
    ((element_eq X B hX (y 0) (y 1)).trans (congrArg (Cert.ReferenceIdeal.Read.val_main_v83 (F := Ideal) X B) hy.symm))

end Cert.Attn
-- ==== Proof.Precondition.lean ====
/- What the precondition says: the queries, the keys and the bias are real numbers. -/
module

public import proofs.«01_k».proof.Defs
public import proofs.«01_k».proof.Proof.Equation
public import Idealize.ShloMosaic.Lib.Pointwise

@[expose] public section

set_option maxRecDepth 16384

noncomputable section

namespace Cert.Attn

open Idealize.ShloMosaic Idealize.ShloMosaic.TcCoe Idealize.SL.Sem

/-- The precondition's side conditions on shapes. -/
theorem pre_facts : Cert.Pre_finite_scores.Facts where
  slices_S16384x1536_S16384x1024_0_0 := by decide
  bitsLt_bf16_f32 := by decide
  bcast_S_S16384x1024 := by decide
  bcast_S_S8x257 := by decide

theorem infinity_word : (FloatOps.ofBits .f32 0x7F800000#32 : Ideal .f32) = (⊤ : EReal) := by
  show Ideal.ofBits .f32 0x7F800000#32 = _
  simp [Ideal.ofBits, Ideal.ieee]

/-- An extended real whose absolute value is below `+∞` is a real number. -/
theorem real_of_test (x : EReal) (h : FloatOps.cmpf (F := Ideal) (φ := .f32) .olt (FloatOps.absf (F := Ideal) (φ := .f32) x) (⊤ : EReal) = 1#1) : ∃ r : ℝ, x = (r : EReal) := by
  induction x using EReal.rec with
  | coe r => exact ⟨r, rfl⟩
  | bot => exact absurd h (by simp [FloatOps.cmpf, FloatOps.absf, Ideal.cmp])
  | top => exact absurd h (by simp [FloatOps.cmpf, FloatOps.absf, Ideal.cmp])

/-- The test of the precondition at an element. -/
theorem first_test [Cert.Pre_finite_scores.Facts] (X : Vec Ideal Cert.KernelIdeal.S16384x1536 .bf16) (B : Vec Ideal Cert.KernelIdeal.S8x257 .f32) (row : Fin 16384) (col : Fin 1024) :
    (Cert.Pre_finite_scores.fn (F := Ideal) X B).1 (ix2 row col)
      = FloatOps.cmpf (F := Ideal) (φ := .f32) .olt (FloatOps.absf (F := Ideal) (φ := .f32) (X (ix2 row ⟨col.val, by omega⟩) : EReal)) (FloatOps.ofBits .f32 0x7F800000#32) := by
  unfold Cert.Pre_finite_scores.fn
  dsimp only
  pointwise []

theorem second_test [Cert.Pre_finite_scores.Facts] (X : Vec Ideal Cert.KernelIdeal.S16384x1536 .bf16) (B : Vec Ideal Cert.KernelIdeal.S8x257 .f32) (h : Fin 8) (o : Fin 257) :
    (Cert.Pre_finite_scores.fn (F := Ideal) X B).2 (ix2 h o)
      = FloatOps.cmpf (F := Ideal) (φ := .f32) .olt (FloatOps.absf (F := Ideal) (φ := .f32) (B (ix2 h o))) (FloatOps.ofBits .f32 0x7F800000#32) := by
  unfold Cert.Pre_finite_scores.fn
  dsimp only
  pointwise []

/-- Under the precondition the queries, the keys and the bias are real numbers. -/
theorem real_of_pre [Cert.Pre_finite_scores.Facts] (X : Vec Ideal Cert.KernelIdeal.S16384x1536 .bf16) (B : Vec Ideal Cert.KernelIdeal.S8x257 .f32)
    (h0 : (Cert.Pre_finite_scores.fn (F := Ideal) X B).1 = fun _ => 1#1) (h1 : (Cert.Pre_finite_scores.fn (F := Ideal) X B).2 = fun _ => 1#1) :
    Real X B := by
  constructor
  · intro row col
    exact real_of_test _ ((infinity_word ▸ first_test X B row col).symm.trans (congrFun h0 (ix2 row col)))
  · intro hd o
    exact real_of_test _ ((infinity_word ▸ second_test X B hd o).symm.trans (congrFun h1 (ix2 hd o)))

end Cert.Attn
-- ==== Proof.ExpertsIdeal.Parts.lean ====
/- The body of the expert kernel cut at its five conditionals, at the operands the launch gives it. -/
module

public import proofs.«01_k».proof.Proof.Gen.Kernel2Ideal.Launch
public import proofs.«01_k».proof.Proof.Gen.Kernel2Ideal.Skeleton

@[expose] public section

noncomputable section

namespace Cert.Kernel2Ideal.Own

open Idealize.ShloMosaic Idealize.SL.Sem Cert.Kernel2Ideal Cert.Kernel2Ideal.Gen

variable {F : FTy → Type} [FloatOps F]

set_option cleanup.letToHave false in set_option maxHeartbeats 40000000 in
/-- Start the copies of the first block's expert. -/
def issueFirst (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) (v1 : BitVec 32) (k : Unit → Prog (TpuEff nD τ sig (Elt F) Λ₀ .tc) PUnit) :
    Prog (TpuEff nD τ sig (Elt F) Λ₀ .tc) PUnit := do
  let arg0 : BitVec 32 := BitVec.ofNat 32 (i 0).val
  if k0_h1 : k0_cond1 i v1 = 1#1 then do
    let v31 : Elt F .i32 ← smemLoad (Memref.whole main_arg1) (Rect.unit (s := S160) ![0] S1.size inb_S160_S1_0) numel1_S1 rfl
    have k0_hw1 : k0_chk1 i v1 v31 := (← Prog.lift (TpuEff.assume (k0_chk1 i v1 v31) (k0_chk1.dec i v1 v31))).down
    let v32 : DmaSems sig S1 := cc0_scratch2.slice (Rect.unit (s := S2) ![0] S1.size inb_S2_S1_0)
    let v33 : DmaSems sig S_ := v32.squeeze S_ squeezes_S1_S_
    let v34 : Memref sig .tc .hbm S1x1024x2048 .f32 := Memref.slice (Memref.whole main_arg5) (Rect.unit (s := S32x1024x2048) (k0_off3 v31) S1x1024x2048.size (k0_off3_inb i v1 v31 k0_hw1 k0_h1)) (fun _ => rfl)
    let v35 : Memref sig .tc .hbm S1024x2048 .f32 := v34.squeeze S1024x2048 squeezes_S1x1024x2048_S1024x2048
    Prog.lift (.enqueueDma v35 (.here (Memref.whole cc0_scratch0)) (.dma v33.sem) ((View.wordExact_bits rfl).reshape _ _) (Memref.isWhole_whole cc0_scratch0).wordExact ⟨Or.inl rfl, trivial⟩)
    let v36 : DmaSems sig S1 := cc0_scratch2.slice (Rect.unit (s := S2) ![1] S1.size inb_S2_S1_1)
    let v37 : DmaSems sig S_ := v36.squeeze S_ squeezes_S1_S_
    let v38 : Memref sig .tc .hbm S1x1024x1024 .f32 := Memref.slice (Memref.whole main_arg7) (Rect.unit (s := S32x1024x1024) (k0_off4 v31) S1x1024x1024.size (k0_off4_inb i v1 v31 k0_hw1 k0_h1)) (fun _ => rfl)
    let v39 : Memref sig .tc .hbm S1024x1024 .f32 := v38.squeeze S1024x1024 squeezes_S1x1024x1024_S1024x1024
    Prog.lift (.enqueueDma v39 (.here (Memref.whole cc0_scratch1)) (.dma v37.sem) ((View.wordExact_bits rfl).reshape _ _) (Memref.isWhole_whole cc0_scratch1).wordExact ⟨Or.inl rfl, trivial⟩)
    k ⟨⟩
  else do
    k ⟨⟩

set_option cleanup.letToHave false in set_option maxHeartbeats 40000000 in
/-- At a change of expert: await its weights, round them to the working format, start the next expert's copies. -/
def prepare (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) (v1 v5 v9 : BitVec 32) (k : Unit → Prog (TpuEff nD τ sig (Elt F) Λ₀ .tc) PUnit) :
    Prog (TpuEff nD τ sig (Elt F) Λ₀ .tc) PUnit := do
  let arg0 : BitVec 32 := BitVec.ofNat 32 (i 0).val
  if k0_h2 : k0_cond2 i v1 v5 v9 = 1#1 then do
    k0_part1 i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) arg0 v1 v5 v9 k0_h2
    k0_part2 i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _)
    k0_part3 i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) arg0
    let v122 : Elt F .i32 ← smemLoad (Memref.whole main_arg4) (Rect.unit (s := S160) (k0_off8 i) S1.size (k0_off8_inb i)) numel1_S1 rfl
    if k0_h3 : k0_cond3 v122 = 1#1 then do
      let v127 : Elt F .i32 ← smemLoad (Memref.whole main_arg4) (Rect.unit (s := S160) (k0_off9 i) S1.size (k0_off9_inb i)) numel1_S1 rfl
      have k0_hw3 : k0_chk3 i v1 v5 v9 v122 v127 := (← Prog.lift (TpuEff.assume (k0_chk3 i v1 v5 v9 v122 v127) (k0_chk3.dec i v1 v5 v9 v122 v127))).down
      let v128 : DmaSems sig S1 := cc0_scratch2.slice (Rect.unit (s := S2) ![0] S1.size inb_S2_S1_0)
      let v129 : DmaSems sig S_ := v128.squeeze S_ squeezes_S1_S_
      let v130 : Memref sig .tc .hbm S1x1024x2048 .f32 := Memref.slice (Memref.whole main_arg5) (Rect.unit (s := S32x1024x2048) (k0_off10 v127) S1x1024x2048.size (k0_off10_inb i v1 v5 v9 v122 v127 k0_hw3 k0_h2 k0_h3)) (fun _ => rfl)
      let v131 : Memref sig .tc .hbm S1024x2048 .f32 := v130.squeeze S1024x2048 squeezes_S1x1024x2048_S1024x2048
      Prog.lift (.enqueueDma v131 (.here (Memref.whole cc0_scratch0)) (.dma v129.sem) ((View.wordExact_bits rfl).reshape _ _) (Memref.isWhole_whole cc0_scratch0).wordExact ⟨Or.inl rfl, trivial⟩)
      let v132 : DmaSems sig S1 := cc0_scratch2.slice (Rect.unit (s := S2) ![1] S1.size inb_S2_S1_1)
      let v133 : DmaSems sig S_ := v132.squeeze S_ squeezes_S1_S_
      let v134 : Memref sig .tc .hbm S1x1024x1024 .f32 := Memref.slice (Memref.whole main_arg7) (Rect.unit (s := S32x1024x1024) (k0_off11 v127) S1x1024x1024.size (k0_off11_inb i v1 v5 v9 v122 v127 k0_hw3 k0_h2 k0_h3)) (fun _ => rfl)
      let v135 : Memref sig .tc .hbm S1024x1024 .f32 := v134.squeeze S1024x1024 squeezes_S1x1024x1024_S1024x1024
      Prog.lift (.enqueueDma v135 (.here (Memref.whole cc0_scratch1)) (.dma v133.sem) ((View.wordExact_bits rfl).reshape _ _) (Memref.isWhole_whole cc0_scratch1).wordExact ⟨Or.inl rfl, trivial⟩)
      k ⟨⟩
    else do
      k ⟨⟩
  else do
    k ⟨⟩

set_option cleanup.letToHave false in set_option maxHeartbeats 40000000 in
/-- More than half the block in use: all its rows. -/
def fullBlock (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) (v1 : BitVec 32) (k : Unit → Prog (TpuEff nD τ sig (Elt F) Λ₀ .tc) PUnit) :
    Prog (TpuEff nD τ sig (Elt F) Λ₀ .tc) PUnit := do
  let arg0 : BitVec 32 := BitVec.ofNat 32 (i 0).val
  if k0_h4 : k0_cond4 v1 = 1#1 then do
    let ⟨v32, v60, v62⟩ : Σ' (v32 : FVec F S512x1024 .bf16) (v60 : FVec F S512x1024 .f32), FVec F S512x512 .f32 ← k0_part4 i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _)
    let v63 : Vec F S1x1x512 .f32 ← Prog.lift (.load arg7 (Rect.unit (s := S1x1x2048) ![0, 0, 512] S1x1x512.size inb_S1x1x2048_S1x1x512_0_0_512).toLoadRect (View.loadsAt_vmem h_S1x1x512))
    let v67 : Vec F S1024x512 .bf16 ← Prog.lift (.load (Memref.whole cc0_scratch3) (Rect.unit (s := S1024x2048) ![0, 1536] S1024x512.size inb_S1024x2048_S1024x512_0_1536).toLoadRect (View.loadsAt_vmem h_S1024x512))
    let v69 : Vec F S1x1x512 .f32 ← Prog.lift (.load arg7 (Rect.unit (s := S1x1x2048) ![0, 0, 1536] S1x1x512.size inb_S1x1x2048_S1x1x512_0_0_1536).toLoadRect (View.loadsAt_vmem h_S1x1x512))
    let v87 : Vec F S512x1024 .bf16 ← Prog.lift (.load (Memref.whole cc0_scratch4) (Rect.unit (s := S1024x1024) ![512, 0] S512x1024.size inb_S1024x1024_S512x1024_512_0).toLoadRect (View.loadsAt_vmem h_S512x1024))
    let v90 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v94 : Vec F S512x1024 .f32 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k0_pay1 v32 v60 v62 v63 v67 v69 v87 v90) Finset.univ (View.stores_vmem_bits_univ h_S512x1024 rfl) (.inl rfl))
    k ⟨⟩
  else do
    k ⟨⟩

set_option cleanup.letToHave false in set_option maxHeartbeats 40000000 in
/-- At most half the block in use: its first half, and zeros. -/
def halfBlock (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) (v1 : BitVec 32) (k : Unit → Prog (TpuEff nD τ sig (Elt F) Λ₀ .tc) PUnit) :
    Prog (TpuEff nD τ sig (Elt F) Λ₀ .tc) PUnit := do
  let arg0 : BitVec 32 := BitVec.ofNat 32 (i 0).val
  if k0_h5 : k0_cond5 v1 = 1#1 then do
    let ⟨v32, v60, v62⟩ : Σ' (v32 : FVec F S256x1024 .bf16) (v60 : FVec F S256x1024 .f32), FVec F S256x512 .f32 ← k0_part5 i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _)
    let v63 : Vec F S1x1x512 .f32 ← Prog.lift (.load arg7 (Rect.unit (s := S1x1x2048) ![0, 0, 512] S1x1x512.size inb_S1x1x2048_S1x1x512_0_0_512).toLoadRect (View.loadsAt_vmem h_S1x1x512))
    let v67 : Vec F S1024x512 .bf16 ← Prog.lift (.load (Memref.whole cc0_scratch3) (Rect.unit (s := S1024x2048) ![0, 1536] S1024x512.size inb_S1024x2048_S1024x512_0_1536).toLoadRect (View.loadsAt_vmem h_S1024x512))
    let v69 : Vec F S1x1x512 .f32 ← Prog.lift (.load arg7 (Rect.unit (s := S1x1x2048) ![0, 0, 1536] S1x1x512.size inb_S1x1x2048_S1x1x512_0_0_1536).toLoadRect (View.loadsAt_vmem h_S1x1x512))
    let v87 : Vec F S512x1024 .bf16 ← Prog.lift (.load (Memref.whole cc0_scratch4) (Rect.unit (s := S1024x1024) ![512, 0] S512x1024.size inb_S1024x1024_S512x1024_512_0).toLoadRect (View.loadsAt_vmem h_S512x1024))
    let v90 : Vec F S1x1x1024 .f32 ← Prog.lift (.load arg9 (Rect.unit (s := S1x1x1024) ![0, 0, 0] S1x1x1024.size inb_S1x1x1024_S1x1x1024_0_0_0).toLoadRect (View.loadsAt_vmem h_S1x1x1024))
    let v94 : Vec F S256x1024 .f32 ← Prog.lift (.load arg10 (Rect.unit (s := S512x1024) ![0, 0] S256x1024.size inb_S512x1024_S256x1024_0_0).toLoadRect (View.loadsAt_vmem h_S256x1024))
    Prog.lift (.store arg10 (Rect.unit (s := S512x1024) ![0, 0] S256x1024.size inb_S512x1024_S256x1024_0_0) (k0_pay2 v32 v60 v62 v63 v67 v69 v87 v90) Finset.univ (View.stores_vmem_bits_univ h_S256x1024 rfl) (.inl rfl))
    let v96 : Vec F S256x1024 .f32 ← Prog.lift (.load arg10 (Rect.unit (s := S512x1024) ![256, 0] S256x1024.size inb_S512x1024_S256x1024_256_0).toLoadRect (View.loadsAt_vmem h_S256x1024))
    Prog.lift (.store arg10 (Rect.unit (s := S512x1024) ![256, 0] S256x1024.size inb_S512x1024_S256x1024_256_0) (k0_pay3 (F := F)) Finset.univ (View.stores_vmem_bits_univ h_S256x1024 rfl) (.inl rfl))
    k ⟨⟩
  else do
    k ⟨⟩

set_option cleanup.letToHave false in set_option maxHeartbeats 40000000 in
/-- An unused block: zeros. -/
def clearBlock (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) (v1 : BitVec 32) (k : Unit → Prog (TpuEff nD τ sig (Elt F) Λ₀ .tc) PUnit) :
    Prog (TpuEff nD τ sig (Elt F) Λ₀ .tc) PUnit := do
  let arg0 : BitVec 32 := BitVec.ofNat 32 (i 0).val
  if k0_h6 : k0_cond6 v1 = 1#1 then do
    let v32 : Vec F S512x1024 .f32 ← Prog.lift (.load arg10 (Rect.unit (s := S512x1024) ![0, 0] S512x1024.size inb_S512x1024_S512x1024_0_0).toLoadRect (View.loadsAt_vmem h_S512x1024))
    Prog.lift (.store arg10 (Rect.unit (s := S512x1024) ![0, 0] S512x1024.size inb_S512x1024_S512x1024_0_0) (k0_pay4 (F := F)) Finset.univ (View.stores_vmem_bits_univ h_S512x1024 rfl) (.inl rfl))
    k ⟨⟩
  else do
    k ⟨⟩

/-- The body as the five pieces in order, after the reads of the tables it branches on. -/
def pieces (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) :
    Prog (TpuEff nD τ sig (Elt F) Λ₀ .tc) PUnit := do
  let v1 : Elt F .i32 ← smemLoad (Memref.whole main_arg3) (Rect.unit (s := S160) (k0_off1 i) S1.size (k0_off1_inb i)) numel1_S1 rfl
  let v5 : Elt F .i32 ← smemLoad (Memref.whole main_arg1) (Rect.unit (s := S160) (k0_off2 i) S1.size (k0_off2_inb i)) numel1_S1 rfl
  let v9 : Elt F .i32 ← smemLoad (Memref.whole main_arg1) (Rect.unit (s := S160) (k0_off1 i) S1.size (k0_off1_inb i)) numel1_S1 rfl
  issueFirst i arg5 harg5 arg7 harg7 arg9 harg9 arg10 harg10 v1 <| fun _ => prepare i arg5 harg5 arg7 harg7 arg9 harg9 arg10 harg10 v1 v5 v9 <| fun _ => fullBlock i arg5 harg5 arg7 harg7 arg9 harg9 arg10 harg10 v1 <| fun _ => halfBlock i arg5 harg5 arg7 harg7 arg9 harg9 arg10 harg10 v1 <| fun _ => clearBlock i arg5 harg5 arg7 harg7 arg9 harg9 arg10 harg10 v1 <| fun _ => pure ⟨⟩

set_option maxRecDepth 65536 in
theorem pieces_eq (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole) :
    cc0_experts (F := F) i (Memref.whole main_arg1) (Memref.isWhole_whole _) (Memref.whole main_arg2) (Memref.isWhole_whole _) (Memref.whole main_arg3) (Memref.isWhole_whole _) (Memref.whole main_arg4) (Memref.isWhole_whole _) arg5 harg5 (Memref.whole main_arg5) (Memref.isWhole_whole _) arg7 harg7 (Memref.whole main_arg7) (Memref.isWhole_whole _) arg9 harg9 arg10 harg10 (Memref.whole cc0_scratch0) (Memref.isWhole_whole _) (Memref.whole cc0_scratch1) (Memref.isWhole_whole _) cc0_scratch2 (Memref.whole cc0_scratch3) (Memref.isWhole_whole _) (Memref.whole cc0_scratch4) (Memref.isWhole_whole _) = pieces i arg5 harg5 arg7 harg7 arg9 harg9 arg10 harg10 := by
  rw [cc0_experts_eq_skeleton]; rfl

end Cert.Kernel2Ideal.Own

end
-- ==== Proof.ExpertsIdeal.Setup.lean ====
/- The expert kernel's launch: its tables, its blocks, its scratch and its own semaphores, and the frame read off a run. -/
module

public import proofs.«01_k».proof.Proof.ExpertsIdeal.Parts
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- Core `c`'s buffers when the launch begins. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

/-- The four tables' contents: each block's expert, the number of blocks in use, each block's rows in use, the expert to fetch next. -/
def tbl : pre0.Contents (Elt F) := fun j => V m (0 : Dev nD) (pre0.ref j)
theorem V_pre (c : Dev nD) (j : Fin 4) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM1 : Memref sig .tc .smem S160 .i32 := Memref.whole main_arg1
abbrev tbM2 : Memref sig .tc .smem S1 .i32 := Memref.whole main_arg2
abbrev tbM3 : Memref sig .tc .smem S160 .i32 := Memref.whole main_arg3
abbrev tbM4 : Memref sig .tc .smem S160 .i32 := Memref.whole main_arg4

/-- A table's contents, and the table held for reading. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tbM1 (tbl m 0) ∗ tbPt c tbM2 (tbl m 1) ∗ tbPt c tbM3 (tbl m 2) ∗ tbPt c tbM4 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- A window's block at a point. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before2_of (hO : Ok m) {c : Dev nD} (dat : Dat τ (Elt F) Unit ℕ (Pipeline.UD sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The frame from a run to the pipeline's post. -/
theorem frame_of (hO : Ok m) (dats : (p : Fin 1) → (c : Dev nD) → Dat τ (Elt F) Unit ℕ (Pipeline.UD sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans (hA c 0)),
      (h c).2 main_arg1 (by decide : main_arg1 ∈ Pipeline.restRefs sig spec0),
      (h c).2 main_arg2 (by decide : main_arg2 ∈ Pipeline.restRefs sig spec0),
      (h c).2 main_arg3 (by decide : main_arg3 ∈ Pipeline.restRefs sig spec0),
      (h c).2 main_arg4 (by decide : main_arg4 ∈ Pipeline.restRefs sig spec0),
      (h c).2 main_arg5 (by decide : main_arg5 ∈ Pipeline.restRefs sig spec0),
      ((h c).1 1).trans (((dats 0 c).arrAt_in 1 rfl _).trans (hA c 1)),
      (h c).2 main_arg7 (by decide : main_arg7 ∈ Pipeline.restRefs sig spec0),
      ((h c).1 2).trans (((dats 0 c).arrAt_in 2 rfl _).trans (hA c 2))⟩) h

abbrev ms0 (hO : Ok m) (t : Fin (cfgM m hO).N) : Memref sig .tc .vmem S512x1024 .f32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1024 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S512x1024 .f32 := spec0_3.stage ((cfgM m hO).slots t 3)
abbrev hs3 (hO : Ok m) (t : Fin (cfgM m hO).N) : (ms3 m hO t).IsWhole := hstage0_3 (((cfgM m hO).slots t 3).cast nbuf0_3)

/-- The scratch: the two staged weights and the two rounded ones. -/
abbrev scU : Memref sig .tc .vmem S1024x2048 .f32 := Memref.whole cc0_scratch0
abbrev scD : Memref sig .tc .vmem S1024x1024 .f32 := Memref.whole cc0_scratch1
abbrev scU16 : Memref sig .tc .vmem S1024x2048 .bf16 := Memref.whole cc0_scratch3
abbrev scD16 : Memref sig .tc .vmem S1024x1024 .bf16 := Memref.whole cc0_scratch4
/-- The experts' weights, left where they are. -/
abbrev hbU : Memref sig .tc .hbm S32x1024x2048 .f32 := Memref.whole main_arg5
abbrev hbD : Memref sig .tc .hbm S32x1024x1024 .f32 := Memref.whole main_arg7
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- The two semaphores the body's copies complete on. -/
abbrev osem : Fin 2 → SemLoc sig := fun j => (![SemLoc.dma 8, SemLoc.dma 9] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0) := by
  rw [Pipeline.ownSems0_eq_of_list c osem [0, 1] (by decide) (by decide)]; rfl
def H0 : Finset (Ref sig .tc) := {main_arg5, main_arg7}
theorem H0_sub : H0 ⊆ Pipeline.restRefsP sig pre0 spec0 := by decide
theorem hbmPts_eq (c : Dev nD) :
    (bigSep H0 (fun b => ((c : Thread nD τ).loc b) ↦{fullShare} V m c b) : sProp 𝕄) = iprop(hbPt c hbU (V m c main_arg5) ∗ hbPt c hbD (V m c main_arg7)) := by
  rw [BI.bigSep_eq_bigSepL_of_eq [main_arg5, main_arg7] (by decide) (by decide)]; rfl

/-- The launch's own resources, one by one. -/
theorem PhiD_eq (c : Dev nD) :
    (Pipeline.ΦD osem spec0 H0 (V m) c : sProp 𝕄)
      = iprop(iprop((∃ d, owns (c : Thread nD τ) scU fullShare d) ∗ (∃ d, owns (c : Thread nD τ) scD fullShare d)
          ∗ (∃ d, owns (c : Thread nD τ) scU16 fullShare d) ∗ (∃ d, owns (c : Thread nD τ) scD16 fullShare d)) ∗ (∃ r, prngReg c r)
        ∗ iprop(semVal ((c : Thread nD τ), SemLoc.dma 8) 0 ∗ semVal ((c : Thread nD τ), SemLoc.dma 9) 0)
        ∗ iprop(hbPt c hbU (V m c main_arg5) ∗ hbPt c hbD (V m c main_arg7))) := by
  rw [Pipeline.ΦD_eq, scopedRest0_eq, ownSems_eq, hbmPts_eq]; simp only [scU, scD, scU16, scD16, owns_whole]; try rfl

end Cert.Kernel2Ideal.Own

end
-- ==== Proof.ExpertsIdeal.Issue.lean ====
/- Starting the copies of an expert's weights. -/
module

public import proofs.«01_k».proof.Proof.ExpertsIdeal.Setup

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

theorem offU_inb {v : BitVec 32} (h : v.toNat < 32) (a : Fin 3) : (![v.toNat, 0, 0] : Fin 3 → ℕ) a + S1x1024x2048.size a ≤ S32x1024x2048.size a := by
  match a with
  | 0 => exact h
  | 1 => exact Nat.le_refl _
  | 2 => exact Nat.le_refl _
theorem offD_inb {v : BitVec 32} (h : v.toNat < 32) (a : Fin 3) : (![v.toNat, 0, 0] : Fin 3 → ℕ) a + S1x1024x1024.size a ≤ S32x1024x1024.size a := by
  match a with
  | 0 => exact h
  | 1 => exact Nat.le_refl _
  | 2 => exact Nat.le_refl _

/-- One expert's weights inside the array of all. -/
abbrev srcU (v : BitVec 32) (h : v.toNat < 32) : Memref sig .tc .hbm S1024x2048 .f32 :=
  (Memref.slice hbU (Rect.unit (s := S32x1024x2048) ![v.toNat, 0, 0] S1x1024x2048.size (offU_inb h)) (fun _ => rfl)).squeeze S1024x2048 squeezes_S1x1024x2048_S1024x2048
abbrev srcD (v : BitVec 32) (h : v.toNat < 32) : Memref sig .tc .hbm S1024x1024 .f32 :=
  (Memref.slice hbD (Rect.unit (s := S32x1024x1024) ![v.toNat, 0, 0] S1x1024x1024.size (offD_inb h)) (fun _ => rfl)).squeeze S1024x1024 squeezes_S1x1024x1024_S1024x1024

/-- The bytes of one expert's weights. -/
def wtU {c : Dev nD} (fU : HbBuf (F := F) c hbU) (v : BitVec 32) (h : v.toNat < 32) : Vec F S1024x2048 .f32 := (srcU v h).view.read (Elt F) fU
def wtD {c : Dev nD} (fD : HbBuf (F := F) c hbD) (v : BitVec 32) (h : v.toNat < 32) : Vec F S1024x1024 .f32 := (srcD v h).view.read (Elt F) fD

/-- A copy of one expert's weights under way into its stage, and what of the array of all it leaves held. -/
abbrev flU (c : Dev nD) (fU : HbBuf (F := F) c hbU) (v : BitVec 32) (h : v.toNat < 32) (f : HbBuf (F := F) c scU) : sProp 𝕄 :=
  Transfers.Flight (countersEmb (U := Pipeline.UD sig nD τ)) (c : Thread nD τ) (.dma 8) () 262144
    iprop((scU.view.loc (c : Thread nD τ) ↦[scU.view.set]{fullShare} scU.view.writes (Elt F) f [⟨Rect.whole S1024x2048, wtU fU v h⟩])
      ∗ (hbU.view.loc (c : Thread nD τ) ↦[(srcU v h).view.set]{fullShare} fU))
abbrev flD (c : Dev nD) (fD : HbBuf (F := F) c hbD) (v : BitVec 32) (h : v.toNat < 32) (f : HbBuf (F := F) c scD) : sProp 𝕄 :=
  Transfers.Flight (countersEmb (U := Pipeline.UD sig nD τ)) (c : Thread nD τ) (.dma 9) () 131072
    iprop((scD.view.loc (c : Thread nD τ) ↦[scD.view.set]{fullShare} scD.view.writes (Elt F) f [⟨Rect.whole S1024x1024, wtD fD v h⟩])
      ∗ (hbD.view.loc (c : Thread nD τ) ↦[(srcD v h).view.set]{fullShare} fD))
abbrev restU (c : Dev nD) (fU : HbBuf (F := F) c hbU) (v : BitVec 32) (h : v.toNat < 32) : sProp 𝕄 :=
  hbU.view.loc (c : Thread nD τ) ↦[Finset.univ \ (srcU v h).view.set]{fullShare} fU
abbrev restD (c : Dev nD) (fD : HbBuf (F := F) c hbD) (v : BitVec 32) (h : v.toNat < 32) : sProp 𝕄 :=
  hbD.view.loc (c : Thread nD τ) ↦[Finset.univ \ (srcD v h).view.set]{fullShare} fD

/-- Both copies of expert `v`'s weights under way. -/
def busy (c : Dev nD) (fU : HbBuf (F := F) c hbU) (fD : HbBuf (F := F) c hbD) (v : BitVec 32) (h : v.toNat < 32) : sProp 𝕄 :=
  iprop((∃ f, flU c fU v h f) ∗ restU c fU v h ∗ (∃ f, flD c fD v h f) ∗ restD c fD v h)
/-- No copy under way. -/
def idleW (c : Dev nD) (fU : HbBuf (F := F) c hbU) (fD : HbBuf (F := F) c hbD) : sProp 𝕄 :=
  iprop((∃ d, owns (c : Thread nD τ) scU fullShare d) ∗ (∃ d, owns (c : Thread nD τ) scD fullShare d)
      ∗ semVal ((c : Thread nD τ), SemLoc.dma 8) 0 ∗ semVal ((c : Thread nD τ), SemLoc.dma 9) 0 ∗ hbPt c hbU fU ∗ hbPt c hbD fD)

section
variable (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole)

set_option maxHeartbeats 1000000 in
theorem issue_run (c : Dev nD) (v1 : BitVec 32) (k : Unit → Prog (TpuEff nD τ sig (Elt F) Λ₀ .tc) PUnit) (xt : TbBuf (F := F) c tbM1) (fU : HbBuf (F := F) c hbU) (fD : HbBuf (F := F) c hbD)
    (h : k0_cond1 i v1 = 1#1) (x : BitVec 32) (hr : View.readAt (Elt F) tbM1.view (Rect.unit (s := S160) ![0] S1.size inb_S160_S1_0).toLoadRect xt (Shape.Idx.first (by decide)) = x)
    (hx : x.toNat < 32) (Q : PUnit → sProp 𝕄) :
    iprop(tbPt c tbM1 xt ∗ idleW c fU fD
      ∗ (iprop(tbPt c tbM1 xt ∗ busy c fU fD x hx) -∗ wp frame (wpE (defs₀ (F := F)) Variants.none c none) Set.univ (k ⟨⟩) Q))
    ⊢ wp frame (wpE (defs₀ (F := F)) Variants.none c none) Set.univ (issueFirst i arg5 harg5 arg7 harg7 arg9 harg9 arg10 harg10 v1 k) Q := by
  subst hr
  have hc : k0_chk1 i v1 (View.readAt (Elt F) tbM1.view (Rect.unit (s := S160) ![0] S1.size inb_S160_S1_0).toLoadRect xt (Shape.Idx.first (by decide))) := ⟨fun _ => offU_inb hx, fun _ => offD_inb hx⟩
  unfold issueFirst idleW busy
  unfold owns
  iintro ⟨HT, ⟨⟨%d0, %f0, -, HU⟩, ⟨%d1, %f1, -, HD⟩, Hq0, Hq1, HhU, HhD⟩, Hk⟩
  sl_exec (disch := exact hc)
  iapply Hk
  isplitl [HT]; · iexact HT
  isplitl [Hq0]; · iexists _; iexact Hq0
  isplitl [HhU]; · iexact HhU
  isplitl [Hq1]; · iexists _; iexact Hq1
  iexact HhD

theorem issue_skip (c : Dev nD) (v1 : BitVec 32) (k : Unit → Prog (TpuEff nD τ sig (Elt F) Λ₀ .tc) PUnit) (h : ¬ k0_cond1 i v1 = 1#1) (Q : PUnit → sProp 𝕄) :
    wp frame (wpE (defs₀ (F := F)) Variants.none c none) Set.univ (k ⟨⟩) Q
    ⊢ wp frame (wpE (defs₀ (F := F)) Variants.none c none) Set.univ (issueFirst i arg5 harg5 arg7 harg7 arg9 harg9 arg10 harg10 v1 k) Q := by
  unfold issueFirst
  rw [dif_neg h]
end
end Cert.Kernel2Ideal.Own

end
-- ==== Proof.ExpertsIdeal.Round.lean ====
/- The rounding of a staged weight: what its eight stripes leave is the whole weight rounded. -/
module

public import proofs.«01_k».proof.Proof.ExpertsIdeal.Issue
public import Idealize.ShloMosaic.Lib.Pipeline.Value
public import Idealize.ShloMosaic.Lib.Pointwise

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The working format's copy of an array. -/
def rnd {S : Shape} (y : FVec F S .f32) : FVec F S .bf16 := truncf .bf16 y bitsLt_bf16_f32

theorem readCov_whole {S : Shape} {κ : Kind} {sp : Space} {e : EltTy} (v : View sig κ sp S e) (y : S.Idx → Elt F e) (r : Rect S) (j : r.shape.Idx) :
    v.readCov [⟨Rect.whole S, y⟩] r.toLoadRect j = y (r.emb j) := by
  rw [View.readCov_eq_canon']
  have h := View.canon_cons_emb (Val := Elt F) (Rect.whole S) y [] (r.emb j)
  rwa [Rect.emb_whole_apply] at h

theorem rnd_cast {S : Shape} (v : FVec F S .f32) (h : S.ShapeCasts S) : shapeCast S (truncf .bf16 v bitsLt_bf16_f32) h = rnd v := shapeCast_id _ h

theorem pay5_eq (v : Vec F S128x2048 .f32) : k0_pay5 v = rnd v := rnd_cast v _
theorem pay6_eq (v : Vec F S128x2048 .f32) : k0_pay6 v = rnd v := rnd_cast v _
theorem pay7_eq (v : Vec F S128x2048 .f32) : k0_pay7 v = rnd v := rnd_cast v _
theorem pay8_eq (v : Vec F S128x2048 .f32) : k0_pay8 v = rnd v := rnd_cast v _
theorem pay9_eq (v : Vec F S128x2048 .f32) : k0_pay9 v = rnd v := rnd_cast v _
theorem pay10_eq (v : Vec F S128x2048 .f32) : k0_pay10 v = rnd v := rnd_cast v _
theorem pay11_eq (v : Vec F S128x2048 .f32) : k0_pay11 v = rnd v := rnd_cast v _
theorem pay12_eq (v : Vec F S128x2048 .f32) : k0_pay12 v = rnd v := rnd_cast v _
theorem pay13_eq (v : Vec F S128x1024 .f32) : k0_pay13 v = rnd v := rnd_cast v _
theorem pay14_eq (v : Vec F S128x1024 .f32) : k0_pay14 v = rnd v := rnd_cast v _
theorem pay15_eq (v : Vec F S128x1024 .f32) : k0_pay15 v = rnd v := rnd_cast v _
theorem pay16_eq (v : Vec F S128x1024 .f32) : k0_pay16 v = rnd v := rnd_cast v _
theorem pay17_eq (v : Vec F S128x1024 .f32) : k0_pay17 v = rnd v := rnd_cast v _
theorem pay18_eq (v : Vec F S128x1024 .f32) : k0_pay18 v = rnd v := rnd_cast v _
theorem pay19_eq (v : Vec F S128x1024 .f32) : k0_pay19 v = rnd v := rnd_cast v _
theorem pay20_eq (v : Vec F S128x1024 .f32) : k0_pay20 v = rnd v := rnd_cast v _

/-- The stripes of a rounded weight, last first. -/
def piecesU (y : Vec F S1024x2048 .f32) : List (View.Piece (Elt F) S1024x2048 .bf16) :=
    [⟨Rect.unit (s := S1024x2048) ![896, 0] S128x2048.size inb_S1024x2048_S128x2048_896_0, k0_pay12 (scU.view.readCov [⟨Rect.whole S1024x2048, y⟩] (Rect.unit (s := S1024x2048) ![896, 0] S128x2048.size inb_S1024x2048_S128x2048_896_0).toLoadRect)⟩,
      ⟨Rect.unit (s := S1024x2048) ![768, 0] S128x2048.size inb_S1024x2048_S128x2048_768_0, k0_pay11 (scU.view.readCov [⟨Rect.whole S1024x2048, y⟩] (Rect.unit (s := S1024x2048) ![768, 0] S128x2048.size inb_S1024x2048_S128x2048_768_0).toLoadRect)⟩,
      ⟨Rect.unit (s := S1024x2048) ![640, 0] S128x2048.size inb_S1024x2048_S128x2048_640_0, k0_pay10 (scU.view.readCov [⟨Rect.whole S1024x2048, y⟩] (Rect.unit (s := S1024x2048) ![640, 0] S128x2048.size inb_S1024x2048_S128x2048_640_0).toLoadRect)⟩,
      ⟨Rect.unit (s := S1024x2048) ![512, 0] S128x2048.size inb_S1024x2048_S128x2048_512_0, k0_pay9 (scU.view.readCov [⟨Rect.whole S1024x2048, y⟩] (Rect.unit (s := S1024x2048) ![512, 0] S128x2048.size inb_S1024x2048_S128x2048_512_0).toLoadRect)⟩,
      ⟨Rect.unit (s := S1024x2048) ![384, 0] S128x2048.size inb_S1024x2048_S128x2048_384_0, k0_pay8 (scU.view.readCov [⟨Rect.whole S1024x2048, y⟩] (Rect.unit (s := S1024x2048) ![384, 0] S128x2048.size inb_S1024x2048_S128x2048_384_0).toLoadRect)⟩,
      ⟨Rect.unit (s := S1024x2048) ![256, 0] S128x2048.size inb_S1024x2048_S128x2048_256_0, k0_pay7 (scU.view.readCov [⟨Rect.whole S1024x2048, y⟩] (Rect.unit (s := S1024x2048) ![256, 0] S128x2048.size inb_S1024x2048_S128x2048_256_0).toLoadRect)⟩,
      ⟨Rect.unit (s := S1024x2048) ![128, 0] S128x2048.size inb_S1024x2048_S128x2048_128_0, k0_pay6 (scU.view.readCov [⟨Rect.whole S1024x2048, y⟩] (Rect.unit (s := S1024x2048) ![128, 0] S128x2048.size inb_S1024x2048_S128x2048_128_0).toLoadRect)⟩,
      ⟨Rect.unit (s := S1024x2048) ![0, 0] S128x2048.size inb_S1024x2048_S128x2048_0_0, k0_pay5 (scU.view.readCov [⟨Rect.whole S1024x2048, y⟩] (Rect.unit (s := S1024x2048) ![0, 0] S128x2048.size inb_S1024x2048_S128x2048_0_0).toLoadRect)⟩]

theorem coverU (y : Vec F S1024x2048 .f32) : ∀ q, ∃ p ∈ piecesU y, q ∈ p.1.set :=
  View.cover_of_tiledL _ (![128, 2048] : Fin S1024x2048.rank → ℕ) (by sl_kernel_rfl)

theorem roundU (v : View sig .tc .vmem S1024x2048 .bf16) (f : v.ty.Contents (Elt F)) (y : Vec F S1024x2048 .f32) : v.read (Elt F) (v.writes (Elt F) f (piecesU y)) = rnd y := by
  funext q
  refine View.read_writes_apply_of_pieces (Val := Elt F) v f (rnd y) (piecesU y) ?_ q (coverU y q)
  intro p hp
  simp only [piecesU, List.mem_cons, List.not_mem_nil, or_false] at hp
  rcases hp with rfl | rfl | rfl | rfl | rfl | rfl | rfl | rfl <;> intro j <;> dsimp only
  · rw [pay12_eq]; exact congrArg (FloatOps.truncf .bf16 bitsLt_bf16_f32) (readCov_whole (F := F) scU.view y _ j)
  · rw [pay11_eq]; exact congrArg (FloatOps.truncf .bf16 bitsLt_bf16_f32) (readCov_whole (F := F) scU.view y _ j)
  · rw [pay10_eq]; exact congrArg (FloatOps.truncf .bf16 bitsLt_bf16_f32) (readCov_whole (F := F) scU.view y _ j)
  · rw [pay9_eq]; exact congrArg (FloatOps.truncf .bf16 bitsLt_bf16_f32) (readCov_whole (F := F) scU.view y _ j)
  · rw [pay8_eq]; exact congrArg (FloatOps.truncf .bf16 bitsLt_bf16_f32) (readCov_whole (F := F) scU.view y _ j)
  · rw [pay7_eq]; exact congrArg (FloatOps.truncf .bf16 bitsLt_bf16_f32) (readCov_whole (F := F) scU.view y _ j)
  · rw [pay6_eq]; exact congrArg (FloatOps.truncf .bf16 bitsLt_bf16_f32) (readCov_whole (F := F) scU.view y _ j)
  · rw [pay5_eq]; exact congrArg (FloatOps.truncf .bf16 bitsLt_bf16_f32) (readCov_whole (F := F) scU.view y _ j)

/-- The stripes of a rounded weight, last first. -/
def piecesD (y : Vec F S1024x1024 .f32) : List (View.Piece (Elt F) S1024x1024 .bf16) :=
    [⟨Rect.unit (s := S1024x1024) ![896, 0] S128x1024.size inb_S1024x1024_S128x1024_896_0, k0_pay20 (scD.view.readCov [⟨Rect.whole S1024x1024, y⟩] (Rect.unit (s := S1024x1024) ![896, 0] S128x1024.size inb_S1024x1024_S128x1024_896_0).toLoadRect)⟩,
      ⟨Rect.unit (s := S1024x1024) ![768, 0] S128x1024.size inb_S1024x1024_S128x1024_768_0, k0_pay19 (scD.view.readCov [⟨Rect.whole S1024x1024, y⟩] (Rect.unit (s := S1024x1024) ![768, 0] S128x1024.size inb_S1024x1024_S128x1024_768_0).toLoadRect)⟩,
      ⟨Rect.unit (s := S1024x1024) ![640, 0] S128x1024.size inb_S1024x1024_S128x1024_640_0, k0_pay18 (scD.view.readCov [⟨Rect.whole S1024x1024, y⟩] (Rect.unit (s := S1024x1024) ![640, 0] S128x1024.size inb_S1024x1024_S128x1024_640_0).toLoadRect)⟩,
      ⟨Rect.unit (s := S1024x1024) ![512, 0] S128x1024.size inb_S1024x1024_S128x1024_512_0, k0_pay17 (scD.view.readCov [⟨Rect.whole S1024x1024, y⟩] (Rect.unit (s := S1024x1024) ![512, 0] S128x1024.size inb_S1024x1024_S128x1024_512_0).toLoadRect)⟩,
      ⟨Rect.unit (s := S1024x1024) ![384, 0] S128x1024.size inb_S1024x1024_S128x1024_384_0, k0_pay16 (scD.view.readCov [⟨Rect.whole S1024x1024, y⟩] (Rect.unit (s := S1024x1024) ![384, 0] S128x1024.size inb_S1024x1024_S128x1024_384_0).toLoadRect)⟩,
      ⟨Rect.unit (s := S1024x1024) ![256, 0] S128x1024.size inb_S1024x1024_S128x1024_256_0, k0_pay15 (scD.view.readCov [⟨Rect.whole S1024x1024, y⟩] (Rect.unit (s := S1024x1024) ![256, 0] S128x1024.size inb_S1024x1024_S128x1024_256_0).toLoadRect)⟩,
      ⟨Rect.unit (s := S1024x1024) ![128, 0] S128x1024.size inb_S1024x1024_S128x1024_128_0, k0_pay14 (scD.view.readCov [⟨Rect.whole S1024x1024, y⟩] (Rect.unit (s := S1024x1024) ![128, 0] S128x1024.size inb_S1024x1024_S128x1024_128_0).toLoadRect)⟩,
      ⟨Rect.unit (s := S1024x1024) ![0, 0] S128x1024.size inb_S1024x1024_S128x1024_0_0, k0_pay13 (scD.view.readCov [⟨Rect.whole S1024x1024, y⟩] (Rect.unit (s := S1024x1024) ![0, 0] S128x1024.size inb_S1024x1024_S128x1024_0_0).toLoadRect)⟩]

theorem coverD (y : Vec F S1024x1024 .f32) : ∀ q, ∃ p ∈ piecesD y, q ∈ p.1.set :=
  View.cover_of_tiledL _ (![128, 1024] : Fin S1024x1024.rank → ℕ) (by sl_kernel_rfl)

theorem roundD (v : View sig .tc .vmem S1024x1024 .bf16) (f : v.ty.Contents (Elt F)) (y : Vec F S1024x1024 .f32) : v.read (Elt F) (v.writes (Elt F) f (piecesD y)) = rnd y := by
  funext q
  refine View.read_writes_apply_of_pieces (Val := Elt F) v f (rnd y) (piecesD y) ?_ q (coverD y q)
  intro p hp
  simp only [piecesD, List.mem_cons, List.not_mem_nil, or_false] at hp
  rcases hp with rfl | rfl | rfl | rfl | rfl | rfl | rfl | rfl <;> intro j <;> dsimp only
  · rw [pay20_eq]; exact congrArg (FloatOps.truncf .bf16 bitsLt_bf16_f32) (readCov_whole (F := F) scD.view y _ j)
  · rw [pay19_eq]; exact congrArg (FloatOps.truncf .bf16 bitsLt_bf16_f32) (readCov_whole (F := F) scD.view y _ j)
  · rw [pay18_eq]; exact congrArg (FloatOps.truncf .bf16 bitsLt_bf16_f32) (readCov_whole (F := F) scD.view y _ j)
  · rw [pay17_eq]; exact congrArg (FloatOps.truncf .bf16 bitsLt_bf16_f32) (readCov_whole (F := F) scD.view y _ j)
  · rw [pay16_eq]; exact congrArg (FloatOps.truncf .bf16 bitsLt_bf16_f32) (readCov_whole (F := F) scD.view y _ j)
  · rw [pay15_eq]; exact congrArg (FloatOps.truncf .bf16 bitsLt_bf16_f32) (readCov_whole (F := F) scD.view y _ j)
  · rw [pay14_eq]; exact congrArg (FloatOps.truncf .bf16 bitsLt_bf16_f32) (readCov_whole (F := F) scD.view y _ j)
  · rw [pay13_eq]; exact congrArg (FloatOps.truncf .bf16 bitsLt_bf16_f32) (readCov_whole (F := F) scD.view y _ j)

end Cert.Kernel2Ideal.Own

end
-- ==== Proof.ExpertsIdeal.Prepare.lean ====
/- At a change of expert: its weights awaited and rounded to the working format, the next expert's copies started. -/
module

public import proofs.«01_k».proof.Proof.ExpertsIdeal.Round

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

section
variable (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole)

set_option maxHeartbeats 4000000 in
theorem prepare_last (c : Dev nD) (v1 v5 v9 : BitVec 32) (k : Unit → Prog (TpuEff nD τ sig (Elt F) Λ₀ .tc) PUnit) (xt : TbBuf (F := F) c tbM1) (xt4 : TbBuf (F := F) c tbM4)
    (fU : HbBuf (F := F) c hbU) (fD : HbBuf (F := F) c hbD)
    (h : k0_cond2 i v1 v5 v9 = 1#1) (x : BitVec 32) (hr : View.readAt (Elt F) tbM1.view (Rect.unit (s := S160) (k0_off5 i) S1.size (k0_off5_inb i)).toLoadRect xt (Shape.Idx.first (numel1_S1.symm ▸ Nat.one_pos)) = x)
    (hx : x.toNat < 32)
    (h3 : ¬ k0_cond3 (View.readAt (Elt F) tbM4.view (Rect.unit (s := S160) (k0_off8 i) S1.size (k0_off8_inb i)).toLoadRect xt4 (Shape.Idx.first (numel1_S1.symm ▸ Nat.one_pos))) = 1#1)
    (W : Waits sig Unit) (Q : PUnit → sProp 𝕄) :
    iprop(tbPt c tbM1 xt ∗ tbPt c tbM4 xt4 ∗ busy c fU fD x hx ∗ (∃ d, owns (c : Thread nD τ) scU16 fullShare d) ∗ (∃ d, owns (c : Thread nD τ) scD16 fullShare d) ∗ owes (c : Thread nD τ) 0 W
      ∗ (iprop(tbPt c tbM1 xt ∗ tbPt c tbM4 xt4 ∗ idleW c fU fD ∗ owns (c : Thread nD τ) scU16 fullShare (rnd (wtU fU x hx)) ∗ owns (c : Thread nD τ) scD16 fullShare (rnd (wtD fD x hx))
          ∗ (∃ W', owes (c : Thread nD τ) 0 W')) -∗ wp frame (wpE (defs₀ (F := F)) Variants.none c none) Set.univ (k ⟨⟩) Q))
    ⊢ wp frame (wpE (defs₀ (F := F)) Variants.none c none) Set.univ (prepare i arg5 harg5 arg7 harg7 arg9 harg9 arg10 harg10 v1 v5 v9 k) Q := by
  subst hr
  have hc : k0_chk2 i v1 v5 v9 (View.readAt (Elt F) tbM1.view (Rect.unit (s := S160) (k0_off5 i) S1.size (k0_off5_inb i)).toLoadRect xt (Shape.Idx.first (numel1_S1.symm ▸ Nat.one_pos))) := ⟨fun _ => offU_inb hx, fun _ => offD_inb hx⟩
  have hc3 : True := trivial
  unfold prepare
  simp only [k0_part1_eq_skeleton, k0_part2_eq_skeleton, k0_part3_eq_skeleton]
  unfold k0_part1_skel k0_part2_skel k0_part3_skel
  unfold busy
  try unfold idleW
  unfold owns
  iintro ⟨HT, HT4, ⟨⟨%f0, Hq0⟩, HhU, ⟨%f1, Hq1⟩, HhD⟩, ⟨%d3, %f3, -, HU⟩, ⟨%d4, %f4, -, HD⟩, HW, Hk⟩
  sl_exec (disch := first | exact hc | exact hc3)
  iapply Hk
  isplitl [HT]; · iexact HT
  isplitl [HT4]; · iexact HT4
  isplitl [Hq0_dst HhU Hq0 Hq1_dst HhD Hq1]
  · isplitl [Hq0_dst]; · (iexists _, _; isplitr; swap; (iexact Hq0_dst); (ipureintro; exact rfl))
    isplitl [Hq1_dst]; · (iexists _, _; isplitr; swap; (iexact Hq1_dst); (ipureintro; exact rfl))
    isplitl [Hq0]; · iexact Hq0
    isplitl [Hq1]; · iexact Hq1
    isplitl [HhU]; · iexact HhU
    iexact HhD
  isplitl [HU]
  · iexists _; isplitr; swap; (iexact HU)
    ipureintro; exact roundU scU16.view _ (wtU fU _ hx)
  isplitl [HD]
  · iexists _; isplitr; swap; (iexact HD)
    ipureintro; exact roundD scD16.view _ (wtD fD _ hx)
  iexists _; iexact HW

set_option maxHeartbeats 4000000 in
theorem prepare_next (c : Dev nD) (v1 v5 v9 : BitVec 32) (k : Unit → Prog (TpuEff nD τ sig (Elt F) Λ₀ .tc) PUnit) (xt : TbBuf (F := F) c tbM1) (xt4 : TbBuf (F := F) c tbM4)
    (fU : HbBuf (F := F) c hbU) (fD : HbBuf (F := F) c hbD)
    (h : k0_cond2 i v1 v5 v9 = 1#1) (x : BitVec 32) (hr : View.readAt (Elt F) tbM1.view (Rect.unit (s := S160) (k0_off5 i) S1.size (k0_off5_inb i)).toLoadRect xt (Shape.Idx.first (numel1_S1.symm ▸ Nat.one_pos)) = x)
    (hx : x.toNat < 32)
    (h3 : k0_cond3 (View.readAt (Elt F) tbM4.view (Rect.unit (s := S160) (k0_off8 i) S1.size (k0_off8_inb i)).toLoadRect xt4 (Shape.Idx.first (numel1_S1.symm ▸ Nat.one_pos))) = 1#1) (z : BitVec 32) (hz : View.readAt (Elt F) tbM4.view (Rect.unit (s := S160) (k0_off9 i) S1.size (k0_off9_inb i)).toLoadRect xt4 (Shape.Idx.first (numel1_S1.symm ▸ Nat.one_pos)) = z) (hz32 : z.toNat < 32)
    (W : Waits sig Unit) (Q : PUnit → sProp 𝕄) :
    iprop(tbPt c tbM1 xt ∗ tbPt c tbM4 xt4 ∗ busy c fU fD x hx ∗ (∃ d, owns (c : Thread nD τ) scU16 fullShare d) ∗ (∃ d, owns (c : Thread nD τ) scD16 fullShare d) ∗ owes (c : Thread nD τ) 0 W
      ∗ (iprop(tbPt c tbM1 xt ∗ tbPt c tbM4 xt4 ∗ busy c fU fD z hz32 ∗ owns (c : Thread nD τ) scU16 fullShare (rnd (wtU fU x hx)) ∗ owns (c : Thread nD τ) scD16 fullShare (rnd (wtD fD x hx))
          ∗ (∃ W', owes (c : Thread nD τ) 0 W')) -∗ wp frame (wpE (defs₀ (F := F)) Variants.none c none) Set.univ (k ⟨⟩) Q))
    ⊢ wp frame (wpE (defs₀ (F := F)) Variants.none c none) Set.univ (prepare i arg5 harg5 arg7 harg7 arg9 harg9 arg10 harg10 v1 v5 v9 k) Q := by
  subst hr
  subst hz
  have hc : k0_chk2 i v1 v5 v9 (View.readAt (Elt F) tbM1.view (Rect.unit (s := S160) (k0_off5 i) S1.size (k0_off5_inb i)).toLoadRect xt (Shape.Idx.first (numel1_S1.symm ▸ Nat.one_pos))) := ⟨fun _ => offU_inb hx, fun _ => offD_inb hx⟩
  have hc3 : k0_chk3 i v1 v5 v9 (View.readAt (Elt F) tbM4.view (Rect.unit (s := S160) (k0_off8 i) S1.size (k0_off8_inb i)).toLoadRect xt4 (Shape.Idx.first (numel1_S1.symm ▸ Nat.one_pos))) (View.readAt (Elt F) tbM4.view (Rect.unit (s := S160) (k0_off9 i) S1.size (k0_off9_inb i)).toLoadRect xt4 (Shape.Idx.first (numel1_S1.symm ▸ Nat.one_pos))) := ⟨fun _ _ => offU_inb hz32, fun _ _ => offD_inb hz32⟩
  unfold prepare
  simp only [k0_part1_eq_skeleton, k0_part2_eq_skeleton, k0_part3_eq_skeleton]
  unfold k0_part1_skel k0_part2_skel k0_part3_skel
  unfold busy
  try unfold idleW
  unfold owns
  iintro ⟨HT, HT4, ⟨⟨%f0, Hq0⟩, HhU, ⟨%f1, Hq1⟩, HhD⟩, ⟨%d3, %f3, -, HU⟩, ⟨%d4, %f4, -, HD⟩, HW, Hk⟩
  sl_exec (disch := first | exact hc | exact hc3)
  iapply Hk
  isplitl [HT]; · iexact HT
  isplitl [HT4]; · iexact HT4
  isplitl [HhU Hq0 HhD Hq1]
  · isplitl [Hq0]; · iexists _; iexact Hq0
    isplitl [HhU]; · iexact HhU
    isplitl [Hq1]; · iexists _; iexact Hq1
    iexact HhD
  isplitl [HU]
  · iexists _; isplitr; swap; (iexact HU)
    ipureintro; exact roundU scU16.view _ (wtU fU _ hx)
  isplitl [HD]
  · iexists _; isplitr; swap; (iexact HD)
    ipureintro; exact roundD scD16.view _ (wtD fD _ hx)
  iexists _; iexact HW

theorem prepare_skip (c : Dev nD) (v1 v5 v9 : BitVec 32) (k : Unit → Prog (TpuEff nD τ sig (Elt F) Λ₀ .tc) PUnit) (h : ¬ k0_cond2 i v1 v5 v9 = 1#1) (Q : PUnit → sProp 𝕄) :
    wp frame (wpE (defs₀ (F := F)) Variants.none c none) Set.univ (k ⟨⟩) Q
    ⊢ wp frame (wpE (defs₀ (F := F)) Variants.none c none) Set.univ (prepare i arg5 harg5 arg7 harg7 arg9 harg9 arg10 harg10 v1 v5 v9 k) Q := by
  unfold prepare
  rw [dif_neg h]

end
end Cert.Kernel2Ideal.Own

end
-- ==== Proof.ExpertsIdeal.Compute.lean ====
/- The three ways a block is computed. -/
module

public import proofs.«01_k».proof.Proof.ExpertsIdeal.Prepare
public import Idealize.ShloMosaic.Lib.VecWindow

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- A block's result, all its rows in use. -/
def outFull (x : Vec F S512x1024 .f32) (bu : Vec F S1x1x2048 .f32) (bd : Vec F S1x1x1024 .f32) (u : Vec F S1024x2048 .bf16) (d : Vec F S1024x1024 .bf16) : Vec F S512x1024 .f32 :=
  k0_pay1 (k0_pay21 (View.ld x (Rect.unit (s := S512x1024) ![0, 0] S512x1024.size inb_S512x1024_S512x1024_0_0)))
    (k0_pay22 (View.ld x (Rect.unit (s := S512x1024) ![0, 0] S512x1024.size inb_S512x1024_S512x1024_0_0)) (View.ld u (Rect.unit (s := S1024x2048) ![0, 0] S1024x512.size inb_S1024x2048_S1024x512_0_0)) (View.ld bu (Rect.unit (s := S1x1x2048) ![0, 0, 0] S1x1x512.size inb_S1x1x2048_S1x1x512_0_0_0))
      (View.ld u (Rect.unit (s := S1024x2048) ![0, 1024] S1024x512.size inb_S1024x2048_S1024x512_0_1024)) (View.ld bu (Rect.unit (s := S1x1x2048) ![0, 0, 1024] S1x1x512.size inb_S1x1x2048_S1x1x512_0_0_1024))
      (View.ld d (Rect.unit (s := S1024x1024) ![0, 0] S512x1024.size inb_S1024x1024_S512x1024_0_0)))
    (k0_pay23 (View.ld x (Rect.unit (s := S512x1024) ![0, 0] S512x1024.size inb_S512x1024_S512x1024_0_0)) (View.ld u (Rect.unit (s := S1024x2048) ![0, 512] S1024x512.size inb_S1024x2048_S1024x512_0_512)))
    (View.ld bu (Rect.unit (s := S1x1x2048) ![0, 0, 512] S1x1x512.size inb_S1x1x2048_S1x1x512_0_0_512)) (View.ld u (Rect.unit (s := S1024x2048) ![0, 1536] S1024x512.size inb_S1024x2048_S1024x512_0_1536))
    (View.ld bu (Rect.unit (s := S1x1x2048) ![0, 0, 1536] S1x1x512.size inb_S1x1x2048_S1x1x512_0_0_1536)) (View.ld d (Rect.unit (s := S1024x1024) ![512, 0] S512x1024.size inb_S1024x1024_S512x1024_512_0)) (View.ld bd (Rect.unit (s := S1x1x1024) ![0, 0, 0] S1x1x1024.size inb_S1x1x1024_S1x1x1024_0_0_0))

/-- The rows of a block of which at most half is in use. -/
def topHalf (x : Vec F S512x1024 .f32) (bu : Vec F S1x1x2048 .f32) (bd : Vec F S1x1x1024 .f32) (u : Vec F S1024x2048 .bf16) (d : Vec F S1024x1024 .bf16) : Vec F S256x1024 .f32 :=
  k0_pay2 (k0_pay24 (View.ld x (Rect.unit (s := S512x1024) ![0, 0] S256x1024.size inb_S512x1024_S256x1024_0_0)))
    (k0_pay25 (View.ld x (Rect.unit (s := S512x1024) ![0, 0] S256x1024.size inb_S512x1024_S256x1024_0_0)) (View.ld u (Rect.unit (s := S1024x2048) ![0, 0] S1024x512.size inb_S1024x2048_S1024x512_0_0)) (View.ld bu (Rect.unit (s := S1x1x2048) ![0, 0, 0] S1x1x512.size inb_S1x1x2048_S1x1x512_0_0_0))
      (View.ld u (Rect.unit (s := S1024x2048) ![0, 1024] S1024x512.size inb_S1024x2048_S1024x512_0_1024)) (View.ld bu (Rect.unit (s := S1x1x2048) ![0, 0, 1024] S1x1x512.size inb_S1x1x2048_S1x1x512_0_0_1024))
      (View.ld d (Rect.unit (s := S1024x1024) ![0, 0] S512x1024.size inb_S1024x1024_S512x1024_0_0)))
    (k0_pay26 (View.ld x (Rect.unit (s := S512x1024) ![0, 0] S256x1024.size inb_S512x1024_S256x1024_0_0)) (View.ld u (Rect.unit (s := S1024x2048) ![0, 512] S1024x512.size inb_S1024x2048_S1024x512_0_512)))
    (View.ld bu (Rect.unit (s := S1x1x2048) ![0, 0, 512] S1x1x512.size inb_S1x1x2048_S1x1x512_0_0_512)) (View.ld u (Rect.unit (s := S1024x2048) ![0, 1536] S1024x512.size inb_S1024x2048_S1024x512_0_1536))
    (View.ld bu (Rect.unit (s := S1x1x2048) ![0, 0, 1536] S1x1x512.size inb_S1x1x2048_S1x1x512_0_0_1536)) (View.ld d (Rect.unit (s := S1024x1024) ![512, 0] S512x1024.size inb_S1024x1024_S512x1024_512_0)) (View.ld bd (Rect.unit (s := S1x1x1024) ![0, 0, 0] S1x1x1024.size inb_S1x1x1024_S1x1x1024_0_0_0))

/-- Its result: those rows, and zeros below. -/
def halfPieces (x : Vec F S512x1024 .f32) (bu : Vec F S1x1x2048 .f32) (bd : Vec F S1x1x1024 .f32) (u : Vec F S1024x2048 .bf16) (d : Vec F S1024x1024 .bf16) : List (View.Piece (Elt F) S512x1024 .f32) :=
  [⟨Rect.unit (s := S512x1024) ![256, 0] S256x1024.size inb_S512x1024_S256x1024_256_0, k0_pay3 (F := F)⟩,
    ⟨Rect.unit (s := S512x1024) ![0, 0] S256x1024.size inb_S512x1024_S256x1024_0_0, topHalf x bu bd u d⟩]
def outHalf (x : Vec F S512x1024 .f32) (bu : Vec F S1x1x2048 .f32) (bd : Vec F S1x1x1024 .f32) (u : Vec F S1024x2048 .bf16) (d : Vec F S1024x1024 .bf16) : Vec F S512x1024 .f32 :=
  View.canon (halfPieces x bu bd u d)
theorem halfCover (x : Vec F S512x1024 .f32) (bu : Vec F S1x1x2048 .f32) (bd : Vec F S1x1x1024 .f32) (u : Vec F S1024x2048 .bf16) (d : Vec F S1024x1024 .bf16) :
    ∀ q, ∃ p ∈ halfPieces x bu bd u d, q ∈ p.1.set :=
  View.cover_of_tiledL _ (![256, 1024] : Fin S512x1024.rank → ℕ) (by sl_kernel_rfl)

theorem readAt_unread {sp : Space} {S : Shape} {e : EltTy} {M : Memref sig .tc sp S e} (h : M.IsWhole) (x : Vec F S e) (r : Rect S) :
    View.readAt (Elt F) M.view r.toLoadRect (h.unread x) = View.ld x r := by
  rw [View.readAt_eq_ld, h.read_unread]

section
variable (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole)

set_option maxHeartbeats 1000000 in
theorem full_run (c : Dev nD) (v1 : BitVec 32) (k : Unit → Prog (TpuEff nD τ sig (Elt F) Λ₀ .tc) PUnit)
    (x : Vec F S512x1024 .f32) (bu : Vec F S1x1x2048 .f32) (bd : Vec F S1x1x1024 .f32) (u : Vec F S1024x2048 .bf16) (d : Vec F S1024x1024 .bf16)
    (h : k0_cond4 v1 = 1#1) (Q : PUnit → sProp 𝕄) :
    iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ (∃ o, owns (c : Thread nD τ) arg10 fullShare o)
      ∗ (iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ owns (c : Thread nD τ) arg10 fullShare (outFull x bu bd u d))
        -∗ wp frame (wpE (defs₀ (F := F)) Variants.none c none) Set.univ (k ⟨⟩) Q))
    ⊢ wp frame (wpE (defs₀ (F := F)) Variants.none c none) Set.univ (fullBlock i arg5 harg5 arg7 harg7 arg9 harg9 arg10 harg10 v1 k) Q := by
  unfold fullBlock
  simp only [k0_part4_eq_skeleton]
  unfold k0_part4_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg5.eq_unread hf0
  obtain rfl := harg7.eq_unread hf1
  obtain rfl := harg9.eq_unread hf2
  obtain rfl := (Memref.isWhole_whole cc0_scratch3).eq_unread hf3
  obtain rfl := (Memref.isWhole_whole cc0_scratch4).eq_unread hf4
  sl_exec
  iapply Hk
  isplitl [H0]; · (iexists _; isplitr; swap; (iexact H0); (ipureintro; exact hf0))
  isplitl [H1]; · (iexists _; isplitr; swap; (iexact H1); (ipureintro; exact hf1))
  isplitl [H2]; · (iexists _; isplitr; swap; (iexact H2); (ipureintro; exact hf2))
  isplitl [H3]; · (iexists _; isplitr; swap; (iexact H3); (ipureintro; exact hf3))
  isplitl [H4]; · (iexists _; isplitr; swap; (iexact H4); (ipureintro; exact hf4))
  iexists _; isplitr; swap; (iexact H5)
  ipureintro
  refine (View.read_writes_full _ _ _ _ _).trans ?_
  simp only [readAt_unread harg5, readAt_unread harg7, readAt_unread harg9, readAt_unread (Memref.isWhole_whole cc0_scratch3), readAt_unread (Memref.isWhole_whole cc0_scratch4)]
  rfl

set_option maxHeartbeats 1000000 in
theorem half_run (c : Dev nD) (v1 : BitVec 32) (k : Unit → Prog (TpuEff nD τ sig (Elt F) Λ₀ .tc) PUnit)
    (x : Vec F S512x1024 .f32) (bu : Vec F S1x1x2048 .f32) (bd : Vec F S1x1x1024 .f32) (u : Vec F S1024x2048 .bf16) (d : Vec F S1024x1024 .bf16)
    (h : k0_cond5 v1 = 1#1) (Q : PUnit → sProp 𝕄) :
    iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ (∃ o, owns (c : Thread nD τ) arg10 fullShare o)
      ∗ (iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ owns (c : Thread nD τ) arg10 fullShare (outHalf x bu bd u d))
        -∗ wp frame (wpE (defs₀ (F := F)) Variants.none c none) Set.univ (k ⟨⟩) Q))
    ⊢ wp frame (wpE (defs₀ (F := F)) Variants.none c none) Set.univ (halfBlock i arg5 harg5 arg7 harg7 arg9 harg9 arg10 harg10 v1 k) Q := by
  unfold halfBlock
  simp only [k0_part5_eq_skeleton]
  unfold k0_part5_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg5.eq_unread hf0
  obtain rfl := harg7.eq_unread hf1
  obtain rfl := harg9.eq_unread hf2
  obtain rfl := (Memref.isWhole_whole cc0_scratch3).eq_unread hf3
  obtain rfl := (Memref.isWhole_whole cc0_scratch4).eq_unread hf4
  sl_exec
  iapply Hk
  isplitl [H0]; · (iexists _; isplitr; swap; (iexact H0); (ipureintro; exact hf0))
  isplitl [H1]; · (iexists _; isplitr; swap; (iexact H1); (ipureintro; exact hf1))
  isplitl [H2]; · (iexists _; isplitr; swap; (iexact H2); (ipureintro; exact hf2))
  isplitl [H3]; · (iexists _; isplitr; swap; (iexact H3); (ipureintro; exact hf3))
  isplitl [H4]; · (iexists _; isplitr; swap; (iexact H4); (ipureintro; exact hf4))
  iexists _; isplitr; swap; (iexact H5)
  ipureintro
  simp only [readAt_unread harg5, readAt_unread harg7, readAt_unread harg9, readAt_unread (Memref.isWhole_whole cc0_scratch3), readAt_unread (Memref.isWhole_whole cc0_scratch4)]
  exact View.read_writes_eq_canon arg10.view _ (halfPieces x bu bd u d) (halfCover x bu bd u d)

set_option maxHeartbeats 1000000 in
theorem clear_run (c : Dev nD) (v1 : BitVec 32) (k : Unit → Prog (TpuEff nD τ sig (Elt F) Λ₀ .tc) PUnit)
    (h : k0_cond6 v1 = 1#1) (Q : PUnit → sProp 𝕄) :
    iprop((∃ o, owns (c : Thread nD τ) arg10 fullShare o)
      ∗ (owns (c : Thread nD τ) arg10 fullShare (k0_pay4 (F := F)) -∗ wp frame (wpE (defs₀ (F := F)) Variants.none c none) Set.univ (k ⟨⟩) Q))
    ⊢ wp frame (wpE (defs₀ (F := F)) Variants.none c none) Set.univ (clearBlock i arg5 harg5 arg7 harg7 arg9 harg9 arg10 harg10 v1 k) Q := by
  unfold clearBlock
  unfold owns
  iintro ⟨⟨%d5, %f5, -, H5⟩, Hk⟩
  sl_exec
  iapply Hk
  iexists _; isplitr; swap; (iexact H5)
  ipureintro
  exact View.read_writes_full _ _ _ _ _

theorem full_skip (c : Dev nD) (v1 : BitVec 32) (k : Unit → Prog (TpuEff nD τ sig (Elt F) Λ₀ .tc) PUnit) (h : ¬ k0_cond4 v1 = 1#1) (Q : PUnit → sProp 𝕄) :
    wp frame (wpE (defs₀ (F := F)) Variants.none c none) Set.univ (k ⟨⟩) Q
    ⊢ wp frame (wpE (defs₀ (F := F)) Variants.none c none) Set.univ (fullBlock i arg5 harg5 arg7 harg7 arg9 harg9 arg10 harg10 v1 k) Q := by
  unfold fullBlock
  rw [dif_neg h]

theorem half_skip (c : Dev nD) (v1 : BitVec 32) (k : Unit → Prog (TpuEff nD τ sig (Elt F) Λ₀ .tc) PUnit) (h : ¬ k0_cond5 v1 = 1#1) (Q : PUnit → sProp 𝕄) :
    wp frame (wpE (defs₀ (F := F)) Variants.none c none) Set.univ (k ⟨⟩) Q
    ⊢ wp frame (wpE (defs₀ (F := F)) Variants.none c none) Set.univ (halfBlock i arg5 harg5 arg7 harg7 arg9 harg9 arg10 harg10 v1 k) Q := by
  unfold halfBlock
  rw [dif_neg h]

theorem clear_skip (c : Dev nD) (v1 : BitVec 32) (k : Unit → Prog (TpuEff nD τ sig (Elt F) Λ₀ .tc) PUnit) (h : ¬ k0_cond6 v1 = 1#1) (Q : PUnit → sProp 𝕄) :
    wp frame (wpE (defs₀ (F := F)) Variants.none c none) Set.univ (k ⟨⟩) Q
    ⊢ wp frame (wpE (defs₀ (F := F)) Variants.none c none) Set.univ (clearBlock i arg5 harg5 arg7 harg7 arg9 harg9 arg10 harg10 v1 k) Q := by
  unfold clearBlock
  rw [dif_neg h]

end
end Cert.Kernel2Ideal.Own

end
-- ==== Proof.ExpertsIdeal.Tables.lean ====
/- The four tables read word by word, what they are asked to say of the routing, and the body's branch conditions in closed form. -/
module

public import proofs.«01_k».proof.Proof.ExpertsIdeal.Setup
public import Idealize.ShloMosaic.Lib.Affine
public import Idealize.ShloMosaic.Lib.Pointwise

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The place before `t`, the first one's being itself. -/
def prev (t : Fin 160) : Fin 160 := ⟨t.val - 1, by omega⟩

/-- What the tables say: the block's experts are experts, the blocks in use come first and are the ones with rows, a block's
    expert is its forerunner's or the one its forerunner names as next, and the last block in use names none. -/
structure Routed (be : S160.Idx → BitVec 32) (nu : S1.Idx → BitVec 32) (nv nx : S160.Idx → BitVec 32) : Prop where
  nu_nonneg : 0 ≤ (nu (ix1 0)).toInt
  nu_le : (nu (ix1 0)).toInt ≤ 160
  be_lt : ∀ t : Fin 160, (be (ix1 t)).toNat < 32
  nv_nonneg : ∀ t : Fin 160, 0 ≤ (nv (ix1 t)).toInt
  nv_pos : ∀ t : Fin 160, 0 < (nv (ix1 t)).toInt ↔ t.val < (nu (ix1 0)).toNat
  nx_lt : ∀ t : Fin 160, (nx (ix1 t)).toInt < 32
  step : ∀ t : Fin 160, t.val < (nu (ix1 0)).toNat →
    (be (ix1 t) = be (ix1 (prev t)) ∧ nx (ix1 t) = nx (ix1 (prev t))) ∨ (be (ix1 t) ≠ be (ix1 (prev t)) ∧ nx (ix1 (prev t)) = be (ix1 t))
  last : ∀ t : Fin 160, t.val + 1 = (nu (ix1 0)).toNat → (nx (ix1 t)).toInt < 0

theorem coord : ∀ t : Fin grid0.N, (grid0.coords t 0).val = t.val := by decide +kernel

theorem toNat_word {n : ℕ} (h : n < 160) : (BitVec.ofNat 32 n).toNat = n := by rw [BitVec.toNat_ofNat]; omega

theorem off1 (i : grid0.Coords) : k0_off1 i 0 = (i 0).val := toNat_word (i 0).isLt
theorem off5 (i : grid0.Coords) : k0_off5 i 0 = (i 0).val := toNat_word (i 0).isLt
theorem off8 (i : grid0.Coords) : k0_off8 i 0 = (i 0).val := toNat_word (i 0).isLt
theorem off9 (i : grid0.Coords) : k0_off9 i 0 = (i 0).val := toNat_word (i 0).isLt
theorem off2_nat : ∀ n : Fin 160, (Scalar.indexCast (Scalar.maxsi (Scalar.subi (BitVec.ofNat 32 n.val) 1#32) 0#32) : Index).toNat = n.val - 1 := by decide +kernel
theorem off2 (i : grid0.Coords) : k0_off2 i 0 = (i 0).val - 1 := off2_nat ⟨(i 0).val, (i 0).isLt⟩

/-- A one-word read of a table is the table's word there. -/
theorem word (off : Fin 1 → ℕ) (inb) (h) (b : S160.Idx → BitVec 32) (t : Fin 160) (e : off 0 = t.val) :
    b ((Rect.unit (s := S160) off S1.size inb).idx (Shape.Idx.first (s := S1) h)) = b (ix1 t) := by
  congr 1; funext a
  match a with
  | 0 =>
    apply Fin.ext
    have h1 : ((Shape.Idx.first (s := S1) h) 0).val < 1 := ((Shape.Idx.first (s := S1) h) 0).isLt
    show off 0 + 1 * ((Shape.Idx.first (s := S1) h) 0).val = t.val; omega

theorem cond1_iff (i : grid0.Coords) (v : BitVec 32) : k0_cond1 i v = 1#1 ↔ (i 0).val = 0 ∧ 0 < v.toInt := by
  refine (Scalar.guard_iff _).trans (IntOp.andi_eq_one.trans (and_congr (IntOp.cmpi_eq.trans ?_) IntOp.cmpi_sgt))
  rw [← BitVec.toNat_inj, toNat_word (i 0).isLt]; exact Iff.rfl

theorem cond2_iff (i : grid0.Coords) (v w x : BitVec 32) : k0_cond2 i v w x = 1#1 ↔ 0 < v.toInt ∧ ((i 0).val = 0 ∨ x ≠ w) := by
  refine (Scalar.guard_iff _).trans (IntOp.andi_eq_one.trans (and_congr IntOp.cmpi_sgt (IntOp.ori_eq_one.trans (or_congr (IntOp.cmpi_eq.trans ?_) IntOp.cmpi_ne))))
  rw [← BitVec.toNat_inj, toNat_word (i 0).isLt]; exact Iff.rfl

theorem cond3_iff (v : BitVec 32) : k0_cond3 v = 1#1 ↔ 0 ≤ v.toInt := (Scalar.guard_iff _).trans IntOp.cmpi_sge
theorem cond4_iff (v : BitVec 32) : k0_cond4 v = 1#1 ↔ 256 < v.toInt := (Scalar.guard_iff _).trans IntOp.cmpi_sgt
theorem cond5_iff (v : BitVec 32) : k0_cond5 v = 1#1 ↔ 0 < v.toInt ∧ v.toInt ≤ 256 :=
  (Scalar.guard_iff _).trans (IntOp.andi_eq_one.trans (and_congr IntOp.cmpi_sgt IntOp.cmpi_sle))
theorem cond6_iff (v : BitVec 32) : k0_cond6 v = 1#1 ↔ v.toInt = 0 :=
  (Scalar.guard_iff _).trans (IntOp.cmpi_eq.trans (BitVec.toInt_inj (x := v) (y := 0#32)).symm)

theorem toNat_lt_of_toInt {v : BitVec 32} (h0 : 0 ≤ v.toInt) {n : ℕ} (h : v.toInt < n) : v.toNat < n := by
  have := BitVec.toInt_eq_toNat_cond v
  have := v.isLt
  split at * <;> omega
theorem toInt_of_toNat {v : BitVec 32} (h : v.toNat < 32) : v.toInt = v.toNat := by
  rw [BitVec.toInt_eq_toNat_of_lt (by omega)]

end Cert.Kernel2Ideal.Own

end
-- ==== Proof.ExpertsIdeal.Step.lean ====
/- One point of the launch: what the body finds of the scratch and of the copies under way, and what it leaves of them and of its result. -/
module

public import proofs.«01_k».proof.Proof.ExpertsIdeal.Prepare
public import proofs.«01_k».proof.Proof.ExpertsIdeal.Compute
public import proofs.«01_k».proof.Proof.ExpertsIdeal.Tables

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

section
variable (c : Dev nD) (fU : HbBuf (F := F) c hbU) (fD : HbBuf (F := F) c hbD)
  {be : S160.Idx → BitVec 32} {nu : S1.Idx → BitVec 32} {nv nx : S160.Idx → BitVec 32} (hR : Routed be nu nv nx)

/-- The copies of the expert named next under way, if one is named. -/
def pend (v : BitVec 32) : sProp 𝕄 := if h : v.toNat < 32 then busy c fU fD v h else idleW c fU fD

/-- After a block in use: the rounded weights of its expert, and the next expert's under way. -/
def coreAt (t : Fin 160) : sProp 𝕄 :=
  iprop(owns (c : Thread nD τ) scU16 fullShare (rnd (wtU fU (be (ix1 t)) (hR.be_lt t))) ∗ owns (c : Thread nD τ) scD16 fullShare (rnd (wtD fD (be (ix1 t)) (hR.be_lt t)))
    ∗ pend c fU fD (nx (ix1 t)))

/-- Before the first block and after the blocks in use: nothing under way, the scratch at anything. -/
def coreIdle : sProp 𝕄 :=
  iprop(idleW c fU fD ∗ (∃ d, owns (c : Thread nD τ) scU16 fullShare d) ∗ (∃ d, owns (c : Thread nD τ) scD16 fullShare d))

/-- Between the points `n - 1` and `n`. -/
def core (n : ℕ) : sProp 𝕄 :=
  if h : 0 < n ∧ n ≤ (nu (ix1 0)).toNat ∧ n ≤ 160 then coreAt c fU fD hR ⟨n - 1, by omega⟩ else coreIdle c fU fD

theorem core_used (t : Fin 160) (h : t.val < (nu (ix1 0)).toNat) : core c fU fD hR (t.val + 1) = coreAt c fU fD hR t := by
  unfold core; rw [dif_pos ⟨by omega, by omega, by omega⟩]; rfl
theorem core_before (t : Fin 160) (h0 : 0 < t.val) (h : t.val ≤ (nu (ix1 0)).toNat) : core c fU fD hR t.val = coreAt c fU fD hR (prev t) := by
  unfold core; rw [dif_pos ⟨by omega, by omega, by omega⟩]; rfl
theorem core_zero : core c fU fD hR 0 = coreIdle c fU fD := by
  unfold core; rw [dif_neg (by omega)]
theorem core_over (n : ℕ) (h : (nu (ix1 0)).toNat < n) : core c fU fD hR n = coreIdle c fU fD := by
  unfold core; rw [dif_neg (by omega)]

theorem pend_neg {v : BitVec 32} (h : v.toInt < 0) : pend c fU fD v = idleW c fU fD := by
  unfold pend; rw [dif_neg]; intro h'; rw [toInt_of_toNat h'] at h; omega
theorem pend_pos {v : BitVec 32} (h : v.toNat < 32) : pend c fU fD v = busy c fU fD v h := by
  unfold pend; rw [dif_pos h]

/-- After the last block in use nothing is under way. -/
theorem coreAt_last (t : Fin 160) (h : t.val + 1 = (nu (ix1 0)).toNat) : coreAt c fU fD hR t ⊢ coreIdle c fU fD := by
  unfold coreAt coreIdle
  rw [pend_neg c fU fD (hR.last t h)]
  iintro ⟨HU, HD, H⟩
  isplitl [H]; · iexact H
  isplitl [HU]; · iexists _; iexact HU
  iexists _; iexact HD

/-- At the launch's end too. -/
theorem core_end : core c fU fD hR 160 ⊢ coreIdle c fU fD := by
  have h2 := hR.nu_le
  have h3 : (nu (ix1 0)).toNat < 161 := toNat_lt_of_toInt hR.nu_nonneg (by omega)
  by_cases h : (nu (ix1 0)).toNat = 160
  · have e := core_used c fU fD hR ⟨159, by omega⟩ (by show 159 < _; omega)
    have e' : core c fU fD hR 160 = coreAt c fU fD hR ⟨159, by omega⟩ := e
    rw [e']; exact coreAt_last c fU fD hR _ (by show 159 + 1 = _; omega)
  · rw [core_over c fU fD hR 160 (by omega)]

variable (i : grid0.Coords) (arg5 : Memref sig .tc .vmem S512x1024 .f32) (harg5 : arg5.IsWhole) (arg7 : Memref sig .tc .vmem S1x1x2048 .f32) (harg7 : arg7.IsWhole) (arg9 : Memref sig .tc .vmem S1x1x1024 .f32) (harg9 : arg9.IsWhole) (arg10 : Memref sig .tc .vmem S512x1024 .f32) (harg10 : arg10.IsWhole)

/-- The weights of the point's expert under way: they are awaited and rounded, and the next expert's copies begin. -/
theorem prepare_go (k : Unit → Prog (TpuEff nD τ sig (Elt F) Λ₀ .tc) PUnit) (t : Fin 160) (hi : (i 0).val = t.val) (v1 v5 v9 : BitVec 32) (h : k0_cond2 i v1 v5 v9 = 1#1) (Q : PUnit → sProp 𝕄) :
    iprop(tbPt c tbM1 be ∗ tbPt c tbM4 nx ∗ busy c fU fD (be (ix1 t)) (hR.be_lt t) ∗ (∃ d, owns (c : Thread nD τ) scU16 fullShare d) ∗ (∃ d, owns (c : Thread nD τ) scD16 fullShare d)
      ∗ (∃ W, owes (c : Thread nD τ) 0 W)
      ∗ (iprop(tbPt c tbM1 be ∗ tbPt c tbM4 nx ∗ coreAt c fU fD hR t ∗ (∃ W, owes (c : Thread nD τ) 0 W)) -∗ wp frame (wpE (defs₀ (F := F)) Variants.none c none) Set.univ (k ⟨⟩) Q))
    ⊢ wp frame (wpE (defs₀ (F := F)) Variants.none c none) Set.univ (prepare i arg5 harg5 arg7 harg7 arg9 harg9 arg10 harg10 v1 v5 v9 k) Q := by
  have e5 : View.readAt (Elt F) tbM1.view (Rect.unit (s := S160) (k0_off5 i) S1.size (k0_off5_inb i)).toLoadRect be (Shape.Idx.first (numel1_S1.symm ▸ Nat.one_pos)) = be (ix1 t) :=
    word _ _ _ be t ((off5 i).trans hi)
  have e8 : View.readAt (Elt F) tbM4.view (Rect.unit (s := S160) (k0_off8 i) S1.size (k0_off8_inb i)).toLoadRect nx (Shape.Idx.first (numel1_S1.symm ▸ Nat.one_pos)) = nx (ix1 t) :=
    word _ _ _ nx t ((off8 i).trans hi)
  have e9 : View.readAt (Elt F) tbM4.view (Rect.unit (s := S160) (k0_off9 i) S1.size (k0_off9_inb i)).toLoadRect nx (Shape.Idx.first (numel1_S1.symm ▸ Nat.one_pos)) = nx (ix1 t) :=
    word _ _ _ nx t ((off9 i).trans hi)
  by_cases hn : 0 ≤ (nx (ix1 t)).toInt
  · have hz : (nx (ix1 t)).toNat < 32 := toNat_lt_of_toInt hn (hR.nx_lt t)
    iintro ⟨H1, H4, HB, HU, HD, ⟨%W, HW⟩, Hk⟩
    iapply (prepare_next i arg5 harg5 arg7 harg7 arg9 harg9 arg10 harg10 c v1 v5 v9 k be nx fU fD h _ e5 (hR.be_lt t) (by rw [e8]; exact (cond3_iff _).2 hn) _ e9 hz W Q)
    isplitl [H1]; · iexact H1
    isplitl [H4]; · iexact H4
    isplitl [HB]; · iexact HB
    isplitl [HU]; · iexact HU
    isplitl [HD]; · iexact HD
    isplitl [HW]; · iexact HW
    iintro ⟨H1, H4, HB, HU, HD, HW⟩
    iapply Hk
    isplitl [H1]; · iexact H1
    isplitl [H4]; · iexact H4
    isplitl [HB HU HD]
    · unfold coreAt; rw [pend_pos c fU fD hz]
      isplitl [HU]; · iexact HU
      isplitl [HD]; · iexact HD
      iexact HB
    iexact HW
  · iintro ⟨H1, H4, HB, HU, HD, ⟨%W, HW⟩, Hk⟩
    iapply (prepare_last i arg5 harg5 arg7 harg7 arg9 harg9 arg10 harg10 c v1 v5 v9 k be nx fU fD h _ e5 (hR.be_lt t) (by rw [e8]; exact fun h => hn ((cond3_iff _).1 h)) W Q)
    isplitl [H1]; · iexact H1
    isplitl [H4]; · iexact H4
    isplitl [HB]; · iexact HB
    isplitl [HU]; · iexact HU
    isplitl [HD]; · iexact HD
    isplitl [HW]; · iexact HW
    iintro ⟨H1, H4, HB, HU, HD, HW⟩
    iapply Hk
    isplitl [H1]; · iexact H1
    isplitl [H4]; · iexact H4
    isplitl [HB HU HD]
    · unfold coreAt; rw [pend_neg c fU fD (by omega)]
      isplitl [HU]; · iexact HU
      isplitl [HD]; · iexact HD
      iexact HB
    iexact HW

/-- The first two pieces of the body at a point. -/
theorem stage_step (k : Unit → Prog (TpuEff nD τ sig (Elt F) Λ₀ .tc) PUnit) (t : Fin 160) (hi : (i 0).val = t.val) (v1 v5 v9 : BitVec 32) (h1 : v1 = nv (ix1 t)) (h5 : v5 = be (ix1 (prev t))) (h9 : v9 = be (ix1 t)) (Q : PUnit → sProp 𝕄) :
    iprop(tbPt c tbM1 be ∗ tbPt c tbM4 nx ∗ core c fU fD hR t.val ∗ (∃ W, owes (c : Thread nD τ) 0 W)
      ∗ (iprop(tbPt c tbM1 be ∗ tbPt c tbM4 nx ∗ core c fU fD hR (t.val + 1) ∗ (∃ W, owes (c : Thread nD τ) 0 W)) -∗ wp frame (wpE (defs₀ (F := F)) Variants.none c none) Set.univ (k ⟨⟩) Q))
    ⊢ wp frame (wpE (defs₀ (F := F)) Variants.none c none) Set.univ (issueFirst i arg5 harg5 arg7 harg7 arg9 harg9 arg10 harg10 v1 fun _ => prepare i arg5 harg5 arg7 harg7 arg9 harg9 arg10 harg10 v1 v5 v9 k) Q := by
  subst h1 h5 h9
  by_cases hu : t.val < (nu (ix1 0)).toNat
  · have hp := (hR.nv_pos t).2 hu
    rw [core_used c fU fD hR t hu]
    by_cases h0 : t.val = 0
    · have hc1 : k0_cond1 i (nv (ix1 t)) = 1#1 := (cond1_iff _ _).2 ⟨hi.trans h0, hp⟩
      have hc2 : k0_cond2 i (nv (ix1 t)) (be (ix1 (prev t))) (be (ix1 t)) = 1#1 := (cond2_iff _ _ _ _).2 ⟨hp, Or.inl (hi.trans h0)⟩
      have e0 : View.readAt (Elt F) tbM1.view (Rect.unit (s := S160) ![0] S1.size inb_S160_S1_0).toLoadRect be (Shape.Idx.first (by decide)) = be (ix1 t) :=
        word _ _ _ be t h0.symm
      rw [h0, core_zero]
      unfold coreIdle
      iintro ⟨H1, H4, ⟨HI, HU, HD⟩, HW, Hk⟩
      iapply (issue_run i arg5 harg5 arg7 harg7 arg9 harg9 arg10 harg10 c (nv (ix1 t)) _ be fU fD hc1 _ e0 (hR.be_lt t) Q)
      isplitl [H1]; · iexact H1
      isplitl [HI]; · iexact HI
      iintro ⟨H1, HB⟩
      iapply (prepare_go c fU fD hR i arg5 harg5 arg7 harg7 arg9 harg9 arg10 harg10 k t hi _ _ _ hc2 Q)
      isplitl [H1]; · iexact H1
      isplitl [H4]; · iexact H4
      isplitl [HB]; · iexact HB
      isplitl [HU]; · iexact HU
      isplitl [HD]; · iexact HD
      isplitl [HW]; · iexact HW
      iexact Hk
    · have hc1 : ¬ k0_cond1 i (nv (ix1 t)) = 1#1 := fun h => h0 (hi.symm.trans ((cond1_iff _ _).1 h).1)
      refine .trans ?_ (issue_skip i arg5 harg5 arg7 harg7 arg9 harg9 arg10 harg10 c _ _ hc1 Q)
      rw [core_before c fU fD hR t (by omega) (by omega)]
      rcases hR.step t hu with ⟨hb, hx⟩ | ⟨hb, hx⟩
      · have hc2 : ¬ k0_cond2 i (nv (ix1 t)) (be (ix1 (prev t))) (be (ix1 t)) = 1#1 := fun h => by
          rcases ((cond2_iff _ _ _ _).1 h).2 with h | h
          · exact h0 (hi.symm.trans h)
          · exact h hb
        refine .trans ?_ (prepare_skip i arg5 harg5 arg7 harg7 arg9 harg9 arg10 harg10 c _ _ _ _ hc2 Q)
        have e : coreAt c fU fD hR (prev t) = coreAt c fU fD hR t := by
          have aux : ∀ (v w : BitVec 32) (hv : v.toNat < 32) (hw : w.toNat < 32), v = w → wtU fU v hv = wtU fU w hw ∧ wtD fD v hv = wtD fD w hw := by
            rintro v _ hv hw rfl; exact ⟨rfl, rfl⟩
          unfold coreAt; rw [hx, (aux _ _ (hR.be_lt t) (hR.be_lt (prev t)) hb).1, (aux _ _ (hR.be_lt t) (hR.be_lt (prev t)) hb).2]
        rw [e]
        iintro ⟨H1, H4, HC, HW, Hk⟩
        iapply Hk
        isplitl [H1]; · iexact H1
        isplitl [H4]; · iexact H4
        isplitl [HC]; · iexact HC
        iexact HW
      · have hc2 : k0_cond2 i (nv (ix1 t)) (be (ix1 (prev t))) (be (ix1 t)) = 1#1 := (cond2_iff _ _ _ _).2 ⟨hp, Or.inr hb⟩
        refine .trans ?_ (prepare_go c fU fD hR i arg5 harg5 arg7 harg7 arg9 harg9 arg10 harg10 k t hi _ _ _ hc2 Q)
        conv_lhs => unfold coreAt
        rw [hx, pend_pos c fU fD (hR.be_lt t)]
        iintro ⟨H1, H4, ⟨HU, HD, HB⟩, HW, Hk⟩
        isplitl [H1]; · iexact H1
        isplitl [H4]; · iexact H4
        isplitl [HB]; · iexact HB
        isplitl [HU]; · iexists _; iexact HU
        isplitl [HD]; · iexists _; iexact HD
        isplitl [HW]; · iexact HW
        iexact Hk
  · have hp : ¬ 0 < (nv (ix1 t)).toInt := fun h => hu ((hR.nv_pos t).1 h)
    have hc1 : ¬ k0_cond1 i (nv (ix1 t)) = 1#1 := fun h => hp ((cond1_iff _ _).1 h).2
    have hc2 : ¬ k0_cond2 i (nv (ix1 t)) (be (ix1 (prev t))) (be (ix1 t)) = 1#1 := fun h => hp ((cond2_iff _ _ _ _).1 h).1
    refine .trans ?_ (issue_skip i arg5 harg5 arg7 harg7 arg9 harg9 arg10 harg10 c _ _ hc1 Q)
    refine .trans ?_ (prepare_skip i arg5 harg5 arg7 harg7 arg9 harg9 arg10 harg10 c _ _ _ _ hc2 Q)
    rw [core_over c fU fD hR (t.val + 1) (by omega)]
    have e : core c fU fD hR t.val ⊢ coreIdle c fU fD := by
      by_cases h : (nu (ix1 0)).toNat < t.val
      · rw [core_over c fU fD hR _ h]
      · by_cases h0 : t.val = 0
        · rw [h0, core_zero]
        · rw [core_before c fU fD hR t (by omega) (by omega)]
          exact coreAt_last c fU fD hR (prev t) (by show t.val - 1 + 1 = _; omega)
    iintro ⟨H1, H4, HC, HW, Hk⟩
    iapply Hk
    isplitl [H1]; · iexact H1
    isplitl [H4]; · iexact H4
    isplitl [HC]; · iapply e; iexact HC
    iexact HW

/-- The same, at a block in use, the scratch named. -/
theorem stage_used (k : Unit → Prog (TpuEff nD τ sig (Elt F) Λ₀ .tc) PUnit) (t : Fin 160) (hi : (i 0).val = t.val) (hu : t.val < (nu (ix1 0)).toNat) (v1 v5 v9 : BitVec 32) (h1 : v1 = nv (ix1 t)) (h5 : v5 = be (ix1 (prev t))) (h9 : v9 = be (ix1 t)) (Q : PUnit → sProp 𝕄) :
    iprop(tbPt c tbM1 be ∗ tbPt c tbM4 nx ∗ core c fU fD hR t.val ∗ (∃ W, owes (c : Thread nD τ) 0 W)
      ∗ (iprop(tbPt c tbM1 be ∗ tbPt c tbM4 nx
        ∗ iprop(owns (c : Thread nD τ) scU16 fullShare (rnd (wtU fU (be (ix1 t)) (hR.be_lt t))) ∗ owns (c : Thread nD τ) scD16 fullShare (rnd (wtD fD (be (ix1 t)) (hR.be_lt t))) ∗ pend c fU fD (nx (ix1 t)))
        ∗ (∃ W, owes (c : Thread nD τ) 0 W)) -∗ wp frame (wpE (defs₀ (F := F)) Variants.none c none) Set.univ (k ⟨⟩) Q))
    ⊢ wp frame (wpE (defs₀ (F := F)) Variants.none c none) Set.univ (issueFirst i arg5 harg5 arg7 harg7 arg9 harg9 arg10 harg10 v1 fun _ => prepare i arg5 harg5 arg7 harg7 arg9 harg9 arg10 harg10 v1 v5 v9 k) Q := by
  have h := stage_step c fU fD hR i arg5 harg5 arg7 harg7 arg9 harg9 arg10 harg10 k t hi v1 v5 v9 h1 h5 h9 Q
  rw [core_used c fU fD hR t hu] at h
  exact h

/-- The point's result. -/
def outAt (v : BitVec 32) (x : Vec F S512x1024 .f32) (bu : Vec F S1x1x2048 .f32) (bd : Vec F S1x1x1024 .f32) (u : Vec F S1024x2048 .bf16) (d : Vec F S1024x1024 .bf16) : Vec F S512x1024 .f32 :=
  if 0 < v.toInt then if 256 < v.toInt then outFull x bu bd u d else outHalf x bu bd u d else k0_pay4 (F := F)

/-- The three pieces that compute, at a block in use. -/
theorem used_step (k : Unit → Prog (TpuEff nD τ sig (Elt F) Λ₀ .tc) PUnit) (w v1 : BitVec 32) (hv : v1 = w) (x : Vec F S512x1024 .f32) (bu : Vec F S1x1x2048 .f32) (bd : Vec F S1x1x1024 .f32) (u : Vec F S1024x2048 .bf16) (d : Vec F S1024x1024 .bf16)
    (hp : 0 < v1.toInt) (Q : PUnit → sProp 𝕄) :
    iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ (∃ o, owns (c : Thread nD τ) arg10 fullShare o)
      ∗ (iprop(owns (c : Thread nD τ) arg5 fullShare x ∗ owns (c : Thread nD τ) arg7 fullShare bu ∗ owns (c : Thread nD τ) arg9 fullShare bd
        ∗ owns (c : Thread nD τ) scU16 fullShare u ∗ owns (c : Thread nD τ) scD16 fullShare d ∗ owns (c : Thread nD τ) arg10 fullShare (outAt v1 x bu bd u d))
        -∗ wp frame (wpE (defs₀ (F := F)) Variants.none c none) Set.univ (k ⟨⟩) Q))
    ⊢ wp frame (wpE (defs₀ (F := F)) Variants.none c none) Set.univ (fullBlock i arg5 harg5 arg7 harg7 arg9 harg9 arg10 harg10 w fun _ => halfBlock i arg5 harg5 arg7 harg7 arg9 harg9 arg10 harg10 w fun _ => clearBlock i arg5 harg5 arg7 harg7 arg9 harg9 arg10 harg10 w k) Q := by
  subst hv
  have hc6 : ¬ k0_cond6 v1 = 1#1 := fun h => by have := (cond6_iff _).1 h; omega
  unfold outAt
  rw [if_pos hp]
  by_cases h : 256 < v1.toInt
  · have hc4 : k0_cond4 v1 = 1#1 := (cond4_iff _).2 h
    have hc5 : ¬ k0_cond5 v1 = 1#1 := fun h' => by have := (cond5_iff _).1 h'; omega
    rw [if_pos h]
    iintro ⟨H5, H7, H9, HU, HD, H10, Hk⟩
    iapply (full_run i arg5 harg5 arg7 harg7 arg9 harg9 arg10 harg10 c v1 _ x bu bd u d hc4 Q)
    isplitl [H5]; · iexact H5
    isplitl [H7]; · iexact H7
    isplitl [H9]; · iexact H9
    isplitl [HU]; · iexact HU
    isplitl [HD]; · iexact HD
    isplitl [H10]; · iexact H10
    iintro H
    iapply (half_skip i arg5 harg5 arg7 harg7 arg9 harg9 arg10 harg10 c v1 _ hc5 Q)
    iapply (clear_skip i arg5 harg5 arg7 harg7 arg9 harg9 arg10 harg10 c v1 _ hc6 Q)
    iapply Hk
    iexact H
  · have hc4 : ¬ k0_cond4 v1 = 1#1 := fun h' => h ((cond4_iff _).1 h')
    have hc5 : k0_cond5 v1 = 1#1 := (cond5_iff _).2 ⟨hp, by omega⟩
    rw [if_neg h]
    iintro ⟨H5, H7, H9, HU, HD, H10, Hk⟩
    iapply (full_skip i arg5 harg5 arg7 harg7 arg9 harg9 arg10 harg10 c v1 _ hc4 Q)
    iapply (half_run i arg5 harg5 arg7 harg7 arg9 harg9 arg10 harg10 c v1 _ x bu bd u d hc5 Q)
    isplitl [H5]; · iexact H5
    isplitl [H7]; · iexact H7
    isplitl [H9]; · iexact H9
    isplitl [HU]; · iexact HU
    isplitl [HD]; · iexact HD
    isplitl [H10]; · iexact H10
    iintro H
    iapply (clear_skip i arg5 harg5 arg7 harg7 arg9 harg9 arg10 harg10 c v1 _ hc6 Q)
    iapply Hk
    iexact H

/-- At an unused one. -/
theorem clear_step (k : Unit → Prog (TpuEff nD τ sig (Elt F) Λ₀ .tc) PUnit) (w v1 : BitVec 32) (hv : v1 = w) (hz : v1.toInt = 0) (Q : PUnit → sProp 𝕄) :
    iprop((∃ o, owns (c : Thread nD τ) arg10 fullShare o) ∗ (owns (c : Thread nD τ) arg10 fullShare (k0_pay4 (F := F)) -∗ wp frame (wpE (defs₀ (F := F)) Variants.none c none) Set.univ (k ⟨⟩) Q))
    ⊢ wp frame (wpE (defs₀ (F := F)) Variants.none c none) Set.univ (fullBlock i arg5 harg5 arg7 harg7 arg9 harg9 arg10 harg10 w fun _ => halfBlock i arg5 harg5 arg7 harg7 arg9 harg9 arg10 harg10 w fun _ => clearBlock i arg5 harg5 arg7 harg7 arg9 harg9 arg10 harg10 w k) Q := by
  subst hv
  refine .trans ?_ (full_skip i arg5 harg5 arg7 harg7 arg9 harg9 arg10 harg10 c v1 _ (fun h' => by have := (cond4_iff _).1 h'; omega) Q)
  refine .trans ?_ (half_skip i arg5 harg5 arg7 harg7 arg9 harg9 arg10 harg10 c v1 _ (fun h' => by have := (cond5_iff _).1 h'; omega) Q)
  exact clear_run i arg5 harg5 arg7 harg7 arg9 harg9 arg10 harg10 c v1 k ((cond6_iff _).2 hz) Q

omit hR in
theorem wp_ret' (Q : PUnit → sProp 𝕄) : Q ⟨⟩ ⊢ wp frame (wpE (defs₀ (F := F)) Variants.none c none) Set.univ (Pure.pure ⟨⟩ : Prog (TpuEff nD τ sig (Elt F) Λ₀ .tc) PUnit) Q := by
  rw [wp_pure]; exact fupd_intro

set_option maxHeartbeats 1000000 in
/-- The body at a point. -/
theorem body_run (t : Fin 160) (hi : (i 0).val = t.val) (x : Vec F S512x1024 .f32) (bu : Vec F S1x1x2048 .f32) (bd : Vec F S1x1x1024 .f32) (Q : PUnit → sProp 𝕄) :
    iprop(tbPt c tbM1 be ∗ tbPt c tbM3 nv ∗ tbPt c tbM4 nx ∗ core c fU fD hR t.val ∗ (∃ W, owes (c : Thread nD τ) 0 W)
      ∗ owns (c : Thread nD τ) arg5 fullShare x ∗ owns (c : Thread nD τ) arg7 fullShare bu ∗ owns (c : Thread nD τ) arg9 fullShare bd ∗ (∃ o, owns (c : Thread nD τ) arg10 fullShare o)
      ∗ (iprop(tbPt c tbM1 be ∗ tbPt c tbM3 nv ∗ tbPt c tbM4 nx ∗ core c fU fD hR (t.val + 1) ∗ (∃ W, owes (c : Thread nD τ) 0 W)
          ∗ owns (c : Thread nD τ) arg5 fullShare x ∗ owns (c : Thread nD τ) arg7 fullShare bu ∗ owns (c : Thread nD τ) arg9 fullShare bd
          ∗ owns (c : Thread nD τ) arg10 fullShare (outAt (nv (ix1 t)) x bu bd (rnd (wtU fU (be (ix1 t)) (hR.be_lt t))) (rnd (wtD fD (be (ix1 t)) (hR.be_lt t))))) -∗ Q ⟨⟩))
    ⊢ wp frame (wpE (defs₀ (F := F)) Variants.none c none) Set.univ (pieces i arg5 harg5 arg7 harg7 arg9 harg9 arg10 harg10) Q := by
  unfold pieces
  by_cases hp : 0 < (nv (ix1 t)).toInt
  · have hu := (hR.nv_pos t).1 hp
    rw [core_used c fU fD hR t hu]
    unfold coreAt
    iintro ⟨H1, H3, H4, HC, HW, H5, H7, H9, H10, Hk⟩
    sl_exec
    iapply (stage_used c fU fD hR i arg5 harg5 arg7 harg7 arg9 harg9 arg10 harg10 _ t hi hu _ _ _ (word _ _ _ nv t ((off1 i).trans hi)) (word _ _ _ be (prev t) ((off2 i).trans (by rw [hi]; rfl))) (word _ _ _ be t ((off1 i).trans hi)) Q)
    isplitl [H1]; · iexact H1
    isplitl [H4]; · iexact H4
    isplitl [HC]; · iexact HC
    isplitl [HW]; · iexact HW
    iintro ⟨H1, H4, ⟨HU, HD, HP⟩, HW⟩
    iapply (used_step c i arg5 harg5 arg7 harg7 arg9 harg9 arg10 harg10 _ _ _ (word _ _ _ nv t ((off1 i).trans hi)).symm x bu bd _ _ hp Q)
    isplitl [H5]; · iexact H5
    isplitl [H7]; · iexact H7
    isplitl [H9]; · iexact H9
    isplitl [HU]; · iexact HU
    isplitl [HD]; · iexact HD
    isplitl [H10]; · iexact H10
    iintro ⟨H5, H7, H9, HU, HD, H10⟩
    iapply wp_ret'
    iapply Hk
    isplitl [H1]; · iexact H1
    isplitl [H3]; · iexact H3
    isplitl [H4]; · iexact H4
    isplitl [HU HD HP]
    · isplitl [HU]; · iexact HU
      isplitl [HD]; · iexact HD
      iexact HP
    isplitl [HW]; · iexact HW
    isplitl [H5]; · iexact H5
    isplitl [H7]; · iexact H7
    isplitl [H9]; · iexact H9
    iexact H10
  · have hz : (nv (ix1 t)).toInt = 0 := by have := hR.nv_nonneg t; omega
    unfold outAt
    rw [if_neg hp]
    iintro ⟨H1, H3, H4, HC, HW, H5, H7, H9, H10, Hk⟩
    sl_exec
    iapply (stage_step c fU fD hR i arg5 harg5 arg7 harg7 arg9 harg9 arg10 harg10 _ t hi _ _ _ (word _ _ _ nv t ((off1 i).trans hi)) (word _ _ _ be (prev t) ((off2 i).trans (by rw [hi]; rfl))) (word _ _ _ be t ((off1 i).trans hi)) Q)
    isplitl [H1]; · iexact H1
    isplitl [H4]; · iexact H4
    isplitl [HC]; · iexact HC
    isplitl [HW]; · iexact HW
    iintro ⟨H1, H4, HC, HW⟩
    iapply (clear_step c i arg5 harg5 arg7 harg7 arg9 harg9 arg10 harg10 _ _ _ (word _ _ _ nv t ((off1 i).trans hi)).symm hz Q)
    isplitl [H10]; · iexact H10
    iintro H10
    iapply wp_ret'
    iapply Hk
    isplitl [H1]; · iexact H1
    isplitl [H3]; · iexact H3
    isplitl [H4]; · iexact H4
    isplitl [HC]; · iexact HC
    isplitl [HW]; · iexact HW
    isplitl [H5]; · iexact H5
    isplitl [H7]; · iexact H7
    isplitl [H9]; · iexact H9
    iexact H10

end
end Cert.Kernel2Ideal.Own

end
-- ==== Proof.ExpertsIdeal.Launch.lean ====
/- The launch: the blocks lie inside their arrays, the body keeps the invariant at every point, and the arguments end unchanged. -/
module

public import proofs.«01_k».proof.Proof.ExpertsIdeal.Step
public import Idealize.ShloMosaic.Lib.Claim

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The tables by name. -/
def be : S160.Idx → BitVec 32 := tbl m 0
def nu : S1.Idx → BitVec 32 := tbl m 1
def nv : S160.Idx → BitVec 32 := tbl m 2
def nx : S160.Idx → BitVec 32 := tbl m 3
theorem tables_eq (c : Dev nD) : (Pipeline.ΦT pre0 (tbl m) c : sProp 𝕄) = iprop(tbPt c tbM1 (be m) ∗ tbPt c tbM2 (nu m) ∗ tbPt c tbM3 (nv m) ∗ tbPt c tbM4 (nx m)) :=
  PhiT_eq m c

/-- What is asked of the launched tables. -/
abbrev Rt : Prop := Routed (be m) (nu m) (nv m) (nx m)

theorem min_lt (x w : BitVec 32) (h : x.toNat < 160) : (Scalar.minsi x (Scalar.maxsi w 0#32)).toNat < 160 := by
  have hx : x.toInt = x.toNat := BitVec.toInt_eq_toNat_of_lt (by omega)
  have hw : 0 ≤ (Scalar.maxsi w 0#32).toInt := by
    simp only [Scalar.maxsi, IntOp.maxsi]
    split <;> rename_i h
    · rw [BitVec.slt_iff_toInt_lt] at h; exact le_of_lt h
    · exact le_refl _
  show (IntOp.minsi x (Scalar.maxsi w 0#32)).toNat < 160
  simp only [IntOp.minsi]
  split <;> rename_i h'
  · exact h
  · rw [BitVec.slt_iff_toInt_lt] at h'; exact toNat_lt_of_toInt hw (by omega)

/-- The blocks lie inside their arrays. -/
theorem ok_of (hR : Rt m) : Ok m := by
  refine ⟨fun i => ⟨?_, Or.inl rfl⟩, fun i => ⟨?_, Or.inl rfl⟩, fun i => ⟨?_, Or.inl rfl⟩⟩
  · intro a
    match a with
    | 0 =>
      have h : cc0_transform_0 inb_S1_S1_0 numel1_S1 (tbl m) i 0 < 160 := min_lt _ _ (by rw [toNat_word (i 0).isLt]; exact (i 0).isLt)
      show (cc0_transform_0 inb_S1_S1_0 numel1_S1 (tbl m) i 0 + 1) * 512 ≤ 81920
      omega
    | 1 => exact Nat.le_refl _
  · intro a
    match a with
    | 0 =>
      have h : cc0_transform_2 k0_off1_inb numel1_S1 (tbl m) i 0 < 32 := by
        have := hR.be_lt ⟨(i 0).val, (i 0).isLt⟩
        rw [← word (k0_off1 i) (k0_off1_inb i) (numel1_S1.symm ▸ Nat.one_pos) (be m) ⟨(i 0).val, (i 0).isLt⟩ (off1 i)] at this
        exact this
      show (cc0_transform_2 k0_off1_inb numel1_S1 (tbl m) i 0 + 1) * 1 ≤ 32
      omega
    | 1 => exact Nat.le_refl _
    | 2 => exact Nat.le_refl _
  · intro a
    match a with
    | 0 =>
      have h : cc0_transform_4 k0_off1_inb numel1_S1 (tbl m) i 0 < 32 := by
        have := hR.be_lt ⟨(i 0).val, (i 0).isLt⟩
        rw [← word (k0_off1 i) (k0_off1_inb i) (numel1_S1.symm ▸ Nat.one_pos) (be m) ⟨(i 0).val, (i 0).isLt⟩ (off1 i)] at this
        exact this
      show (cc0_transform_4 k0_off1_inb numel1_S1 (tbl m) i 0 + 1) * 1 ≤ 32
      omega
    | 1 => exact Nat.le_refl _
    | 2 => exact Nat.le_refl _

variable (hR : Rt m) (hO : Ok m)

theorem lt_160 (t : Fin (cfgM m hO).N) : t.val < 160 := t.isLt.trans_eq N_0
/-- A point's number. -/
def pt (t : Fin (cfgM m hO).N) : Fin 160 := ⟨t.val, lt_160 m hO t⟩

/-- What a point leaves in the result's block. -/
def leftAt (c : Dev nD) (t : Fin (cfgM m hO).N) : Vec F S512x1024 .f32 :=
  outAt (nv m (ix1 (pt m hO t))) (iblk m hO c 0 t) (iblk m hO c 1 t) (iblk m hO c 2 t)
    (rnd (wtU (c := c) (V m c main_arg5) (be m (ix1 (pt m hO t))) (hR.be_lt _)))
    (rnd (wtD (c := c) (V m c main_arg7) (be m (ix1 (pt m hO t))) (hR.be_lt _)))

/-- The invariant between points. -/
def inv (c : Dev nD) (n : ℕ) : sProp 𝕄 :=
  iprop(core c (V m c main_arg5) (V m c main_arg7) hR n ∗ (∃ r, prngReg c r)
    ∗ tbPt c tbM1 (be m) ∗ tbPt c tbM2 (nu m) ∗ tbPt c tbM3 (nv m) ∗ tbPt c tbM4 (nx m))

def dats (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => leftAt m hR hO c t
  Φ t := inv m hR c t.val
  q _ := fullShare
  owed _ := 0

theorem A_eq (c : Dev nD) (w : Fin (cfgM m hO).W) : (dats m hR hO 0 c).A w = V m c (Pipeline.arrRef spec0 w) := by
  dsimp only [dats]
theorem after0 (c : Dev nD) (t : Fin (cfgM m hO).N) : (dats m hR hO 0 c).after 0 t = iblk m hO c 0 t := by dsimp only [dats]; try rfl
theorem after1 (c : Dev nD) (t : Fin (cfgM m hO).N) : (dats m hR hO 0 c).after 1 t = iblk m hO c 1 t := by dsimp only [dats]; try rfl
theorem after2 (c : Dev nD) (t : Fin (cfgM m hO).N) : (dats m hR hO 0 c).after 2 t = iblk m hO c 2 t := by dsimp only [dats]; try rfl
theorem after3 (c : Dev nD) (t : Fin (cfgM m hO).N) : (dats m hR hO 0 c).after 3 t = leftAt m hR hO c t := by dsimp only [dats]; try rfl

theorem before0 (c : Dev nD) (t : Fin (cfgM m hO).N) (d) : (dats m hR hO 0 c).before 0 t d = iblk m hO c 0 t :=
  before0_of m hO (dats m hR hO 0 c) (A_eq m hR hO c 0) (after0 m hR hO c) t d
theorem before1 (c : Dev nD) (t : Fin (cfgM m hO).N) (d) : (dats m hR hO 0 c).before 1 t d = iblk m hO c 1 t :=
  before1_of m hO (dats m hR hO 0 c) (A_eq m hR hO c 1) (after1 m hR hO c) t d
theorem before2 (c : Dev nD) (t : Fin (cfgM m hO).N) (d) : (dats m hR hO 0 c).before 2 t d = iblk m hO c 2 t :=
  before2_of m hO (dats m hR hO 0 c) (A_eq m hR hO c 2) (after2 m hR hO c) t d

/-- The body at point `t`. -/
abbrev bodyAt (t : Fin (cfgM m hO).N) : Prog (TpuEff nD τ sig (Elt F) Λ₀ .tc) PUnit :=
  pieces (grid0.coords t) (ms0 m hO t) (hs0 m hO t) (ms1 m hO t) (hs1 m hO t) (ms2 m hO t) (hs2 m hO t) (ms3 m hO t) (hs3 m hO t)

def bodyPre (c : Dev nD) (t : Fin (cfgM m hO).N) : sProp 𝕄 :=
  iprop((dats m hR hO 0 c).Φ t.castSucc ∗ (dats m hR hO 0 c).owesAt () t.castSucc
    ∗ (∃ d, owns (c : Thread nD τ) (ms0 m hO t) fullShare ((dats m hR hO 0 c).before 0 t d))
    ∗ (∃ d, owns (c : Thread nD τ) (ms1 m hO t) fullShare ((dats m hR hO 0 c).before 1 t d))
    ∗ (∃ d, owns (c : Thread nD τ) (ms2 m hO t) fullShare ((dats m hR hO 0 c).before 2 t d))
    ∗ (∃ d, owns (c : Thread nD τ) (ms3 m hO t) fullShare ((dats m hR hO 0 c).before 3 t d)))

def bodyPost (c : Dev nD) (t : Fin (cfgM m hO).N) : sProp 𝕄 :=
  iprop((dats m hR hO 0 c).Φ t.succ ∗ (dats m hR hO 0 c).owesAt () t.succ
    ∗ owns (c : Thread nD τ) (ms0 m hO t) fullShare ((dats m hR hO 0 c).after 0 t)
    ∗ owns (c : Thread nD τ) (ms1 m hO t) fullShare ((dats m hR hO 0 c).after 1 t)
    ∗ owns (c : Thread nD τ) (ms2 m hO t) fullShare ((dats m hR hO 0 c).after 2 t)
    ∗ owns (c : Thread nD τ) (ms3 m hO t) fullShare ((dats m hR hO 0 c).after 3 t))

theorem sound_body (c : Dev nD) (t : Fin (cfgM m hO).N) :
    bodyPre m hR hO c t ⊢ wp frame (wpE (defs₀ (F := F)) Variants.none c none) Set.univ (bodyAt m hO t) (fun _ => bodyPost m hR hO c t) := by
  unfold bodyPre bodyPost
  simp only [before0, before1, before2]
  rw [show (dats m hR hO 0 c).Φ t.succ = inv m hR c ((pt m hO t).val + 1) from rfl, show (dats m hR hO 0 c).Φ t.castSucc = inv m hR c (pt m hO t).val from rfl,
    after0, after1, after2, after3]
  unfold Dat.owesAt Pipeline.owesWithin inv leftAt
  rw [show (dats m hR hO 0 c).owed t.castSucc = 0 from rfl, show (dats m hR hO 0 c).owed t.succ = 0 from rfl]
  iintro ⟨⟨HC, Hg, T1, T2, T3, T4⟩, ⟨%W, -, HW⟩, ⟨%d0, H0⟩, ⟨%d1, H1⟩, ⟨%d2, H2⟩, ⟨%d3, H3⟩⟩
  iapply (body_run c (V m c main_arg5) (V m c main_arg7) hR (grid0.coords t) _ _ _ _ _ _ _ _ (pt m hO t) (coord t) (iblk m hO c 0 t) (iblk m hO c 1 t) (iblk m hO c 2 t) _)
  isplitl [T1]; · iexact T1
  isplitl [T3]; · iexact T3
  isplitl [T4]; · iexact T4
  isplitl [HC]; · iexact HC
  isplitl [HW]; · iexists _; iexact HW
  isplitl [H0]; · iexact H0
  isplitl [H1]; · iexact H1
  isplitl [H2]; · iexact H2
  isplitl [H3]; · iexists _; iexact H3
  iintro ⟨T1, T3, T4, HC, ⟨%W', HW⟩, H0, H1, H2, H3⟩
  isplitl [HC Hg T1 T2 T3 T4]
  · isplitl [HC]; · iexact HC
    isplitl [Hg]; · iexact Hg
    isplitl [T1]; · iexact T1
    isplitl [T2]; · iexact T2
    isplitl [T3]; · iexact T3
    iexact T4
  isplitl [HW]
  · iexists W'; isplitr; · ipureintro; exact fun _ _ => Or.inl trivial
    iexact HW
  isplitl [H0]; · iexact H0
  isplitl [H1]; · iexact H1
  isplitl [H2]; · iexact H2
  iexact H3

theorem defs₀_row (t : Fin (cfgM m hO).N) :
    defs₀ (F := F) .tc (cfgM m hO).body ((cfgM m hO).bodyArgs t ((cfgM m hO).slots t)) = bodyAt m hO t := by
  unfold defs₀; rw [Defs.onTc_tc]; exact pieces_eq _ _ _ _ _ _ _ _ _

/-- Every point stores into the result's block. -/
theorem not_idle (hR : Rt m) (t : Fin (cfgM m hO).N) : (cfgM m hO).idle 3 ((cfgM m hO).grid.coords t) = false := by
  have h0 := hR.nv_nonneg (pt m hO t)
  have e : (tbl m).atD 2 (k0_off1 (grid0.coords t)) = nv m (ix1 (pt m hO t)) := by
    have h1 : ∀ a : Fin 1, k0_off1 (grid0.coords t) a + 1 ≤ S160.size a := fun a => by
      match a with
      | 0 => exact k0_off1_inb (grid0.coords t) 0
    have h2 : (fun a => ⟨k0_off1 (grid0.coords t) a, h1 a⟩ : S160.Idx) = ix1 (pt m hO t) := funext fun (a : Fin 1) => by
      match a with
      | 0 => exact Fin.ext ((off1 _).trans (coord t))
    exact (dif_pos h1).trans (congrArg (nv m) h2)
  show (!(k0_cond4 ((tbl m).atD 2 (k0_off1 (grid0.coords t))) == 1#1) && !(k0_cond5 ((tbl m).atD 2 (k0_off1 (grid0.coords t))) == 1#1) && !(k0_cond6 ((tbl m).atD 2 (k0_off1 (grid0.coords t))) == 1#1)) = false
  rw [e]
  generalize nv m (ix1 (pt m hO t)) = v at h0
  by_cases h4 : 256 < v.toInt
  · rw [(cond4_iff v).2 h4]; rfl
  · by_cases h5 : 0 < v.toInt
    · rw [(cond5_iff v).2 ⟨h5, by omega⟩]; simp
    · rw [(cond6_iff v).2 (by omega)]; simp

theorem body_obligation (c : Dev nD) : BodyObligation (dats (F := F) m hR hO 0 c) (defs₀ (F := F)) Variants.none () Set.univ := fun t => by
  rw [bigSep_W0, bigSep_W0, defs₀_row m hO]
  refine triple_restated (sound_body m hR hO c t) rfl .rfl fun _ => ?_
  unfold bodyPost
  refine BIClass.sep_mono .rfl (BIClass.sep_mono .rfl (BIClass.sep_mono .rfl (BIClass.sep_mono .rfl (BIClass.sep_mono .rfl ?_))))
  have e := not_idle m hO hR t
  dsimp only
  split
  · rename_i h; exact absurd (h.symm.trans e) (by decide)
  · exact .rfl

theorem inv_in (c : Dev nD) : iprop(Pipeline.ΦD osem spec0 H0 (V m) c ∗ Pipeline.ΦT pre0 (tbl m) c) ⊢ inv m hR c 0 := by
  rw [PhiD_eq, tables_eq]
  unfold inv
  rw [core_zero]
  unfold coreIdle idleW
  iintro ⟨⟨⟨HU, HD, HU16, HD16⟩, Hg, ⟨Hq0, Hq1⟩, ⟨HhU, HhD⟩⟩, HT⟩
  isplitl [HU HD HU16 HD16 Hq0 Hq1 HhU HhD]
  · isplitl [HU HD Hq0 Hq1 HhU HhD]
    · isplitl [HU]; · iexact HU
      isplitl [HD]; · iexact HD
      isplitl [Hq0]; · iexact Hq0
      isplitl [Hq1]; · iexact Hq1
      isplitl [HhU]; · iexact HhU
      iexact HhD
    isplitl [HU16]; · iexact HU16
    iexact HD16
  isplitl [Hg]; · iexact Hg
  iexact HT

theorem inv_split (c : Dev nD) : inv m hR c 160 ⊢ iprop(coreIdle c (V m c main_arg5) (V m c main_arg7) ∗ (∃ r, prngReg c r)) := by
  have h := core_end c (V m c main_arg5) (V m c main_arg7) hR
  unfold inv
  iintro ⟨HC, Hg, -⟩
  isplitl [HC]; · iapply h; iexact HC
  iexact Hg

theorem inv_out (c : Dev nD) : inv m hR c 160 ⊢ Pipeline.ΦD osem spec0 H0 (V m) c := by
  rw [PhiD_eq]
  refine (inv_split m hR c).trans ?_
  unfold coreIdle idleW
  iintro ⟨⟨⟨HU, HD, Hq0, Hq1, HhU, HhD⟩, HU16, HD16⟩, Hg⟩
  isplitl [HU HD HU16 HD16]
  · isplitl [HU]; · iexact HU
    isplitl [HD]; · iexact HD
    isplitl [HU16]; · iexact HU16
    iexact HD16
  isplitl [Hg]; · iexact Hg
  isplitl [Hq0 Hq1]
  · isplitl [Hq0]; · iexact Hq0
    iexact Hq1
  isplitl [HhU]; · iexact HhU
  iexact HhD

set_option backward.isDefEq.respectTransparency.types false in
theorem run_main_quiescent : θ_run defs (onTc (τ := τ) (main (F := F))) (s₀ m ρ) (fun r => (Pipeline.FramePost (Pipeline.pin pcfgs fun _ => adm m hO) (dats m hR hO) 0 (V m)) r ∧ r.2.sem = fun _ => 0) :=
  Pipeline.θ_run_frameP_dma (Q' := _) pcfgs (fun _ => adm m hO) (dats m hR hO) (0 : Fin 1) launch0 osem defs₀ Variants.none ownSemFacts H0 H0_sub m ρ main
    (hbody := fun c => (body_obligation m hR hO c).loose) (hshare := fun c => (dats m hR hO 0 c).share_full fun _ => rfl)
    (howed := fun _ _ => rfl) (V := V m) (hmain := hmain m Variants.none) (hA := A_eq m hR hO) (hpf := V_pre m)
    (hin := fun c => inv_in m hR c) (hout := fun c => by
      have e : (dats m hR hO 0 c).Φ (Fin.last _) = inv m hR c 160 := congrArg (inv m hR c) N_0
      show (dats m hR hO 0 c).Φ (Fin.last _) ⊢ _
      rw [e]; exact inv_out m hR c)

theorem run_main : θ_run defs (onTc (τ := τ) (main (F := F))) (s₀ m ρ) (Pipeline.FramePost (Pipeline.pin pcfgs fun _ => adm m hO) (dats m hR hO) 0 (V m)) :=
  (θ_run defs _ _).mono (fun _ h => h.1) (run_main_quiescent m ρ hR hO)

theorem unchanged (hR : Rt m) (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hR hO) (A_eq m hR hO) (run_main m ρ hR hO)

/-- The arguments end unchanged and every semaphore at zero. -/
theorem frame_routed (hR : Rt m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hR (ok_of m hR)) ((θ_run defs _ _).mono (fun _ h => h.2) (run_main_quiescent m ρ hR (ok_of m hR)))

end Cert.Kernel2Ideal.Own

end
-- ==== Proof.ExpertsIdeal.Pre.lean ====
/- The precondition on the tables, decoded: it is what is asked of them. -/
module

public import proofs.«01_k».proof.Proof.ExpertsIdeal.Launch
public import proofs.«01_k».proof.Pre_routed

@[expose] public section

set_option maxRecDepth 16384

noncomputable section

namespace Cert.Kernel2Ideal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

namespace Pre
open Cert.Pre_routed.Facts

/-- The precondition's side conditions on shapes. -/
theorem facts : Cert.Pre_routed.Facts where
  shapeCasts_S1_S_ := by decide
  slices_S160_S1_0 := by decide
  slices_S160_S159_0 := by decide
  concatenates_S1_S159_S160_d0 := by decide
  bcast_S_S1 := by decide
  bcast_S_S160 := by decide

variable [Cert.Pre_routed.Facts]

/-- A table moved one place on, its first entry repeated. -/
def shifted (b : S160.Idx → BitVec 32) : IVec Cert.Pre_routed.S160 32 :=
  concatenate Cert.Pre_routed.S160 0 [⟨Cert.Pre_routed.S1, extractStridedSlice Cert.Pre_routed.S1 ![0] b slices_S160_S1_0⟩,
    ⟨Cert.Pre_routed.S159, extractStridedSlice Cert.Pre_routed.S159 ![0] b slices_S160_S159_0⟩] concatenates_S1_S159_S160_d0

theorem shifted_at (b : S160.Idx → BitVec 32) (t : Fin 160) : shifted b (ix1 t) = b (ix1 (prev t)) := by
  unfold shifted
  by_cases h : t.val = 0
  · rw [concatenate_pair_apply_left 0 _ _ concatenates_S1_S159_S160_d0 (ix1 t) rfl (ix1 0) (fun a => by
      match a with
      | 0 => exact h.symm)]
    show b _ = b _
    congr 1; funext a
    match a with
    | 0 => apply Fin.ext; show 0 + 0 = t.val - 1; omega
  · rw [concatenate_pair_apply_right 0 _ _ concatenates_S1_S159_S160_d0 (ix1 t) rfl rfl (ix1 ⟨t.val - 1, by omega⟩) (fun a ha => by
      match a with
      | 0 => exact absurd rfl ha) (by show t.val - 1 + 1 = t.val; omega)]
    show b _ = b _
    congr 1; funext a
    match a with
    | 0 => apply Fin.ext; show 0 + (t.val - 1) = t.val - 1; omega

/-- The number of blocks in use, repeated. -/
def count (n : S1.Idx → BitVec 32) : IVec Cert.Pre_routed.S160 32 :=
  broadcastInDim Cert.Pre_routed.S160 ![] bcast_S_S160 (shapeCast Cert.Pre_routed.S_ n shapeCasts_S1_S_)

theorem count_at (n : S1.Idx → BitVec 32) (x) : count n x = n (ix1 0) := by
  show n _ = n _
  congr 1; funext a
  match a with
  | 0 => exact Subsingleton.elim (α := Fin 1) _ _

theorem toInt_word {n : ℕ} (h : n < 200) : (BitVec.ofNat 32 n).toInt = n := by
  have e : (BitVec.ofNat 32 n).toNat = n := by rw [BitVec.toNat_ofNat]; omega
  rw [BitVec.toInt_eq_toNat_of_lt (by omega), e]

theorem bit_eq {a b : BitVec 1} (h : a = b) : a = 1#1 ↔ b = 1#1 := by rw [h]

end Pre
open Pre

/-- The tables that satisfy the precondition are as asked. -/
theorem routed_of [Cert.Pre_routed.Facts] (A0 : FVec F S81920x1024 .f32) (b : S160.Idx → BitVec 32) (n : S1.Idx → BitVec 32) (v x : S160.Idx → BitVec 32)
    (A5 : FVec F S32x1024x2048 .f32) (A6 : FVec F S32x1x2048 .f32) (A7 : FVec F S32x1024x1024 .f32) (A8 : FVec F S32x1x1024 .f32)
    (h1 : (Cert.Pre_routed.fn (F := F) A0 b n v x A5 A6 A7 A8).1 = fun _ => 1#1)
    (h2 : (Cert.Pre_routed.fn (F := F) A0 b n v x A5 A6 A7 A8).2.1 = fun _ => 1#1)
    (h3 : (Cert.Pre_routed.fn (F := F) A0 b n v x A5 A6 A7 A8).2.2.1 = fun _ => 1#1)
    (h4 : (Cert.Pre_routed.fn (F := F) A0 b n v x A5 A6 A7 A8).2.2.2.1 = fun _ => 1#1)
    (h5 : (Cert.Pre_routed.fn (F := F) A0 b n v x A5 A6 A7 A8).2.2.2.2.1 = fun _ => 1#1)
    (h6 : (Cert.Pre_routed.fn (F := F) A0 b n v x A5 A6 A7 A8).2.2.2.2.2 = fun _ => 1#1) : Routed b n v x := by
  have e1 : IntOp.andi (IntOp.cmpi .sge (n (ix1 0)) 0#32) (IntOp.cmpi .sle (n (ix1 0)) 160#32) = 1#1 := congrFun h1 (ix1 0)
  have e2 (t : Fin 160) : IntOp.andi (IntOp.cmpi .sge (b (ix1 t)) 0#32) (IntOp.cmpi .slt (b (ix1 t)) 32#32) = 1#1 := congrFun h2 (ix1 t)
  have e3 (t : Fin 160) : IntOp.andi (IntOp.cmpi .sge (v (ix1 t)) 0#32) (IntOp.cmpi .eq (IntOp.cmpi .sgt (v (ix1 t)) 0#32) (IntOp.cmpi .slt (BitVec.ofNat 32 t.val) (count n (ix1 t)))) = 1#1 := congrFun h3 (ix1 t)
  have e4 (t : Fin 160) : IntOp.cmpi .slt (x (ix1 t)) 32#32 = 1#1 := congrFun h4 (ix1 t)
  have e5 (t : Fin 160) : IntOp.ori (IntOp.ori (IntOp.cmpi .sge (BitVec.ofNat 32 t.val) (count n (ix1 t))) (IntOp.andi (IntOp.cmpi .eq (b (ix1 t)) (shifted b (ix1 t))) (IntOp.cmpi .eq (x (ix1 t)) (shifted x (ix1 t)))))
      (IntOp.andi (IntOp.cmpi .ne (b (ix1 t)) (shifted b (ix1 t))) (IntOp.cmpi .eq (shifted x (ix1 t)) (b (ix1 t)))) = 1#1 := congrFun h5 (ix1 t)
  have e6 (t : Fin 160) : IntOp.ori (IntOp.cmpi .ne (IntOp.addi (BitVec.ofNat 32 t.val) 1#32) (count n (ix1 t))) (IntOp.cmpi .slt (x (ix1 t)) 0#32) = 1#1 := congrFun h6 (ix1 t)
  simp only [count_at, shifted_at, IntOp.andi_eq_one, IntOp.ori_eq_one, IntOp.cmpi_sge, IntOp.cmpi_sle, IntOp.cmpi_slt, IntOp.cmpi_eq, IntOp.cmpi_ne] at e1 e2 e3 e4 e5 e6
  have n0 : 0 ≤ (n (ix1 0)).toInt := e1.1
  have n160 : (n (ix1 0)).toInt ≤ 160 := e1.2
  have nN : (n (ix1 0)).toInt = (n (ix1 0)).toNat := by
    have h1 := BitVec.toInt_eq_toNat_cond (n (ix1 0)); have h2 := (n (ix1 0)).isLt
    split at h1 <;> omega
  refine ⟨n0, n160, fun t => toNat_lt_of_toInt (e2 t).1 (e2 t).2, fun t => (e3 t).1, fun t => ?_, fun t => e4 t, fun t ht => ?_, fun t ht => ?_⟩
  · have h := bit_eq (e3 t).2
    rw [IntOp.cmpi_sgt, IntOp.cmpi_slt, toInt_word (n := t.val) (by omega), show (0#32 : BitVec 32).toInt = 0 from rfl] at h
    exact h.trans (by omega)
  · rcases e5 t with (h | h) | h
    · rw [toInt_word (n := t.val) (by omega)] at h; omega
    · exact Or.inl h
    · exact Or.inr h
  · rcases e6 t with h | h
    · refine absurd ?_ h
      apply BitVec.eq_of_toNat_eq
      show ((BitVec.ofNat 32 t.val) + 1#32).toNat = _
      rw [BitVec.toNat_add, BitVec.toNat_ofNat, ← ht]
      have := t.isLt
      show (t.val % 2 ^ 32 + 1) % 2 ^ 32 = _
      omega
    · exact h

end Cert.Kernel2Ideal.Own

end
-- ==== Proof.ExpertsIdeal.Value.lean ====
/- What a used block of the experts is left holding, element by element, over the extended reals. -/
module

public import proofs.«01_k».proof.Proof.ExpertsIdeal.Launch
public import Idealize.ShloMosaic.Lib.Pointwise

@[expose] public section

set_option maxRecDepth 16384

noncomputable section

namespace Cert.Kernel2Ideal.Own

open Idealize.ShloMosaic Idealize.ShloMosaic.TcCoe Idealize.SL.Sem
open Cert.Kernel2Ideal Cert.Kernel2Ideal.Gen
open scoped BigOperators

/-- The clipped, gated activation of one place. -/
def gate (g l : EReal) : EReal :=
  min g (Ideal.ofBits .f32 0x40E00000#32)
      * Ideal.logistic (Ideal.ofBits .f32 0x3FD9DB23#32 * min g (Ideal.ofBits .f32 0x40E00000#32))
    * (min (Ideal.ofBits .f32 0x40E00000#32) (max (Ideal.ofBits .f32 0xC0E00000#32) l) + 1)

theorem pay21_apply (x : Vec Ideal S512x1024 .f32) (r : Fin 512) (k : Fin 1024) : k0_pay21 x (ix2 r k) = x (ix2 r k) := rfl

theorem pay22_apply (x : Vec Ideal S512x1024 .f32) (ug : Vec Ideal S1024x512 .bf16) (bg : Vec Ideal S1x1x512 .f32) (ul : Vec Ideal S1024x512 .bf16)
    (bl : Vec Ideal S1x1x512 .f32) (d : Vec Ideal S512x1024 .bf16) (r : Fin 512) (n : Fin 1024) :
    k0_pay22 x ug bg ul bl d (ix2 r n)
      = ∑ f : Fin 512, gate ((∑ k : Fin 1024, x (ix2 r k) * ug (ix2 k f)) + bg (ix3 0 0 f))
          ((∑ k : Fin 1024, x (ix2 r k) * ul (ix2 k f)) + bl (ix3 0 0 f)) * d (ix2 f n) := by
  pointwise [k0_pay22, k0_pay21]
  rfl

theorem pay23_apply (x : Vec Ideal S512x1024 .f32) (ug : Vec Ideal S1024x512 .bf16) (r : Fin 512) (f : Fin 512) :
    k0_pay23 x ug (ix2 r f) = ∑ k : Fin 1024, x (ix2 r k) * ug (ix2 k f) := by
  pointwise [k0_pay23, k0_pay21]
  try rfl

theorem pay1_apply (xb : Vec Ideal S512x1024 .bf16) (acc : Vec Ideal S512x1024 .f32) (pre : Vec Ideal S512x512 .f32) (bg : Vec Ideal S1x1x512 .f32)
    (ul : Vec Ideal S1024x512 .bf16) (bl : Vec Ideal S1x1x512 .f32) (d : Vec Ideal S512x1024 .bf16) (bd : Vec Ideal S1x1x1024 .f32) (r : Fin 512) (n : Fin 1024) :
    k0_pay1 xb acc pre bg ul bl d bd (ix2 r n)
      = acc (ix2 r n) + (∑ f : Fin 512, gate (pre (ix2 r f) + bg (ix3 0 0 f))
          ((∑ k : Fin 1024, xb (ix2 r k) * ul (ix2 k f)) + bl (ix3 0 0 f)) * d (ix2 f n)) + bd (ix3 0 0 n) := by
  pointwise [k0_pay1]
  rfl

theorem pay24_apply (x : Vec Ideal S256x1024 .f32) (r : Fin 256) (k : Fin 1024) : k0_pay24 x (ix2 r k) = x (ix2 r k) := rfl

theorem pay25_apply (x : Vec Ideal S256x1024 .f32) (ug : Vec Ideal S1024x512 .bf16) (bg : Vec Ideal S1x1x512 .f32) (ul : Vec Ideal S1024x512 .bf16)
    (bl : Vec Ideal S1x1x512 .f32) (d : Vec Ideal S512x1024 .bf16) (r : Fin 256) (n : Fin 1024) :
    k0_pay25 x ug bg ul bl d (ix2 r n)
      = ∑ f : Fin 512, gate ((∑ k : Fin 1024, x (ix2 r k) * ug (ix2 k f)) + bg (ix3 0 0 f))
          ((∑ k : Fin 1024, x (ix2 r k) * ul (ix2 k f)) + bl (ix3 0 0 f)) * d (ix2 f n) := by
  pointwise [k0_pay25, k0_pay24]
  rfl

theorem pay26_apply (x : Vec Ideal S256x1024 .f32) (ug : Vec Ideal S1024x512 .bf16) (r : Fin 256) (f : Fin 512) :
    k0_pay26 x ug (ix2 r f) = ∑ k : Fin 1024, x (ix2 r k) * ug (ix2 k f) := by
  pointwise [k0_pay26, k0_pay24]
  try rfl

theorem pay2_apply (xb : Vec Ideal S256x1024 .bf16) (acc : Vec Ideal S256x1024 .f32) (pre : Vec Ideal S256x512 .f32) (bg : Vec Ideal S1x1x512 .f32)
    (ul : Vec Ideal S1024x512 .bf16) (bl : Vec Ideal S1x1x512 .f32) (d : Vec Ideal S512x1024 .bf16) (bd : Vec Ideal S1x1x1024 .f32) (r : Fin 256) (n : Fin 1024) :
    k0_pay2 xb acc pre bg ul bl d bd (ix2 r n)
      = acc (ix2 r n) + (∑ f : Fin 512, gate (pre (ix2 r f) + bg (ix3 0 0 f))
          ((∑ k : Fin 1024, xb (ix2 r k) * ul (ix2 k f)) + bl (ix3 0 0 f)) * d (ix2 f n)) + bd (ix3 0 0 n) := by
  pointwise [k0_pay2]
  rfl

/-! ## One place through one expert -/

/-- The places of the gates and of the linear parts among the 2048. -/
def low (f : Fin 1024) : Fin 2048 := ⟨f.val, by omega⟩
def high (f : Fin 1024) : Fin 2048 := ⟨1024 + f.val, by omega⟩

/-- One hidden place. -/
def hidden (X : Fin 1024 → EReal) (up : Fin 1024 → Fin 2048 → EReal) (bu : Fin 2048 → EReal) (j : Fin 2048) : EReal :=
  (∑ k : Fin 1024, X k * up k j) + bu j

/-- One place of the result. -/
def expert (X : Fin 1024 → EReal) (up : Fin 1024 → Fin 2048 → EReal) (bu : Fin 2048 → EReal) (dn : Fin 1024 → Fin 1024 → EReal)
    (bd : Fin 1024 → EReal) (n : Fin 1024) : EReal :=
  (∑ f : Fin 1024, gate (hidden X up bu (low f)) (hidden X up bu (high f)) * dn f n) + bd n

theorem sum_halves (g : Fin 1024 → EReal) :
    ∑ f : Fin 1024, g f = (∑ f : Fin 512, g ⟨f.val, by omega⟩) + ∑ f : Fin 512, g ⟨512 + f.val, by omega⟩ :=
  Fin.sum_univ_add (a := 512) (b := 512) (M := EReal) g

/-! ## The parts that are loaded -/

theorem ld_up (u : Vec Ideal S1024x2048 .bf16) (o : ℕ) (inb) (k : Fin 1024) (f : Fin 512) (j : Fin 2048) (hj : o + f.val = j.val) :
    View.ld u (Rect.unit (s := S1024x2048) ![0, o] S1024x512.size inb) (ix2 k f) = u (ix2 k j) := by
  show u _ = u _
  congr 1
  funext a
  apply Fin.ext
  match a with
  | ⟨0, _⟩ => show 0 + 1 * k.val = k.val; omega
  | ⟨1, _⟩ => show o + 1 * f.val = j.val; omega

theorem ld_bup (b : Vec Ideal S1x1x2048 .f32) (o : ℕ) (inb) (f : Fin 512) (j : Fin 2048) (hj : o + f.val = j.val) :
    View.ld b (Rect.unit (s := S1x1x2048) ![0, 0, o] S1x1x512.size inb) (ix3 0 0 f) = b (ix3 0 0 j) := by
  show b _ = b _
  congr 1
  funext a
  apply Fin.ext
  match a with
  | ⟨0, _⟩ => rfl
  | ⟨1, _⟩ => rfl
  | ⟨2, _⟩ => show o + 1 * f.val = j.val; omega

theorem ld_down (d : Vec Ideal S1024x1024 .bf16) (o : ℕ) (inb) (f : Fin 512) (n : Fin 1024) (j : Fin 1024) (hj : o + f.val = j.val) :
    View.ld d (Rect.unit (s := S1024x1024) ![o, 0] S512x1024.size inb) (ix2 f n) = d (ix2 j n) := by
  show d _ = d _
  congr 1
  funext a
  apply Fin.ext
  match a with
  | ⟨0, _⟩ => show o + 1 * f.val = j.val; omega
  | ⟨1, _⟩ => show 0 + 1 * n.val = n.val; omega

theorem ld_bdown (b : Vec Ideal S1x1x1024 .f32) (inb) (n : Fin 1024) :
    View.ld b (Rect.unit (s := S1x1x1024) ![0, 0, 0] S1x1x1024.size inb) (ix3 0 0 n) = b (ix3 0 0 n) := by
  show b _ = b _
  congr 1
  funext a
  apply Fin.ext
  match a with
  | ⟨0, _⟩ => rfl
  | ⟨1, _⟩ => rfl
  | ⟨2, _⟩ => show 0 + 1 * n.val = n.val; omega

theorem ld_full (x : Vec Ideal S512x1024 .f32) (inb) (r : Fin 512) (k : Fin 1024) :
    View.ld x (Rect.unit (s := S512x1024) ![0, 0] S512x1024.size inb) (ix2 r k) = x (ix2 r k) := by
  show x _ = x _
  congr 1
  funext a
  apply Fin.ext
  match a with
  | ⟨0, _⟩ => show 0 + 1 * r.val = r.val; omega
  | ⟨1, _⟩ => show 0 + 1 * k.val = k.val; omega

theorem ld_top (x : Vec Ideal S512x1024 .f32) (inb) (r : Fin 256) (k : Fin 1024) :
    View.ld x (Rect.unit (s := S512x1024) ![0, 0] S256x1024.size inb) (ix2 r k) = x (ix2 ⟨r.val, by omega⟩ k) := by
  show x _ = x _
  congr 1
  funext a
  apply Fin.ext
  match a with
  | ⟨0, _⟩ => show 0 + 1 * r.val = r.val; omega
  | ⟨1, _⟩ => show 0 + 1 * k.val = k.val; omega

/-! ## The two kinds of used block -/

section
variable (x : Vec Ideal S512x1024 .f32) (bu : Vec Ideal S1x1x2048 .f32) (bd : Vec Ideal S1x1x1024 .f32) (u : Vec Ideal S1024x2048 .bf16) (d : Vec Ideal S1024x1024 .bf16)

/-- One place of the block's rows through its expert. -/
def through (r : Fin 512) (n : Fin 1024) : EReal :=
  expert (fun k => x (ix2 r k)) (fun k j => u (ix2 k j)) (fun j => bu (ix3 0 0 j)) (fun f n => d (ix2 f n)) (fun n => bd (ix3 0 0 n)) n

theorem outFull_apply (r : Fin 512) (n : Fin 1024) : outFull x bu bd u d (ix2 r n) = through x bu bd u d r n := by
  unfold outFull
  refine (pay1_apply _ _ _ _ _ _ _ _ r n).trans ?_
  unfold through expert
  rw [sum_halves]
  refine congrArg₂ (· + ·) (congrArg₂ (· + ·) ?_ (Finset.sum_congr rfl fun f _ => ?_)) (ld_bdown bd _ n)
  · refine (pay22_apply _ _ _ _ _ _ r n).trans (Finset.sum_congr rfl fun f _ => ?_)
    refine congrArg₂ (· * ·) (congrArg₂ gate (congrArg₂ (· + ·) (Finset.sum_congr rfl fun k _ => congrArg₂ (· * ·) (ld_full x _ r k) ?_) ?_)
      (congrArg₂ (· + ·) (Finset.sum_congr rfl fun k _ => congrArg₂ (· * ·) (ld_full x _ r k) ?_) ?_)) ?_
    · exact ld_up u 0 _ k f _ (Nat.zero_add _)
    · exact ld_bup bu 0 _ f _ (Nat.zero_add _)
    · exact ld_up u 1024 _ k f _ rfl
    · exact ld_bup bu 1024 _ f _ rfl
    · exact ld_down d 0 _ f n _ (Nat.zero_add _)
  · refine congrArg₂ (· * ·) (congrArg₂ gate (congrArg₂ (· + ·) ((pay23_apply _ _ r f).trans (Finset.sum_congr rfl fun k _ => congrArg₂ (· * ·) (ld_full x _ r k) ?_)) ?_)
      (congrArg₂ (· + ·) (Finset.sum_congr rfl fun k _ => congrArg₂ (· * ·) ((pay21_apply _ r k).trans (ld_full x _ r k)) ?_) ?_)) ?_
    · exact ld_up u 512 _ k f _ rfl
    · exact ld_bup bu 512 _ f _ rfl
    · exact ld_up u 1536 _ k f _ (by show 1536 + f.val = 1024 + (512 + f.val); omega)
    · exact ld_bup bu 1536 _ f _ (by show 1536 + f.val = 1024 + (512 + f.val); omega)
    · exact ld_down d 512 _ f n _ rfl

theorem topHalf_apply (r : Fin 256) (n : Fin 1024) : topHalf x bu bd u d (ix2 r n) = through x bu bd u d ⟨r.val, by omega⟩ n := by
  unfold topHalf
  refine (pay2_apply _ _ _ _ _ _ _ _ r n).trans ?_
  unfold through expert
  rw [sum_halves]
  refine congrArg₂ (· + ·) (congrArg₂ (· + ·) ?_ (Finset.sum_congr rfl fun f _ => ?_)) (ld_bdown bd _ n)
  · refine (pay25_apply _ _ _ _ _ _ r n).trans (Finset.sum_congr rfl fun f _ => ?_)
    refine congrArg₂ (· * ·) (congrArg₂ gate (congrArg₂ (· + ·) (Finset.sum_congr rfl fun k _ => congrArg₂ (· * ·) (ld_top x _ r k) ?_) ?_)
      (congrArg₂ (· + ·) (Finset.sum_congr rfl fun k _ => congrArg₂ (· * ·) (ld_top x _ r k) ?_) ?_)) ?_
    · exact ld_up u 0 _ k f _ (Nat.zero_add _)
    · exact ld_bup bu 0 _ f _ (Nat.zero_add _)
    · exact ld_up u 1024 _ k f _ rfl
    · exact ld_bup bu 1024 _ f _ rfl
    · exact ld_down d 0 _ f n _ (Nat.zero_add _)
  · refine congrArg₂ (· * ·) (congrArg₂ gate (congrArg₂ (· + ·) ((pay26_apply _ _ r f).trans (Finset.sum_congr rfl fun k _ => congrArg₂ (· * ·) (ld_top x _ r k) ?_)) ?_)
      (congrArg₂ (· + ·) (Finset.sum_congr rfl fun k _ => congrArg₂ (· * ·) ((pay24_apply _ r k).trans (ld_top x _ r k)) ?_) ?_)) ?_
    · exact ld_up u 512 _ k f _ rfl
    · exact ld_bup bu 512 _ f _ rfl
    · exact ld_up u 1536 _ k f _ (by show 1536 + f.val = 1024 + (512 + f.val); omega)
    · exact ld_bup bu 1536 _ f _ (by show 1536 + f.val = 1024 + (512 + f.val); omega)
    · exact ld_down d 512 _ f n _ rfl

/-- Two halves written over a block: the later is the lower. -/
theorem halves_bottom (a b : Vec Ideal S256x1024 .f32) (r : Fin 512) (n : Fin 1024) (q : Fin 256) (h : 256 + q.val = r.val) :
    View.canon [(⟨Rect.unit (s := S512x1024) ![256, 0] S256x1024.size inb_S512x1024_S256x1024_256_0, a⟩ : View.Piece (Elt Ideal) S512x1024 .f32),
      ⟨Rect.unit (s := S512x1024) ![0, 0] S256x1024.size inb_S512x1024_S256x1024_0_0, b⟩] (ix2 r n) = a (ix2 q n) := by
  have e : (Rect.unit (s := S512x1024) ![256, 0] S256x1024.size inb_S512x1024_S256x1024_256_0).emb (ix2 q n) = ix2 r n := by
    funext a
    apply Fin.ext
    match a with
    | ⟨0, _⟩ => show 256 + 1 * q.val = r.val; omega
    | ⟨1, _⟩ => show 0 + 1 * n.val = n.val; omega
  have h := View.canon_cons_emb (Val := Elt Ideal) (e := .f32) (Rect.unit (s := S512x1024) ![256, 0] S256x1024.size inb_S512x1024_S256x1024_256_0) a
    [⟨Rect.unit (s := S512x1024) ![0, 0] S256x1024.size inb_S512x1024_S256x1024_0_0, b⟩] (ix2 q n)
  rw [e] at h
  exact h

theorem halves_top (a b : Vec Ideal S256x1024 .f32) (r : Fin 512) (n : Fin 1024) (q : Fin 256) (h : q.val = r.val) :
    View.canon [(⟨Rect.unit (s := S512x1024) ![256, 0] S256x1024.size inb_S512x1024_S256x1024_256_0, a⟩ : View.Piece (Elt Ideal) S512x1024 .f32),
      ⟨Rect.unit (s := S512x1024) ![0, 0] S256x1024.size inb_S512x1024_S256x1024_0_0, b⟩] (ix2 r n) = b (ix2 q n) := by
  have e : (Rect.unit (s := S512x1024) ![0, 0] S256x1024.size inb_S512x1024_S256x1024_0_0).emb (ix2 q n) = ix2 r n := by
    funext a
    apply Fin.ext
    match a with
    | ⟨0, _⟩ => show 0 + 1 * q.val = r.val; omega
    | ⟨1, _⟩ => show 0 + 1 * n.val = n.val; omega
  refine (View.canon_cons_of_not_mem _ _ ?_).trans ?_
  · exact Rect.not_mem_set_of_axis (Rect.unit (s := S512x1024) ![256, 0] S256x1024.size inb_S512x1024_S256x1024_256_0) (ix2 r n) 0 256 256 rfl rfl rfl
      (Or.inl (by show r.val < 256; have := q.isLt; omega))
  · have h := View.canon_cons_emb (Val := Elt Ideal) (e := .f32) (Rect.unit (s := S512x1024) ![0, 0] S256x1024.size inb_S512x1024_S256x1024_0_0) b [] (ix2 q n)
    rw [e] at h
    exact h

theorem outHalf_bottom (r : Fin 512) (n : Fin 1024) (h : 256 ≤ r.val) : outHalf x bu bd u d (ix2 r n) = 0 := by
  unfold outHalf halfPieces
  refine (halves_bottom _ _ r n ⟨r.val - 256, by omega⟩ (by show 256 + (r.val - 256) = r.val; omega)).trans ?_
  show Ideal.ofBits .f32 0x00000000#32 = 0
  simp [Ideal.ofBits, Ideal.ieee]

theorem outHalf_top (r : Fin 512) (n : Fin 1024) (h : r.val < 256) : outHalf x bu bd u d (ix2 r n) = through x bu bd u d r n := by
  unfold outHalf halfPieces
  exact (halves_top _ _ r n ⟨r.val, h⟩ rfl).trans (topHalf_apply x bu bd u d ⟨r.val, h⟩ n)

theorem clear_apply (r : Fin 512) (n : Fin 1024) : k0_pay4 (F := Ideal) (ix2 r n) = 0 := by
  show Ideal.ofBits .f32 0x00000000#32 = 0
  simp [Ideal.ofBits, Ideal.ieee]

/-- What a block is left holding: its rows through the expert, in each half that holds a used place, and zeros else. -/
theorem outAt_apply (v : BitVec 32) (hv : 0 ≤ v.toInt) (r : Fin 512) (n : Fin 1024) :
    outAt v x bu bd u d (ix2 r n) = if ((256 * (r.val / 256) : ℕ) : ℤ) < v.toInt then through x bu bd u d r n else 0 := by
  have hr := r.isLt
  unfold outAt
  by_cases h : 0 < v.toInt
  · rw [if_pos h]
    by_cases h' : 256 < v.toInt
    · rw [if_pos h', if_pos (by omega)]
      exact outFull_apply x bu bd u d r n
    · rw [if_neg h']
      by_cases hrr : r.val < 256
      · rw [if_pos (by omega)]
        exact outHalf_top x bu bd u d r n hrr
      · rw [if_neg (by omega)]
        exact outHalf_bottom x bu bd u d r n (by omega)
  · rw [if_neg h, if_neg (by omega)]
    exact clear_apply r n
end

end Cert.Kernel2Ideal.Own

end
-- ==== Proof.ExpertsIdeal.Array.lean ====
/- What the experts' result array holds after the run. -/
module

public import proofs.«01_k».proof.Proof.ExpertsIdeal.Value
public import Idealize.ShloMosaic.Lib.ValueLayout

@[expose] public section

set_option maxRecDepth 16384

noncomputable section

namespace Cert.Kernel2Ideal.Own

open Idealize.ShloMosaic Idealize.ShloMosaic.TcCoe Idealize.SL.Sem
open Cert.Kernel2Ideal Cert.Kernel2Ideal.Gen
open scoped BigOperators

/-- The expert of a block, as a number below 32. -/
def expertOf (b : S160.Idx → BitVec 32) (t : Fin 160) : Fin 32 := ⟨(b (ix1 t)).toNat % 32, Nat.mod_lt _ (by decide)⟩

/-- The result at row `r` of block `t`, column `n`: the row through the block's expert, if its half of the block is in use. -/
def placeOf (X : Vec Ideal S81920x1024 .f32) (b v : S160.Idx → BitVec 32) (U : Vec Ideal S32x1024x2048 .f32) (Bu : Vec Ideal S32x1x2048 .f32)
    (D : Vec Ideal S32x1024x1024 .f32) (Bd : Vec Ideal S32x1x1024 .f32) (t : Fin 160) (r : Fin 512) (n : Fin 1024) : EReal :=
  if ((256 * (r.val / 256) : ℕ) : ℤ) < (v (ix1 t)).toInt then
    expert (fun k => X (ix2 ⟨512 * t.val + r.val, by omega⟩ k)) (fun k j => U (ix3 (expertOf b t) k j)) (fun j => Bu (ix3 (expertOf b t) 0 j))
      (fun f n => D (ix3 (expertOf b t) f n)) (fun n => Bd (ix3 (expertOf b t) 0 n)) n
  else 0

def expertArray (X : Vec Ideal S81920x1024 .f32) (b v : S160.Idx → BitVec 32) (U : Vec Ideal S32x1024x2048 .f32) (Bu : Vec Ideal S32x1x2048 .f32)
    (D : Vec Ideal S32x1024x1024 .f32) (Bd : Vec Ideal S32x1x1024 .f32) : Vec Ideal S81920x1024 .f32 :=
  fun y => placeOf X b v U Bu D Bd ⟨(y 0).val / 512, by have h : (y 0).val < 81920 := (y 0).isLt; omega⟩ ⟨(y 0).val % 512, Nat.mod_lt _ (by decide)⟩ (y 1)

set_option backward.isDefEq.respectTransparency false

variable (m : (ℓ : Loc nD τ sig) → Buf (Elt Ideal) ℓ) (ρ : Dev nD → PrngReg) (hR : Rt m) (hO : Ok m)

theorem min_used : ∀ x : Fin 160, ∀ w : Fin 161, x.val < w.val →
    (Scalar.minsi (BitVec.ofNat 32 x.val) (Scalar.maxsi (Scalar.subi (BitVec.ofNat 32 w.val) 1#32) 0#32)).toNat = x.val := by decide +kernel

/-! ## The blocks that are read -/

theorem word_one (inb) (h) (b : S1.Idx → BitVec 32) :
    b ((Rect.unit (s := S1) ![0] S1.size inb).idx (Shape.Idx.first (s := S1) h)) = b (ix1 0) := by
  congr 1; funext a
  match a with
  | 0 => exact Subsingleton.elim (α := Fin 1) _ _

theorem index_0 (hR : Rt m) (t : Fin (cfgM m hO).N) (h : t.val < (nu m (ix1 0)).toNat) :
    cc0_transform_0 inb_S1_S1_0 numel1_S1 (tbl m) (grid0.coords t) 0 = t.val := by
  have hn : (nu m (ix1 0)).toNat < 161 := by
    have h1 := hR.nu_le
    exact toNat_lt_of_toInt (n := 161) hR.nu_nonneg (by omega)
  have e := min_used (pt m hO t) ⟨(nu m (ix1 0)).toNat, hn⟩ h
  have e1 : BitVec.ofNat 32 (nu m (ix1 0)).toNat = nu m (ix1 0) := by rw [BitVec.ofNat_toNat, BitVec.setWidth_eq]
  have ec : (grid0.coords t 0).val = t.val := coord t
  have ew := word_one inb_S1_S1_0 (numel1_S1.symm ▸ Nat.one_pos) (nu m)
  show (Scalar.minsi (BitVec.ofNat 32 (grid0.coords t 0).val) (Scalar.maxsi (Scalar.subi (nu m ((Rect.unit (s := S1) ![0] S1.size inb_S1_S1_0).idx (Shape.Idx.first (s := S1) (numel1_S1.symm ▸ Nat.one_pos)))) 1#32) 0#32)).toNat = t.val
  rw [ec, ew]
  rw [← e1]
  exact e

theorem index_1 (t : Fin (cfgM m hO).N) : cc0_transform_2 k0_off1_inb numel1_S1 (tbl m) (grid0.coords t) 0 = (be m (ix1 (pt m hO t))).toNat :=
  congrArg BitVec.toNat (word (k0_off1 (grid0.coords t)) (k0_off1_inb (grid0.coords t)) (numel1_S1.symm ▸ Nat.one_pos) (be m) (pt m hO t) ((off1 _).trans (coord t)))

theorem index_2 (t : Fin (cfgM m hO).N) : cc0_transform_4 k0_off1_inb numel1_S1 (tbl m) (grid0.coords t) 0 = (be m (ix1 (pt m hO t))).toNat :=
  congrArg BitVec.toNat (word (k0_off1 (grid0.coords t)) (k0_off1_inb (grid0.coords t)) (numel1_S1.symm ▸ Nat.one_pos) (be m) (pt m hO t) ((off1 _).trans (coord t)))

theorem index_3 (t : Fin (cfgM m hO).N) : cc0_transform_5 (grid0.coords t) 0 = t.val :=
  (toNat_word (grid0.coords t 0).isLt).trans (coord t)

theorem expert_val (hR : Rt m) (t : Fin 160) : (expertOf (be m) t).val = (be m (ix1 t)).toNat := Nat.mod_eq_of_lt (hR.be_lt t)

theorem block_0 (hR : Rt m) (c : Dev nD) (t : Fin (cfgM m hO).N) (h : t.val < (nu m (ix1 0)).toNat) (r : Fin 512) (k : Fin 1024) :
    iblk m hO c 0 t (ix2 r k) = m ((c : Thread nD τ).loc main_arg0) (ix2 ⟨512 * t.val + r.val, by have := lt_160 m hO t; omega⟩ k) := by
  show m ((c : Thread nD τ).loc main_arg0) ((((cfgM m hO).win 0).blk t).view.emb (ix2 r k)) = _
  congr 1
  funext a
  apply Fin.ext
  match a with
  | ⟨0, _⟩ => show cc0_transform_0 inb_S1_S1_0 numel1_S1 (tbl m) (grid0.coords t) 0 * 512 + 1 * r.val = 512 * t.val + r.val; rw [index_0 m hO hR t h]; omega
  | ⟨1, _⟩ => show 0 * 1024 + 1 * k.val = k.val; omega

theorem block_1 (hR : Rt m) (c : Dev nD) (t : Fin (cfgM m hO).N) (j : Fin 2048) :
    iblk m hO c 1 t (ix3 0 0 j) = m ((c : Thread nD τ).loc main_arg6) (ix3 (expertOf (be m) (pt m hO t)) 0 j) := by
  show m ((c : Thread nD τ).loc main_arg6) ((((cfgM m hO).win 1).blk t).view.emb (ix3 0 0 j)) = _
  congr 1
  funext a
  apply Fin.ext
  match a with
  | ⟨0, _⟩ => show cc0_transform_2 k0_off1_inb numel1_S1 (tbl m) (grid0.coords t) 0 * 1 + 1 * 0 = (expertOf (be m) (pt m hO t)).val; rw [index_1 m hO t, expert_val m hR]; omega
  | ⟨1, _⟩ => rfl
  | ⟨2, _⟩ => show 0 * 2048 + 1 * j.val = j.val; omega

theorem block_2 (hR : Rt m) (c : Dev nD) (t : Fin (cfgM m hO).N) (n : Fin 1024) :
    iblk m hO c 2 t (ix3 0 0 n) = m ((c : Thread nD τ).loc main_arg8) (ix3 (expertOf (be m) (pt m hO t)) 0 n) := by
  show m ((c : Thread nD τ).loc main_arg8) ((((cfgM m hO).win 2).blk t).view.emb (ix3 0 0 n)) = _
  congr 1
  funext a
  apply Fin.ext
  match a with
  | ⟨0, _⟩ => show cc0_transform_4 k0_off1_inb numel1_S1 (tbl m) (grid0.coords t) 0 * 1 + 1 * 0 = (expertOf (be m) (pt m hO t)).val; rw [index_2 m hO t, expert_val m hR]; omega
  | ⟨1, _⟩ => rfl
  | ⟨2, _⟩ => show 0 * 1024 + 1 * n.val = n.val; omega

/-- One expert's weights, as copied and rounded. -/
theorem weights_up (c : Dev nD) (v : BitVec 32) (h : v.toNat < 32) (e : Fin 32) (he : e.val = v.toNat) (k : Fin 1024) (j : Fin 2048) :
    rnd (wtU (c := c) (V m c main_arg5) v h) (ix2 k j) = m ((c : Thread nD τ).loc main_arg5) (ix3 e k j) := by
  have hx := ValueIdx.reshapeEquiv_ix2_1ab squeezes_S1x1024x2048_S1024x2048.numel_eq k j
  show m ((c : Thread nD τ).loc main_arg5) ((Rect.unit (s := S32x1024x2048) ![v.toNat, 0, 0] S1x1024x2048.size (offU_inb h)).emb
    (Shape.reshapeEquiv squeezes_S1x1024x2048_S1024x2048.numel_eq (ix2 k j))) = _
  refine (congrArg (fun q => m ((c : Thread nD τ).loc main_arg5) ((Rect.unit (s := S32x1024x2048) ![v.toNat, 0, 0] S1x1024x2048.size (offU_inb h)).emb q)) hx).trans ?_
  show m ((c : Thread nD τ).loc main_arg5) _ = m ((c : Thread nD τ).loc main_arg5) _
  congr 1
  funext a
  apply Fin.ext
  match a with
  | ⟨0, _⟩ => show v.toNat + 1 * 0 = e.val; omega
  | ⟨1, _⟩ => show 0 + 1 * k.val = k.val; omega
  | ⟨2, _⟩ => show 0 + 1 * j.val = j.val; omega

theorem weights_down (c : Dev nD) (v : BitVec 32) (h : v.toNat < 32) (e : Fin 32) (he : e.val = v.toNat) (f n : Fin 1024) :
    rnd (wtD (c := c) (V m c main_arg7) v h) (ix2 f n) = m ((c : Thread nD τ).loc main_arg7) (ix3 e f n) := by
  have hx := ValueIdx.reshapeEquiv_ix2_1ab squeezes_S1x1024x1024_S1024x1024.numel_eq f n
  show m ((c : Thread nD τ).loc main_arg7) ((Rect.unit (s := S32x1024x1024) ![v.toNat, 0, 0] S1x1024x1024.size (offD_inb h)).emb
    (Shape.reshapeEquiv squeezes_S1x1024x1024_S1024x1024.numel_eq (ix2 f n))) = _
  refine (congrArg (fun q => m ((c : Thread nD τ).loc main_arg7) ((Rect.unit (s := S32x1024x1024) ![v.toNat, 0, 0] S1x1024x1024.size (offD_inb h)).emb q)) hx).trans ?_
  show m ((c : Thread nD τ).loc main_arg7) _ = m ((c : Thread nD τ).loc main_arg7) _
  congr 1
  funext a
  apply Fin.ext
  match a with
  | ⟨0, _⟩ => show v.toNat + 1 * 0 = e.val; omega
  | ⟨1, _⟩ => show 0 + 1 * f.val = f.val; omega
  | ⟨2, _⟩ => show 0 + 1 * n.val = n.val; omega

/-! ## The array -/

/-- The result of the run, from the launched arrays. -/
abbrev resultOf (c : Dev nD) : Vec Ideal S81920x1024 .f32 :=
  expertArray (m ((c : Thread nD τ).loc main_arg0)) (be m) (nv m) (m ((c : Thread nD τ).loc main_arg5)) (m ((c : Thread nD τ).loc main_arg6))
    (m ((c : Thread nD τ).loc main_arg7)) (m ((c : Thread nD τ).loc main_arg8))

theorem left_apply (c : Dev nD) (t : Fin (cfgM m hO).N) (r : Fin 512) (n : Fin 1024) :
    leftAt m hR hO c t (ix2 r n) = placeOf (m ((c : Thread nD τ).loc main_arg0)) (be m) (nv m) (m ((c : Thread nD τ).loc main_arg5))
      (m ((c : Thread nD τ).loc main_arg6)) (m ((c : Thread nD τ).loc main_arg7)) (m ((c : Thread nD τ).loc main_arg8)) (pt m hO t) r n := by
  unfold leftAt placeOf
  rw [outAt_apply _ _ _ _ _ _ (hR.nv_nonneg _)]
  by_cases h : ((256 * (r.val / 256) : ℕ) : ℤ) < (nv m (ix1 (pt m hO t))).toInt
  · rw [if_pos h, if_pos h]
    have hu : t.val < (nu m (ix1 0)).toNat := (hR.nv_pos (pt m hO t)).1 (by omega)
    have he := expert_val m hR (pt m hO t)
    unfold through
    congr 1
    · funext k; exact block_0 m hO hR c t hu r k
    · funext k j; exact weights_up m c _ _ _ he k j
    · funext j; exact block_1 m hO hR c t j
    · funext f n; exact weights_down m c _ _ _ he f n
    · funext n; exact block_2 m hO hR c t n
  · rw [if_neg h, if_neg h]

theorem blocks_disjoint (t t' : Fin (cfgM m hO).N) (h1 : ((cfgM m hO).win 3).flush t = true) (h2 : ((cfgM m hO).win 3).flush t' = true) (hne : t ≠ t') :
    Disjoint (((cfgM m hO).win 3).blk t).view.set (((cfgM m hO).win 3).blk t').view.set :=
  ((cfgM m hO).win 3).disjoint_blk fun h => hne (Fin.ext ((index_3 m hO t).symm.trans ((congrFun h (0 : Fin 2)).trans (index_3 m hO t'))))

theorem flushed_all : ∀ t : Fin grid0.N, Pipeline.Window.flushOf grid0 true cc0_transform_5 t = true := by decide +kernel

theorem always_flushed (t : Fin (cfgM m hO).N) : ((cfgM m hO).win 3).flush t = true := flushed_all t

/-- An array that holds every block's places is `expertArray`. -/
theorem array_of_blocks (X : Vec Ideal S81920x1024 .f32) (b v : S160.Idx → BitVec 32) (U : Vec Ideal S32x1024x2048 .f32) (Bu : Vec Ideal S32x1x2048 .f32)
    (D : Vec Ideal S32x1024x1024 .f32) (Bd : Vec Ideal S32x1x1024 .f32) (A : Vec Ideal S81920x1024 .f32)
    (h : ∀ (t : Fin 160) (r : Fin 512) (n : Fin 1024), A (ix2 ⟨512 * t.val + r.val, by omega⟩ n) = placeOf X b v U Bu D Bd t r n) :
    A = expertArray X b v U Bu D Bd := by
  funext y
  have hy : (y 0).val < 81920 := (y 0).isLt
  have e := h ⟨(y 0).val / 512, by omega⟩ ⟨(y 0).val % 512, Nat.mod_lt _ (by decide)⟩ (y 1)
  refine Eq.trans (congrArg A ?_) e
  funext d
  apply Fin.ext
  match d with
  | ⟨0, _⟩ => show (y 0).val = 512 * ((y 0).val / 512) + (y 0).val % 512; omega
  | ⟨1, _⟩ => rfl

theorem emb_3 (t : Fin (cfgM m hO).N) (r : Fin 512) (n : Fin 1024) :
    (((cfgM m hO).win 3).blk t).view.emb (ix2 r n) = (ix2 ⟨512 * t.val + r.val, by have := lt_160 m hO t; omega⟩ n : S81920x1024.Idx) := by
  funext d
  apply Fin.ext
  match d with
  | ⟨0, _⟩ => show cc0_transform_5 (grid0.coords t) 0 * 512 + 1 * r.val = 512 * t.val + r.val; rw [index_3 m hO t]; omega
  | ⟨1, _⟩ => show 0 * 1024 + 1 * n.val = n.val; omega

theorem read_final (c : Dev nD) (t : Fin (cfgM m hO).N) :
    (((cfgM m hO).win 3).blk t).view.read (Elt Ideal) ((dats m hR hO 0 c).arrAt 3 (cfgM m hO).N)
      = ((cfgM m hO).win 3).cut (grid0.coords t) (leftAt m hR hO c t) := by
  refine ((dats m hR hO 0 c).read_blk_arrAt_eq_flushed 3 (blocks_disjoint m hO) (cfgM m hO).N t t.isLt (always_flushed m hO t)).trans ?_
  show ((cfgM m hO).win 3).cut (grid0.coords t) ((dats m hR hO 0 c).after 3 t) = _
  rw [after3]

theorem read_block (A : Vec Ideal S81920x1024 .f32) (t : Fin (cfgM m hO).N) (r : Fin 512) (n : Fin 1024) :
    (((cfgM m hO).win 3).blk t).view.read (Elt Ideal) A (ix2 r n) = A (ix2 ⟨512 * t.val + r.val, by have := lt_160 m hO t; omega⟩ n) :=
  congrArg A (emb_3 m hO t r n)

theorem cut_block (B : Vec Ideal S512x1024 .f32) (t : Fin (cfgM m hO).N) (r : Fin 512) (n : Fin 1024) :
    ((cfgM m hO).win 3).cut (grid0.coords t) B (ix2 r n) = B (ix2 r n) := rfl

theorem final_apply (c : Dev nD) (t : Fin (cfgM m hO).N) (r : Fin 512) (n : Fin 1024) (A : Vec Ideal S81920x1024 .f32)
    (hA : A = (dats m hR hO 0 c).arrAt 3 (cfgM m hO).N) :
    A (ix2 ⟨512 * t.val + r.val, by have := lt_160 m hO t; omega⟩ n) = leftAt m hR hO c t (ix2 r n) := by
  refine (read_block m hO A t r n).symm.trans (Eq.trans ?_ (cut_block m hO (leftAt m hR hO c t) t r n))
  rw [hA]
  exact congrFun (read_final m hR hO c t) (ix2 r n)

/-- After the run the result array is `expertArray` of the launched arrays. -/
theorem final_eq (c : Dev nD) : (dats m hR hO 0 c).arrAt 3 (cfgM m hO).N = resultOf m c := by
  generalize hA : (dats m hR hO 0 c).arrAt 3 (cfgM m hO).N = A
  refine array_of_blocks _ _ _ _ _ _ _ A fun t r n => ?_
  exact (final_apply m hR hO c ⟨t.val, t.isLt.trans_eq N_0.symm⟩ r n A hA.symm).trans (left_apply m hR hO c ⟨t.val, t.isLt.trans_eq N_0.symm⟩ r n)

/-- The run's result, and the arrays it leaves as they were. -/
theorem run_array (hR : Rt m) :
    θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.2 c).1 3).trans (final_eq m hR (ok_of m hR) c), h.1 c⟩)
    (θ_run_and (unchanged m ρ hR (ok_of m hR)) (run_main m ρ hR (ok_of m hR)))

end Cert.Kernel2Ideal.Own

end
-- ==== Proof.ExpertsIdeal.Ref.lean ====
/- The experts' reference at a place of its result. -/
module

public import proofs.«01_k».proof.Proof.Gen.Reference2Ideal.Read
public import proofs.«01_k».proof.Proof.ExpertsIdeal.Array
public import Idealize.ShloMosaic.Lib.Pointwise
public import Idealize.ShloMosaic.Lib.IdealHost

@[expose] public section

set_option maxRecDepth 16384

noncomputable section

namespace Cert.Experts.Ref

open Idealize.ShloMosaic Idealize.ShloMosaic.TcCoe Idealize.SL.Sem
open Cert.Reference2Ideal Cert.Reference2Ideal.Gen Cert.Reference2Ideal.Read
open Cert.Kernel2Ideal.Own (gate low high hidden expert expertOf placeOf expertArray array_of_blocks)
open scoped BigOperators

/-! ## The blocks' experts -/

theorem expert_word : ∀ x : Fin 32,
    (Scalar.select (IntOp.cmpi CmpIPredicate.slt (BitVec.ofNat 32 x.val) 0#32) (IntOp.addi (BitVec.ofNat 32 x.val) 32#32) (BitVec.ofNat 32 x.val)).toInt.toNat = x.val := by
  decide +kernel

theorem expert_select (w : BitVec 32) (h : w.toNat < 32) :
    (Scalar.select (IntOp.cmpi CmpIPredicate.slt w 0#32) (IntOp.addi w 32#32) w).toInt.toNat = w.toNat % 32 := by
  have e : BitVec.ofNat 32 w.toNat = w := by rw [BitVec.ofNat_toNat, BitVec.setWidth_eq]
  have := expert_word ⟨w.toNat, h⟩
  simp only [e] at this
  omega

theorem gather_v7 (X : Vec Ideal S32x1024x2048 .f32) (idx : IVec S160x1 32) (t : Fin 160) (a : Fin 1024) (b : Fin 2048) :
    Host.gather gather_S32x1024x2048_S160x1_S160x1024x2048_12_0_n_n_0_1_110242048 X idx (ix3 t a b)
      = X (ix3 ⟨min (idx (ix2 t 0)).toInt.toNat 31, by omega⟩ a b) := by
  unfold Host.gather
  congr 1
  funext d
  refine Fin.ext ?_
  match d with
  | 0 =>
    show GatherDims.start _ (ix3 t a b) idx 0 + GatherDims.batchCoord _ (ix3 t a b) 0 + GatherDims.offCoord _ (ix3 t a b) 0 = _
    rw [GatherDims.batchCoord_eq_zero _ _ _ (by decide), GatherDims.offCoord_eq_zero _ _ _ (by decide)]
    simp only [Nat.add_zero]
    unfold GatherDims.start
    rw [dif_pos (by decide)]
    have hsi : gather_S32x1024x2048_S160x1_S160x1024x2048_12_0_n_n_0_1_110242048.siIdx (ix3 t a b)
        ⟨List.idxOf (0 : Fin 3) gather_S32x1024x2048_S160x1_S160x1024x2048_12_0_n_n_0_1_110242048.startIndexMap, List.idxOf_lt_length_iff.2 (by decide)⟩ = ix2 t 0 := by
      funext e
      refine Fin.ext ?_
      match e with
      | 0 => rfl
      | 1 => rfl
    rw [hsi]
    rfl
  | 1 =>
    show GatherDims.start _ (ix3 t a b) idx 1 + GatherDims.batchCoord _ (ix3 t a b) 1 + GatherDims.offCoord _ (ix3 t a b) 1 = _
    rw [GatherDims.batchCoord_eq_zero _ _ _ (by decide)]
    unfold GatherDims.start
    rw [dif_neg (by decide)]
    unfold GatherDims.offCoord
    rw [dif_pos (by decide)]
    show 0 + 0 + a.val = a.val
    omega
  | 2 =>
    show GatherDims.start _ (ix3 t a b) idx 2 + GatherDims.batchCoord _ (ix3 t a b) 2 + GatherDims.offCoord _ (ix3 t a b) 2 = _
    rw [GatherDims.batchCoord_eq_zero _ _ _ (by decide)]
    unfold GatherDims.start
    rw [dif_neg (by decide)]
    unfold GatherDims.offCoord
    rw [dif_pos (by decide)]
    show 0 + 0 + b.val = b.val
    omega

theorem v7_at (b : S160.Idx → BitVec 32) (hb : ∀ t : Fin 160, (b (ix1 t)).toNat < 32) (X : Vec Ideal S32x1024x2048 .f32) (t : Fin 160) (a : Fin 1024) (n : Fin 2048) :
    val_main_v7 (F := Ideal) b X (ix3 t a n) = X (ix3 (expertOf b t) a n) := by
  unfold val_main_v7
  refine (gather_v7 X _ t a n).trans (congrArg (fun e => X (ix3 e a n)) (Fin.ext ?_))
  show min (val_main_v6 (F := Ideal) b (ix2 t 0)).toInt.toNat 31 = (b (ix1 t)).toNat % 32
  pointwise [val_main_v6, val_main_v5, val_main_v4, val_main_v2, val_main_v3, val_main_v1, val_main_c, val_main_c_0]
  rw [expert_select _ (hb t)]
  have := hb t
  omega

theorem gather_v15 (X : Vec Ideal S32x1x2048 .f32) (idx : IVec S160x1 32) (t : Fin 160) (a : Fin 1) (b : Fin 2048) :
    Host.gather gather_S32x1x2048_S160x1_S160x1x2048_12_0_n_n_0_1_112048 X idx (ix3 t a b)
      = X (ix3 ⟨min (idx (ix2 t 0)).toInt.toNat 31, by omega⟩ a b) := by
  unfold Host.gather
  congr 1
  funext d
  refine Fin.ext ?_
  match d with
  | 0 =>
    show GatherDims.start _ (ix3 t a b) idx 0 + GatherDims.batchCoord _ (ix3 t a b) 0 + GatherDims.offCoord _ (ix3 t a b) 0 = _
    rw [GatherDims.batchCoord_eq_zero _ _ _ (by decide), GatherDims.offCoord_eq_zero _ _ _ (by decide)]
    simp only [Nat.add_zero]
    unfold GatherDims.start
    rw [dif_pos (by decide)]
    have hsi : gather_S32x1x2048_S160x1_S160x1x2048_12_0_n_n_0_1_112048.siIdx (ix3 t a b)
        ⟨List.idxOf (0 : Fin 3) gather_S32x1x2048_S160x1_S160x1x2048_12_0_n_n_0_1_112048.startIndexMap, List.idxOf_lt_length_iff.2 (by decide)⟩ = ix2 t 0 := by
      funext e
      refine Fin.ext ?_
      match e with
      | 0 => rfl
      | 1 => rfl
    rw [hsi]
    rfl
  | 1 =>
    show GatherDims.start _ (ix3 t a b) idx 1 + GatherDims.batchCoord _ (ix3 t a b) 1 + GatherDims.offCoord _ (ix3 t a b) 1 = _
    rw [GatherDims.batchCoord_eq_zero _ _ _ (by decide)]
    unfold GatherDims.start
    rw [dif_neg (by decide)]
    unfold GatherDims.offCoord
    rw [dif_pos (by decide)]
    show 0 + 0 + a.val = a.val
    omega
  | 2 =>
    show GatherDims.start _ (ix3 t a b) idx 2 + GatherDims.batchCoord _ (ix3 t a b) 2 + GatherDims.offCoord _ (ix3 t a b) 2 = _
    rw [GatherDims.batchCoord_eq_zero _ _ _ (by decide)]
    unfold GatherDims.start
    rw [dif_neg (by decide)]
    unfold GatherDims.offCoord
    rw [dif_pos (by decide)]
    show 0 + 0 + b.val = b.val
    omega

theorem v15_at (b : S160.Idx → BitVec 32) (hb : ∀ t : Fin 160, (b (ix1 t)).toNat < 32) (X : Vec Ideal S32x1x2048 .f32) (t : Fin 160) (a : Fin 1) (n : Fin 2048) :
    val_main_v15 (F := Ideal) b X (ix3 t a n) = X (ix3 (expertOf b t) a n) := by
  unfold val_main_v15
  refine (gather_v15 X _ t a n).trans (congrArg (fun e => X (ix3 e a n)) (Fin.ext ?_))
  show min (val_main_v14 (F := Ideal) b (ix2 t 0)).toInt.toNat 31 = (b (ix1 t)).toNat % 32
  pointwise [val_main_v14, val_main_v13, val_main_v12, val_main_v10, val_main_v11, val_main_v9, val_main_c_1, val_main_c_2]
  rw [expert_select _ (hb t)]
  have := hb t
  omega

theorem gather_v41 (X : Vec Ideal S32x1024x1024 .f32) (idx : IVec S160x1 32) (t : Fin 160) (a : Fin 1024) (b : Fin 1024) :
    Host.gather gather_S32x1024x1024_S160x1_S160x1024x1024_12_0_n_n_0_1_110241024 X idx (ix3 t a b)
      = X (ix3 ⟨min (idx (ix2 t 0)).toInt.toNat 31, by omega⟩ a b) := by
  unfold Host.gather
  congr 1
  funext d
  refine Fin.ext ?_
  match d with
  | 0 =>
    show GatherDims.start _ (ix3 t a b) idx 0 + GatherDims.batchCoord _ (ix3 t a b) 0 + GatherDims.offCoord _ (ix3 t a b) 0 = _
    rw [GatherDims.batchCoord_eq_zero _ _ _ (by decide), GatherDims.offCoord_eq_zero _ _ _ (by decide)]
    simp only [Nat.add_zero]
    unfold GatherDims.start
    rw [dif_pos (by decide)]
    have hsi : gather_S32x1024x1024_S160x1_S160x1024x1024_12_0_n_n_0_1_110241024.siIdx (ix3 t a b)
        ⟨List.idxOf (0 : Fin 3) gather_S32x1024x1024_S160x1_S160x1024x1024_12_0_n_n_0_1_110241024.startIndexMap, List.idxOf_lt_length_iff.2 (by decide)⟩ = ix2 t 0 := by
      funext e
      refine Fin.ext ?_
      match e with
      | 0 => rfl
      | 1 => rfl
    rw [hsi]
    rfl
  | 1 =>
    show GatherDims.start _ (ix3 t a b) idx 1 + GatherDims.batchCoord _ (ix3 t a b) 1 + GatherDims.offCoord _ (ix3 t a b) 1 = _
    rw [GatherDims.batchCoord_eq_zero _ _ _ (by decide)]
    unfold GatherDims.start
    rw [dif_neg (by decide)]
    unfold GatherDims.offCoord
    rw [dif_pos (by decide)]
    show 0 + 0 + a.val = a.val
    omega
  | 2 =>
    show GatherDims.start _ (ix3 t a b) idx 2 + GatherDims.batchCoord _ (ix3 t a b) 2 + GatherDims.offCoord _ (ix3 t a b) 2 = _
    rw [GatherDims.batchCoord_eq_zero _ _ _ (by decide)]
    unfold GatherDims.start
    rw [dif_neg (by decide)]
    unfold GatherDims.offCoord
    rw [dif_pos (by decide)]
    show 0 + 0 + b.val = b.val
    omega

theorem v41_at (b : S160.Idx → BitVec 32) (hb : ∀ t : Fin 160, (b (ix1 t)).toNat < 32) (X : Vec Ideal S32x1024x1024 .f32) (t : Fin 160) (a : Fin 1024) (n : Fin 1024) :
    val_main_v41 (F := Ideal) b X (ix3 t a n) = X (ix3 (expertOf b t) a n) := by
  unfold val_main_v41
  refine (gather_v41 X _ t a n).trans (congrArg (fun e => X (ix3 e a n)) (Fin.ext ?_))
  show min (val_main_v40 (F := Ideal) b (ix2 t 0)).toInt.toNat 31 = (b (ix1 t)).toNat % 32
  pointwise [val_main_v40, val_main_v39, val_main_v38, val_main_v36, val_main_v37, val_main_v35, val_main_c_9, val_main_c_10]
  rw [expert_select _ (hb t)]
  have := hb t
  omega

theorem gather_v49 (X : Vec Ideal S32x1x1024 .f32) (idx : IVec S160x1 32) (t : Fin 160) (a : Fin 1) (b : Fin 1024) :
    Host.gather gather_S32x1x1024_S160x1_S160x1x1024_12_0_n_n_0_1_111024 X idx (ix3 t a b)
      = X (ix3 ⟨min (idx (ix2 t 0)).toInt.toNat 31, by omega⟩ a b) := by
  unfold Host.gather
  congr 1
  funext d
  refine Fin.ext ?_
  match d with
  | 0 =>
    show GatherDims.start _ (ix3 t a b) idx 0 + GatherDims.batchCoord _ (ix3 t a b) 0 + GatherDims.offCoord _ (ix3 t a b) 0 = _
    rw [GatherDims.batchCoord_eq_zero _ _ _ (by decide), GatherDims.offCoord_eq_zero _ _ _ (by decide)]
    simp only [Nat.add_zero]
    unfold GatherDims.start
    rw [dif_pos (by decide)]
    have hsi : gather_S32x1x1024_S160x1_S160x1x1024_12_0_n_n_0_1_111024.siIdx (ix3 t a b)
        ⟨List.idxOf (0 : Fin 3) gather_S32x1x1024_S160x1_S160x1x1024_12_0_n_n_0_1_111024.startIndexMap, List.idxOf_lt_length_iff.2 (by decide)⟩ = ix2 t 0 := by
      funext e
      refine Fin.ext ?_
      match e with
      | 0 => rfl
      | 1 => rfl
    rw [hsi]
    rfl
  | 1 =>
    show GatherDims.start _ (ix3 t a b) idx 1 + GatherDims.batchCoord _ (ix3 t a b) 1 + GatherDims.offCoord _ (ix3 t a b) 1 = _
    rw [GatherDims.batchCoord_eq_zero _ _ _ (by decide)]
    unfold GatherDims.start
    rw [dif_neg (by decide)]
    unfold GatherDims.offCoord
    rw [dif_pos (by decide)]
    show 0 + 0 + a.val = a.val
    omega
  | 2 =>
    show GatherDims.start _ (ix3 t a b) idx 2 + GatherDims.batchCoord _ (ix3 t a b) 2 + GatherDims.offCoord _ (ix3 t a b) 2 = _
    rw [GatherDims.batchCoord_eq_zero _ _ _ (by decide)]
    unfold GatherDims.start
    rw [dif_neg (by decide)]
    unfold GatherDims.offCoord
    rw [dif_pos (by decide)]
    show 0 + 0 + b.val = b.val
    omega

theorem v49_at (b : S160.Idx → BitVec 32) (hb : ∀ t : Fin 160, (b (ix1 t)).toNat < 32) (X : Vec Ideal S32x1x1024 .f32) (t : Fin 160) (a : Fin 1) (n : Fin 1024) :
    val_main_v49 (F := Ideal) b X (ix3 t a n) = X (ix3 (expertOf b t) a n) := by
  unfold val_main_v49
  refine (gather_v49 X _ t a n).trans (congrArg (fun e => X (ix3 e a n)) (Fin.ext ?_))
  show min (val_main_v48 (F := Ideal) b (ix2 t 0)).toInt.toNat 31 = (b (ix1 t)).toNat % 32
  pointwise [val_main_v48, val_main_v47, val_main_v46, val_main_v44, val_main_v45, val_main_v43, val_main_c_11, val_main_c_12]
  rw [expert_select _ (hb t)]
  have := hb t
  omega

/-! ## The hidden places -/

section
variable (X : Vec Ideal S81920x1024 .f32) (b v : S160.Idx → BitVec 32) (U : Vec Ideal S32x1024x2048 .f32) (Bu : Vec Ideal S32x1x2048 .f32)
  (D : Vec Ideal S32x1024x1024 .f32) (Bd : Vec Ideal S32x1x1024 .f32) (hb : ∀ t : Fin 160, (b (ix1 t)).toNat < 32)

theorem v0_at (t : Fin 160) (r : Fin 512) (k : Fin 1024) :
    val_main_v0 (F := Ideal) X (ix3 t r k) = X (ix2 ⟨512 * t.val + r.val, by omega⟩ k) := by
  rw [val_main_v0_apply]
  congr 1
  funext a
  refine Fin.ext ?_
  match a with
  | ⟨0, _⟩ => show ((t.val * 512 + r.val) * 1024 + k.val) / 1024 = 512 * t.val + r.val; omega
  | ⟨1, _⟩ => show ((t.val * 512 + r.val) * 1024 + k.val) % 1024 = k.val; omega

include hb in
theorem v17_at (t : Fin 160) (r : Fin 512) (j : Fin 2048) :
    val_main_v17 (F := Ideal) X b U Bu (ix3 t r j)
      = hidden (fun k => X (ix2 ⟨512 * t.val + r.val, by omega⟩ k)) (fun k j => U (ix3 (expertOf b t) k j)) (fun j => Bu (ix3 (expertOf b t) 0 j)) j := by
  rw [val_main_v17_apply]
  show val_main_v8 (F := Ideal) X b U (ix3 t r j) + val_main_v16 (F := Ideal) b Bu (ix3 t r j) = _
  rw [val_main_v8_apply, val_main_v16_apply]
  have el : ∀ k : Fin 1024, lidx_main_v8 (ix3 t r j) k = ix3 t r k := fun k => funext fun a => Fin.ext (by
    match a with
    | ⟨0, _⟩ => rfl
    | ⟨1, _⟩ => rfl
    | ⟨2, _⟩ => rfl)
  have er : ∀ k : Fin 1024, ridx_main_v8 (ix3 t r j) k = ix3 t k j := fun k => funext fun a => Fin.ext (by
    match a with
    | ⟨0, _⟩ => rfl
    | ⟨1, _⟩ => rfl
    | ⟨2, _⟩ => rfl)
  have eb : idx_main_v16 (ix3 t r j) = ix3 t 0 j := funext fun a => Fin.ext (by
    match a with
    | ⟨0, _⟩ => rfl
    | ⟨1, _⟩ => rfl
    | ⟨2, _⟩ => rfl)
  unfold Cert.Kernel2Ideal.Own.hidden
  refine congrArg₂ (· + ·) (Finset.sum_congr rfl fun k _ => congrArg₂ (· * ·) ?_ ?_) ?_
  · exact (congrArg (val_main_v0 (F := Ideal) X) (el k)).trans (v0_at X t r k)
  · exact (congrArg (val_main_v7 (F := Ideal) b U) (er k)).trans (v7_at b hb U t k j)
  · exact (congrArg (val_main_v15 (F := Ideal) b Bu) eb).trans (v15_at b hb Bu t 0 j)

include hb in
theorem v18_at (t : Fin 160) (r : Fin 512) (f : Fin 1024) :
    val_main_v18 (F := Ideal) X b U Bu (ix3 t r f)
      = hidden (fun k => X (ix2 ⟨512 * t.val + r.val, by omega⟩ k)) (fun k j => U (ix3 (expertOf b t) k j)) (fun j => Bu (ix3 (expertOf b t) 0 j)) (low f) := by
  rw [val_main_v18_apply]
  have e : idx_main_v18 (ix3 t r f) = ix3 t r (low f) := funext fun a => Fin.ext (by
    match a with
    | ⟨0, _⟩ => rfl
    | ⟨1, _⟩ => rfl
    | ⟨2, _⟩ => rfl)
  exact (congrArg (val_main_v17 (F := Ideal) X b U Bu) e).trans (v17_at X b U Bu hb t r (low f))

include hb in
theorem v21_at (t : Fin 160) (r : Fin 512) (f : Fin 1024) :
    val_main_v21 (F := Ideal) X b U Bu (ix3 t r f)
      = hidden (fun k => X (ix2 ⟨512 * t.val + r.val, by omega⟩ k)) (fun k j => U (ix3 (expertOf b t) k j)) (fun j => Bu (ix3 (expertOf b t) 0 j)) (high f) := by
  rw [val_main_v21_apply]
  have e : idx_main_v21 (ix3 t r f) = ix3 t r (high f) := funext fun a => Fin.ext (by
    match a with
    | ⟨0, _⟩ => rfl
    | ⟨1, _⟩ => rfl
    | ⟨2, _⟩ => rfl)
  exact (congrArg (val_main_v17 (F := Ideal) X b U Bu) e).trans (v17_at X b U Bu hb t r (high f))

/-! ## The gate -/

theorem one_word : Ideal.ofBits .f32 0x3F800000#32 = 1 := by
  simp

theorem gate_at (i : S160x512x1024.Idx) (g l : EReal) (hg : val_main_v18 (F := Ideal) X b U Bu i = g) (hl : val_main_v21 (F := Ideal) X b U Bu i = l) :
    val_main_v34 (F := Ideal) X b U Bu i = gate g l := by
  have h20 : val_main_v20 (F := Ideal) X b U Bu i = min g (Ideal.ofBits .f32 0x40E00000#32) := by
    rw [val_main_v20_apply, hg, val_main_v19_apply, val_main_cst_apply]; rfl
  have h22 : val_main_v22 (F := Ideal) X b U Bu i = min (Ideal.ofBits .f32 0x40E00000#32) (max (Ideal.ofBits .f32 0xC0E00000#32) l) := by
    rw [val_main_v22_apply, val_main_call0_v4_apply, val_main_call0_v3_apply, val_main_cst_4_apply, val_main_call0_v2_apply, hl,
      val_main_call0_v1_apply, val_main_call0_v0_apply, val_main_cst_3_apply]; rfl
  have h24 : val_main_v24 (F := Ideal) X b U Bu i = Ideal.ofBits .f32 0x3FD9DB23#32 * min g (Ideal.ofBits .f32 0x40E00000#32) := by
    rw [val_main_v24_apply, h20, val_main_v23_apply, val_main_cst_5_apply]; rfl
  have h30 : val_main_v30 (F := Ideal) X b U Bu i = Ideal.logistic (Ideal.ofBits .f32 0x3FD9DB23#32 * min g (Ideal.ofBits .f32 0x40E00000#32)) := by
    rw [val_main_v30_apply, val_main_v29_apply, val_main_cst_7_apply, val_main_v28_apply, val_main_v27_apply, val_main_cst_6_apply,
      val_main_v26_apply, val_main_v25_apply, h24]
    generalize Ideal.ofBits .f32 0x3FD9DB23#32 * min g (Ideal.ofBits .f32 0x40E00000#32) = z
    show Ideal.div (Ideal.ofBits .f32 0x3F800000#32) (Ideal.ofBits .f32 0x3F800000#32 + Ideal.exp (-z)) = Ideal.logistic z
    rw [one_word]; rfl
  have h33 : val_main_v33 (F := Ideal) X b U Bu i = min (Ideal.ofBits .f32 0x40E00000#32) (max (Ideal.ofBits .f32 0xC0E00000#32) l) + 1 := by
    rw [val_main_v33_apply, h22, val_main_v32_apply, val_main_cst_8_apply]
    show _ + Ideal.ofBits .f32 0x3F800000#32 = _
    rw [one_word]
  rw [val_main_v34_apply, val_main_v31_apply, h20, h30, h33]
  rfl

/-! ## The result -/

include hb in
theorem v51_at (t : Fin 160) (r : Fin 512) (n : Fin 1024) :
    val_main_v51 (F := Ideal) X b U Bu D Bd (ix3 t r n)
      = expert (fun k => X (ix2 ⟨512 * t.val + r.val, by omega⟩ k)) (fun k j => U (ix3 (expertOf b t) k j)) (fun j => Bu (ix3 (expertOf b t) 0 j))
          (fun f n => D (ix3 (expertOf b t) f n)) (fun n => Bd (ix3 (expertOf b t) 0 n)) n := by
  rw [val_main_v51_apply]
  show val_main_v42 (F := Ideal) X b U Bu D (ix3 t r n) + val_main_v50 (F := Ideal) b Bd (ix3 t r n) = _
  rw [val_main_v42_apply, val_main_v50_apply]
  have el : ∀ k : Fin 1024, lidx_main_v42 (ix3 t r n) k = ix3 t r k := fun k => funext fun a => Fin.ext (by
    match a with
    | ⟨0, _⟩ => rfl
    | ⟨1, _⟩ => rfl
    | ⟨2, _⟩ => rfl)
  have er : ∀ k : Fin 1024, ridx_main_v42 (ix3 t r n) k = ix3 t k n := fun k => funext fun a => Fin.ext (by
    match a with
    | ⟨0, _⟩ => rfl
    | ⟨1, _⟩ => rfl
    | ⟨2, _⟩ => rfl)
  have eb : idx_main_v50 (ix3 t r n) = ix3 t 0 n := funext fun a => Fin.ext (by
    match a with
    | ⟨0, _⟩ => rfl
    | ⟨1, _⟩ => rfl
    | ⟨2, _⟩ => rfl)
  unfold expert
  refine congrArg₂ (· + ·) (Finset.sum_congr rfl fun f _ => congrArg₂ (· * ·) ?_ ?_) ?_
  · exact (congrArg (val_main_v34 (F := Ideal) X b U Bu) (el f)).trans
      (gate_at X b U Bu _ _ _ (v18_at X b U Bu hb t r f) (v21_at X b U Bu hb t r f))
  · exact (congrArg (val_main_v41 (F := Ideal) b D) (er f)).trans (v41_at b hb D t f n)
  · exact (congrArg (val_main_v49 (F := Ideal) b Bd) eb).trans (v49_at b hb Bd t 0 n)

theorem half_word : ∀ x : Fin 512,
    (let w := BitVec.ofNat 32 x.val
     let q := IntOp.divsi .host w 256#32
     let sg : BitVec 32 → BitVec 32 := fun z => if z = 0 then 0 else if z.msb then -1 else 1
     IntOp.muli (Scalar.select (IntOp.andi (IntOp.cmpi CmpIPredicate.ne (sg w) (sg 256#32)) (IntOp.cmpi CmpIPredicate.ne (IntOp.remsi .host w 256#32) 0#32)) (IntOp.subi q 1#32) q) 256#32)
      = BitVec.ofNat 32 (256 * (x.val / 256)) := by
  decide +kernel

theorem v55_at (r : Fin 512) : val_main_v55 (F := Ideal) (ix1 r) = BitVec.ofNat 32 (256 * (r.val / 256)) := by
  pointwise [val_main_v55, val_main_v54, val_main_c_14, val_main_v53, val_main_call1_v13, val_main_call1_v12, val_main_call1_c_0, val_main_call1_v11,
    val_main_call1_v10, val_main_call1_v9, val_main_call1_c, val_main_call1_v8, val_main_call1_v7, val_main_call1_v6, val_main_call1_v5, val_main_call1_v4,
    val_main_call1_v3, val_main_call1_v2, val_main_call1_v1, val_main_call1_v0, val_main_c_13, val_main_v52]
  exact half_word r

theorem zero_word : Ideal.ofBits .f32 0x00000000#32 = 0 := by
  simp [Ideal.ofBits, Ideal.ieee]

theorem half_toInt : ∀ x : Fin 512, (BitVec.ofNat 32 (256 * (x.val / 256))).toInt = ((256 * (x.val / 256) : ℕ) : ℤ) := by decide +kernel

theorem v60_at (t : Fin 160) (r : Fin 512) :
    val_main_v60 (F := Ideal) v (ix3 t r 0) = BitVec.ofBool ((BitVec.ofNat 32 (256 * (r.val / 256))).slt (v (ix1 t))) := by
  rw [val_main_v60_apply, val_main_v58_apply, val_main_v56_apply, val_main_v59_apply, val_main_v57_apply]
  have e1 : idx_main_v56 (idx_main_v58 (ix3 t r 0)) = ix1 t := funext fun a => Fin.ext (by
    match a with
    | ⟨0, _⟩ => rfl)
  have e2 : idx_main_v57 (idx_main_v59 (ix3 t r 0)) = ix1 r := funext fun a => Fin.ext (by
    match a with
    | ⟨0, _⟩ => rfl)
  rw [e1, e2, v55_at]
  rfl

theorem v61_at (t : Fin 160) (r : Fin 512) (n : Fin 1024) :
    val_main_v61 (F := Ideal) X b v U Bu D Bd (ix3 t r n)
      = if ((256 * (r.val / 256) : ℕ) : ℤ) < (v (ix1 t)).toInt then val_main_v51 (F := Ideal) X b U Bu D Bd (ix3 t r n) else 0 := by
  rw [val_main_v61_apply, val_main_call2_v1_apply, val_main_call2_v2_apply, val_main_call2_v0_apply, val_main_cst_15_apply]
  generalize val_main_v51 (F := Ideal) X b U Bu D Bd (ix3 t r n) = z
  have e : idx_main_call2_v1 (ix3 t r n) = ix3 t r 0 := funext fun a => Fin.ext (by
    match a with
    | ⟨0, _⟩ => rfl
    | ⟨1, _⟩ => rfl
    | ⟨2, _⟩ => rfl)
  rw [e, v60_at]
  have h := half_toInt r
  show Scalar.select _ z (Ideal.ofBits .f32 0x00000000#32) = _
  rw [zero_word]
  unfold Scalar.select
  by_cases hh : ((256 * (r.val / 256) : ℕ) : ℤ) < (v (ix1 t)).toInt
  · have hs : (BitVec.ofNat 32 (256 * (r.val / 256))).slt (v (ix1 t)) = true := by rw [BitVec.slt_iff_toInt_lt, h]; exact hh
    rw [if_pos hh, hs]; rfl
  · have hs : (BitVec.ofNat 32 (256 * (r.val / 256))).slt (v (ix1 t)) = false := by
      rw [Bool.eq_false_iff, ne_eq, BitVec.slt_iff_toInt_lt, h]; exact hh
    rw [if_neg hh, hs]; rfl

include hb in
/-- The reference's result is `expertArray` of its arguments. -/
theorem result_eq : val_main_v62 (F := Ideal) X b v U Bu D Bd = expertArray X b v U Bu D Bd := by
  refine array_of_blocks _ _ _ _ _ _ _ _ fun t r n => ?_
  rw [val_main_v62_apply]
  have e : idx_main_v62 (ix2 ⟨512 * t.val + r.val, by omega⟩ n) = ix3 t r n := funext fun a => Fin.ext (by
    match a with
    | ⟨0, _⟩ => show ((512 * t.val + r.val) * 1024 + n.val) / 524288 = t.val; omega
    | ⟨1, _⟩ => show ((512 * t.val + r.val) * 1024 + n.val) / 1024 % 512 = r.val; omega
    | ⟨2, _⟩ => show ((512 * t.val + r.val) * 1024 + n.val) % 1024 = n.val; omega)
  refine (congrArg (val_main_v61 (F := Ideal) X b v U Bu D Bd) e).trans ((v61_at X b v U Bu D Bd t r n).trans ?_)
  rw [v51_at X b U Bu D Bd hb t r n]
  rfl

end

end Cert.Experts.Ref

end
-- ==== Proof.Inproj.Slab.lean ====
/- What the input projection's stored slabs hold, element by element, over the extended reals. -/
module

public import proofs.«01_k».proof.Proof.Gen.Kernel3Ideal.Frame
public import Idealize.ShloMosaic.Lib.Pipeline.Value
public import Idealize.ShloMosaic.Lib.Pointwise
public import Idealize.ShloMosaic.Lib.IdealHost

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

/-- The weighted sum of four places of one lane. -/
def conv (w u : Fin 4 → EReal) : EReal := w 3 * u 3 + w 0 * u 0 + w 1 * u 1 + w 2 * u 2

/-- The activation. -/
def act (a : EReal) : EReal := a * Ideal.logistic a

/-- A row of 128 lanes activated and normalized. -/
def unit (a : Fin 128 → EReal) (l : Fin 128) : EReal :=
  act (a l) * Ideal.rsqrt ((∑ j : Fin 128, act (a j) * act (a j)) + Ideal.ofBits .f32 0x358637BD#32)

/-- The same, scaled. -/
def scaled (a : Fin 128 → EReal) (l : Fin 128) : EReal := unit a l * Ideal.ofBits .f32 0x3DB504F3#32

/-- One row of the modulated input. -/
def modulated (x sh sc w : Fin 1024 → EReal) (k : Fin 1024) : EReal :=
  x k * Ideal.rsqrt (Ideal.div (∑ j : Fin 1024, x j * x j) (Ideal.ofBits .f32 0x44800000#32) + Ideal.ofBits .f32 0x358637BD#32) * w k * (1 + sc k) + sh k

theorem pay3_apply (x : Vec Ideal S512x1024 .f32) (sh sc : Vec Ideal S1x1x1024 .f32) (w : Vec Ideal S1x1024 .f32) (r : Fin 512) (k : Fin 1024) :
    k0_pay3 x sh sc w (ix2 r k)
      = modulated (fun j => x (ix2 r j)) (fun j => sh (ix3 0 0 j)) (fun j => sc (ix3 0 0 j)) (fun j => w (ix2 0 j)) k := by
  pointwise [k0_pay3]
  rfl

theorem pay5_apply (h : FVec Ideal S512x1024 .bf16) (w : Vec Ideal S1024x512 .bf16) (r : Fin 512) (l : Fin 512) :
    k0_pay5 h w (ix2 r l) = ∑ k : Fin 1024, h (ix2 r k) * w (ix2 k l) := by
  pointwise [k0_pay5]
  try rfl

theorem pay6_apply (h : FVec Ideal S512x1024 .bf16) (w : Vec Ideal S1024x512 .bf16) (r : Fin 512) (l : Fin 512) :
    k0_pay6 h w (ix2 r l) = ∑ k : Fin 1024, h (ix2 r k) * w (ix2 k l) := by
  pointwise [k0_pay6]
  try rfl

theorem pay14_apply (h : FVec Ideal S512x1024 .bf16) (w : Vec Ideal S1024x512 .bf16) (r : Fin 512) (l : Fin 512) :
    k0_pay14 h w (ix2 r l) = ∑ k : Fin 1024, h (ix2 r k) * w (ix2 k l) := by
  pointwise [k0_pay14]
  try rfl

theorem pay19_apply (h : FVec Ideal S512x1024 .bf16) (w : Vec Ideal S1024x512 .bf16) (r : Fin 512) (l : Fin 512) :
    k0_pay19 h w (ix2 r l) = ∑ k : Fin 1024, h (ix2 r k) * w (ix2 k l) := by
  pointwise [k0_pay19]
  try rfl

theorem pay25_apply (h : FVec Ideal S512x1024 .bf16) (w : Vec Ideal S1024x512 .bf16) (r : Fin 512) (l : Fin 512) :
    k0_pay25 h w (ix2 r l) = ∑ k : Fin 1024, h (ix2 r k) * w (ix2 k l) := by
  pointwise [k0_pay25]
  try rfl

theorem pay31_apply (h : FVec Ideal S512x1024 .bf16) (w : Vec Ideal S1024x512 .bf16) (r : Fin 512) (l : Fin 512) :
    k0_pay31 h w (ix2 r l) = ∑ k : Fin 1024, h (ix2 r k) * w (ix2 k l) := by
  pointwise [k0_pay31]
  try rfl

theorem pay32_apply (h : FVec Ideal S512x1024 .bf16) (w : Vec Ideal S1024x128 .bf16) (r : Fin 512) (l : Fin 128) :
    k0_pay32 h w (ix2 r l) = ∑ k : Fin 1024, h (ix2 r k) * w (ix2 k l) := by
  pointwise [k0_pay32]
  try rfl

theorem pay4_apply (x : Vec Ideal S512x1024 .f32) (sh sc : Vec Ideal S1x1x1024 .f32) (v : Vec Ideal S1x1024 .f32) (w : Vec Ideal S1024x512 .bf16) (r : Fin 512) (l : Fin 512) :
    k0_pay4 x sh sc v w (ix2 r l) = ∑ k : Fin 1024, k0_pay3 x sh sc v (ix2 r k) * w (ix2 k l) := by
  pointwise [k0_pay4]
  try rfl

/-- The sum of one lane from the loaded weights and rows. -/
def lane (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) : EReal :=
  conv ![w0 (ix2 0 l), w1 (ix2 0 l), w2 (ix2 0 l), w3 (ix2 0 l)] ![u0 (ix2 r l), u1 (ix2 r l), u2 (ix2 r l), u3 (ix2 r l)]

theorem slab0_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay9 (k0_pay7 w3 u3 w0 u0 w1 u1 w2 u2) (k0_pay8 w3 u3 w0 u0 w1 u1 w2 u2) (ix2 r l) = scaled (lane w3 u3 w0 u0 w1 u1 w2 u2 r) l := by
  pointwise [k0_pay9, k0_pay8, k0_pay7]
  rfl

theorem slab1_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay12 (k0_pay10 w3 u3 w0 u0 w1 u1 w2 u2) (k0_pay11 w3 u3 w0 u0 w1 u1 w2 u2) (ix2 r l) = scaled (lane w3 u3 w0 u0 w1 u1 w2 u2 r) l := by
  pointwise [k0_pay12, k0_pay11, k0_pay10]
  rfl

theorem slab2_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay13 w3 u3 w0 u0 w1 u1 w2 u2 (ix2 r l) = scaled (lane w3 u3 w0 u0 w1 u1 w2 u2 r) l := by
  pointwise [k0_pay13]
  rfl

theorem slab3_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay16 (k0_pay15 w3 u3 w0 u0 w1 u1 w2 u2) (FloatOps.ofBits .f32 0x3DB504F3#32) (ix2 r l) = scaled (lane w3 u3 w0 u0 w1 u1 w2 u2 r) l := by
  pointwise [k0_pay16, k0_pay15]
  rfl

theorem slab4_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay17 w3 u3 w0 u0 w1 u1 w2 u2 (ix2 r l) = unit (lane w3 u3 w0 u0 w1 u1 w2 u2 r) l := by
  pointwise [k0_pay17]
  rfl

theorem slab5_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay18 w3 u3 w0 u0 w1 u1 w2 u2 (ix2 r l) = unit (lane w3 u3 w0 u0 w1 u1 w2 u2 r) l := by
  pointwise [k0_pay18]
  rfl

theorem slab6_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay20 w3 u3 w0 u0 w1 u1 w2 u2 (ix2 r l) = unit (lane w3 u3 w0 u0 w1 u1 w2 u2 r) l := by
  pointwise [k0_pay20]
  rfl

theorem slab7_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay22 (k0_pay21 w3 u3) w0 u0 w1 u1 w2 u2 (ix2 r l) = unit (lane w3 u3 w0 u0 w1 u1 w2 u2 r) l := by
  pointwise [k0_pay22, k0_pay21]
  rfl

theorem slab8_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay24 (k0_pay23 w3 u3 w0 u0) w1 u1 w2 u2 (ix2 r l) = act (lane w3 u3 w0 u0 w1 u1 w2 u2 r l) := by
  pointwise [k0_pay24, k0_pay23]
  rfl

theorem slab9_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay27 (k0_pay26 w3 u3 w0 u0 w1 u1) w2 u2 (ix2 r l) = act (lane w3 u3 w0 u0 w1 u1 w2 u2 r l) := by
  pointwise [k0_pay27, k0_pay26]
  rfl

theorem slab10_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay28 w3 u3 w0 u0 w1 u1 w2 u2 (ix2 r l) = act (lane w3 u3 w0 u0 w1 u1 w2 u2 r l) := by
  pointwise [k0_pay28]
  rfl

theorem slab11_apply (w3 : Vec Ideal S1x128 .f32) (u3 : Vec Ideal S512x128 .f32) (w0 : Vec Ideal S1x128 .f32) (u0 : Vec Ideal S512x128 .f32)
    (w1 : Vec Ideal S1x128 .f32) (u1 : Vec Ideal S512x128 .f32) (w2 : Vec Ideal S1x128 .f32) (u2 : Vec Ideal S512x128 .f32) (r : Fin 512) (l : Fin 128) :
    k0_pay30 u3 (k0_pay29 w3) w0 u0 w1 u1 w2 u2 (ix2 r l) = act (lane w3 u3 w0 u0 w1 u1 w2 u2 r l) := by
  pointwise [k0_pay30, k0_pay29]
  rfl

end Cert.Inproj

end
-- ==== Proof.Inproj.Rows.lean ====
/- The rows of the input projection's scratch, and the values one grid point loads. -/
module

public import proofs.«01_k».proof.Proof.Inproj.Slab
public import Idealize.ShloMosaic.Lib.WritesUnit

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

/-! ## The rows of the scratch -/

/-- Row `n` of the scratch: the first eight rows come from before, the others are the tile's own. -/
def rawAt (top : Fin 520 → Fin 1536 → EReal) (proj : Fin 512 → Fin 1536 → EReal) (n : Fin 520) (c : Fin 1536) : EReal :=
  if h : n.val < 8 then top n c else proj ⟨n.val - 8, by omega⟩ c

theorem rawAt_own (top : Fin 520 → Fin 1536 → EReal) (proj : Fin 512 → Fin 1536 → EReal) (n : Fin 520) (c : Fin 1536) (r : Fin 512)
    (h : n.val = 8 + r.val) : rawAt top proj n c = proj r c := by
  unfold rawAt
  rw [dif_neg (by omega)]
  congr 1
  apply Fin.ext
  show n.val - 8 = r.val
  omega

section rows

variable (v : View sig .tc .vmem S520x1536 .f32) (f : v.ty.Contents (Elt Ideal)) (rest : List (View.Piece (Elt Ideal) S520x1536 .f32))
variable (top : Fin 520 → Fin 1536 → EReal) (proj : Fin 512 → Fin 1536 → EReal)
variable {p0 p1 p2 : Vec Ideal S512x512 .f32}

theorem state
    (hp0 : ∀ (r : Fin 512) (l : Fin 512), p0 (ix2 r l) = proj r ⟨l.val, by omega⟩)
    (hp1 : ∀ (r : Fin 512) (l : Fin 512), p1 (ix2 r l) = proj r ⟨512 + l.val, by omega⟩)
    (hp2 : ∀ (r : Fin 512) (l : Fin 512), p2 (ix2 r l) = proj r ⟨1024 + l.val, by omega⟩)
    (htop : ∀ (n : Fin 520) (c : Fin 1536), n.val < 8 → v.read (Elt Ideal) (v.writes (Elt Ideal) f rest) (ix2 n c) = top n c)
    (n : Fin 520) (c : Fin 1536) :
    v.read (Elt Ideal) (v.writes (Elt Ideal) f
      (⟨Rect.unit (s := S520x1536) ![8, 1024] S512x512.size inb_S520x1536_S512x512_8_1024, p2⟩
        :: ⟨Rect.unit (s := S520x1536) ![8, 512] S512x512.size inb_S520x1536_S512x512_8_512, p1⟩
        :: ⟨Rect.unit (s := S520x1536) ![8, 0] S512x512.size inb_S520x1536_S512x512_8_0, p0⟩ :: rest)) (ix2 n c)
      = rawAt top proj n c := by
  have hn : n.val < 520 := n.isLt
  have hc : c.val < 1536 := c.isLt
  by_cases h : n.val < 8
  · refine (View.read_writes_cons_unit_of_not_mem v f (off' := ![8, 1024]) inb_S520x1536_S512x512_8_1024 p2 _ (ix2 n c) rfl (0 : Fin 2) (Or.inl h)).trans ?_
    refine (View.read_writes_cons_unit_of_not_mem v f (off' := ![8, 512]) inb_S520x1536_S512x512_8_512 p1 _ (ix2 n c) rfl (0 : Fin 2) (Or.inl h)).trans ?_
    refine (View.read_writes_cons_unit_of_not_mem v f (off' := ![8, 0]) inb_S520x1536_S512x512_8_0 p0 _ (ix2 n c) rfl (0 : Fin 2) (Or.inl h)).trans ?_
    refine (htop n c h).trans ?_
    rw [rawAt, dif_pos h]
  · have hr : n.val - 8 < 512 := by omega
    have e : rawAt top proj n c = proj ⟨n.val - 8, hr⟩ c := rawAt_own top proj n c ⟨n.val - 8, hr⟩ (by show n.val = 8 + (n.val - 8); omega)
    by_cases h2 : 1024 ≤ c.val
    · refine (View.read_writes_cons_unit_of_mem v f (off' := ![8, 1024]) inb_S520x1536_S512x512_8_1024 p2 _ (ix2 n c) (ix2 ⟨n.val - 8, hr⟩ ⟨c.val - 1024, by omega⟩) rfl
        (fun a => by
          match a with
          | ⟨0, _⟩ => show n.val = 8 + (n.val - 8); omega
          | ⟨1, _⟩ => show c.val = 1024 + (c.val - 1024); omega)).trans ?_
      refine (hp2 _ _).trans (Eq.trans ?_ e.symm)
      exact congrArg _ (Fin.ext (by show 1024 + (c.val - 1024) = c.val; omega))
    · refine (View.read_writes_cons_unit_of_not_mem v f (off' := ![8, 1024]) inb_S520x1536_S512x512_8_1024 p2 _ (ix2 n c) rfl (1 : Fin 2)
        (Or.inl (by show c.val < 1024; omega))).trans ?_
      by_cases h1 : 512 ≤ c.val
      · refine (View.read_writes_cons_unit_of_mem v f (off' := ![8, 512]) inb_S520x1536_S512x512_8_512 p1 _ (ix2 n c) (ix2 ⟨n.val - 8, hr⟩ ⟨c.val - 512, by omega⟩) rfl
          (fun a => by
            match a with
            | ⟨0, _⟩ => show n.val = 8 + (n.val - 8); omega
            | ⟨1, _⟩ => show c.val = 512 + (c.val - 512); omega)).trans ?_
        refine (hp1 _ _).trans (Eq.trans ?_ e.symm)
        exact congrArg _ (Fin.ext (by show 512 + (c.val - 512) = c.val; omega))
      · refine (View.read_writes_cons_unit_of_not_mem v f (off' := ![8, 512]) inb_S520x1536_S512x512_8_512 p1 _ (ix2 n c) rfl (1 : Fin 2)
          (Or.inl (by show c.val < 512; omega))).trans ?_
        refine (View.read_writes_cons_unit_of_mem v f (off' := ![8, 0]) inb_S520x1536_S512x512_8_0 p0 _ (ix2 n c) (ix2 ⟨n.val - 8, hr⟩ ⟨c.val, by omega⟩) rfl
          (fun a => by
            match a with
            | ⟨0, _⟩ => show n.val = 8 + (n.val - 8); omega
            | ⟨1, _⟩ => show c.val = 0 + c.val; omega)).trans ?_
        exact (hp0 _ _).trans e.symm

/-- A slab of rows read back. -/
theorem near (a o : ℕ) (inb)
    (hp0 : ∀ (r : Fin 512) (l : Fin 512), p0 (ix2 r l) = proj r ⟨l.val, by omega⟩)
    (hp1 : ∀ (r : Fin 512) (l : Fin 512), p1 (ix2 r l) = proj r ⟨512 + l.val, by omega⟩)
    (hp2 : ∀ (r : Fin 512) (l : Fin 512), p2 (ix2 r l) = proj r ⟨1024 + l.val, by omega⟩)
    (htop : ∀ (n : Fin 520) (c : Fin 1536), n.val < 8 → v.read (Elt Ideal) (v.writes (Elt Ideal) f rest) (ix2 n c) = top n c)
    (r : Fin 512) (l : Fin 128) (n : Fin 520) (c : Fin 1536) (hn : a + r.val = n.val) (hc : o + l.val = c.val) :
    View.readAt (Elt Ideal) v (Rect.unit (s := S520x1536) ![a, o] S512x128.size inb).toLoadRect (v.writes (Elt Ideal) f
      (⟨Rect.unit (s := S520x1536) ![8, 1024] S512x512.size inb_S520x1536_S512x512_8_1024, p2⟩
        :: ⟨Rect.unit (s := S520x1536) ![8, 512] S512x512.size inb_S520x1536_S512x512_8_512, p1⟩
        :: ⟨Rect.unit (s := S520x1536) ![8, 0] S512x512.size inb_S520x1536_S512x512_8_0, p0⟩ :: rest)) (ix2 r l)
      = rawAt top proj n c := by
  refine Eq.trans ?_ (state v f rest top proj hp0 hp1 hp2 htop n c)
  have e : (Rect.unit (s := S520x1536) ![a, o] S512x128.size inb).idx (ix2 r l) = ix2 n c := funext fun d => Fin.ext (by
    match d with
    | ⟨0, _⟩ => show a + 1 * r.val = n.val; omega
    | ⟨1, _⟩ => show o + 1 * l.val = c.val; omega)
  exact congrArg (v.read (Elt Ideal) _) e

end rows

/-- A slab of rows read back over the stored pieces alone. -/
theorem nearCov (v : View sig .tc .vmem S520x1536 .f32) (rest : List (View.Piece (Elt Ideal) S520x1536 .f32))
    (top : Fin 520 → Fin 1536 → EReal) (proj : Fin 512 → Fin 1536 → EReal) {p0 p1 p2 : Vec Ideal S512x512 .f32} (a o : ℕ) (inb)
    (hp0 : ∀ (r : Fin 512) (l : Fin 512), p0 (ix2 r l) = proj r ⟨l.val, by omega⟩)
    (hp1 : ∀ (r : Fin 512) (l : Fin 512), p1 (ix2 r l) = proj r ⟨512 + l.val, by omega⟩)
    (hp2 : ∀ (r : Fin 512) (l : Fin 512), p2 (ix2 r l) = proj r ⟨1024 + l.val, by omega⟩)
    (htop : ∀ (n : Fin 520) (c : Fin 1536), n.val < 8 → v.read (Elt Ideal) (v.writes (Elt Ideal) v.junk rest) (ix2 n c) = top n c)
    (r : Fin 512) (l : Fin 128) (n : Fin 520) (c : Fin 1536) (hn : a + r.val = n.val) (hc : o + l.val = c.val) :
    View.readCov v
      (⟨Rect.unit (s := S520x1536) ![8, 1024] S512x512.size inb_S520x1536_S512x512_8_1024, p2⟩
        :: ⟨Rect.unit (s := S520x1536) ![8, 512] S512x512.size inb_S520x1536_S512x512_8_512, p1⟩
        :: ⟨Rect.unit (s := S520x1536) ![8, 0] S512x512.size inb_S520x1536_S512x512_8_0, p0⟩ :: rest)
      (Rect.unit (s := S520x1536) ![a, o] S512x128.size inb).toLoadRect (ix2 r l)
      = rawAt top proj n c :=
  near v v.junk rest top proj a o inb hp0 hp1 hp2 htop r l n c hn hc

/-- Rows of the tile read back over the stored pieces alone, whatever lies before them. -/
theorem ownCov (v : View sig .tc .vmem S520x1536 .f32) (rest : List (View.Piece (Elt Ideal) S520x1536 .f32))
    (top : Fin 520 → Fin 1536 → EReal) (proj : Fin 512 → Fin 1536 → EReal) {p0 p1 p2 : Vec Ideal S512x512 .f32} (o : ℕ) (inb)
    (hp0 : ∀ (r : Fin 512) (l : Fin 512), p0 (ix2 r l) = proj r ⟨l.val, by omega⟩)
    (hp1 : ∀ (r : Fin 512) (l : Fin 512), p1 (ix2 r l) = proj r ⟨512 + l.val, by omega⟩)
    (hp2 : ∀ (r : Fin 512) (l : Fin 512), p2 (ix2 r l) = proj r ⟨1024 + l.val, by omega⟩)
    (r : Fin 512) (l : Fin 128) (n : Fin 520) (c : Fin 1536) (hn : 8 + r.val = n.val) (hc : o + l.val = c.val) :
    View.readCov v
      (⟨Rect.unit (s := S520x1536) ![8, 1024] S512x512.size inb_S520x1536_S512x512_8_1024, p2⟩
        :: ⟨Rect.unit (s := S520x1536) ![8, 512] S512x512.size inb_S520x1536_S512x512_8_512, p1⟩
        :: ⟨Rect.unit (s := S520x1536) ![8, 0] S512x512.size inb_S520x1536_S512x512_8_0, p0⟩ :: rest)
      (Rect.unit (s := S520x1536) ![8, o] S512x128.size inb).toLoadRect (ix2 r l)
      = rawAt top proj n c := by
  refine (nearCov v rest (fun n c => v.read (Elt Ideal) (v.writes (Elt Ideal) v.junk rest) (ix2 n c)) proj 8 o inb hp0 hp1 hp2
    (fun _ _ _ => rfl) r l n c hn hc).trans ?_
  rw [rawAt_own _ proj n c r hn.symm, rawAt_own top proj n c r hn.symm]

/-- The last rows of the tile read back over the stored pieces alone. -/
theorem lastCov (v : View sig .tc .vmem S520x1536 .f32) (rest : List (View.Piece (Elt Ideal) S520x1536 .f32))
    (proj : Fin 512 → Fin 1536 → EReal) {p0 p1 p2 : Vec Ideal S512x512 .f32}
    (hp0 : ∀ (r : Fin 512) (l : Fin 512), p0 (ix2 r l) = proj r ⟨l.val, by omega⟩)
    (hp1 : ∀ (r : Fin 512) (l : Fin 512), p1 (ix2 r l) = proj r ⟨512 + l.val, by omega⟩)
    (hp2 : ∀ (r : Fin 512) (l : Fin 512), p2 (ix2 r l) = proj r ⟨1024 + l.val, by omega⟩)
    (r : Fin 8) (c : Fin 1536) :
    View.readCov v
      (⟨Rect.unit (s := S520x1536) ![8, 1024] S512x512.size inb_S520x1536_S512x512_8_1024, p2⟩
        :: ⟨Rect.unit (s := S520x1536) ![8, 512] S512x512.size inb_S520x1536_S512x512_8_512, p1⟩
        :: ⟨Rect.unit (s := S520x1536) ![8, 0] S512x512.size inb_S520x1536_S512x512_8_0, p0⟩ :: rest)
      (Rect.unit (s := S520x1536) ![512, 0] S8x1536.size inb_S520x1536_S8x1536_512_0).toLoadRect (ix2 r c)
      = proj ⟨504 + r.val, by omega⟩ c := by
  refine Eq.trans ?_ ((state v v.junk rest (fun n c => v.read (Elt Ideal) (v.writes (Elt Ideal) v.junk rest) (ix2 n c)) proj hp0 hp1 hp2
    (fun _ _ _ => rfl) ⟨512 + r.val, by omega⟩ c).trans
    (rawAt_own _ proj _ c ⟨504 + r.val, by omega⟩ (by show 512 + r.val = 8 + (504 + r.val); omega)))
  have e : (Rect.unit (s := S520x1536) ![512, 0] S8x1536.size inb_S520x1536_S8x1536_512_0).idx (ix2 r c) = ix2 (⟨512 + r.val, by omega⟩ : Fin 520) c :=
    funext fun d => Fin.ext (by
      match d with
      | ⟨0, _⟩ => show 512 + 1 * r.val = 512 + r.val; omega
      | ⟨1, _⟩ => show 0 + 1 * c.val = c.val; omega)
  exact congrArg (v.read (Elt Ideal) _) e

/-! ## One tile -/

/-- The projected rows of a tile: all 3584 columns. -/
def projAll (x0 : Vec Ideal S512x1024 .f32) (x1 : Vec Ideal S1x6x1024 .f32) (x2 : Vec Ideal S4x1024 .f32) (x3 : Vec Ideal S1024x3584 .bf16)
    (r : Fin 512) (c : Fin 3584) : EReal :=
  ∑ k : Fin 1024, modulated (fun j => x0 (ix2 r j)) (fun j => x1 (ix3 0 0 j)) (fun j => x1 (ix3 0 1 j)) (fun j => x2 (ix2 0 j)) k * x3 (ix2 k c)

/-- The gate columns of a tile. -/
def gateAll (x0 : Vec Ideal S512x1024 .f32) (x1 : Vec Ideal S1x6x1024 .f32) (x2 : Vec Ideal S4x1024 .f32) (x4 : Vec Ideal S1024x128 .bf16)
    (r : Fin 512) (c : Fin 128) : EReal :=
  ∑ k : Fin 1024, modulated (fun j => x0 (ix2 r j)) (fun j => x1 (ix3 0 0 j)) (fun j => x1 (ix3 0 1 j)) (fun j => x2 (ix2 0 j)) k * x4 (ix2 k c)

/-- The columns that are convolved. -/
def projA (x0 : Vec Ideal S512x1024 .f32) (x1 : Vec Ideal S1x6x1024 .f32) (x2 : Vec Ideal S4x1024 .f32) (x3 : Vec Ideal S1024x3584 .bf16)
    (r : Fin 512) (c : Fin 1536) : EReal := projAll x0 x1 x2 x3 r ⟨c.val, by omega⟩

/-- The convolved sum at row `r`, column `c`, of a tile whose scratch rows are `raw`. -/
def laneAt (raw : Fin 520 → Fin 1536 → EReal) (cw : Fin 4 → Fin 1536 → EReal) (r : Fin 512) (c : Fin 1536) : EReal :=
  conv ![cw 0 c, cw 1 c, cw 2 c, cw 3 c] ![raw ⟨5 + r.val, by omega⟩ c, raw ⟨6 + r.val, by omega⟩ c, raw ⟨7 + r.val, by omega⟩ c, raw ⟨8 + r.val, by omega⟩ c]

/-- The queries, keys and values from the convolved sums of a row. -/
def headed (a : Fin 1536 → EReal) (c : Fin 1536) : EReal :=
  if c.val < 512 then scaled (fun l => a ⟨128 * (c.val / 128) + l.val, by omega⟩) ⟨c.val % 128, by omega⟩
  else if c.val < 1024 then unit (fun l => a ⟨128 * (c.val / 128) + l.val, by omega⟩) ⟨c.val % 128, by omega⟩
  else act (a c)

theorem headed_q (a : Fin 1536 → EReal) (g : ℕ) (hg : g < 4) (l : Fin 128) (c : Fin 1536) (hc : c.val = 128 * g + l.val) (b : Fin 128 → EReal)
    (hb : ∀ j : Fin 128, b j = a ⟨128 * g + j.val, by omega⟩) : scaled b l = headed a c := by
  unfold headed
  rw [if_pos (by omega)]
  have hg' : c.val / 128 = g := by omega
  congr 1
  · funext j
    rw [hb j]
    exact congrArg a (Fin.ext (by show 128 * g + j.val = 128 * (c.val / 128) + j.val; rw [hg']))
  · apply Fin.ext
    show l.val = c.val % 128
    omega

theorem headed_k (a : Fin 1536 → EReal) (g : ℕ) (hg0 : 4 ≤ g) (hg : g < 8) (l : Fin 128) (c : Fin 1536) (hc : c.val = 128 * g + l.val) (b : Fin 128 → EReal)
    (hb : ∀ j : Fin 128, b j = a ⟨128 * g + j.val, by omega⟩) : unit b l = headed a c := by
  unfold headed
  rw [if_neg (by omega), if_pos (by omega)]
  have hg' : c.val / 128 = g := by omega
  congr 1
  · funext j
    rw [hb j]
    exact congrArg a (Fin.ext (by show 128 * g + j.val = 128 * (c.val / 128) + j.val; rw [hg']))
  · apply Fin.ext
    show l.val = c.val % 128
    omega

theorem headed_v (a : Fin 1536 → EReal) (g : ℕ) (hg0 : 8 ≤ g) (hg : g < 12) (l : Fin 128) (c : Fin 1536) (hc : c.val = 128 * g + l.val) (b : EReal)
    (hb : b = a ⟨128 * g + l.val, by omega⟩) : act b = headed a c := by
  unfold headed
  rw [if_neg (by omega), if_neg (by omega), hb]
  exact congrArg (fun c => act (a c)) (Fin.ext hc.symm)

/-- A lane of a slab from what is loaded for it. -/
theorem lane_eq (raw : Fin 520 → Fin 1536 → EReal) (cw : Fin 4 → Fin 1536 → EReal) {w3 : Vec Ideal S1x128 .f32} {u3 : Vec Ideal S512x128 .f32}
    {w0 : Vec Ideal S1x128 .f32} {u0 : Vec Ideal S512x128 .f32} {w1 : Vec Ideal S1x128 .f32} {u1 : Vec Ideal S512x128 .f32}
    {w2 : Vec Ideal S1x128 .f32} {u2 : Vec Ideal S512x128 .f32} (r : Fin 512) (l : Fin 128) (c : Fin 1536)
    (h0 : w0 (ix2 0 l) = cw 0 c) (h1 : w1 (ix2 0 l) = cw 1 c) (h2 : w2 (ix2 0 l) = cw 2 c) (h3 : w3 (ix2 0 l) = cw 3 c)
    (k0 : u0 (ix2 r l) = raw ⟨5 + r.val, by omega⟩ c) (k1 : u1 (ix2 r l) = raw ⟨6 + r.val, by omega⟩ c)
    (k2 : u2 (ix2 r l) = raw ⟨7 + r.val, by omega⟩ c) (k3 : u3 (ix2 r l) = raw ⟨8 + r.val, by omega⟩ c) :
    lane w3 u3 w0 u0 w1 u1 w2 u2 r l = laneAt raw cw r c := by
  unfold lane laneAt
  rw [h0, h1, h2, h3, k0, k1, k2, k3]

/-! ## The loaded values -/

theorem ld_weight {a : Memref sig .tc .vmem S4x1536 .f32} (h : a.IsWhole) (x : Vec Ideal S4x1536 .f32) (j o : ℕ) (inb) (l : Fin 128)
    (j' : Fin 4) (c : Fin 1536) (hj : j = j'.val) (hc : o + l.val = c.val) :
    View.readAt (Elt Ideal) a.view (Rect.unit (s := S4x1536) ![j, o] S1x128.size inb).toLoadRect (h.unread x) (ix2 0 l) = x (ix2 j' c) := by
  rw [View.readAt_eq_ld, h.read_unread]
  show x _ = x _
  congr 1
  funext d
  apply Fin.ext
  match d with
  | ⟨0, _⟩ => show j + 1 * 0 = j'.val; omega
  | ⟨1, _⟩ => show o + 1 * l.val = c.val; omega

theorem ld_main {a : Memref sig .tc .vmem S1024x3584 .bf16} (h : a.IsWhole) (x : Vec Ideal S1024x3584 .bf16) (o : ℕ) (inb) (k : Fin 1024) (l : Fin 512)
    (c : Fin 3584) (hc : o + l.val = c.val) :
    View.readAt (Elt Ideal) a.view (Rect.unit (s := S1024x3584) ![0, o] S1024x512.size inb).toLoadRect (h.unread x) (ix2 k l) = x (ix2 k c) := by
  rw [View.readAt_eq_ld, h.read_unread]
  show x _ = x _
  congr 1
  funext d
  apply Fin.ext
  match d with
  | ⟨0, _⟩ => show 0 + 1 * k.val = k.val; omega
  | ⟨1, _⟩ => show o + 1 * l.val = c.val; omega

theorem ld_gate {a : Memref sig .tc .vmem S1024x128 .bf16} (h : a.IsWhole) (x : Vec Ideal S1024x128 .bf16) (inb) (k : Fin 1024) (l : Fin 128) :
    View.readAt (Elt Ideal) a.view (Rect.unit (s := S1024x128) ![0, 0] S1024x128.size inb).toLoadRect (h.unread x) (ix2 k l) = x (ix2 k l) := by
  rw [View.readAt_eq_ld, h.read_unread]
  show x _ = x _
  congr 1
  funext d
  apply Fin.ext
  match d with
  | ⟨0, _⟩ => show 0 + 1 * k.val = k.val; omega
  | ⟨1, _⟩ => show 0 + 1 * l.val = l.val; omega

theorem ld_x {a : Memref sig .tc .vmem S512x1024 .f32} (h : a.IsWhole) (x : Vec Ideal S512x1024 .f32) (inb) (k : Fin 512) (l : Fin 1024) :
    View.readAt (Elt Ideal) a.view (Rect.unit (s := S512x1024) ![0, 0] S512x1024.size inb).toLoadRect (h.unread x) (ix2 k l) = x (ix2 k l) := by
  rw [View.readAt_eq_ld, h.read_unread]
  show x _ = x _
  congr 1
  funext d
  apply Fin.ext
  match d with
  | ⟨0, _⟩ => show 0 + 1 * k.val = k.val; omega
  | ⟨1, _⟩ => show 0 + 1 * l.val = l.val; omega

theorem ld_norm {a : Memref sig .tc .vmem S4x1024 .f32} (h : a.IsWhole) (x : Vec Ideal S4x1024 .f32) (inb) (l : Fin 1024) :
    View.readAt (Elt Ideal) a.view (Rect.unit (s := S4x1024) ![0, 0] S1x1024.size inb).toLoadRect (h.unread x) (ix2 0 l) = x (ix2 0 l) := by
  rw [View.readAt_eq_ld, h.read_unread]
  show x _ = x _
  congr 1
  funext d
  apply Fin.ext
  match d with
  | ⟨0, _⟩ => rfl
  | ⟨1, _⟩ => show 0 + 1 * l.val = l.val; omega

theorem ld_mod {a : Memref sig .tc .vmem S1x6x1024 .f32} (h : a.IsWhole) (x : Vec Ideal S1x6x1024 .f32) (j : ℕ) (inb) (l : Fin 1024) (j' : Fin 6) (hj : j = j'.val) :
    View.readAt (Elt Ideal) a.view (Rect.unit (s := S1x6x1024) ![0, j, 0] S1x1x1024.size inb).toLoadRect (h.unread x) (ix3 0 0 l) = x (ix3 0 j' l) := by
  rw [View.readAt_eq_ld, h.read_unread]
  show x _ = x _
  congr 1
  funext d
  apply Fin.ext
  match d with
  | ⟨0, _⟩ => rfl
  | ⟨1, _⟩ => show j + 1 * 0 = j'.val; omega
  | ⟨2, _⟩ => show 0 + 1 * l.val = l.val; omega

section tile

variable {arg1 : Memref sig .tc .vmem S512x1024 .f32} (harg1 : arg1.IsWhole) {arg2 : Memref sig .tc .vmem S1x6x1024 .f32} (harg2 : arg2.IsWhole) {arg3 : Memref sig .tc .vmem S4x1024 .f32} (harg3 : arg3.IsWhole) {arg4 : Memref sig .tc .vmem S1024x3584 .bf16} (harg4 : arg4.IsWhole) {arg5 : Memref sig .tc .vmem S1024x128 .bf16} (harg5 : arg5.IsWhole)
  (x0 : Vec Ideal S512x1024 .f32) (x1 : Vec Ideal S1x6x1024 .f32) (x2 : Vec Ideal S4x1024 .f32) (x3 : Vec Ideal S1024x3584 .bf16) (x4 : Vec Ideal S1024x128 .bf16)

theorem rows_apply (r : Fin 512) (k : Fin 1024) :
    k0_pay3 (View.readAt (Elt Ideal) arg1.view (Rect.unit (s := S512x1024) ![0, 0] S512x1024.size inb_S512x1024_S512x1024_0_0).toLoadRect (harg1.unread x0))
      (View.readAt (Elt Ideal) arg2.view (Rect.unit (s := S1x6x1024) ![0, 0, 0] S1x1x1024.size inb_S1x6x1024_S1x1x1024_0_0_0).toLoadRect (harg2.unread x1))
      (View.readAt (Elt Ideal) arg2.view (Rect.unit (s := S1x6x1024) ![0, 1, 0] S1x1x1024.size inb_S1x6x1024_S1x1x1024_0_1_0).toLoadRect (harg2.unread x1))
      (View.readAt (Elt Ideal) arg3.view (Rect.unit (s := S4x1024) ![0, 0] S1x1024.size inb_S4x1024_S1x1024_0_0).toLoadRect (harg3.unread x2)) (ix2 r k)
      = modulated (fun j => x0 (ix2 r j)) (fun j => x1 (ix3 0 0 j)) (fun j => x1 (ix3 0 1 j)) (fun j => x2 (ix2 0 j)) k := by
  refine (pay3_apply _ _ _ _ r k).trans ?_
  congr 1
  · exact funext fun j => ld_x harg1 x0 _ r j
  · exact funext fun j => ld_mod harg2 x1 0 _ j 0 rfl
  · exact funext fun j => ld_mod harg2 x1 1 _ j 1 rfl
  · exact funext fun j => ld_norm harg3 x2 _ j

/-- A product of the tile's rows with a part of the main weights. -/
theorem prod_main (h : FVec Ideal S512x1024 .bf16) (hh : ∀ r k, h (ix2 r k) = modulated (fun j => x0 (ix2 r j)) (fun j => x1 (ix3 0 0 j)) (fun j => x1 (ix3 0 1 j)) (fun j => x2 (ix2 0 j)) k)
    (o : ℕ) (inb) (r : Fin 512) (l : Fin 512) (c : Fin 3584) (hc : o + l.val = c.val) :
    ∑ k : Fin 1024, h (ix2 r k) * View.readAt (Elt Ideal) arg4.view (Rect.unit (s := S1024x3584) ![0, o] S1024x512.size inb).toLoadRect (harg4.unread x3) (ix2 k l)
      = projAll x0 x1 x2 x3 r c :=
  Finset.sum_congr rfl fun k _ => congrArg₂ (· * ·) (hh r k) (ld_main harg4 x3 o inb k l c hc)

theorem prod_gate (h : FVec Ideal S512x1024 .bf16) (hh : ∀ r k, h (ix2 r k) = modulated (fun j => x0 (ix2 r j)) (fun j => x1 (ix3 0 0 j)) (fun j => x1 (ix3 0 1 j)) (fun j => x2 (ix2 0 j)) k)
    (inb) (r : Fin 512) (l : Fin 128) :
    ∑ k : Fin 1024, h (ix2 r k) * View.readAt (Elt Ideal) arg5.view (Rect.unit (s := S1024x128) ![0, 0] S1024x128.size inb).toLoadRect (harg5.unread x4) (ix2 k l)
      = gateAll x0 x1 x2 x4 r l :=
  Finset.sum_congr rfl fun k _ => congrArg₂ (· * ·) (hh r k) (ld_gate harg5 x4 inb k l)

end tile

end Cert.Inproj

end
-- ==== Proof.Inproj.Parts.lean ====
/- The parts of the scratch that one grid point of the input projection stores. -/
module

public import proofs.«01_k».proof.Proof.Inproj.Rows

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

theorem pay1_apply (x : Vec Ideal S8x1536 .f32) (r : Fin 8) (c : Fin 1536) : k0_pay1 x (ix2 r c) = x (ix2 r c) := by
  pointwise [k0_pay1]
  try rfl

theorem pay2_apply (r : Fin 8) (c : Fin 1536) : (k0_pay2 : FVec Ideal S8x1536 .f32) (ix2 r c) = 0 := by
  pointwise [k0_pay2]
  try simp [Ideal.ofBits, Ideal.ieee]

section parts

variable {arg1 : Memref sig .tc .vmem S512x1024 .f32} (harg1 : arg1.IsWhole) {arg2 : Memref sig .tc .vmem S1x6x1024 .f32} (harg2 : arg2.IsWhole) {arg3 : Memref sig .tc .vmem S4x1024 .f32} (harg3 : arg3.IsWhole) {arg4 : Memref sig .tc .vmem S1024x3584 .bf16} (harg4 : arg4.IsWhole)
  (x0 : Vec Ideal S512x1024 .f32) (x1 : Vec Ideal S1x6x1024 .f32) (x2 : Vec Ideal S4x1024 .f32) (x3 : Vec Ideal S1024x3584 .bf16)

/-- The tile's rows as the kernel loads and modulates them. -/
def rowsOf : FVec Ideal S512x1024 .bf16 :=
  k0_pay3 (View.readAt (Elt Ideal) arg1.view (Rect.unit (s := S512x1024) ![0, 0] S512x1024.size inb_S512x1024_S512x1024_0_0).toLoadRect (harg1.unread x0))
      (View.readAt (Elt Ideal) arg2.view (Rect.unit (s := S1x6x1024) ![0, 0, 0] S1x1x1024.size inb_S1x6x1024_S1x1x1024_0_0_0).toLoadRect (harg2.unread x1))
      (View.readAt (Elt Ideal) arg2.view (Rect.unit (s := S1x6x1024) ![0, 1, 0] S1x1x1024.size inb_S1x6x1024_S1x1x1024_0_1_0).toLoadRect (harg2.unread x1))
      (View.readAt (Elt Ideal) arg3.view (Rect.unit (s := S4x1024) ![0, 0] S1x1024.size inb_S4x1024_S1x1024_0_0).toLoadRect (harg3.unread x2))

theorem low_part (r : Fin 512) (l : Fin 512) :
    k0_pay4 (View.readAt (Elt Ideal) arg1.view (Rect.unit (s := S512x1024) ![0, 0] S512x1024.size inb_S512x1024_S512x1024_0_0).toLoadRect (harg1.unread x0))
      (View.readAt (Elt Ideal) arg2.view (Rect.unit (s := S1x6x1024) ![0, 0, 0] S1x1x1024.size inb_S1x6x1024_S1x1x1024_0_0_0).toLoadRect (harg2.unread x1))
      (View.readAt (Elt Ideal) arg2.view (Rect.unit (s := S1x6x1024) ![0, 1, 0] S1x1x1024.size inb_S1x6x1024_S1x1x1024_0_1_0).toLoadRect (harg2.unread x1))
      (View.readAt (Elt Ideal) arg3.view (Rect.unit (s := S4x1024) ![0, 0] S1x1024.size inb_S4x1024_S1x1024_0_0).toLoadRect (harg3.unread x2))
      (View.readAt (Elt Ideal) arg4.view (Rect.unit (s := S1024x3584) ![0, 0] S1024x512.size inb_S1024x3584_S1024x512_0_0).toLoadRect (harg4.unread x3)) (ix2 r l)
      = projA x0 x1 x2 x3 r ⟨l.val, by omega⟩ :=
  (pay4_apply _ _ _ _ _ r l).trans (prod_main harg4 x0 x1 x2 x3 _ (rows_apply harg1 harg2 harg3 x0 x1 x2) 0 _ r l _ (by show 0 + l.val = l.val; omega))

theorem mid_part (r : Fin 512) (l : Fin 512) :
    k0_pay5 (k0_pay3 (View.readAt (Elt Ideal) arg1.view (Rect.unit (s := S512x1024) ![0, 0] S512x1024.size inb_S512x1024_S512x1024_0_0).toLoadRect (harg1.unread x0))
      (View.readAt (Elt Ideal) arg2.view (Rect.unit (s := S1x6x1024) ![0, 0, 0] S1x1x1024.size inb_S1x6x1024_S1x1x1024_0_0_0).toLoadRect (harg2.unread x1))
      (View.readAt (Elt Ideal) arg2.view (Rect.unit (s := S1x6x1024) ![0, 1, 0] S1x1x1024.size inb_S1x6x1024_S1x1x1024_0_1_0).toLoadRect (harg2.unread x1))
      (View.readAt (Elt Ideal) arg3.view (Rect.unit (s := S4x1024) ![0, 0] S1x1024.size inb_S4x1024_S1x1024_0_0).toLoadRect (harg3.unread x2)))
      (View.readAt (Elt Ideal) arg4.view (Rect.unit (s := S1024x3584) ![0, 512] S1024x512.size inb_S1024x3584_S1024x512_0_512).toLoadRect (harg4.unread x3)) (ix2 r l)
      = projA x0 x1 x2 x3 r ⟨512 + l.val, by omega⟩ :=
  (pay5_apply _ _ r l).trans (prod_main harg4 x0 x1 x2 x3 _ (rows_apply harg1 harg2 harg3 x0 x1 x2) 512 _ r l _ rfl)

theorem high_part (r : Fin 512) (l : Fin 512) :
    k0_pay6 (k0_pay3 (View.readAt (Elt Ideal) arg1.view (Rect.unit (s := S512x1024) ![0, 0] S512x1024.size inb_S512x1024_S512x1024_0_0).toLoadRect (harg1.unread x0))
      (View.readAt (Elt Ideal) arg2.view (Rect.unit (s := S1x6x1024) ![0, 0, 0] S1x1x1024.size inb_S1x6x1024_S1x1x1024_0_0_0).toLoadRect (harg2.unread x1))
      (View.readAt (Elt Ideal) arg2.view (Rect.unit (s := S1x6x1024) ![0, 1, 0] S1x1x1024.size inb_S1x6x1024_S1x1x1024_0_1_0).toLoadRect (harg2.unread x1))
      (View.readAt (Elt Ideal) arg3.view (Rect.unit (s := S4x1024) ![0, 0] S1x1024.size inb_S4x1024_S1x1024_0_0).toLoadRect (harg3.unread x2)))
      (View.readAt (Elt Ideal) arg4.view (Rect.unit (s := S1024x3584) ![0, 1024] S1024x512.size inb_S1024x3584_S1024x512_0_1024).toLoadRect (harg4.unread x3)) (ix2 r l)
      = projA x0 x1 x2 x3 r ⟨1024 + l.val, by omega⟩ :=
  (pay6_apply _ _ r l).trans (prod_main harg4 x0 x1 x2 x3 _ (rows_apply harg1 harg2 harg3 x0 x1 x2) 1024 _ r l _ rfl)

end parts

theorem top_rows (v : View sig .tc .vmem S520x1536 .f32) (f : v.ty.Contents (Elt Ideal)) (w : Vec Ideal S8x1536 .f32) (n : Fin 520) (c : Fin 1536) (h : n.val < 8) :
    v.read (Elt Ideal) (v.writes (Elt Ideal) f
      [(⟨Rect.unit (s := S520x1536) ![0, 0] S8x1536.size inb_S520x1536_S8x1536_0_0, w⟩ : View.Piece (Elt Ideal) S520x1536 .f32)]) (ix2 n c)
      = w (ix2 ⟨n.val, h⟩ c) :=
  View.read_writes_cons_unit_of_mem v f (off' := ![0, 0]) inb_S520x1536_S8x1536_0_0 w [] (ix2 n c) (ix2 (⟨n.val, h⟩ : Fin 8) c) rfl
    (fun a => by
      match a with
      | ⟨0, _⟩ => show n.val = 0 + n.val; omega
      | ⟨1, _⟩ => show c.val = 0 + c.val; omega)

/-- The zeroed rows of the scratch before a tile that starts a sequence. -/
theorem zero_top (v : View sig .tc .vmem S520x1536 .f32) (n : Fin 520) (c : Fin 1536) (h : n.val < 8) :
    v.read (Elt Ideal) (v.writes (Elt Ideal) v.junk
      [(⟨Rect.unit (s := S520x1536) ![0, 0] S8x1536.size inb_S520x1536_S8x1536_0_0, (k0_pay2 (F := Ideal))⟩ : View.Piece (Elt Ideal) S520x1536 .f32)]) (ix2 n c)
      = (fun (_ : Fin 520) (_ : Fin 1536) => (0 : EReal)) n c :=
  (top_rows v v.junk (k0_pay2 (F := Ideal)) n c h).trans (pay2_apply _ _)

/-- The rows stored last. -/
theorem head_rows (v : View sig .tc .vmem S520x1536 .f32) (f : v.ty.Contents (Elt Ideal)) (w : Vec Ideal S8x1536 .f32)
    (rest : List (View.Piece (Elt Ideal) S520x1536 .f32)) (r : Fin 8) (n : Fin 1536) :
    v.read (Elt Ideal) (v.writes (Elt Ideal) f
      ((⟨Rect.unit (s := S520x1536) ![0, 0] S8x1536.size inb_S520x1536_S8x1536_0_0, w⟩ : View.Piece (Elt Ideal) S520x1536 .f32) :: rest))
      (ix2 ⟨r.val, by omega⟩ n) = w (ix2 r n) :=
  View.read_writes_cons_unit_of_mem v f (off' := ![0, 0]) inb_S520x1536_S8x1536_0_0 w rest (ix2 ⟨r.val, by omega⟩ n) (ix2 r n) rfl
    (fun a => by
      match a with
      | ⟨0, _⟩ => show r.val = 0 + r.val; omega
      | ⟨1, _⟩ => show n.val = 0 + n.val; omega)

/-- The carried rows of the scratch. -/
theorem carried_top {a : Memref sig .tc .vmem S520x1536 .f32} (h : a.IsWhole) (x : Vec Ideal S520x1536 .f32) (n : Fin 520) (c : Fin 1536) (_ : n.val < 8) :
    a.view.read (Elt Ideal) (a.view.writes (Elt Ideal) (h.unread x) []) (ix2 n c) = (fun n c => x (ix2 n c)) n c := by
  rw [View.writes_nil, h.read_unread]

/-- The weights of the convolution. -/
def weights (x5 : Vec Ideal S4x1536 .f32) (j : Fin 4) (c : Fin 1536) : EReal := x5 (ix2 j c)

end Cert.Inproj

end
-- ==== Proof.Inproj.PointA1.lean ====
/- What a grid point of the input projection that starts a sequence stores in its plain products and carries on. -/
module

public import proofs.«01_k».proof.Proof.Inproj.Parts

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S4x1024 .f32) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S512x1536 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x1536 .bf16) (harg10 : arg10.IsWhole) (arg11 : Memref sig .tc .vmem S520x1536 .f32) (harg11 : arg11.IsWhole)

theorem out7_A (hc0 : cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (r : Fin 512) (n : Fin 512) :
    out0_A_7 c i arg1 harg1 arg2 harg2 arg3 harg3 arg4 harg4 arg5 harg5 arg6 harg6 arg7 harg7 arg8 harg8 arg9 harg9 arg10 harg10 arg11 harg11 hc0 x0 x1 x2 x3 x4 x5 (ix2 r n) = projAll x0 x1 x2 x3 r ⟨1536 + n.val, by omega⟩ := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4 x5)]
  refine (View.canon_apply_of_pieces (fun y : S512x512.Idx => projAll x0 x1 x2 x3 (y 0) ⟨1536 + (y 1).val, by have h : (y 1).val < 512 := (y 1).isLt; omega⟩) _ ?_ (ix2 r n) (cover0_A_7 c i arg1 harg1 arg2 harg2 arg3 harg3 arg4 harg4 arg5 harg5 arg6 harg6 arg7 harg7 arg8 harg8 arg9 harg9 arg10 harg10 arg11 harg11 hc0 x0 x1 x2 x3 x4 x5 (ix2 r n)))
  unfold kernelRun0_A
  dsimp only
  sl_unfold_words
  simp only [List.forall_mem_cons]
  refine ⟨?_, fun _ h => absurd h List.not_mem_nil⟩
  intro x
  obtain ⟨a, b, rfl⟩ : ∃ (a : Fin 512) (b : Fin 512), x = ix2 a b := ⟨x 0, x 1, ValueIdx.eq_ix2 x⟩
  refine ((pay14_apply _ _ a b).trans (prod_main harg4 x0 x1 x2 x3 _ (rows_apply harg1 harg2 harg3 x0 x1 x2) 1536 _ a b ⟨1536 + b.val, by omega⟩ rfl)).trans ?_
  exact congrArg₂ (projAll x0 x1 x2 x3) (Fin.ext (by show a.val = 0 + 1 * a.val; omega)) (Fin.ext (by show 1536 + b.val = 1536 + (0 + 1 * b.val); omega))

theorem out8_A (hc0 : cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (r : Fin 512) (n : Fin 128) :
    out0_A_8 c i arg1 harg1 arg2 harg2 arg3 harg3 arg4 harg4 arg5 harg5 arg6 harg6 arg7 harg7 arg8 harg8 arg9 harg9 arg10 harg10 arg11 harg11 hc0 x0 x1 x2 x3 x4 x5 (ix2 r n) = gateAll x0 x1 x2 x4 r n := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5)]
  refine (View.canon_apply_of_pieces (fun y : S512x128.Idx => gateAll x0 x1 x2 x4 (y 0) (y 1)) _ ?_ (ix2 r n) (cover0_A_8 c i arg1 harg1 arg2 harg2 arg3 harg3 arg4 harg4 arg5 harg5 arg6 harg6 arg7 harg7 arg8 harg8 arg9 harg9 arg10 harg10 arg11 harg11 hc0 x0 x1 x2 x3 x4 x5 (ix2 r n)))
  unfold kernelRun0_A
  dsimp only
  sl_unfold_words
  simp only [List.forall_mem_cons]
  refine ⟨?_, fun _ h => absurd h List.not_mem_nil⟩
  intro x
  obtain ⟨a, b, rfl⟩ : ∃ (a : Fin 512) (b : Fin 128), x = ix2 a b := ⟨x 0, x 1, ValueIdx.eq_ix2 x⟩
  refine ((pay32_apply _ _ a b).trans (prod_gate harg5 x0 x1 x2 x4 _ (rows_apply harg1 harg2 harg3 x0 x1 x2) _ a b)).trans ?_
  exact congrArg₂ (gateAll x0 x1 x2 x4) (Fin.ext (by show a.val = 0 + 1 * a.val; omega)) (Fin.ext (by show b.val = (0 + 1 * b.val); omega))

theorem out9_A (hc0 : cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (r : Fin 512) (n : Fin 1536) :
    out0_A_9 c i arg1 harg1 arg2 harg2 arg3 harg3 arg4 harg4 arg5 harg5 arg6 harg6 arg7 harg7 arg8 harg8 arg9 harg9 arg10 harg10 arg11 harg11 hc0 x0 x1 x2 x3 x4 x5 (ix2 r n) = projAll x0 x1 x2 x3 r ⟨2048 + n.val, by omega⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5)]
  refine (View.canon_apply_of_pieces (fun y : S512x1536.Idx => projAll x0 x1 x2 x3 (y 0) ⟨2048 + (y 1).val, by have h : (y 1).val < 1536 := (y 1).isLt; omega⟩) _ ?_ (ix2 r n) (cover0_A_9 c i arg1 harg1 arg2 harg2 arg3 harg3 arg4 harg4 arg5 harg5 arg6 harg6 arg7 harg7 arg8 harg8 arg9 harg9 arg10 harg10 arg11 harg11 hc0 x0 x1 x2 x3 x4 x5 (ix2 r n)))
  unfold kernelRun0_A
  dsimp only
  sl_unfold_words
  simp only [List.forall_mem_cons]
  refine ⟨?_, ?_, ?_, fun _ h => absurd h List.not_mem_nil⟩
  · intro x
    obtain ⟨a, b, rfl⟩ : ∃ (a : Fin 512) (b : Fin 512), x = ix2 a b := ⟨x 0, x 1, ValueIdx.eq_ix2 x⟩
    refine ((pay31_apply _ _ a b).trans (prod_main harg4 x0 x1 x2 x3 _ (rows_apply harg1 harg2 harg3 x0 x1 x2) 3072 _ a b ⟨3072 + b.val, by omega⟩ rfl)).trans ?_
    exact congrArg₂ (projAll x0 x1 x2 x3) (Fin.ext (by show a.val = 0 + 1 * a.val; omega)) (Fin.ext (by show 3072 + b.val = 2048 + (1024 + 1 * b.val); omega))
  · intro x
    obtain ⟨a, b, rfl⟩ : ∃ (a : Fin 512) (b : Fin 512), x = ix2 a b := ⟨x 0, x 1, ValueIdx.eq_ix2 x⟩
    refine ((pay25_apply _ _ a b).trans (prod_main harg4 x0 x1 x2 x3 _ (rows_apply harg1 harg2 harg3 x0 x1 x2) 2560 _ a b ⟨2560 + b.val, by omega⟩ rfl)).trans ?_
    exact congrArg₂ (projAll x0 x1 x2 x3) (Fin.ext (by show a.val = 0 + 1 * a.val; omega)) (Fin.ext (by show 2560 + b.val = 2048 + (512 + 1 * b.val); omega))
  · intro x
    obtain ⟨a, b, rfl⟩ : ∃ (a : Fin 512) (b : Fin 512), x = ix2 a b := ⟨x 0, x 1, ValueIdx.eq_ix2 x⟩
    refine ((pay19_apply _ _ a b).trans (prod_main harg4 x0 x1 x2 x3 _ (rows_apply harg1 harg2 harg3 x0 x1 x2) 2048 _ a b ⟨2048 + b.val, by omega⟩ rfl)).trans ?_
    exact congrArg₂ (projAll x0 x1 x2 x3) (Fin.ext (by show a.val = 0 + 1 * a.val; omega)) (Fin.ext (by show 2048 + b.val = 2048 + (0 + 1 * b.val); omega))

theorem sout_A (hc0 : cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (r : Fin 8) (n : Fin 1536) :
    sout0_A_0 c i arg1 harg1 arg2 harg2 arg3 harg3 arg4 harg4 arg5 harg5 arg6 harg6 arg7 harg7 arg8 harg8 arg9 harg9 arg10 harg10 arg11 harg11 hc0 x0 x1 x2 x3 x4 x5 (ix2 ⟨r.val, by omega⟩ n) = projA x0 x1 x2 x3 ⟨504 + r.val, by omega⟩ n := by
  unfold sout0_A_0
  unfold kernelRun0_A
  dsimp only
  sl_unfold_words
  refine (head_rows VS0_0 VS0_0.junk _ _ r n).trans ?_
  exact (pay1_apply _ r n).trans (lastCov arg11.view _ (projA x0 x1 x2 x3) (low_part harg1 harg2 harg3 harg4 x0 x1 x2 x3) (mid_part harg1 harg2 harg3 harg4 x0 x1 x2 x3)
    (high_part harg1 harg2 harg3 harg4 x0 x1 x2 x3) r n)

end Cert.Inproj

end
-- ==== Proof.Inproj.PointA6.lean ====
/- What a grid point of the input projection that starts a sequence leaves in the queries, keys and values. -/
module

public import proofs.«01_k».proof.Proof.Inproj.Parts

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S4x1024 .f32) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S512x1536 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x1536 .bf16) (harg10 : arg10.IsWhole) (arg11 : Memref sig .tc .vmem S520x1536 .f32) (harg11 : arg11.IsWhole)

set_option maxHeartbeats 4000000

theorem out6_A (hc0 : cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (r : Fin 512) (n : Fin 1536) :
    out0_A_6 c i arg1 harg1 arg2 harg2 arg3 harg3 arg4 harg4 arg5 harg5 arg6 harg6 arg7 harg7 arg8 harg8 arg9 harg9 arg10 harg10 arg11 harg11 hc0 x0 x1 x2 x3 x4 x5 (ix2 r n) = headed (laneAt (rawAt (fun _ _ => 0) (projA x0 x1 x2 x3)) (weights x5) r) n := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 hc0 x0 x1 x2 x3 x4 x5)]
  refine (View.canon_apply_of_pieces (fun y : S512x1536.Idx => headed (laneAt (rawAt (fun _ _ => 0) (projA x0 x1 x2 x3)) (weights x5) (y 0)) (y 1)) _ ?_ (ix2 r n) (cover0_A_6 c i arg1 harg1 arg2 harg2 arg3 harg3 arg4 harg4 arg5 harg5 arg6 harg6 arg7 harg7 arg8 harg8 arg9 harg9 arg10 harg10 arg11 harg11 hc0 x0 x1 x2 x3 x4 x5 (ix2 r n)))
  unfold kernelRun0_A
  dsimp only
  sl_unfold_words
  simp only [List.forall_mem_cons]
  refine ⟨?_, ?_, ?_, ?_, ?_, ?_, ?_, ?_, ?_, ?_, ?_, ?_, fun _ h => absurd h List.not_mem_nil⟩
  · intro x
    obtain ⟨a, b, rfl⟩ : ∃ (a : Fin 512) (b : Fin 128), x = ix2 a b := ⟨x 0, x 1, ValueIdx.eq_ix2 x⟩
    refine (slab11_apply _ _ _ _ _ _ _ _ a b).trans ?_
    refine Eq.trans (headed_v _ 11 (by decide) (by decide) b ⟨1408 + b.val, by omega⟩ rfl _ (lane_eq (rawAt (fun _ _ => 0) (projA x0 x1 x2 x3)) (weights x5) a b ⟨1408 + b.val, by omega⟩
        (ld_weight harg6 x5 0 1408 _ b 0 ⟨1408 + b.val, by omega⟩ rfl rfl) (ld_weight harg6 x5 1 1408 _ b 1 ⟨1408 + b.val, by omega⟩ rfl rfl) (ld_weight harg6 x5 2 1408 _ b 2 ⟨1408 + b.val, by omega⟩ rfl rfl) (ld_weight harg6 x5 3 1408 _ b 3 ⟨1408 + b.val, by omega⟩ rfl rfl)
        (nearCov arg11.view _ (fun _ _ => 0) (projA x0 x1 x2 x3) 5 1408 _ (low_part harg1 harg2 harg3 harg4 x0 x1 x2 x3) (mid_part harg1 harg2 harg3 harg4 x0 x1 x2 x3) (high_part harg1 harg2 harg3 harg4 x0 x1 x2 x3) (zero_top arg11.view) a b ⟨5 + a.val, by omega⟩ ⟨1408 + b.val, by omega⟩ rfl rfl)
        (nearCov arg11.view _ (fun _ _ => 0) (projA x0 x1 x2 x3) 6 1408 _ (low_part harg1 harg2 harg3 harg4 x0 x1 x2 x3) (mid_part harg1 harg2 harg3 harg4 x0 x1 x2 x3) (high_part harg1 harg2 harg3 harg4 x0 x1 x2 x3) (zero_top arg11.view) a b ⟨6 + a.val, by omega⟩ ⟨1408 + b.val, by omega⟩ rfl rfl)
        (nearCov arg11.view _ (fun _ _ => 0) (projA x0 x1 x2 x3) 7 1408 _ (low_part harg1 harg2 harg3 harg4 x0 x1 x2 x3) (mid_part harg1 harg2 harg3 harg4 x0 x1 x2 x3) (high_part harg1 harg2 harg3 harg4 x0 x1 x2 x3) (zero_top arg11.view) a b ⟨7 + a.val, by omega⟩ ⟨1408 + b.val, by omega⟩ rfl rfl)
        (nearCov arg11.view _ (fun _ _ => 0) (projA x0 x1 x2 x3) 8 1408 _ (low_part harg1 harg2 harg3 harg4 x0 x1 x2 x3) (mid_part harg1 harg2 harg3 harg4 x0 x1 x2 x3) (high_part harg1 harg2 harg3 harg4 x0 x1 x2 x3) (zero_top arg11.view) a b ⟨8 + a.val, by omega⟩ ⟨1408 + b.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 1408 + b.val = 1408 + 1 * b.val; omega))
  · intro x
    obtain ⟨a, b, rfl⟩ : ∃ (a : Fin 512) (b : Fin 128), x = ix2 a b := ⟨x 0, x 1, ValueIdx.eq_ix2 x⟩
    refine (slab10_apply _ _ _ _ _ _ _ _ a b).trans ?_
    refine Eq.trans (headed_v _ 10 (by decide) (by decide) b ⟨1280 + b.val, by omega⟩ rfl _ (lane_eq (rawAt (fun _ _ => 0) (projA x0 x1 x2 x3)) (weights x5) a b ⟨1280 + b.val, by omega⟩
        (ld_weight harg6 x5 0 1280 _ b 0 ⟨1280 + b.val, by omega⟩ rfl rfl) (ld_weight harg6 x5 1 1280 _ b 1 ⟨1280 + b.val, by omega⟩ rfl rfl) (ld_weight harg6 x5 2 1280 _ b 2 ⟨1280 + b.val, by omega⟩ rfl rfl) (ld_weight harg6 x5 3 1280 _ b 3 ⟨1280 + b.val, by omega⟩ rfl rfl)
        (nearCov arg11.view _ (fun _ _ => 0) (projA x0 x1 x2 x3) 5 1280 _ (low_part harg1 harg2 harg3 harg4 x0 x1 x2 x3) (mid_part harg1 harg2 harg3 harg4 x0 x1 x2 x3) (high_part harg1 harg2 harg3 harg4 x0 x1 x2 x3) (zero_top arg11.view) a b ⟨5 + a.val, by omega⟩ ⟨1280 + b.val, by omega⟩ rfl rfl)
        (nearCov arg11.view _ (fun _ _ => 0) (projA x0 x1 x2 x3) 6 1280 _ (low_part harg1 harg2 harg3 harg4 x0 x1 x2 x3) (mid_part harg1 harg2 harg3 harg4 x0 x1 x2 x3) (high_part harg1 harg2 harg3 harg4 x0 x1 x2 x3) (zero_top arg11.view) a b ⟨6 + a.val, by omega⟩ ⟨1280 + b.val, by omega⟩ rfl rfl)
        (nearCov arg11.view _ (fun _ _ => 0) (projA x0 x1 x2 x3) 7 1280 _ (low_part harg1 harg2 harg3 harg4 x0 x1 x2 x3) (mid_part harg1 harg2 harg3 harg4 x0 x1 x2 x3) (high_part harg1 harg2 harg3 harg4 x0 x1 x2 x3) (zero_top arg11.view) a b ⟨7 + a.val, by omega⟩ ⟨1280 + b.val, by omega⟩ rfl rfl)
        (nearCov arg11.view _ (fun _ _ => 0) (projA x0 x1 x2 x3) 8 1280 _ (low_part harg1 harg2 harg3 harg4 x0 x1 x2 x3) (mid_part harg1 harg2 harg3 harg4 x0 x1 x2 x3) (high_part harg1 harg2 harg3 harg4 x0 x1 x2 x3) (zero_top arg11.view) a b ⟨8 + a.val, by omega⟩ ⟨1280 + b.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 1280 + b.val = 1280 + 1 * b.val; omega))
  · intro x
    obtain ⟨a, b, rfl⟩ : ∃ (a : Fin 512) (b : Fin 128), x = ix2 a b := ⟨x 0, x 1, ValueIdx.eq_ix2 x⟩
    refine (slab9_apply _ _ _ _ _ _ _ _ a b).trans ?_
    refine Eq.trans (headed_v _ 9 (by decide) (by decide) b ⟨1152 + b.val, by omega⟩ rfl _ (lane_eq (rawAt (fun _ _ => 0) (projA x0 x1 x2 x3)) (weights x5) a b ⟨1152 + b.val, by omega⟩
        (ld_weight harg6 x5 0 1152 _ b 0 ⟨1152 + b.val, by omega⟩ rfl rfl) (ld_weight harg6 x5 1 1152 _ b 1 ⟨1152 + b.val, by omega⟩ rfl rfl) (ld_weight harg6 x5 2 1152 _ b 2 ⟨1152 + b.val, by omega⟩ rfl rfl) (ld_weight harg6 x5 3 1152 _ b 3 ⟨1152 + b.val, by omega⟩ rfl rfl)
        (nearCov arg11.view _ (fun _ _ => 0) (projA x0 x1 x2 x3) 5 1152 _ (low_part harg1 harg2 harg3 harg4 x0 x1 x2 x3) (mid_part harg1 harg2 harg3 harg4 x0 x1 x2 x3) (high_part harg1 harg2 harg3 harg4 x0 x1 x2 x3) (zero_top arg11.view) a b ⟨5 + a.val, by omega⟩ ⟨1152 + b.val, by omega⟩ rfl rfl)
        (nearCov arg11.view _ (fun _ _ => 0) (projA x0 x1 x2 x3) 6 1152 _ (low_part harg1 harg2 harg3 harg4 x0 x1 x2 x3) (mid_part harg1 harg2 harg3 harg4 x0 x1 x2 x3) (high_part harg1 harg2 harg3 harg4 x0 x1 x2 x3) (zero_top arg11.view) a b ⟨6 + a.val, by omega⟩ ⟨1152 + b.val, by omega⟩ rfl rfl)
        (nearCov arg11.view _ (fun _ _ => 0) (projA x0 x1 x2 x3) 7 1152 _ (low_part harg1 harg2 harg3 harg4 x0 x1 x2 x3) (mid_part harg1 harg2 harg3 harg4 x0 x1 x2 x3) (high_part harg1 harg2 harg3 harg4 x0 x1 x2 x3) (zero_top arg11.view) a b ⟨7 + a.val, by omega⟩ ⟨1152 + b.val, by omega⟩ rfl rfl)
        (nearCov arg11.view _ (fun _ _ => 0) (projA x0 x1 x2 x3) 8 1152 _ (low_part harg1 harg2 harg3 harg4 x0 x1 x2 x3) (mid_part harg1 harg2 harg3 harg4 x0 x1 x2 x3) (high_part harg1 harg2 harg3 harg4 x0 x1 x2 x3) (zero_top arg11.view) a b ⟨8 + a.val, by omega⟩ ⟨1152 + b.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 1152 + b.val = 1152 + 1 * b.val; omega))
  · intro x
    obtain ⟨a, b, rfl⟩ : ∃ (a : Fin 512) (b : Fin 128), x = ix2 a b := ⟨x 0, x 1, ValueIdx.eq_ix2 x⟩
    refine (slab8_apply _ _ _ _ _ _ _ _ a b).trans ?_
    refine Eq.trans (headed_v _ 8 (by decide) (by decide) b ⟨1024 + b.val, by omega⟩ rfl _ (lane_eq (rawAt (fun _ _ => 0) (projA x0 x1 x2 x3)) (weights x5) a b ⟨1024 + b.val, by omega⟩
        (ld_weight harg6 x5 0 1024 _ b 0 ⟨1024 + b.val, by omega⟩ rfl rfl) (ld_weight harg6 x5 1 1024 _ b 1 ⟨1024 + b.val, by omega⟩ rfl rfl) (ld_weight harg6 x5 2 1024 _ b 2 ⟨1024 + b.val, by omega⟩ rfl rfl) (ld_weight harg6 x5 3 1024 _ b 3 ⟨1024 + b.val, by omega⟩ rfl rfl)
        (nearCov arg11.view _ (fun _ _ => 0) (projA x0 x1 x2 x3) 5 1024 _ (low_part harg1 harg2 harg3 harg4 x0 x1 x2 x3) (mid_part harg1 harg2 harg3 harg4 x0 x1 x2 x3) (high_part harg1 harg2 harg3 harg4 x0 x1 x2 x3) (zero_top arg11.view) a b ⟨5 + a.val, by omega⟩ ⟨1024 + b.val, by omega⟩ rfl rfl)
        (nearCov arg11.view _ (fun _ _ => 0) (projA x0 x1 x2 x3) 6 1024 _ (low_part harg1 harg2 harg3 harg4 x0 x1 x2 x3) (mid_part harg1 harg2 harg3 harg4 x0 x1 x2 x3) (high_part harg1 harg2 harg3 harg4 x0 x1 x2 x3) (zero_top arg11.view) a b ⟨6 + a.val, by omega⟩ ⟨1024 + b.val, by omega⟩ rfl rfl)
        (nearCov arg11.view _ (fun _ _ => 0) (projA x0 x1 x2 x3) 7 1024 _ (low_part harg1 harg2 harg3 harg4 x0 x1 x2 x3) (mid_part harg1 harg2 harg3 harg4 x0 x1 x2 x3) (high_part harg1 harg2 harg3 harg4 x0 x1 x2 x3) (zero_top arg11.view) a b ⟨7 + a.val, by omega⟩ ⟨1024 + b.val, by omega⟩ rfl rfl)
        (nearCov arg11.view _ (fun _ _ => 0) (projA x0 x1 x2 x3) 8 1024 _ (low_part harg1 harg2 harg3 harg4 x0 x1 x2 x3) (mid_part harg1 harg2 harg3 harg4 x0 x1 x2 x3) (high_part harg1 harg2 harg3 harg4 x0 x1 x2 x3) (zero_top arg11.view) a b ⟨8 + a.val, by omega⟩ ⟨1024 + b.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 1024 + b.val = 1024 + 1 * b.val; omega))
  · intro x
    obtain ⟨a, b, rfl⟩ : ∃ (a : Fin 512) (b : Fin 128), x = ix2 a b := ⟨x 0, x 1, ValueIdx.eq_ix2 x⟩
    refine (slab7_apply _ _ _ _ _ _ _ _ a b).trans ?_
    refine Eq.trans (headed_k _ 7 (by decide) (by decide) b ⟨896 + b.val, by omega⟩ rfl _ (fun l => lane_eq (rawAt (fun _ _ => 0) (projA x0 x1 x2 x3)) (weights x5) a l ⟨896 + l.val, by omega⟩
        (ld_weight harg6 x5 0 896 _ l 0 ⟨896 + l.val, by omega⟩ rfl rfl) (ld_weight harg6 x5 1 896 _ l 1 ⟨896 + l.val, by omega⟩ rfl rfl) (ld_weight harg6 x5 2 896 _ l 2 ⟨896 + l.val, by omega⟩ rfl rfl) (ld_weight harg6 x5 3 896 _ l 3 ⟨896 + l.val, by omega⟩ rfl rfl)
        (nearCov arg11.view _ (fun _ _ => 0) (projA x0 x1 x2 x3) 5 896 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨896 + l.val, by omega⟩ rfl rfl)
        (nearCov arg11.view _ (fun _ _ => 0) (projA x0 x1 x2 x3) 6 896 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨896 + l.val, by omega⟩ rfl rfl)
        (nearCov arg11.view _ (fun _ _ => 0) (projA x0 x1 x2 x3) 7 896 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨896 + l.val, by omega⟩ rfl rfl)
        (nearCov arg11.view _ (fun _ _ => 0) (projA x0 x1 x2 x3) 8 896 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨896 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 896 + b.val = 896 + 1 * b.val; omega))
  · intro x
    obtain ⟨a, b, rfl⟩ : ∃ (a : Fin 512) (b : Fin 128), x = ix2 a b := ⟨x 0, x 1, ValueIdx.eq_ix2 x⟩
    refine (slab6_apply _ _ _ _ _ _ _ _ a b).trans ?_
    refine Eq.trans (headed_k _ 6 (by decide) (by decide) b ⟨768 + b.val, by omega⟩ rfl _ (fun l => lane_eq (rawAt (fun _ _ => 0) (projA x0 x1 x2 x3)) (weights x5) a l ⟨768 + l.val, by omega⟩
        (ld_weight harg6 x5 0 768 _ l 0 ⟨768 + l.val, by omega⟩ rfl rfl) (ld_weight harg6 x5 1 768 _ l 1 ⟨768 + l.val, by omega⟩ rfl rfl) (ld_weight harg6 x5 2 768 _ l 2 ⟨768 + l.val, by omega⟩ rfl rfl) (ld_weight harg6 x5 3 768 _ l 3 ⟨768 + l.val, by omega⟩ rfl rfl)
        (nearCov arg11.view _ (fun _ _ => 0) (projA x0 x1 x2 x3) 5 768 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨768 + l.val, by omega⟩ rfl rfl)
        (nearCov arg11.view _ (fun _ _ => 0) (projA x0 x1 x2 x3) 6 768 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨768 + l.val, by omega⟩ rfl rfl)
        (nearCov arg11.view _ (fun _ _ => 0) (projA x0 x1 x2 x3) 7 768 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨768 + l.val, by omega⟩ rfl rfl)
        (nearCov arg11.view _ (fun _ _ => 0) (projA x0 x1 x2 x3) 8 768 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨768 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 768 + b.val = 768 + 1 * b.val; omega))
  · intro x
    obtain ⟨a, b, rfl⟩ : ∃ (a : Fin 512) (b : Fin 128), x = ix2 a b := ⟨x 0, x 1, ValueIdx.eq_ix2 x⟩
    refine (slab5_apply _ _ _ _ _ _ _ _ a b).trans ?_
    refine Eq.trans (headed_k _ 5 (by decide) (by decide) b ⟨640 + b.val, by omega⟩ rfl _ (fun l => lane_eq (rawAt (fun _ _ => 0) (projA x0 x1 x2 x3)) (weights x5) a l ⟨640 + l.val, by omega⟩
        (ld_weight harg6 x5 0 640 _ l 0 ⟨640 + l.val, by omega⟩ rfl rfl) (ld_weight harg6 x5 1 640 _ l 1 ⟨640 + l.val, by omega⟩ rfl rfl) (ld_weight harg6 x5 2 640 _ l 2 ⟨640 + l.val, by omega⟩ rfl rfl) (ld_weight harg6 x5 3 640 _ l 3 ⟨640 + l.val, by omega⟩ rfl rfl)
        (nearCov arg11.view _ (fun _ _ => 0) (projA x0 x1 x2 x3) 5 640 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨640 + l.val, by omega⟩ rfl rfl)
        (nearCov arg11.view _ (fun _ _ => 0) (projA x0 x1 x2 x3) 6 640 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨640 + l.val, by omega⟩ rfl rfl)
        (nearCov arg11.view _ (fun _ _ => 0) (projA x0 x1 x2 x3) 7 640 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨640 + l.val, by omega⟩ rfl rfl)
        (nearCov arg11.view _ (fun _ _ => 0) (projA x0 x1 x2 x3) 8 640 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨640 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 640 + b.val = 640 + 1 * b.val; omega))
  · intro x
    obtain ⟨a, b, rfl⟩ : ∃ (a : Fin 512) (b : Fin 128), x = ix2 a b := ⟨x 0, x 1, ValueIdx.eq_ix2 x⟩
    refine (slab4_apply _ _ _ _ _ _ _ _ a b).trans ?_
    refine Eq.trans (headed_k _ 4 (by decide) (by decide) b ⟨512 + b.val, by omega⟩ rfl _ (fun l => lane_eq (rawAt (fun _ _ => 0) (projA x0 x1 x2 x3)) (weights x5) a l ⟨512 + l.val, by omega⟩
        (ld_weight harg6 x5 0 512 _ l 0 ⟨512 + l.val, by omega⟩ rfl rfl) (ld_weight harg6 x5 1 512 _ l 1 ⟨512 + l.val, by omega⟩ rfl rfl) (ld_weight harg6 x5 2 512 _ l 2 ⟨512 + l.val, by omega⟩ rfl rfl) (ld_weight harg6 x5 3 512 _ l 3 ⟨512 + l.val, by omega⟩ rfl rfl)
        (nearCov arg11.view _ (fun _ _ => 0) (projA x0 x1 x2 x3) 5 512 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨512 + l.val, by omega⟩ rfl rfl)
        (nearCov arg11.view _ (fun _ _ => 0) (projA x0 x1 x2 x3) 6 512 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨512 + l.val, by omega⟩ rfl rfl)
        (nearCov arg11.view _ (fun _ _ => 0) (projA x0 x1 x2 x3) 7 512 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨512 + l.val, by omega⟩ rfl rfl)
        (nearCov arg11.view _ (fun _ _ => 0) (projA x0 x1 x2 x3) 8 512 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨512 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 512 + b.val = 512 + 1 * b.val; omega))
  · intro x
    obtain ⟨a, b, rfl⟩ : ∃ (a : Fin 512) (b : Fin 128), x = ix2 a b := ⟨x 0, x 1, ValueIdx.eq_ix2 x⟩
    refine (slab3_apply _ _ _ _ _ _ _ _ a b).trans ?_
    refine Eq.trans (headed_q _ 3 (by decide) b ⟨384 + b.val, by omega⟩ rfl _ (fun l => lane_eq (rawAt (fun _ _ => 0) (projA x0 x1 x2 x3)) (weights x5) a l ⟨384 + l.val, by omega⟩
        (ld_weight harg6 x5 0 384 _ l 0 ⟨384 + l.val, by omega⟩ rfl rfl) (ld_weight harg6 x5 1 384 _ l 1 ⟨384 + l.val, by omega⟩ rfl rfl) (ld_weight harg6 x5 2 384 _ l 2 ⟨384 + l.val, by omega⟩ rfl rfl) (ld_weight harg6 x5 3 384 _ l 3 ⟨384 + l.val, by omega⟩ rfl rfl)
        (nearCov arg11.view _ (fun _ _ => 0) (projA x0 x1 x2 x3) 5 384 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨384 + l.val, by omega⟩ rfl rfl)
        (nearCov arg11.view _ (fun _ _ => 0) (projA x0 x1 x2 x3) 6 384 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨384 + l.val, by omega⟩ rfl rfl)
        (nearCov arg11.view _ (fun _ _ => 0) (projA x0 x1 x2 x3) 7 384 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨384 + l.val, by omega⟩ rfl rfl)
        (nearCov arg11.view _ (fun _ _ => 0) (projA x0 x1 x2 x3) 8 384 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨384 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 384 + b.val = 384 + 1 * b.val; omega))
  · intro x
    obtain ⟨a, b, rfl⟩ : ∃ (a : Fin 512) (b : Fin 128), x = ix2 a b := ⟨x 0, x 1, ValueIdx.eq_ix2 x⟩
    refine (slab2_apply _ _ _ _ _ _ _ _ a b).trans ?_
    refine Eq.trans (headed_q _ 2 (by decide) b ⟨256 + b.val, by omega⟩ rfl _ (fun l => lane_eq (rawAt (fun _ _ => 0) (projA x0 x1 x2 x3)) (weights x5) a l ⟨256 + l.val, by omega⟩
        (ld_weight harg6 x5 0 256 _ l 0 ⟨256 + l.val, by omega⟩ rfl rfl) (ld_weight harg6 x5 1 256 _ l 1 ⟨256 + l.val, by omega⟩ rfl rfl) (ld_weight harg6 x5 2 256 _ l 2 ⟨256 + l.val, by omega⟩ rfl rfl) (ld_weight harg6 x5 3 256 _ l 3 ⟨256 + l.val, by omega⟩ rfl rfl)
        (nearCov arg11.view _ (fun _ _ => 0) (projA x0 x1 x2 x3) 5 256 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨256 + l.val, by omega⟩ rfl rfl)
        (nearCov arg11.view _ (fun _ _ => 0) (projA x0 x1 x2 x3) 6 256 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨256 + l.val, by omega⟩ rfl rfl)
        (nearCov arg11.view _ (fun _ _ => 0) (projA x0 x1 x2 x3) 7 256 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨256 + l.val, by omega⟩ rfl rfl)
        (nearCov arg11.view _ (fun _ _ => 0) (projA x0 x1 x2 x3) 8 256 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨256 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 256 + b.val = 256 + 1 * b.val; omega))
  · intro x
    obtain ⟨a, b, rfl⟩ : ∃ (a : Fin 512) (b : Fin 128), x = ix2 a b := ⟨x 0, x 1, ValueIdx.eq_ix2 x⟩
    refine (slab1_apply _ _ _ _ _ _ _ _ a b).trans ?_
    refine Eq.trans (headed_q _ 1 (by decide) b ⟨128 + b.val, by omega⟩ rfl _ (fun l => lane_eq (rawAt (fun _ _ => 0) (projA x0 x1 x2 x3)) (weights x5) a l ⟨128 + l.val, by omega⟩
        (ld_weight harg6 x5 0 128 _ l 0 ⟨128 + l.val, by omega⟩ rfl rfl) (ld_weight harg6 x5 1 128 _ l 1 ⟨128 + l.val, by omega⟩ rfl rfl) (ld_weight harg6 x5 2 128 _ l 2 ⟨128 + l.val, by omega⟩ rfl rfl) (ld_weight harg6 x5 3 128 _ l 3 ⟨128 + l.val, by omega⟩ rfl rfl)
        (nearCov arg11.view _ (fun _ _ => 0) (projA x0 x1 x2 x3) 5 128 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨128 + l.val, by omega⟩ rfl rfl)
        (nearCov arg11.view _ (fun _ _ => 0) (projA x0 x1 x2 x3) 6 128 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨128 + l.val, by omega⟩ rfl rfl)
        (nearCov arg11.view _ (fun _ _ => 0) (projA x0 x1 x2 x3) 7 128 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨128 + l.val, by omega⟩ rfl rfl)
        (nearCov arg11.view _ (fun _ _ => 0) (projA x0 x1 x2 x3) 8 128 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨128 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 128 + b.val = 128 + 1 * b.val; omega))
  · intro x
    obtain ⟨a, b, rfl⟩ : ∃ (a : Fin 512) (b : Fin 128), x = ix2 a b := ⟨x 0, x 1, ValueIdx.eq_ix2 x⟩
    refine (slab0_apply _ _ _ _ _ _ _ _ a b).trans ?_
    refine Eq.trans (headed_q _ 0 (by decide) b ⟨0 + b.val, by omega⟩ rfl _ (fun l => lane_eq (rawAt (fun _ _ => 0) (projA x0 x1 x2 x3)) (weights x5) a l ⟨0 + l.val, by omega⟩
        (ld_weight harg6 x5 0 0 _ l 0 ⟨0 + l.val, by omega⟩ rfl rfl) (ld_weight harg6 x5 1 0 _ l 1 ⟨0 + l.val, by omega⟩ rfl rfl) (ld_weight harg6 x5 2 0 _ l 2 ⟨0 + l.val, by omega⟩ rfl rfl) (ld_weight harg6 x5 3 0 _ l 3 ⟨0 + l.val, by omega⟩ rfl rfl)
        (nearCov arg11.view _ (fun _ _ => 0) (projA x0 x1 x2 x3) 5 0 _ (low_part harg1 harg2 harg3 harg4 x0 x1 x2 x3) (mid_part harg1 harg2 harg3 harg4 x0 x1 x2 x3) (high_part harg1 harg2 harg3 harg4 x0 x1 x2 x3) (zero_top arg11.view) a l ⟨5 + a.val, by omega⟩ ⟨0 + l.val, by omega⟩ rfl rfl)
        (nearCov arg11.view _ (fun _ _ => 0) (projA x0 x1 x2 x3) 6 0 _ (low_part harg1 harg2 harg3 harg4 x0 x1 x2 x3) (mid_part harg1 harg2 harg3 harg4 x0 x1 x2 x3) (high_part harg1 harg2 harg3 harg4 x0 x1 x2 x3) (zero_top arg11.view) a l ⟨6 + a.val, by omega⟩ ⟨0 + l.val, by omega⟩ rfl rfl)
        (nearCov arg11.view _ (fun _ _ => 0) (projA x0 x1 x2 x3) 7 0 _ (low_part harg1 harg2 harg3 harg4 x0 x1 x2 x3) (mid_part harg1 harg2 harg3 harg4 x0 x1 x2 x3) (high_part harg1 harg2 harg3 harg4 x0 x1 x2 x3) (zero_top arg11.view) a l ⟨7 + a.val, by omega⟩ ⟨0 + l.val, by omega⟩ rfl rfl)
        (nearCov arg11.view _ (fun _ _ => 0) (projA x0 x1 x2 x3) 8 0 _ (low_part harg1 harg2 harg3 harg4 x0 x1 x2 x3) (mid_part harg1 harg2 harg3 harg4 x0 x1 x2 x3) (high_part harg1 harg2 harg3 harg4 x0 x1 x2 x3) (zero_top arg11.view) a l ⟨8 + a.val, by omega⟩ ⟨0 + l.val, by omega⟩ rfl rfl))) ?_
    exact congrArg₂ (fun r n => headed (laneAt (rawAt (fun _ _ => 0) (projA x0 x1 x2 x3)) (weights x5) r) n) (Fin.ext (by show a.val = 0 + 1 * a.val; omega)) (Fin.ext (by show 0 + b.val = 0 + 1 * b.val; omega))

end Cert.Inproj

end
-- ==== Proof.Inproj.PointB1.lean ====
/- What a grid point of the input projection that continues a sequence stores in its plain products and carries on. -/
module

public import proofs.«01_k».proof.Proof.Inproj.Parts

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S4x1024 .f32) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S512x1536 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x1536 .bf16) (harg10 : arg10.IsWhole) (arg11 : Memref sig .tc .vmem S520x1536 .f32) (harg11 : arg11.IsWhole)

theorem out7_B (hc0 : ¬cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (xs0 : Vec Ideal S520x1536 .f32) (r : Fin 512) (n : Fin 512) :
    out0_B_7 c i arg1 harg1 arg2 harg2 arg3 harg3 arg4 harg4 arg5 harg5 arg6 harg6 arg7 harg7 arg8 harg8 arg9 harg9 arg10 harg10 arg11 harg11 hc0 x0 x1 x2 x3 x4 x5 xs0 (ix2 r n) = projAll x0 x1 x2 x3 r ⟨1536 + n.val, by omega⟩ := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 x5 xs0)]
  refine (View.canon_apply_of_pieces (fun y : S512x512.Idx => projAll x0 x1 x2 x3 (y 0) ⟨1536 + (y 1).val, by have h : (y 1).val < 512 := (y 1).isLt; omega⟩) _ ?_ (ix2 r n) (cover0_B_7 c i arg1 harg1 arg2 harg2 arg3 harg3 arg4 harg4 arg5 harg5 arg6 harg6 arg7 harg7 arg8 harg8 arg9 harg9 arg10 harg10 arg11 harg11 hc0 x0 x1 x2 x3 x4 x5 xs0 (ix2 r n)))
  unfold kernelRun0_B
  dsimp only
  sl_unfold_words
  simp only [List.forall_mem_cons]
  refine ⟨?_, fun _ h => absurd h List.not_mem_nil⟩
  intro x
  obtain ⟨a, b, rfl⟩ : ∃ (a : Fin 512) (b : Fin 512), x = ix2 a b := ⟨x 0, x 1, ValueIdx.eq_ix2 x⟩
  refine ((pay14_apply _ _ a b).trans (prod_main harg4 x0 x1 x2 x3 _ (rows_apply harg1 harg2 harg3 x0 x1 x2) 1536 _ a b ⟨1536 + b.val, by omega⟩ rfl)).trans ?_
  exact congrArg₂ (projAll x0 x1 x2 x3) (Fin.ext (by show a.val = 0 + 1 * a.val; omega)) (Fin.ext (by show 1536 + b.val = 1536 + (0 + 1 * b.val); omega))

theorem out8_B (hc0 : ¬cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (xs0 : Vec Ideal S520x1536 .f32) (r : Fin 512) (n : Fin 128) :
    out0_B_8 c i arg1 harg1 arg2 harg2 arg3 harg3 arg4 harg4 arg5 harg5 arg6 harg6 arg7 harg7 arg8 harg8 arg9 harg9 arg10 harg10 arg11 harg11 hc0 x0 x1 x2 x3 x4 x5 xs0 (ix2 r n) = gateAll x0 x1 x2 x4 r n := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 xs0)]
  refine (View.canon_apply_of_pieces (fun y : S512x128.Idx => gateAll x0 x1 x2 x4 (y 0) (y 1)) _ ?_ (ix2 r n) (cover0_B_8 c i arg1 harg1 arg2 harg2 arg3 harg3 arg4 harg4 arg5 harg5 arg6 harg6 arg7 harg7 arg8 harg8 arg9 harg9 arg10 harg10 arg11 harg11 hc0 x0 x1 x2 x3 x4 x5 xs0 (ix2 r n)))
  unfold kernelRun0_B
  dsimp only
  sl_unfold_words
  simp only [List.forall_mem_cons]
  refine ⟨?_, fun _ h => absurd h List.not_mem_nil⟩
  intro x
  obtain ⟨a, b, rfl⟩ : ∃ (a : Fin 512) (b : Fin 128), x = ix2 a b := ⟨x 0, x 1, ValueIdx.eq_ix2 x⟩
  refine ((pay32_apply _ _ a b).trans (prod_gate harg5 x0 x1 x2 x4 _ (rows_apply harg1 harg2 harg3 x0 x1 x2) _ a b)).trans ?_
  exact congrArg₂ (gateAll x0 x1 x2 x4) (Fin.ext (by show a.val = 0 + 1 * a.val; omega)) (Fin.ext (by show b.val = (0 + 1 * b.val); omega))

theorem out9_B (hc0 : ¬cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (xs0 : Vec Ideal S520x1536 .f32) (r : Fin 512) (n : Fin 1536) :
    out0_B_9 c i arg1 harg1 arg2 harg2 arg3 harg3 arg4 harg4 arg5 harg5 arg6 harg6 arg7 harg7 arg8 harg8 arg9 harg9 arg10 harg10 arg11 harg11 hc0 x0 x1 x2 x3 x4 x5 xs0 (ix2 r n) = projAll x0 x1 x2 x3 r ⟨2048 + n.val, by omega⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 xs0)]
  refine (View.canon_apply_of_pieces (fun y : S512x1536.Idx => projAll x0 x1 x2 x3 (y 0) ⟨2048 + (y 1).val, by have h : (y 1).val < 1536 := (y 1).isLt; omega⟩) _ ?_ (ix2 r n) (cover0_B_9 c i arg1 harg1 arg2 harg2 arg3 harg3 arg4 harg4 arg5 harg5 arg6 harg6 arg7 harg7 arg8 harg8 arg9 harg9 arg10 harg10 arg11 harg11 hc0 x0 x1 x2 x3 x4 x5 xs0 (ix2 r n)))
  unfold kernelRun0_B
  dsimp only
  sl_unfold_words
  simp only [List.forall_mem_cons]
  refine ⟨?_, ?_, ?_, fun _ h => absurd h List.not_mem_nil⟩
  · intro x
    obtain ⟨a, b, rfl⟩ : ∃ (a : Fin 512) (b : Fin 512), x = ix2 a b := ⟨x 0, x 1, ValueIdx.eq_ix2 x⟩
    refine ((pay31_apply _ _ a b).trans (prod_main harg4 x0 x1 x2 x3 _ (rows_apply harg1 harg2 harg3 x0 x1 x2) 3072 _ a b ⟨3072 + b.val, by omega⟩ rfl)).trans ?_
    exact congrArg₂ (projAll x0 x1 x2 x3) (Fin.ext (by show a.val = 0 + 1 * a.val; omega)) (Fin.ext (by show 3072 + b.val = 2048 + (1024 + 1 * b.val); omega))
  · intro x
    obtain ⟨a, b, rfl⟩ : ∃ (a : Fin 512) (b : Fin 512), x = ix2 a b := ⟨x 0, x 1, ValueIdx.eq_ix2 x⟩
    refine ((pay25_apply _ _ a b).trans (prod_main harg4 x0 x1 x2 x3 _ (rows_apply harg1 harg2 harg3 x0 x1 x2) 2560 _ a b ⟨2560 + b.val, by omega⟩ rfl)).trans ?_
    exact congrArg₂ (projAll x0 x1 x2 x3) (Fin.ext (by show a.val = 0 + 1 * a.val; omega)) (Fin.ext (by show 2560 + b.val = 2048 + (512 + 1 * b.val); omega))
  · intro x
    obtain ⟨a, b, rfl⟩ : ∃ (a : Fin 512) (b : Fin 512), x = ix2 a b := ⟨x 0, x 1, ValueIdx.eq_ix2 x⟩
    refine ((pay19_apply _ _ a b).trans (prod_main harg4 x0 x1 x2 x3 _ (rows_apply harg1 harg2 harg3 x0 x1 x2) 2048 _ a b ⟨2048 + b.val, by omega⟩ rfl)).trans ?_
    exact congrArg₂ (projAll x0 x1 x2 x3) (Fin.ext (by show a.val = 0 + 1 * a.val; omega)) (Fin.ext (by show 2048 + b.val = 2048 + (0 + 1 * b.val); omega))

theorem sout_B (hc0 : ¬cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (xs0 : Vec Ideal S520x1536 .f32) (r : Fin 8) (n : Fin 1536) :
    sout0_B_0 c i arg1 harg1 arg2 harg2 arg3 harg3 arg4 harg4 arg5 harg5 arg6 harg6 arg7 harg7 arg8 harg8 arg9 harg9 arg10 harg10 arg11 harg11 hc0 x0 x1 x2 x3 x4 x5 xs0 (ix2 ⟨r.val, by omega⟩ n) = projA x0 x1 x2 x3 ⟨504 + r.val, by omega⟩ n := by
  unfold sout0_B_0
  unfold kernelRun0_B
  dsimp only
  sl_unfold_words
  refine (head_rows VS0_0 VS0_0.junk _ _ r n).trans ?_
  exact (pay1_apply _ r n).trans (lastCov arg11.view _ (projA x0 x1 x2 x3) (low_part harg1 harg2 harg3 harg4 x0 x1 x2 x3) (mid_part harg1 harg2 harg3 harg4 x0 x1 x2 x3)
    (high_part harg1 harg2 harg3 harg4 x0 x1 x2 x3) r n)

end Cert.Inproj

end
-- ==== Proof.Inproj.PointB6.lean ====
/- What a grid point of the input projection that continues a sequence leaves in the queries, keys and values. -/
module

public import proofs.«01_k».proof.Proof.Inproj.Parts

@[expose] public section

set_option maxRecDepth 16384

noncomputable section

namespace Cert.Inproj

open Idealize.ShloMosaic Idealize.ShloMosaic.TcCoe Idealize.SL.Sem
open Cert.Kernel3Ideal Cert.Kernel3Ideal.Gen
open scoped BigOperators

variable (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S4x1024 .f32) (harg3 : arg3.IsWhole) (arg4 : Memref sig .tc .vmem S1024x3584 .bf16) (harg4 : arg4.IsWhole) (arg5 : Memref sig .tc .vmem S1024x128 .bf16) (harg5 : arg5.IsWhole) (arg6 : Memref sig .tc .vmem S4x1536 .f32) (harg6 : arg6.IsWhole) (arg7 : Memref sig .tc .vmem S512x1536 .f32) (harg7 : arg7.IsWhole) (arg8 : Memref sig .tc .vmem S512x512 .f32) (harg8 : arg8.IsWhole) (arg9 : Memref sig .tc .vmem S512x128 .f32) (harg9 : arg9.IsWhole) (arg10 : Memref sig .tc .vmem S512x1536 .bf16) (harg10 : arg10.IsWhole) (arg11 : Memref sig .tc .vmem S520x1536 .f32) (harg11 : arg11.IsWhole)

set_option maxHeartbeats 4000000

theorem out6_B (hc0 : ¬cond0_0 i) (x0 : Vec Ideal S512x1024 .f32) (x1 : Vec Ideal S1x6x1024 .f32) (x2 : Vec Ideal S4x1024 .f32) (x3 : Vec Ideal S1024x3584 .bf16) (x4 : Vec Ideal S1024x128 .bf16) (x5 : Vec Ideal S4x1536 .f32) (xs0 : Vec Ideal S520x1536 .f32) (r : Fin 512) (n : Fin 1536) :
    out0_B_6 c i arg1 harg1 arg2 harg2 arg3 harg3 arg4 harg4 arg5 harg5 arg6 harg6 arg7 harg7 arg8 harg8 arg9 harg9 arg10 harg10 arg11 harg11 hc0 x0 x1 x2 x3 x4 x5 xs0 (ix2 r n) = headed (laneAt (rawAt (fun n c => xs0 (ix2 n c)) (projA x0 x1 x2 x3)) (weights x5) r) n := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 hc0 x0 x1 x2 x3 x4 x5 xs0)]
  refine (View.canon_apply_of_pieces (fun y : S512x1536.Idx => headed (laneAt (rawAt (fun n c => xs0 (ix2 n c)) (projA x0 x1 x2 x3)) (weights x5) (y 0)) (y 1)) _ ?_ (ix2 r n) (cover0_B_6 c i arg1 harg1 arg2 harg2 arg3 harg3 arg4 harg4 arg5 harg5 arg6 harg6 arg7 harg7 arg8 harg8 arg9 harg9 arg10 harg10 arg11 harg11 hc0 x0 x1 x2 x3 x4 x5 xs0 (ix2 r n)))
  unfold kernelRun0_B
  dsimp only
  sl_unfold_words
  simp only [List.forall_mem_cons]
  refine ⟨?_, ?_, ?_, ?_, ?_, ?_, ?_, ?_, ?_, ?_, ?_, ?_, fun _ h => absurd h List.not_mem_nil⟩
  · intro x
    obtain ⟨a, b, rfl⟩ : ∃ (a : Fin 512) (b : Fin 128), x = ix2 a b := ⟨x 0, x 1, ValueIdx.eq_ix2 x⟩
    refine (slab11_apply _ _ _ _ _ _ _ _ a b).trans ?_
    refine Eq.trans (headed_v _ 11 (by decide) (by decide) b ⟨1408 + b.val, by omega⟩ rfl _ (lane_eq (rawAt (fun n c => xs0 (ix2 n c)) (projA x0 x1 x2 x3)) (weights x5) a b ⟨1408 + b.val, by omega⟩
        (ld_weight harg6 x5 0 1408 _ b 0 ⟨1408 + b.val, by omega⟩ rfl rfl) (ld_weight harg6 x5 1 1408 _ b 1 ⟨1408 + b.val, by omega⟩ rfl rfl) (ld_weight harg6 x5 2 1408 _ b 2 ⟨1408 + b.val, by omega⟩ rfl rfl) (ld_weight harg6 x5 3 1408 _ b 3 ⟨1408 + b.val, by omega⟩ rfl rfl)
        (near arg11.view (harg11.unread xs0) _ (fun n c => xs0 (ix2 n c)) (projA x0 x1 x2 x3) 5 1408 _ (low_part harg1 harg2 harg3 harg4 x0 x1 x2 x3) (mid_part harg1 harg2 harg3 harg4 x0 x1 x2 x3) (high_part harg1 harg2 harg3 harg4 x0 x1 x2 x3) (carried_top harg11 xs0) a b ⟨5 + a.val, by omega⟩ ⟨1408 + b.val, by omega⟩ rfl rfl)
        (near arg11.view (harg11.unread xs0) _ (fun n c => xs0 (ix2 n c)) (projA x0 x1 x2 x3) 6 1408 _ (low_part harg1 harg2 harg3 harg4 x0 x1 x2 x3) (mid_part harg1 harg2 harg3 harg4 x0 x1 x2 x3) (high_part harg1 harg2 harg3 harg4 x0 x1 x2 x3) (carried_top harg11 xs0) a b ⟨6 + a.val, by omega⟩ ⟨1408 + b.val, by omega⟩ rfl rfl)
        (near arg11.view (harg11.unread xs0) _ (fun n c => xs0 (ix2 n c)) (projA x0 x1 x2 x3) 7 1408 _ (low_part harg1 harg2 harg3 harg4 x0 x1 x2 x3) (mid_part harg1 harg2 harg3 harg4 x0 x1 x2 x3) (high_part harg1 harg2 harg3 harg4 x0 x1 x2 x3) (carried_top harg11 xs0) a b ⟨7 + a.val, by omega⟩ ⟨1408 + b.val, by omega⟩ rfl rfl)
        (ownCov arg11.view _ (fun n c => xs0 (ix2 n c)) (projA x0 x1 x2 x3) 1408 _ (low_part harg1 harg2 harg3 harg4 x0 x1 x2 x3) (mid_part harg1 harg2 harg3 harg4 x0 x1 x2 x3) (high_part harg1 harg2 harg3 harg4 x0 x1 x2 x3) a b ⟨8 + a.val, by omega⟩ ⟨1408 + b.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 1408 + b.val = 1408 + 1 * b.val; omega))
  · intro x
    obtain ⟨a, b, rfl⟩ : ∃ (a : Fin 512) (b : Fin 128), x = ix2 a b := ⟨x 0, x 1, ValueIdx.eq_ix2 x⟩
    refine (slab10_apply _ _ _ _ _ _ _ _ a b).trans ?_
    refine Eq.trans (headed_v _ 10 (by decide) (by decide) b ⟨1280 + b.val, by omega⟩ rfl _ (lane_eq (rawAt (fun n c => xs0 (ix2 n c)) (projA x0 x1 x2 x3)) (weights x5) a b ⟨1280 + b.val, by omega⟩
        (ld_weight harg6 x5 0 1280 _ b 0 ⟨1280 + b.val, by omega⟩ rfl rfl) (ld_weight harg6 x5 1 1280 _ b 1 ⟨1280 + b.val, by omega⟩ rfl rfl) (ld_weight harg6 x5 2 1280 _ b 2 ⟨1280 + b.val, by omega⟩ rfl rfl) (ld_weight harg6 x5 3 1280 _ b 3 ⟨1280 + b.val, by omega⟩ rfl rfl)
        (near arg11.view (harg11.unread xs0) _ (fun n c => xs0 (ix2 n c)) (projA x0 x1 x2 x3) 5 1280 _ (low_part harg1 harg2 harg3 harg4 x0 x1 x2 x3) (mid_part harg1 harg2 harg3 harg4 x0 x1 x2 x3) (high_part harg1 harg2 harg3 harg4 x0 x1 x2 x3) (carried_top harg11 xs0) a b ⟨5 + a.val, by omega⟩ ⟨1280 + b.val, by omega⟩ rfl rfl)
        (near arg11.view (harg11.unread xs0) _ (fun n c => xs0 (ix2 n c)) (projA x0 x1 x2 x3) 6 1280 _ (low_part harg1 harg2 harg3 harg4 x0 x1 x2 x3) (mid_part harg1 harg2 harg3 harg4 x0 x1 x2 x3) (high_part harg1 harg2 harg3 harg4 x0 x1 x2 x3) (carried_top harg11 xs0) a b ⟨6 + a.val, by omega⟩ ⟨1280 + b.val, by omega⟩ rfl rfl)
        (near arg11.view (harg11.unread xs0) _ (fun n c => xs0 (ix2 n c)) (projA x0 x1 x2 x3) 7 1280 _ (low_part harg1 harg2 harg3 harg4 x0 x1 x2 x3) (mid_part harg1 harg2 harg3 harg4 x0 x1 x2 x3) (high_part harg1 harg2 harg3 harg4 x0 x1 x2 x3) (carried_top harg11 xs0) a b ⟨7 + a.val, by omega⟩ ⟨1280 + b.val, by omega⟩ rfl rfl)
        (ownCov arg11.view _ (fun n c => xs0 (ix2 n c)) (projA x0 x1 x2 x3) 1280 _ (low_part harg1 harg2 harg3 harg4 x0 x1 x2 x3) (mid_part harg1 harg2 harg3 harg4 x0 x1 x2 x3) (high_part harg1 harg2 harg3 harg4 x0 x1 x2 x3) a b ⟨8 + a.val, by omega⟩ ⟨1280 + b.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 1280 + b.val = 1280 + 1 * b.val; omega))
  · intro x
    obtain ⟨a, b, rfl⟩ : ∃ (a : Fin 512) (b : Fin 128), x = ix2 a b := ⟨x 0, x 1, ValueIdx.eq_ix2 x⟩
    refine (slab9_apply _ _ _ _ _ _ _ _ a b).trans ?_
    refine Eq.trans (headed_v _ 9 (by decide) (by decide) b ⟨1152 + b.val, by omega⟩ rfl _ (lane_eq (rawAt (fun n c => xs0 (ix2 n c)) (projA x0 x1 x2 x3)) (weights x5) a b ⟨1152 + b.val, by omega⟩
        (ld_weight harg6 x5 0 1152 _ b 0 ⟨1152 + b.val, by omega⟩ rfl rfl) (ld_weight harg6 x5 1 1152 _ b 1 ⟨1152 + b.val, by omega⟩ rfl rfl) (ld_weight harg6 x5 2 1152 _ b 2 ⟨1152 + b.val, by omega⟩ rfl rfl) (ld_weight harg6 x5 3 1152 _ b 3 ⟨1152 + b.val, by omega⟩ rfl rfl)
        (near arg11.view (harg11.unread xs0) _ (fun n c => xs0 (ix2 n c)) (projA x0 x1 x2 x3) 5 1152 _ (low_part harg1 harg2 harg3 harg4 x0 x1 x2 x3) (mid_part harg1 harg2 harg3 harg4 x0 x1 x2 x3) (high_part harg1 harg2 harg3 harg4 x0 x1 x2 x3) (carried_top harg11 xs0) a b ⟨5 + a.val, by omega⟩ ⟨1152 + b.val, by omega⟩ rfl rfl)
        (near arg11.view (harg11.unread xs0) _ (fun n c => xs0 (ix2 n c)) (projA x0 x1 x2 x3) 6 1152 _ (low_part harg1 harg2 harg3 harg4 x0 x1 x2 x3) (mid_part harg1 harg2 harg3 harg4 x0 x1 x2 x3) (high_part harg1 harg2 harg3 harg4 x0 x1 x2 x3) (carried_top harg11 xs0) a b ⟨6 + a.val, by omega⟩ ⟨1152 + b.val, by omega⟩ rfl rfl)
        (near arg11.view (harg11.unread xs0) _ (fun n c => xs0 (ix2 n c)) (projA x0 x1 x2 x3) 7 1152 _ (low_part harg1 harg2 harg3 harg4 x0 x1 x2 x3) (mid_part harg1 harg2 harg3 harg4 x0 x1 x2 x3) (high_part harg1 harg2 harg3 harg4 x0 x1 x2 x3) (carried_top harg11 xs0) a b ⟨7 + a.val, by omega⟩ ⟨1152 + b.val, by omega⟩ rfl rfl)
        (ownCov arg11.view _ (fun n c => xs0 (ix2 n c)) (projA x0 x1 x2 x3) 1152 _ (low_part harg1 harg2 harg3 harg4 x0 x1 x2 x3) (mid_part harg1 harg2 harg3 harg4 x0 x1 x2 x3) (high_part harg1 harg2 harg3 harg4 x0 x1 x2 x3) a b ⟨8 + a.val, by omega⟩ ⟨1152 + b.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 1152 + b.val = 1152 + 1 * b.val; omega))
  · intro x
    obtain ⟨a, b, rfl⟩ : ∃ (a : Fin 512) (b : Fin 128), x = ix2 a b := ⟨x 0, x 1, ValueIdx.eq_ix2 x⟩
    refine (slab8_apply _ _ _ _ _ _ _ _ a b).trans ?_
    refine Eq.trans (headed_v _ 8 (by decide) (by decide) b ⟨1024 + b.val, by omega⟩ rfl _ (lane_eq (rawAt (fun n c => xs0 (ix2 n c)) (projA x0 x1 x2 x3)) (weights x5) a b ⟨1024 + b.val, by omega⟩
        (ld_weight harg6 x5 0 1024 _ b 0 ⟨1024 + b.val, by omega⟩ rfl rfl) (ld_weight harg6 x5 1 1024 _ b 1 ⟨1024 + b.val, by omega⟩ rfl rfl) (ld_weight harg6 x5 2 1024 _ b 2 ⟨1024 + b.val, by omega⟩ rfl rfl) (ld_weight harg6 x5 3 1024 _ b 3 ⟨1024 + b.val, by omega⟩ rfl rfl)
        (near arg11.view (harg11.unread xs0) _ (fun n c => xs0 (ix2 n c)) (projA x0 x1 x2 x3) 5 1024 _ (low_part harg1 harg2 harg3 harg4 x0 x1 x2 x3) (mid_part harg1 harg2 harg3 harg4 x0 x1 x2 x3) (high_part harg1 harg2 harg3 harg4 x0 x1 x2 x3) (carried_top harg11 xs0) a b ⟨5 + a.val, by omega⟩ ⟨1024 + b.val, by omega⟩ rfl rfl)
        (near arg11.view (harg11.unread xs0) _ (fun n c => xs0 (ix2 n c)) (projA x0 x1 x2 x3) 6 1024 _ (low_part harg1 harg2 harg3 harg4 x0 x1 x2 x3) (mid_part harg1 harg2 harg3 harg4 x0 x1 x2 x3) (high_part harg1 harg2 harg3 harg4 x0 x1 x2 x3) (carried_top harg11 xs0) a b ⟨6 + a.val, by omega⟩ ⟨1024 + b.val, by omega⟩ rfl rfl)
        (near arg11.view (harg11.unread xs0) _ (fun n c => xs0 (ix2 n c)) (projA x0 x1 x2 x3) 7 1024 _ (low_part harg1 harg2 harg3 harg4 x0 x1 x2 x3) (mid_part harg1 harg2 harg3 harg4 x0 x1 x2 x3) (high_part harg1 harg2 harg3 harg4 x0 x1 x2 x3) (carried_top harg11 xs0) a b ⟨7 + a.val, by omega⟩ ⟨1024 + b.val, by omega⟩ rfl rfl)
        (ownCov arg11.view _ (fun n c => xs0 (ix2 n c)) (projA x0 x1 x2 x3) 1024 _ (low_part harg1 harg2 harg3 harg4 x0 x1 x2 x3) (mid_part harg1 harg2 harg3 harg4 x0 x1 x2 x3) (high_part harg1 harg2 harg3 harg4 x0 x1 x2 x3) a b ⟨8 + a.val, by omega⟩ ⟨1024 + b.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 1024 + b.val = 1024 + 1 * b.val; omega))
  · intro x
    obtain ⟨a, b, rfl⟩ : ∃ (a : Fin 512) (b : Fin 128), x = ix2 a b := ⟨x 0, x 1, ValueIdx.eq_ix2 x⟩
    refine (slab7_apply _ _ _ _ _ _ _ _ a b).trans ?_
    refine Eq.trans (headed_k _ 7 (by decide) (by decide) b ⟨896 + b.val, by omega⟩ rfl _ (fun l => lane_eq (rawAt (fun n c => xs0 (ix2 n c)) (projA x0 x1 x2 x3)) (weights x5) a l ⟨896 + l.val, by omega⟩
        (ld_weight harg6 x5 0 896 _ l 0 ⟨896 + l.val, by omega⟩ rfl rfl) (ld_weight harg6 x5 1 896 _ l 1 ⟨896 + l.val, by omega⟩ rfl rfl) (ld_weight harg6 x5 2 896 _ l 2 ⟨896 + l.val, by omega⟩ rfl rfl) (ld_weight harg6 x5 3 896 _ l 3 ⟨896 + l.val, by omega⟩ rfl rfl)
        (near arg11.view (harg11.unread xs0) _ (fun n c => xs0 (ix2 n c)) (projA x0 x1 x2 x3) 5 896 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨896 + l.val, by omega⟩ rfl rfl)
        (near arg11.view (harg11.unread xs0) _ (fun n c => xs0 (ix2 n c)) (projA x0 x1 x2 x3) 6 896 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨896 + l.val, by omega⟩ rfl rfl)
        (near arg11.view (harg11.unread xs0) _ (fun n c => xs0 (ix2 n c)) (projA x0 x1 x2 x3) 7 896 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨896 + l.val, by omega⟩ rfl rfl)
        (ownCov arg11.view _ (fun n c => xs0 (ix2 n c)) (projA x0 x1 x2 x3) 896 _ (low_part harg1 harg2 harg3 harg4 x0 x1 x2 x3) (mid_part harg1 harg2 harg3 harg4 x0 x1 x2 x3) (high_part harg1 harg2 harg3 harg4 x0 x1 x2 x3) a l ⟨8 + a.val, by omega⟩ ⟨896 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 896 + b.val = 896 + 1 * b.val; omega))
  · intro x
    obtain ⟨a, b, rfl⟩ : ∃ (a : Fin 512) (b : Fin 128), x = ix2 a b := ⟨x 0, x 1, ValueIdx.eq_ix2 x⟩
    refine (slab6_apply _ _ _ _ _ _ _ _ a b).trans ?_
    refine Eq.trans (headed_k _ 6 (by decide) (by decide) b ⟨768 + b.val, by omega⟩ rfl _ (fun l => lane_eq (rawAt (fun n c => xs0 (ix2 n c)) (projA x0 x1 x2 x3)) (weights x5) a l ⟨768 + l.val, by omega⟩
        (ld_weight harg6 x5 0 768 _ l 0 ⟨768 + l.val, by omega⟩ rfl rfl) (ld_weight harg6 x5 1 768 _ l 1 ⟨768 + l.val, by omega⟩ rfl rfl) (ld_weight harg6 x5 2 768 _ l 2 ⟨768 + l.val, by omega⟩ rfl rfl) (ld_weight harg6 x5 3 768 _ l 3 ⟨768 + l.val, by omega⟩ rfl rfl)
        (near arg11.view (harg11.unread xs0) _ (fun n c => xs0 (ix2 n c)) (projA x0 x1 x2 x3) 5 768 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨768 + l.val, by omega⟩ rfl rfl)
        (near arg11.view (harg11.unread xs0) _ (fun n c => xs0 (ix2 n c)) (projA x0 x1 x2 x3) 6 768 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨768 + l.val, by omega⟩ rfl rfl)
        (near arg11.view (harg11.unread xs0) _ (fun n c => xs0 (ix2 n c)) (projA x0 x1 x2 x3) 7 768 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨768 + l.val, by omega⟩ rfl rfl)
        (ownCov arg11.view _ (fun n c => xs0 (ix2 n c)) (projA x0 x1 x2 x3) 768 _ (low_part harg1 harg2 harg3 harg4 x0 x1 x2 x3) (mid_part harg1 harg2 harg3 harg4 x0 x1 x2 x3) (high_part harg1 harg2 harg3 harg4 x0 x1 x2 x3) a l ⟨8 + a.val, by omega⟩ ⟨768 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 768 + b.val = 768 + 1 * b.val; omega))
  · intro x
    obtain ⟨a, b, rfl⟩ : ∃ (a : Fin 512) (b : Fin 128), x = ix2 a b := ⟨x 0, x 1, ValueIdx.eq_ix2 x⟩
    refine (slab5_apply _ _ _ _ _ _ _ _ a b).trans ?_
    refine Eq.trans (headed_k _ 5 (by decide) (by decide) b ⟨640 + b.val, by omega⟩ rfl _ (fun l => lane_eq (rawAt (fun n c => xs0 (ix2 n c)) (projA x0 x1 x2 x3)) (weights x5) a l ⟨640 + l.val, by omega⟩
        (ld_weight harg6 x5 0 640 _ l 0 ⟨640 + l.val, by omega⟩ rfl rfl) (ld_weight harg6 x5 1 640 _ l 1 ⟨640 + l.val, by omega⟩ rfl rfl) (ld_weight harg6 x5 2 640 _ l 2 ⟨640 + l.val, by omega⟩ rfl rfl) (ld_weight harg6 x5 3 640 _ l 3 ⟨640 + l.val, by omega⟩ rfl rfl)
        (near arg11.view (harg11.unread xs0) _ (fun n c => xs0 (ix2 n c)) (projA x0 x1 x2 x3) 5 640 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨640 + l.val, by omega⟩ rfl rfl)
        (near arg11.view (harg11.unread xs0) _ (fun n c => xs0 (ix2 n c)) (projA x0 x1 x2 x3) 6 640 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨640 + l.val, by omega⟩ rfl rfl)
        (near arg11.view (harg11.unread xs0) _ (fun n c => xs0 (ix2 n c)) (projA x0 x1 x2 x3) 7 640 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨640 + l.val, by omega⟩ rfl rfl)
        (ownCov arg11.view _ (fun n c => xs0 (ix2 n c)) (projA x0 x1 x2 x3) 640 _ (low_part harg1 harg2 harg3 harg4 x0 x1 x2 x3) (mid_part harg1 harg2 harg3 harg4 x0 x1 x2 x3) (high_part harg1 harg2 harg3 harg4 x0 x1 x2 x3) a l ⟨8 + a.val, by omega⟩ ⟨640 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 640 + b.val = 640 + 1 * b.val; omega))
  · intro x
    obtain ⟨a, b, rfl⟩ : ∃ (a : Fin 512) (b : Fin 128), x = ix2 a b := ⟨x 0, x 1, ValueIdx.eq_ix2 x⟩
    refine (slab4_apply _ _ _ _ _ _ _ _ a b).trans ?_
    refine Eq.trans (headed_k _ 4 (by decide) (by decide) b ⟨512 + b.val, by omega⟩ rfl _ (fun l => lane_eq (rawAt (fun n c => xs0 (ix2 n c)) (projA x0 x1 x2 x3)) (weights x5) a l ⟨512 + l.val, by omega⟩
        (ld_weight harg6 x5 0 512 _ l 0 ⟨512 + l.val, by omega⟩ rfl rfl) (ld_weight harg6 x5 1 512 _ l 1 ⟨512 + l.val, by omega⟩ rfl rfl) (ld_weight harg6 x5 2 512 _ l 2 ⟨512 + l.val, by omega⟩ rfl rfl) (ld_weight harg6 x5 3 512 _ l 3 ⟨512 + l.val, by omega⟩ rfl rfl)
        (near arg11.view (harg11.unread xs0) _ (fun n c => xs0 (ix2 n c)) (projA x0 x1 x2 x3) 5 512 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨512 + l.val, by omega⟩ rfl rfl)
        (near arg11.view (harg11.unread xs0) _ (fun n c => xs0 (ix2 n c)) (projA x0 x1 x2 x3) 6 512 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨512 + l.val, by omega⟩ rfl rfl)
        (near arg11.view (harg11.unread xs0) _ (fun n c => xs0 (ix2 n c)) (projA x0 x1 x2 x3) 7 512 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨512 + l.val, by omega⟩ rfl rfl)
        (ownCov arg11.view _ (fun n c => xs0 (ix2 n c)) (projA x0 x1 x2 x3) 512 _ (low_part harg1 harg2 harg3 harg4 x0 x1 x2 x3) (mid_part harg1 harg2 harg3 harg4 x0 x1 x2 x3) (high_part harg1 harg2 harg3 harg4 x0 x1 x2 x3) a l ⟨8 + a.val, by omega⟩ ⟨512 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 512 + b.val = 512 + 1 * b.val; omega))
  · intro x
    obtain ⟨a, b, rfl⟩ : ∃ (a : Fin 512) (b : Fin 128), x = ix2 a b := ⟨x 0, x 1, ValueIdx.eq_ix2 x⟩
    refine (slab3_apply _ _ _ _ _ _ _ _ a b).trans ?_
    refine Eq.trans (headed_q _ 3 (by decide) b ⟨384 + b.val, by omega⟩ rfl _ (fun l => lane_eq (rawAt (fun n c => xs0 (ix2 n c)) (projA x0 x1 x2 x3)) (weights x5) a l ⟨384 + l.val, by omega⟩
        (ld_weight harg6 x5 0 384 _ l 0 ⟨384 + l.val, by omega⟩ rfl rfl) (ld_weight harg6 x5 1 384 _ l 1 ⟨384 + l.val, by omega⟩ rfl rfl) (ld_weight harg6 x5 2 384 _ l 2 ⟨384 + l.val, by omega⟩ rfl rfl) (ld_weight harg6 x5 3 384 _ l 3 ⟨384 + l.val, by omega⟩ rfl rfl)
        (near arg11.view (harg11.unread xs0) _ (fun n c => xs0 (ix2 n c)) (projA x0 x1 x2 x3) 5 384 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨384 + l.val, by omega⟩ rfl rfl)
        (near arg11.view (harg11.unread xs0) _ (fun n c => xs0 (ix2 n c)) (projA x0 x1 x2 x3) 6 384 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨384 + l.val, by omega⟩ rfl rfl)
        (near arg11.view (harg11.unread xs0) _ (fun n c => xs0 (ix2 n c)) (projA x0 x1 x2 x3) 7 384 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨384 + l.val, by omega⟩ rfl rfl)
        (ownCov arg11.view _ (fun n c => xs0 (ix2 n c)) (projA x0 x1 x2 x3) 384 _ (low_part harg1 harg2 harg3 harg4 x0 x1 x2 x3) (mid_part harg1 harg2 harg3 harg4 x0 x1 x2 x3) (high_part harg1 harg2 harg3 harg4 x0 x1 x2 x3) a l ⟨8 + a.val, by omega⟩ ⟨384 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 384 + b.val = 384 + 1 * b.val; omega))
  · intro x
    obtain ⟨a, b, rfl⟩ : ∃ (a : Fin 512) (b : Fin 128), x = ix2 a b := ⟨x 0, x 1, ValueIdx.eq_ix2 x⟩
    refine (slab2_apply _ _ _ _ _ _ _ _ a b).trans ?_
    refine Eq.trans (headed_q _ 2 (by decide) b ⟨256 + b.val, by omega⟩ rfl _ (fun l => lane_eq (rawAt (fun n c => xs0 (ix2 n c)) (projA x0 x1 x2 x3)) (weights x5) a l ⟨256 + l.val, by omega⟩
        (ld_weight harg6 x5 0 256 _ l 0 ⟨256 + l.val, by omega⟩ rfl rfl) (ld_weight harg6 x5 1 256 _ l 1 ⟨256 + l.val, by omega⟩ rfl rfl) (ld_weight harg6 x5 2 256 _ l 2 ⟨256 + l.val, by omega⟩ rfl rfl) (ld_weight harg6 x5 3 256 _ l 3 ⟨256 + l.val, by omega⟩ rfl rfl)
        (near arg11.view (harg11.unread xs0) _ (fun n c => xs0 (ix2 n c)) (projA x0 x1 x2 x3) 5 256 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨256 + l.val, by omega⟩ rfl rfl)
        (near arg11.view (harg11.unread xs0) _ (fun n c => xs0 (ix2 n c)) (projA x0 x1 x2 x3) 6 256 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨256 + l.val, by omega⟩ rfl rfl)
        (near arg11.view (harg11.unread xs0) _ (fun n c => xs0 (ix2 n c)) (projA x0 x1 x2 x3) 7 256 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨256 + l.val, by omega⟩ rfl rfl)
        (ownCov arg11.view _ (fun n c => xs0 (ix2 n c)) (projA x0 x1 x2 x3) 256 _ (low_part harg1 harg2 harg3 harg4 x0 x1 x2 x3) (mid_part harg1 harg2 harg3 harg4 x0 x1 x2 x3) (high_part harg1 harg2 harg3 harg4 x0 x1 x2 x3) a l ⟨8 + a.val, by omega⟩ ⟨256 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 256 + b.val = 256 + 1 * b.val; omega))
  · intro x
    obtain ⟨a, b, rfl⟩ : ∃ (a : Fin 512) (b : Fin 128), x = ix2 a b := ⟨x 0, x 1, ValueIdx.eq_ix2 x⟩
    refine (slab1_apply _ _ _ _ _ _ _ _ a b).trans ?_
    refine Eq.trans (headed_q _ 1 (by decide) b ⟨128 + b.val, by omega⟩ rfl _ (fun l => lane_eq (rawAt (fun n c => xs0 (ix2 n c)) (projA x0 x1 x2 x3)) (weights x5) a l ⟨128 + l.val, by omega⟩
        (ld_weight harg6 x5 0 128 _ l 0 ⟨128 + l.val, by omega⟩ rfl rfl) (ld_weight harg6 x5 1 128 _ l 1 ⟨128 + l.val, by omega⟩ rfl rfl) (ld_weight harg6 x5 2 128 _ l 2 ⟨128 + l.val, by omega⟩ rfl rfl) (ld_weight harg6 x5 3 128 _ l 3 ⟨128 + l.val, by omega⟩ rfl rfl)
        (near arg11.view (harg11.unread xs0) _ (fun n c => xs0 (ix2 n c)) (projA x0 x1 x2 x3) 5 128 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨128 + l.val, by omega⟩ rfl rfl)
        (near arg11.view (harg11.unread xs0) _ (fun n c => xs0 (ix2 n c)) (projA x0 x1 x2 x3) 6 128 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨128 + l.val, by omega⟩ rfl rfl)
        (near arg11.view (harg11.unread xs0) _ (fun n c => xs0 (ix2 n c)) (projA x0 x1 x2 x3) 7 128 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨128 + l.val, by omega⟩ rfl rfl)
        (ownCov arg11.view _ (fun n c => xs0 (ix2 n c)) (projA x0 x1 x2 x3) 128 _ (low_part harg1 harg2 harg3 harg4 x0 x1 x2 x3) (mid_part harg1 harg2 harg3 harg4 x0 x1 x2 x3) (high_part harg1 harg2 harg3 harg4 x0 x1 x2 x3) a l ⟨8 + a.val, by omega⟩ ⟨128 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 128 + b.val = 128 + 1 * b.val; omega))
  · intro x
    obtain ⟨a, b, rfl⟩ : ∃ (a : Fin 512) (b : Fin 128), x = ix2 a b := ⟨x 0, x 1, ValueIdx.eq_ix2 x⟩
    refine (slab0_apply _ _ _ _ _ _ _ _ a b).trans ?_
    refine Eq.trans (headed_q _ 0 (by decide) b ⟨0 + b.val, by omega⟩ rfl _ (fun l => lane_eq (rawAt (fun n c => xs0 (ix2 n c)) (projA x0 x1 x2 x3)) (weights x5) a l ⟨0 + l.val, by omega⟩
        (ld_weight harg6 x5 0 0 _ l 0 ⟨0 + l.val, by omega⟩ rfl rfl) (ld_weight harg6 x5 1 0 _ l 1 ⟨0 + l.val, by omega⟩ rfl rfl) (ld_weight harg6 x5 2 0 _ l 2 ⟨0 + l.val, by omega⟩ rfl rfl) (ld_weight harg6 x5 3 0 _ l 3 ⟨0 + l.val, by omega⟩ rfl rfl)
        (near arg11.view (harg11.unread xs0) _ (fun n c => xs0 (ix2 n c)) (projA x0 x1 x2 x3) 5 0 _ (low_part harg1 harg2 harg3 harg4 x0 x1 x2 x3) (mid_part harg1 harg2 harg3 harg4 x0 x1 x2 x3) (high_part harg1 harg2 harg3 harg4 x0 x1 x2 x3) (carried_top harg11 xs0) a l ⟨5 + a.val, by omega⟩ ⟨0 + l.val, by omega⟩ rfl rfl)
        (near arg11.view (harg11.unread xs0) _ (fun n c => xs0 (ix2 n c)) (projA x0 x1 x2 x3) 6 0 _ (low_part harg1 harg2 harg3 harg4 x0 x1 x2 x3) (mid_part harg1 harg2 harg3 harg4 x0 x1 x2 x3) (high_part harg1 harg2 harg3 harg4 x0 x1 x2 x3) (carried_top harg11 xs0) a l ⟨6 + a.val, by omega⟩ ⟨0 + l.val, by omega⟩ rfl rfl)
        (near arg11.view (harg11.unread xs0) _ (fun n c => xs0 (ix2 n c)) (projA x0 x1 x2 x3) 7 0 _ (low_part harg1 harg2 harg3 harg4 x0 x1 x2 x3) (mid_part harg1 harg2 harg3 harg4 x0 x1 x2 x3) (high_part harg1 harg2 harg3 harg4 x0 x1 x2 x3) (carried_top harg11 xs0) a l ⟨7 + a.val, by omega⟩ ⟨0 + l.val, by omega⟩ rfl rfl)
        (ownCov arg11.view _ (fun n c => xs0 (ix2 n c)) (projA x0 x1 x2 x3) 0 _ (low_part harg1 harg2 harg3 harg4 x0 x1 x2 x3) (mid_part harg1 harg2 harg3 harg4 x0 x1 x2 x3) (high_part harg1 harg2 harg3 harg4 x0 x1 x2 x3) a l ⟨8 + a.val, by omega⟩ ⟨0 + l.val, by omega⟩ rfl rfl))) ?_
    exact congrArg₂ (fun r n => headed (laneAt (rawAt (fun n c => xs0 (ix2 n c)) (projA x0 x1 x2 x3)) (weights x5) r) n) (Fin.ext (by show a.val = 0 + 1 * a.val; omega)) (Fin.ext (by show 0 + b.val = 0 + 1 * b.val; omega))

end Cert.Inproj

end
-- ==== Proof.Inproj.Array.lean ====
/- What the input projection's result arrays hold after the run. -/
module

public import proofs.«01_k».proof.Proof.Gen.Kernel3Ideal.Value
public import proofs.«01_k».proof.Proof.Inproj.PointA1
public import proofs.«01_k».proof.Proof.Inproj.PointA6
public import proofs.«01_k».proof.Proof.Inproj.PointB1
public import proofs.«01_k».proof.Proof.Inproj.PointB6

@[expose] public section

set_option maxRecDepth 16384

noncomputable section

namespace Cert.Inproj

open Idealize.ShloMosaic Idealize.ShloMosaic.TcCoe Idealize.SL.Sem
open Cert.Kernel3Ideal Cert.Kernel3Ideal.Gen Cert.Kernel3Ideal.Value
open scoped BigOperators

/-! ## The results by row of the input -/

section rows

variable (X : Vec Ideal S16384x1024 .f32) (M : Vec Ideal S2x6x1024 .f32) (N : Vec Ideal S4x1024 .f32) (W : Vec Ideal S1024x3584 .bf16)
  (G : Vec Ideal S1024x128 .bf16) (C : Vec Ideal S4x1536 .f32)

/-- Row `g` of the input, modulated by its sequence's vectors. -/
def rowAt (g : Fin 16384) (k : Fin 1024) : EReal :=
  modulated (fun j => X (ix2 g j)) (fun j => M (ix3 (⟨g.val / 8192, by omega⟩ : Fin 2) 0 j)) (fun j => M (ix3 (⟨g.val / 8192, by omega⟩ : Fin 2) 1 j))
    (fun j => N (ix2 0 j)) k

/-- Row `g` projected. -/
def mainAt (g : Fin 16384) (c : Fin 3584) : EReal := ∑ k : Fin 1024, rowAt X M N g k * W (ix2 k c)

/-- Row `g` of the gate. -/
def gateAt (g : Fin 16384) (c : Fin 128) : EReal := ∑ k : Fin 1024, rowAt X M N g k * G (ix2 k c)

/-- The projected row that stands `3 - j` rows before row `g` in its sequence, zero before the sequence starts. -/
def placeAt (g : Fin 16384) (j : Fin 4) (c : Fin 1536) : EReal :=
  if h : 3 ≤ g.val % 8192 + j.val then mainAt X M N W ⟨g.val + j.val - 3, by omega⟩ ⟨c.val, by omega⟩ else 0

/-- The convolved sums of row `g`. -/
def sumAt (g : Fin 16384) (c : Fin 1536) : EReal :=
  conv ![C (ix2 0 c), C (ix2 1 c), C (ix2 2 c), C (ix2 3 c)]
    ![placeAt X M N W g 0 c, placeAt X M N W g 1 c, placeAt X M N W g 2 c, placeAt X M N W g 3 c]

def array6 : Vec Ideal S16384x1536 .f32 := fun y => headed (sumAt X M N W C (y 0)) (y 1)
def array7 : Vec Ideal S16384x512 .f32 := fun y => mainAt X M N W (y 0) ⟨1536 + (y 1).val, by have h : (y 1).val < 512 := (y 1).isLt; omega⟩
def array8 : Vec Ideal S16384x128 .f32 := fun y => gateAt X M N G (y 0) (y 1)
def array9 : Vec Ideal S16384x1536 .bf16 := fun y => mainAt X M N W (y 0) ⟨2048 + (y 1).val, by have h : (y 1).val < 1536 := (y 1).isLt; omega⟩

end rows

set_option backward.isDefEq.respectTransparency false

variable (m : (ℓ : Loc nD τ sig) → Buf (Elt Ideal) ℓ) (ρ : Dev nD → PrngReg)

theorem lt_32 (t : Fin cfg0.N) : t.val < 32 := lt_of_lt_of_eq t.isLt N_0

/-! ## The blocks that are read -/

theorem idx0 : ∀ t : Fin cfg0.N, win0_0.index t (0 : Fin 2) = t.val := (by decide +kernel : ∀ t : Fin grid0.N, win0_0.index t (0 : Fin 2) = t.val)
theorem idx1 : ∀ t : Fin cfg0.N, win0_1.index t (0 : Fin 3) = t.val / 16 := (by decide +kernel : ∀ t : Fin grid0.N, win0_1.index t (0 : Fin 3) = t.val / 16)
theorem idx6 : ∀ t : Fin cfg0.N, win0_6.index t (0 : Fin 2) = t.val := (by decide +kernel : ∀ t : Fin grid0.N, win0_6.index t (0 : Fin 2) = t.val)
theorem idx7 : ∀ t : Fin cfg0.N, win0_7.index t (0 : Fin 2) = t.val := (by decide +kernel : ∀ t : Fin grid0.N, win0_7.index t (0 : Fin 2) = t.val)
theorem idx8 : ∀ t : Fin cfg0.N, win0_8.index t (0 : Fin 2) = t.val := (by decide +kernel : ∀ t : Fin grid0.N, win0_8.index t (0 : Fin 2) = t.val)
theorem idx9 : ∀ t : Fin cfg0.N, win0_9.index t (0 : Fin 2) = t.val := (by decide +kernel : ∀ t : Fin grid0.N, win0_9.index t (0 : Fin 2) = t.val)

theorem block0 (c : Dev nD) (t : Fin cfg0.N) (r : Fin 512) (k : Fin 1024) :
    (iblk m c 0 t : Vec Ideal S512x1024 .f32) (ix2 r k) = m ((c : Thread nD τ).loc main_arg0) (ix2 ⟨512 * t.val + r.val, by have := lt_32 t; omega⟩ k) := by
  show m ((c : Thread nD τ).loc main_arg0) (((cfg0.win 0).blk t).view.emb (ix2 r k)) = _
  congr 1
  funext a
  apply Fin.ext
  match a with
  | ⟨0, _⟩ => show win0_0.index t (0 : Fin 2) * 512 + 1 * r.val = 512 * t.val + r.val; rw [idx0 t]; omega
  | ⟨1, _⟩ => show 0 * 1024 + 1 * k.val = k.val; omega

theorem block1 (c : Dev nD) (t : Fin cfg0.N) (j : Fin 6) (k : Fin 1024) :
    (iblk m c 1 t : Vec Ideal S1x6x1024 .f32) (ix3 0 j k) = m ((c : Thread nD τ).loc main_arg1) (ix3 ⟨t.val / 16, by have := lt_32 t; omega⟩ j k) := by
  show m ((c : Thread nD τ).loc main_arg1) (((cfg0.win 1).blk t).view.emb (ix3 0 j k)) = _
  congr 1
  funext a
  apply Fin.ext
  match a with
  | ⟨0, _⟩ => show win0_1.index t (0 : Fin 3) * 1 + 1 * 0 = t.val / 16; rw [idx1 t]; omega
  | ⟨1, _⟩ => show 0 * 6 + 1 * j.val = j.val; omega
  | ⟨2, _⟩ => show 0 * 1024 + 1 * k.val = k.val; omega

theorem block2 (c : Dev nD) (t : Fin cfg0.N) (a : Fin 4) (b : Fin 1024) :
    (iblk m c 2 t : Vec Ideal S4x1024 .f32) (ix2 a b) = m ((c : Thread nD τ).loc main_arg2) (ix2 a b) := by
  show m ((c : Thread nD τ).loc main_arg2) (((cfg0.win 2).blk t).view.emb (ix2 a b)) = _
  congr 1
  funext d
  apply Fin.ext
  match d with
  | ⟨0, _⟩ => show 0 * 4 + 1 * a.val = a.val; omega
  | ⟨1, _⟩ => show 0 * 1024 + 1 * b.val = b.val; omega

theorem block3 (c : Dev nD) (t : Fin cfg0.N) (a : Fin 1024) (b : Fin 3584) :
    (iblk m c 3 t : Vec Ideal S1024x3584 .bf16) (ix2 a b) = m ((c : Thread nD τ).loc main_arg3) (ix2 a b) := by
  show m ((c : Thread nD τ).loc main_arg3) (((cfg0.win 3).blk t).view.emb (ix2 a b)) = _
  congr 1
  funext d
  apply Fin.ext
  match d with
  | ⟨0, _⟩ => show 0 * 1024 + 1 * a.val = a.val; omega
  | ⟨1, _⟩ => show 0 * 3584 + 1 * b.val = b.val; omega

theorem block4 (c : Dev nD) (t : Fin cfg0.N) (a : Fin 1024) (b : Fin 128) :
    (iblk m c 4 t : Vec Ideal S1024x128 .bf16) (ix2 a b) = m ((c : Thread nD τ).loc main_arg4) (ix2 a b) := by
  show m ((c : Thread nD τ).loc main_arg4) (((cfg0.win 4).blk t).view.emb (ix2 a b)) = _
  congr 1
  funext d
  apply Fin.ext
  match d with
  | ⟨0, _⟩ => show 0 * 1024 + 1 * a.val = a.val; omega
  | ⟨1, _⟩ => show 0 * 128 + 1 * b.val = b.val; omega

theorem block5 (c : Dev nD) (t : Fin cfg0.N) (a : Fin 4) (b : Fin 1536) :
    (iblk m c 5 t : Vec Ideal S4x1536 .f32) (ix2 a b) = m ((c : Thread nD τ).loc main_arg5) (ix2 a b) := by
  show m ((c : Thread nD τ).loc main_arg5) (((cfg0.win 5).blk t).view.emb (ix2 a b)) = _
  congr 1
  funext d
  apply Fin.ext
  match d with
  | ⟨0, _⟩ => show 0 * 4 + 1 * a.val = a.val; omega
  | ⟨1, _⟩ => show 0 * 1536 + 1 * b.val = b.val; omega

/-! ## What a tile computes -/

/-- The row of the input that row `r` of tile `t` is. -/
def rowOf (t : Fin cfg0.N) (r : Fin 512) : Fin 16384 := ⟨512 * t.val + r.val, by have := lt_32 t; omega⟩

theorem mod_tile (c : Dev nD) (t : Fin cfg0.N) (r : Fin 512) (k : Fin 1024) :
    modulated (fun j => (iblk m c 0 t : Vec Ideal S512x1024 .f32) (ix2 r j)) (fun j => (iblk m c 1 t : Vec Ideal S1x6x1024 .f32) (ix3 0 0 j))
      (fun j => (iblk m c 1 t : Vec Ideal S1x6x1024 .f32) (ix3 0 1 j)) (fun j => (iblk m c 2 t : Vec Ideal S4x1024 .f32) (ix2 0 j)) k
      = rowAt (m ((c : Thread nD τ).loc main_arg0)) (m ((c : Thread nD τ).loc main_arg1)) (m ((c : Thread nD τ).loc main_arg2)) (rowOf t r) k := by
  have es : (⟨t.val / 16, by have := lt_32 t; omega⟩ : Fin 2) = ⟨(rowOf t r).val / 8192, by have := (rowOf t r).isLt; omega⟩ :=
    Fin.ext (by show t.val / 16 = (512 * t.val + r.val) / 8192; omega)
  unfold rowAt
  congr 1
  · exact funext fun j => block0 m c t r j
  · exact funext fun j => (block1 m c t 0 j).trans (congrArg (fun s => m ((c : Thread nD τ).loc main_arg1) (ix3 s 0 j)) es)
  · exact funext fun j => (block1 m c t 1 j).trans (congrArg (fun s => m ((c : Thread nD τ).loc main_arg1) (ix3 s 1 j)) es)
  · exact funext fun j => block2 m c t 0 j

theorem main_tile (c : Dev nD) (t : Fin cfg0.N) (r : Fin 512) (n : Fin 3584) :
    projAll (iblk m c 0 t) (iblk m c 1 t) (iblk m c 2 t) (iblk m c 3 t) r n
      = mainAt (m ((c : Thread nD τ).loc main_arg0)) (m ((c : Thread nD τ).loc main_arg1)) (m ((c : Thread nD τ).loc main_arg2)) (m ((c : Thread nD τ).loc main_arg3)) (rowOf t r) n :=
  Finset.sum_congr rfl fun k _ => congrArg₂ (· * ·) (mod_tile m c t r k) (block3 m c t k n)

theorem gate_tile (c : Dev nD) (t : Fin cfg0.N) (r : Fin 512) (n : Fin 128) :
    gateAll (iblk m c 0 t) (iblk m c 1 t) (iblk m c 2 t) (iblk m c 4 t) r n
      = gateAt (m ((c : Thread nD τ).loc main_arg0)) (m ((c : Thread nD τ).loc main_arg1)) (m ((c : Thread nD τ).loc main_arg2)) (m ((c : Thread nD τ).loc main_arg4)) (rowOf t r) n :=
  Finset.sum_congr rfl fun k _ => congrArg₂ (· * ·) (mod_tile m c t r k) (block4 m c t k n)

theorem after6_A (c : Dev nD) (t : Fin cfg0.N) (h0 : t.val % 16 = 0) :
    (outsAt0 m c t.val t.isLt).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) :=
  (congrArg (fun z => z.1) (outsAt0_A m c t h0)).trans (by dsimp only)

theorem after6_B (c : Dev nD) (t : Fin cfg0.N) (h0 : ¬t.val % 16 = 0) :
    (outsAt0 m c t.val t.isLt).1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 :=
  (congrArg (fun z => z.1) (outsAt0_B m c t h0)).trans (by dsimp only)

theorem after7_A (c : Dev nD) (t : Fin cfg0.N) (h0 : t.val % 16 = 0) :
    (outsAt0 m c t.val t.isLt).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) :=
  (congrArg (fun z => z.2.1) (outsAt0_A m c t h0)).trans (by dsimp only)

theorem after7_B (c : Dev nD) (t : Fin cfg0.N) (h0 : ¬t.val % 16 = 0) :
    (outsAt0 m c t.val t.isLt).2.1 = out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 :=
  (congrArg (fun z => z.2.1) (outsAt0_B m c t h0)).trans (by dsimp only)

theorem after8_A (c : Dev nD) (t : Fin cfg0.N) (h0 : t.val % 16 = 0) :
    (outsAt0 m c t.val t.isLt).2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) :=
  (congrArg (fun z => z.2.2.1) (outsAt0_A m c t h0)).trans (by dsimp only)

theorem after8_B (c : Dev nD) (t : Fin cfg0.N) (h0 : ¬t.val % 16 = 0) :
    (outsAt0 m c t.val t.isLt).2.2.1 = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 :=
  (congrArg (fun z => z.2.2.1) (outsAt0_B m c t h0)).trans (by dsimp only)

theorem after9_A (c : Dev nD) (t : Fin cfg0.N) (h0 : t.val % 16 = 0) :
    (outsAt0 m c t.val t.isLt).2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) :=
  (congrArg (fun z => z.2.2.2.1) (outsAt0_A m c t h0)).trans (by dsimp only)

theorem after9_B (c : Dev nD) (t : Fin cfg0.N) (h0 : ¬t.val % 16 = 0) :
    (outsAt0 m c t.val t.isLt).2.2.2.1 = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 :=
  (congrArg (fun z => z.2.2.2.1) (outsAt0_B m c t h0)).trans (by dsimp only)

theorem carried_A (c : Dev nD) (t : Fin cfg0.N) (h0 : t.val % 16 = 0) :
    (outsAt0 m c t.val t.isLt).2.2.2.2 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) :=
  (congrArg (fun z => z.2.2.2.2) (outsAt0_A m c t h0)).trans (by dsimp only)

theorem carried_B (c : Dev nD) (t : Fin cfg0.N) (h0 : ¬t.val % 16 = 0) :
    (outsAt0 m c t.val t.isLt).2.2.2.2 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 :=
  (congrArg (fun z => z.2.2.2.2) (outsAt0_B m c t h0)).trans (by dsimp only)

theorem at7 (c : Dev nD) (t : Fin cfg0.N) (r : Fin 512) (n : Fin 512) :
    (outsAt0 m c t.val t.isLt).2.1 (ix2 r n) = mainAt (m ((c : Thread nD τ).loc main_arg0)) (m ((c : Thread nD τ).loc main_arg1)) (m ((c : Thread nD τ).loc main_arg2)) (m ((c : Thread nD τ).loc main_arg3)) (rowOf t r) ⟨1536 + n.val, by omega⟩ := by
  refine Eq.trans ?_ (main_tile m c t r _)
  by_cases h0 : t.val % 16 = 0
  · refine (congrFun (after7_A m c t h0) (ix2 r n)).trans ?_
    exact out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) r n
  · refine (congrFun (after7_B m c t h0) (ix2 r n)).trans ?_
    exact out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 r n

theorem at8 (c : Dev nD) (t : Fin cfg0.N) (r : Fin 512) (n : Fin 128) :
    (outsAt0 m c t.val t.isLt).2.2.1 (ix2 r n) = gateAt (m ((c : Thread nD τ).loc main_arg0)) (m ((c : Thread nD τ).loc main_arg1)) (m ((c : Thread nD τ).loc main_arg2)) (m ((c : Thread nD τ).loc main_arg4)) (rowOf t r) n := by
  refine Eq.trans ?_ (gate_tile m c t r n)
  by_cases h0 : t.val % 16 = 0
  · refine (congrFun (after8_A m c t h0) (ix2 r n)).trans ?_
    exact out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) r n
  · refine (congrFun (after8_B m c t h0) (ix2 r n)).trans ?_
    exact out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 r n

theorem at9 (c : Dev nD) (t : Fin cfg0.N) (r : Fin 512) (n : Fin 1536) :
    (outsAt0 m c t.val t.isLt).2.2.2.1 (ix2 r n) = mainAt (m ((c : Thread nD τ).loc main_arg0)) (m ((c : Thread nD τ).loc main_arg1)) (m ((c : Thread nD τ).loc main_arg2)) (m ((c : Thread nD τ).loc main_arg3)) (rowOf t r) ⟨2048 + n.val, by omega⟩ := by
  refine Eq.trans ?_ (main_tile m c t r _)
  by_cases h0 : t.val % 16 = 0
  · refine (congrFun (after9_A m c t h0) (ix2 r n)).trans ?_
    exact out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) r n
  · refine (congrFun (after9_B m c t h0) (ix2 r n)).trans ?_
    exact out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 r n

/-- What a tile leaves in the first rows of the scratch: its last projected rows. -/
theorem carried (c : Dev nD) (t : Fin cfg0.N) (r : Fin 8) (n : Fin 1536) :
    (outsAt0 m c t.val t.isLt).2.2.2.2 (ix2 (⟨r.val, by omega⟩ : Fin 520) n)
      = mainAt (m ((c : Thread nD τ).loc main_arg0)) (m ((c : Thread nD τ).loc main_arg1)) (m ((c : Thread nD τ).loc main_arg2)) (m ((c : Thread nD τ).loc main_arg3)) (rowOf t ⟨504 + r.val, by omega⟩) ⟨n.val, by omega⟩ := by
  refine Eq.trans ?_ (main_tile m c t ⟨504 + r.val, by omega⟩ ⟨n.val, by omega⟩)
  by_cases h0 : t.val % 16 = 0
  · refine (congrFun (carried_A m c t h0) _).trans ?_
    exact sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) r n
  · refine (congrFun (carried_B m c t h0) _).trans ?_
    exact sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 r n

theorem raw_tile (c : Dev nD) (t : Fin cfg0.N) (top : Fin 520 → Fin 1536 → EReal)
    (htop : ∀ (n : Fin 8) (col : Fin 1536), top ⟨n.val, by omega⟩ col
      = if h : t.val % 16 = 0 then 0 else mainAt (m ((c : Thread nD τ).loc main_arg0)) (m ((c : Thread nD τ).loc main_arg1)) (m ((c : Thread nD τ).loc main_arg2)) (m ((c : Thread nD τ).loc main_arg3))
          ⟨512 * t.val + n.val - 8, by have := lt_32 t; omega⟩ ⟨col.val, by omega⟩)
    (r : Fin 512) (j : Fin 4) (n : Fin 520) (hn : n.val = 5 + j.val + r.val) (col : Fin 1536) :
    rawAt top (projA (iblk m c 0 t) (iblk m c 1 t) (iblk m c 2 t) (iblk m c 3 t)) n col
      = placeAt (m ((c : Thread nD τ).loc main_arg0)) (m ((c : Thread nD τ).loc main_arg1)) (m ((c : Thread nD τ).loc main_arg2)) (m ((c : Thread nD τ).loc main_arg3)) (rowOf t r) j col := by
  have ht := lt_32 t
  have hrow : (rowOf t r).val = 512 * t.val + r.val := rfl
  unfold placeAt
  by_cases h8 : n.val < 8
  · unfold rawAt
    rw [dif_pos h8]
    refine (htop ⟨n.val, h8⟩ col).trans ?_
    by_cases h0 : t.val % 16 = 0
    · rw [dif_pos h0, dif_neg (by omega)]
    · rw [dif_neg h0, dif_pos (by omega)]
      exact congrArg (fun g => mainAt (m ((c : Thread nD τ).loc main_arg0)) (m ((c : Thread nD τ).loc main_arg1)) (m ((c : Thread nD τ).loc main_arg2)) (m ((c : Thread nD τ).loc main_arg3)) g ⟨col.val, by omega⟩) (Fin.ext (by
        show 512 * t.val + n.val - 8 = 512 * t.val + r.val + j.val - 3; omega))
  · rw [dif_pos (by omega)]
    refine (rawAt_own top _ n col ⟨n.val - 8, by omega⟩ (by show n.val = 8 + (n.val - 8); omega)).trans ?_
    refine (main_tile m c t ⟨n.val - 8, by omega⟩ ⟨col.val, by omega⟩).trans ?_
    exact congrArg (fun g => mainAt (m ((c : Thread nD τ).loc main_arg0)) (m ((c : Thread nD τ).loc main_arg1)) (m ((c : Thread nD τ).loc main_arg2)) (m ((c : Thread nD τ).loc main_arg3)) g ⟨col.val, by omega⟩) (Fin.ext (by
        show 512 * t.val + (n.val - 8) = 512 * t.val + r.val + j.val - 3; omega))

theorem sum_tile (c : Dev nD) (t : Fin cfg0.N) (top : Fin 520 → Fin 1536 → EReal)
    (htop : ∀ (n : Fin 8) (col : Fin 1536), top ⟨n.val, by omega⟩ col
      = if h : t.val % 16 = 0 then 0 else mainAt (m ((c : Thread nD τ).loc main_arg0)) (m ((c : Thread nD τ).loc main_arg1)) (m ((c : Thread nD τ).loc main_arg2)) (m ((c : Thread nD τ).loc main_arg3))
          ⟨512 * t.val + n.val - 8, by have := lt_32 t; omega⟩ ⟨col.val, by omega⟩)
    (r : Fin 512) :
    laneAt (rawAt top (projA (iblk m c 0 t) (iblk m c 1 t) (iblk m c 2 t) (iblk m c 3 t))) (weights (iblk m c 5 t)) r
      = sumAt (m ((c : Thread nD τ).loc main_arg0)) (m ((c : Thread nD τ).loc main_arg1)) (m ((c : Thread nD τ).loc main_arg2)) (m ((c : Thread nD τ).loc main_arg3)) (m ((c : Thread nD τ).loc main_arg5)) (rowOf t r) := by
  funext col
  unfold laneAt sumAt
  rw [raw_tile m c t top htop r 0 ⟨5 + r.val, by omega⟩ (by show 5 + r.val = 5 + 0 + r.val; omega) col,
    raw_tile m c t top htop r 1 ⟨6 + r.val, by omega⟩ (by show 6 + r.val = 5 + 1 + r.val; omega) col,
    raw_tile m c t top htop r 2 ⟨7 + r.val, by omega⟩ (by show 7 + r.val = 5 + 2 + r.val; omega) col,
    raw_tile m c t top htop r 3 ⟨8 + r.val, by omega⟩ (by show 8 + r.val = 5 + 3 + r.val; omega) col]
  have e : ∀ j : Fin 4, weights (iblk m c 5 t) j col = m ((c : Thread nD τ).loc main_arg5) (ix2 j col) := fun j => block5 m c t j col
  rw [e 0, e 1, e 2, e 3]

theorem at6 (c : Dev nD) (t : Fin cfg0.N) (r : Fin 512) (n : Fin 1536) :
    (outsAt0 m c t.val t.isLt).1 (ix2 r n)
      = headed (sumAt (m ((c : Thread nD τ).loc main_arg0)) (m ((c : Thread nD τ).loc main_arg1)) (m ((c : Thread nD τ).loc main_arg2)) (m ((c : Thread nD τ).loc main_arg3)) (m ((c : Thread nD τ).loc main_arg5)) (rowOf t r)) n := by
  have ht := lt_32 t
  by_cases h0 : t.val % 16 = 0
  · refine (congrFun (after6_A m c t h0) (ix2 r n)).trans ?_
    refine (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk m c 0 t) (iblk m c 1 t) (iblk m c 2 t) (iblk m c 3 t) (iblk m c 4 t) (iblk m c 5 t) r n).trans (congrArg (fun a => headed a n) (sum_tile m c t _ (fun k col => ?_) r))
    rw [dif_pos h0]
  · refine (congrFun (after6_B m c t h0) (ix2 r n)).trans ?_
    refine (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (by omega)).2.2.2.2 r n).trans (congrArg (fun a => headed a n) (sum_tile m c t _ (fun k col => ?_) r))
    rw [dif_neg h0]
    refine (carried m c ⟨t.val - 1, by omega⟩ k col).trans ?_
    exact congrArg (fun g => mainAt (m ((c : Thread nD τ).loc main_arg0)) (m ((c : Thread nD τ).loc main_arg1)) (m ((c : Thread nD τ).loc main_arg2)) (m ((c : Thread nD τ).loc main_arg3)) g ⟨col.val, by omega⟩) (Fin.ext (by
        show 512 * (t.val - 1) + (504 + k.val) = 512 * t.val + k.val - 8; omega))

/-! ## The arrays -/

theorem emb6 (t : Fin cfg0.N) (r : Fin 512) (n : Fin 1536) :
    ((cfg0.win 6).blk t).view.emb (ix2 r n) = (ix2 (rowOf t r) n : S16384x1536.Idx) := by
  funext d
  apply Fin.ext
  match d with
  | ⟨0, _⟩ => show win0_6.index t (0 : Fin 2) * 512 + 1 * r.val = 512 * t.val + r.val; rw [idx6 t]; omega
  | ⟨1, _⟩ => show 0 * 1536 + 1 * n.val = n.val; omega

theorem cut6 (B : Vec Ideal S512x1536 .f32) (t : Fin cfg0.N) (r : Fin 512) (n : Fin 1536) :
    (cfg0.win 6).cut (grid0.coords t) B (ix2 r n) = B (ix2 r n) := rfl

theorem entry6' (c : Dev nD) (A : Vec Ideal S16384x1536 .f32) (hA : A = (dats m 0 c).arrAt 6 cfg0.N) (t : Fin cfg0.N) (r : Fin 512) (n : Fin 1536) :
    A (ix2 (rowOf t r) n) = (outsAt0 m c t.val t.isLt).1 (ix2 r n) := by
  refine (congrArg A (emb6 t r n)).symm.trans (Eq.trans ?_ (cut6 (outsAt0 m c t.val t.isLt).1 t r n))
  show ((cfg0.win 6).blk t).view.read (Elt Ideal) A (ix2 r n) = _
  rw [hA]
  exact congrFun ((blocks6 m c t (flush0_6 t)).trans (flushed6 m c t)) (ix2 r n)

theorem result6 (c : Dev nD) : (dats m 0 c).arrAt 6 cfg0.N = array6 (m ((c : Thread nD τ).loc main_arg0)) (m ((c : Thread nD τ).loc main_arg1)) (m ((c : Thread nD τ).loc main_arg2)) (m ((c : Thread nD τ).loc main_arg3)) (m ((c : Thread nD τ).loc main_arg5)) := by
  generalize hA : (dats m 0 c).arrAt 6 cfg0.N = A
  change Vec Ideal S16384x1536 .f32 at A
  funext y
  have hy : (y 0).val < 16384 := (y 0).isLt
  have ht : (y 0).val / 512 < cfg0.N := lt_of_lt_of_eq (by omega) N_0.symm
  have e := (entry6' m c A hA.symm ⟨(y 0).val / 512, ht⟩ ⟨(y 0).val % 512, Nat.mod_lt _ (by decide)⟩ (y 1)).trans (at6 m c _ _ _)
  have er : rowOf ⟨(y 0).val / 512, ht⟩ ⟨(y 0).val % 512, Nat.mod_lt _ (by decide)⟩ = y 0 :=
    Fin.ext (by show 512 * ((y 0).val / 512) + (y 0).val % 512 = (y 0).val; omega)
  rw [er] at e
  exact (congrArg A (ValueIdx.eq_ix2 y)).trans e

theorem emb7 (t : Fin cfg0.N) (r : Fin 512) (n : Fin 512) :
    ((cfg0.win 7).blk t).view.emb (ix2 r n) = (ix2 (rowOf t r) n : S16384x512.Idx) := by
  funext d
  apply Fin.ext
  match d with
  | ⟨0, _⟩ => show win0_7.index t (0 : Fin 2) * 512 + 1 * r.val = 512 * t.val + r.val; rw [idx7 t]; omega
  | ⟨1, _⟩ => show 0 * 512 + 1 * n.val = n.val; omega

theorem cut7 (B : Vec Ideal S512x512 .f32) (t : Fin cfg0.N) (r : Fin 512) (n : Fin 512) :
    (cfg0.win 7).cut (grid0.coords t) B (ix2 r n) = B (ix2 r n) := rfl

theorem entry7' (c : Dev nD) (A : Vec Ideal S16384x512 .f32) (hA : A = (dats m 0 c).arrAt 7 cfg0.N) (t : Fin cfg0.N) (r : Fin 512) (n : Fin 512) :
    A (ix2 (rowOf t r) n) = (outsAt0 m c t.val t.isLt).2.1 (ix2 r n) := by
  refine (congrArg A (emb7 t r n)).symm.trans (Eq.trans ?_ (cut7 (outsAt0 m c t.val t.isLt).2.1 t r n))
  show ((cfg0.win 7).blk t).view.read (Elt Ideal) A (ix2 r n) = _
  rw [hA]
  exact congrFun ((blocks7 m c t (flush0_7 t)).trans (flushed7 m c t)) (ix2 r n)

theorem result7 (c : Dev nD) : (dats m 0 c).arrAt 7 cfg0.N = array7 (m ((c : Thread nD τ).loc main_arg0)) (m ((c : Thread nD τ).loc main_arg1)) (m ((c : Thread nD τ).loc main_arg2)) (m ((c : Thread nD τ).loc main_arg3)) := by
  generalize hA : (dats m 0 c).arrAt 7 cfg0.N = A
  change Vec Ideal S16384x512 .f32 at A
  funext y
  have hy : (y 0).val < 16384 := (y 0).isLt
  have ht : (y 0).val / 512 < cfg0.N := lt_of_lt_of_eq (by omega) N_0.symm
  have e := (entry7' m c A hA.symm ⟨(y 0).val / 512, ht⟩ ⟨(y 0).val % 512, Nat.mod_lt _ (by decide)⟩ (y 1)).trans (at7 m c _ _ _)
  have er : rowOf ⟨(y 0).val / 512, ht⟩ ⟨(y 0).val % 512, Nat.mod_lt _ (by decide)⟩ = y 0 :=
    Fin.ext (by show 512 * ((y 0).val / 512) + (y 0).val % 512 = (y 0).val; omega)
  rw [er] at e
  exact (congrArg A (ValueIdx.eq_ix2 y)).trans e

theorem emb8 (t : Fin cfg0.N) (r : Fin 512) (n : Fin 128) :
    ((cfg0.win 8).blk t).view.emb (ix2 r n) = (ix2 (rowOf t r) n : S16384x128.Idx) := by
  funext d
  apply Fin.ext
  match d with
  | ⟨0, _⟩ => show win0_8.index t (0 : Fin 2) * 512 + 1 * r.val = 512 * t.val + r.val; rw [idx8 t]; omega
  | ⟨1, _⟩ => show 0 * 128 + 1 * n.val = n.val; omega

theorem cut8 (B : Vec Ideal S512x128 .f32) (t : Fin cfg0.N) (r : Fin 512) (n : Fin 128) :
    (cfg0.win 8).cut (grid0.coords t) B (ix2 r n) = B (ix2 r n) := rfl

theorem entry8' (c : Dev nD) (A : Vec Ideal S16384x128 .f32) (hA : A = (dats m 0 c).arrAt 8 cfg0.N) (t : Fin cfg0.N) (r : Fin 512) (n : Fin 128) :
    A (ix2 (rowOf t r) n) = (outsAt0 m c t.val t.isLt).2.2.1 (ix2 r n) := by
  refine (congrArg A (emb8 t r n)).symm.trans (Eq.trans ?_ (cut8 (outsAt0 m c t.val t.isLt).2.2.1 t r n))
  show ((cfg0.win 8).blk t).view.read (Elt Ideal) A (ix2 r n) = _
  rw [hA]
  exact congrFun ((blocks8 m c t (flush0_8 t)).trans (flushed8 m c t)) (ix2 r n)

theorem result8 (c : Dev nD) : (dats m 0 c).arrAt 8 cfg0.N = array8 (m ((c : Thread nD τ).loc main_arg0)) (m ((c : Thread nD τ).loc main_arg1)) (m ((c : Thread nD τ).loc main_arg2)) (m ((c : Thread nD τ).loc main_arg4)) := by
  generalize hA : (dats m 0 c).arrAt 8 cfg0.N = A
  change Vec Ideal S16384x128 .f32 at A
  funext y
  have hy : (y 0).val < 16384 := (y 0).isLt
  have ht : (y 0).val / 512 < cfg0.N := lt_of_lt_of_eq (by omega) N_0.symm
  have e := (entry8' m c A hA.symm ⟨(y 0).val / 512, ht⟩ ⟨(y 0).val % 512, Nat.mod_lt _ (by decide)⟩ (y 1)).trans (at8 m c _ _ _)
  have er : rowOf ⟨(y 0).val / 512, ht⟩ ⟨(y 0).val % 512, Nat.mod_lt _ (by decide)⟩ = y 0 :=
    Fin.ext (by show 512 * ((y 0).val / 512) + (y 0).val % 512 = (y 0).val; omega)
  rw [er] at e
  exact (congrArg A (ValueIdx.eq_ix2 y)).trans e

theorem emb9 (t : Fin cfg0.N) (r : Fin 512) (n : Fin 1536) :
    ((cfg0.win 9).blk t).view.emb (ix2 r n) = (ix2 (rowOf t r) n : S16384x1536.Idx) := by
  funext d
  apply Fin.ext
  match d with
  | ⟨0, _⟩ => show win0_9.index t (0 : Fin 2) * 512 + 1 * r.val = 512 * t.val + r.val; rw [idx9 t]; omega
  | ⟨1, _⟩ => show 0 * 1536 + 1 * n.val = n.val; omega

theorem cut9 (B : Vec Ideal S512x1536 .bf16) (t : Fin cfg0.N) (r : Fin 512) (n : Fin 1536) :
    (cfg0.win 9).cut (grid0.coords t) B (ix2 r n) = B (ix2 r n) := rfl

theorem entry9' (c : Dev nD) (A : Vec Ideal S16384x1536 .bf16) (hA : A = (dats m 0 c).arrAt 9 cfg0.N) (t : Fin cfg0.N) (r : Fin 512) (n : Fin 1536) :
    A (ix2 (rowOf t r) n) = (outsAt0 m c t.val t.isLt).2.2.2.1 (ix2 r n) := by
  refine (congrArg A (emb9 t r n)).symm.trans (Eq.trans ?_ (cut9 (outsAt0 m c t.val t.isLt).2.2.2.1 t r n))
  show ((cfg0.win 9).blk t).view.read (Elt Ideal) A (ix2 r n) = _
  rw [hA]
  exact congrFun ((blocks9 m c t (flush0_9 t)).trans (flushed9 m c t)) (ix2 r n)

theorem result9 (c : Dev nD) : (dats m 0 c).arrAt 9 cfg0.N = array9 (m ((c : Thread nD τ).loc main_arg0)) (m ((c : Thread nD τ).loc main_arg1)) (m ((c : Thread nD τ).loc main_arg2)) (m ((c : Thread nD τ).loc main_arg3)) := by
  generalize hA : (dats m 0 c).arrAt 9 cfg0.N = A
  change Vec Ideal S16384x1536 .bf16 at A
  funext y
  have hy : (y 0).val < 16384 := (y 0).isLt
  have ht : (y 0).val / 512 < cfg0.N := lt_of_lt_of_eq (by omega) N_0.symm
  have e := (entry9' m c A hA.symm ⟨(y 0).val / 512, ht⟩ ⟨(y 0).val % 512, Nat.mod_lt _ (by decide)⟩ (y 1)).trans (at9 m c _ _ _)
  have er : rowOf ⟨(y 0).val / 512, ht⟩ ⟨(y 0).val % 512, Nat.mod_lt _ (by decide)⟩ = y 0 :=
    Fin.ext (by show 512 * ((y 0).val / 512) + (y 0).val % 512 = (y 0).val; omega)
  rw [er] at e
  exact (congrArg A (ValueIdx.eq_ix2 y)).trans e

end Cert.Inproj

end
-- ==== Proof.Inproj.Ref.lean ====
/- The input projection's reference at a place of its results. -/
module

public import proofs.«01_k».proof.Proof.Gen.Reference3Ideal.Read
public import proofs.«01_k».proof.Proof.Inproj.Array
public import Idealize.ShloMosaic.Lib.Pointwise
public import Idealize.ShloMosaic.Lib.IdealHost

@[expose] public section

set_option maxRecDepth 16384

noncomputable section

namespace Cert.Inproj.Ref

open Idealize.ShloMosaic Idealize.ShloMosaic.TcCoe Idealize.SL.Sem
open Cert.Reference3Ideal Cert.Reference3Ideal.Gen Cert.Reference3Ideal.Read
open Cert.Inproj (conv act unit scaled modulated headed headed_q headed_k headed_v rowAt mainAt gateAt placeAt sumAt array6 array7 array8 array9)
open scoped BigOperators

variable (X : Vec Ideal S16384x1024 .f32) (M : Vec Ideal S2x6x1024 .f32) (N : Vec Ideal S4x1024 .f32) (W : Vec Ideal S1024x3584 .bf16)
  (G : Vec Ideal S1024x128 .bf16) (C : Vec Ideal S4x1536 .f32)

/-- Place `p` of sequence `s`, as a row of the input. -/
def rowOf (s : Fin 2) (p : Fin 8192) : Fin 16384 := ⟨s.val * 8192 + p.val, by omega⟩

theorem v23_at (s : Fin 2) (p : Fin 8192) (k : Fin 1024) :
    val_main_v23 (F := Ideal) X M N (ix3 s p k) = rowAt X M N (rowOf s p) k := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  have es : (⟨(rowOf s p).val / 8192, by omega⟩ : Fin 2) = s := Fin.ext (by show (s.val * 8192 + p.val) / 8192 = s.val; omega)
  unfold rowAt
  rw [es]
  rfl

theorem v25_at (s : Fin 2) (p : Fin 8192) (c : Fin 3584) :
    val_main_v25 (F := Ideal) X M N W (ix3 s p c) = mainAt X M N W (rowOf s p) c := by
  pointwise [val_main_v25, val_main_v24]
  exact Finset.sum_congr rfl fun k _ => congrArg (· * W (ix2 k c)) (v23_at X M N s p k)

theorem v27_at (s : Fin 2) (p : Fin 8192) (c : Fin 128) :
    val_main_v27 (F := Ideal) X M N G (ix3 s p c) = gateAt X M N G (rowOf s p) c := by
  pointwise [val_main_v27, val_main_v26]
  exact Finset.sum_congr rfl fun k _ => congrArg (· * G (ix2 k c)) (v23_at X M N s p k)

theorem zero_word : ((FloatOps.sitofp FTy.f32 0#32 : Ideal .f32) : EReal) = 0 := by
  show (((0#32 : BitVec 32).toInt : ℝ) : EReal) = 0
  norm_num

/-- The rows in front of which three zero rows are set. -/
theorem v29_at (s : Fin 2) (q : Fin 8195) (c : Fin 1536) :
    val_main_v29 (F := Ideal) X M N W (ix3 s q c)
      = if h : 3 ≤ q.val then mainAt X M N W (rowOf s ⟨q.val - 3, by omega⟩) ⟨c.val, by omega⟩ else 0 := by
  pointwise [val_main_v29, val_main_v28, val_main_call0_v0, val_main_c]
  by_cases h : 3 ≤ q.val
  · rw [dif_pos ⟨h, by omega⟩, dif_pos h]
    exact v25_at X M N W s _ _
  · rw [dif_neg (fun h' => h h'.1), dif_neg h]
    exact zero_word

theorem v29_place (s : Fin 2) (p : Fin 8192) (j : Fin 4) (q : Fin 8195) (hq : q.val = j.val + p.val) (c : Fin 1536) :
    val_main_v29 (F := Ideal) X M N W (ix3 s q c) = placeAt X M N W (rowOf s p) j c := by
  have hr : (rowOf s p).val = s.val * 8192 + p.val := rfl
  refine (v29_at X M N W s q c).trans ?_
  unfold placeAt
  by_cases h : 3 ≤ q.val
  · rw [dif_pos h, dif_pos (by omega)]
    exact congrArg (fun g => mainAt X M N W g ⟨c.val, by omega⟩) (Fin.ext (by
      show s.val * 8192 + (q.val - 3) = s.val * 8192 + p.val + j.val - 3; omega))
  · rw [dif_neg h, dif_neg (by omega)]

theorem v58_at (s : Fin 2) (p : Fin 8192) (c : Fin 1536) :
    val_main_v58 (F := Ideal) X M N W C (ix3 s p c) = sumAt X M N W C (rowOf s p) c := by
  pointwise [val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_cst_3]
  rw [v29_place X M N W s p 0 ⟨p.val, by omega⟩ (by show p.val = 0 + p.val; omega) c, v29_place X M N W s p 1 ⟨1 + p.val, by omega⟩ rfl c,
    v29_place X M N W s p 2 ⟨2 + p.val, by omega⟩ rfl c, v29_place X M N W s p 3 ⟨3 + p.val, by omega⟩ rfl c]
  show placeAt X M N W (rowOf s p) 0 c * C (ix2 0 c) + placeAt X M N W (rowOf s p) 1 c * C (ix2 1 c) + placeAt X M N W (rowOf s p) 2 c * C (ix2 2 c)
      + placeAt X M N W (rowOf s p) 3 c * C (ix2 3 c)
    = C (ix2 3 c) * placeAt X M N W (rowOf s p) 3 c + C (ix2 0 c) * placeAt X M N W (rowOf s p) 0 c + C (ix2 1 c) * placeAt X M N W (rowOf s p) 1 c
      + C (ix2 2 c) * placeAt X M N W (rowOf s p) 2 c
  rw [mul_comm (C (ix2 3 c)), mul_comm (C (ix2 0 c)), mul_comm (C (ix2 1 c)), mul_comm (C (ix2 2 c)), add_comm _ (placeAt X M N W (rowOf s p) 3 c * C (ix2 3 c))]
  simp only [add_assoc]

theorem v65_at (s : Fin 2) (p : Fin 8192) (c : Fin 1536) :
    val_main_v65 (F := Ideal) X M N W C (ix3 s p c) = act (sumAt X M N W C (rowOf s p) c) := by
  rw [← v58_at]
  pointwise [val_main_v65, val_main_v64, val_main_v63, val_main_v62, val_main_v61, val_main_v60, val_main_v59, val_main_cst_4, val_main_cst_5]
  rfl

theorem v67_at (s : Fin 2) (p : Fin 8192) (h : Fin 4) (l : Fin 128) :
    val_main_v67 (F := Ideal) X M N W C (ix4 s p h l) = act (sumAt X M N W C (rowOf s p) ⟨h.val * 128 + l.val, by omega⟩) := by
  pointwise [val_main_v67, val_main_v66]
  exact v65_at X M N W C s p _

theorem v68_at (s : Fin 2) (p : Fin 8192) (h : Fin 4) (l : Fin 128) :
    val_main_v68 (F := Ideal) X M N W C (ix4 s p h l) = act (sumAt X M N W C (rowOf s p) ⟨(4 + h.val) * 128 + l.val, by omega⟩) := by
  pointwise [val_main_v68, val_main_v66]
  exact v65_at X M N W C s p _

theorem v69_at (s : Fin 2) (p : Fin 8192) (h : Fin 4) (l : Fin 128) :
    val_main_v69 (F := Ideal) X M N W C (ix4 s p h l) = act (sumAt X M N W C (rowOf s p) ⟨(8 + h.val) * 128 + l.val, by omega⟩) := by
  pointwise [val_main_v69, val_main_v66]
  exact v65_at X M N W C s p _

theorem v71_at (s : Fin 2) (p : Fin 8192) (h : Fin 4) :
    val_main_v71 (F := Ideal) X M N W C (ix3 s p h)
      = ∑ j : Fin 128, val_main_v67 (F := Ideal) X M N W C (ix4 s p h j) * val_main_v67 (F := Ideal) X M N W C (ix4 s p h j) := by
  rw [val_main_v71_apply, val_main_cst_6_apply]
  have e0 : (FloatOps.ofBits .f32 0x00000000#32 : Ideal .f32) = (0 : EReal) := by
    show Ideal.ofBits .f32 0x00000000#32 = 0
    simp [Ideal.ofBits, Ideal.ieee]
  rw [e0]
  refine (zero_add _).trans (Finset.sum_congr rfl fun j _ => ?_)
  have e : idx_main_v71 (ix3 s p h) j = ix4 s p h j := by
    funext a
    match a with
    | ⟨0, _⟩ => rfl
    | ⟨1, _⟩ => rfl
    | ⟨2, _⟩ => rfl
    | ⟨3, _⟩ => rfl
  rw [e]
  exact val_main_v70_apply X M N W C (ix4 s p h j)

theorem v81_at (s : Fin 2) (p : Fin 8192) (h : Fin 4) :
    val_main_v81 (F := Ideal) X M N W C (ix3 s p h)
      = ∑ j : Fin 128, val_main_v68 (F := Ideal) X M N W C (ix4 s p h j) * val_main_v68 (F := Ideal) X M N W C (ix4 s p h j) := by
  rw [val_main_v81_apply, val_main_cst_9_apply]
  have e0 : (FloatOps.ofBits .f32 0x00000000#32 : Ideal .f32) = (0 : EReal) := by
    show Ideal.ofBits .f32 0x00000000#32 = 0
    simp [Ideal.ofBits, Ideal.ieee]
  rw [e0]
  refine (zero_add _).trans (Finset.sum_congr rfl fun j _ => ?_)
  have e : idx_main_v81 (ix3 s p h) j = ix4 s p h j := by
    funext a
    match a with
    | ⟨0, _⟩ => rfl
    | ⟨1, _⟩ => rfl
    | ⟨2, _⟩ => rfl
    | ⟨3, _⟩ => rfl
  rw [e]
  exact val_main_v80_apply X M N W C (ix4 s p h j)

theorem v79_of (s : Fin 2) (p : Fin 8192) (h : Fin 4) (l : Fin 128) :
    val_main_v79 (F := Ideal) X M N W C (ix4 s p h l)
      = val_main_v67 (F := Ideal) X M N W C (ix4 s p h l) * Ideal.rsqrt (val_main_v71 (F := Ideal) X M N W C (ix3 s p h) + Ideal.ofBits .f32 0x358637BD#32)
        * Ideal.ofBits .f32 0x3DB504F3#32 := by
  rw [val_main_v79_apply, val_main_v77_apply, val_main_v76_apply, val_main_v75_apply, val_main_v74_apply, val_main_v72_apply, val_main_v73_apply, val_main_cst_7_apply, val_main_v78_apply, val_main_cst_8_apply]
  have e : idx_main_v72 (idx_main_v76 (ix4 s p h l)) = ix3 s p h := by
    funext a
    match a with
    | ⟨0, _⟩ => rfl
    | ⟨1, _⟩ => rfl
    | ⟨2, _⟩ => rfl
  rw [e]
  rfl

theorem v87_of (s : Fin 2) (p : Fin 8192) (h : Fin 4) (l : Fin 128) :
    val_main_v87 (F := Ideal) X M N W C (ix4 s p h l)
      = val_main_v68 (F := Ideal) X M N W C (ix4 s p h l) * Ideal.rsqrt (val_main_v81 (F := Ideal) X M N W C (ix3 s p h) + Ideal.ofBits .f32 0x358637BD#32) := by
  rw [val_main_v87_apply, val_main_v86_apply, val_main_v85_apply, val_main_v84_apply, val_main_v82_apply, val_main_v83_apply, val_main_cst_10_apply]
  have e : idx_main_v82 (idx_main_v86 (ix4 s p h l)) = ix3 s p h := by
    funext a
    match a with
    | ⟨0, _⟩ => rfl
    | ⟨1, _⟩ => rfl
    | ⟨2, _⟩ => rfl
  rw [e]
  rfl

theorem v79_at (s : Fin 2) (p : Fin 8192) (h : Fin 4) (l : Fin 128) :
    val_main_v79 (F := Ideal) X M N W C (ix4 s p h l)
      = scaled (fun j => sumAt X M N W C (rowOf s p) ⟨h.val * 128 + j.val, by omega⟩) l := by
  rw [v79_of, v71_at]
  simp only [v67_at]
  rfl

theorem v87_at (s : Fin 2) (p : Fin 8192) (h : Fin 4) (l : Fin 128) :
    val_main_v87 (F := Ideal) X M N W C (ix4 s p h l)
      = unit (fun j => sumAt X M N W C (rowOf s p) ⟨(4 + h.val) * 128 + j.val, by omega⟩) l := by
  rw [v87_of, v81_at]
  simp only [v68_at]
  rfl

/-! ## The results -/

theorem rowOf_split (g : Fin 16384) : rowOf ⟨g.val / 8192, by omega⟩ ⟨g.val % 8192, by omega⟩ = g :=
  Fin.ext (by show g.val / 8192 * 8192 + g.val % 8192 = g.val; omega)

theorem v91_at (g : Fin 16384) (n : Fin 512) :
    val_main_v91 (F := Ideal) X M N W (ix2 g n) = mainAt X M N W g ⟨1536 + n.val, by omega⟩ := by
  pointwise [val_main_v91, val_main_v90]
  exact (v25_at X M N W _ _ _).trans (congrArg (fun g => mainAt X M N W g ⟨1536 + n.val, by omega⟩) (rowOf_split g))

theorem v92_at (g : Fin 16384) (n : Fin 128) :
    val_main_v92 (F := Ideal) X M N G (ix2 g n) = gateAt X M N G g n := by
  pointwise [val_main_v92]
  exact (v27_at X M N G _ _ _).trans (congrArg (fun g => gateAt X M N G g n) (rowOf_split g))

theorem v95_at (g : Fin 16384) (n : Fin 1536) :
    val_main_v95 (F := Ideal) X M N W (ix2 g n) = mainAt X M N W g ⟨2048 + n.val, by omega⟩ := by
  pointwise [val_main_v95, val_main_v94, val_main_v93]
  exact (v25_at X M N W _ _ _).trans (congrArg (fun g => mainAt X M N W g ⟨2048 + n.val, by omega⟩) (rowOf_split g))

theorem v89_at (g : Fin 16384) (n : Fin 1536) :
    val_main_v89 (F := Ideal) X M N W C (ix2 g n) = headed (sumAt X M N W C g) n := by
  pointwise [val_main_v89, val_main_v88]
  by_cases h : n.val / 128 < 4
  · rw [dif_pos h]
    refine (v79_at X M N W C _ _ _ _).trans ?_
    rw [rowOf_split g]
    exact headed_q _ (n.val / 128) h _ n (by show n.val = 128 * (n.val / 128) + n.val % 128; omega) _ fun j =>
      congrArg (sumAt X M N W C g) (Fin.ext (by show n.val / 128 * 128 + j.val = 128 * (n.val / 128) + j.val; omega))
  · rw [dif_neg h]
    by_cases h' : n.val / 128 - 4 < 4
    · rw [dif_pos h']
      refine (v87_at X M N W C _ _ _ _).trans ?_
      rw [rowOf_split g]
      exact headed_k _ (n.val / 128) (by omega) (by omega) _ n (by show n.val = 128 * (n.val / 128) + n.val % 128; omega) _ fun j =>
        congrArg (sumAt X M N W C g) (Fin.ext (by show (4 + (n.val / 128 - 4)) * 128 + j.val = 128 * (n.val / 128) + j.val; omega))
    · rw [dif_neg h']
      refine (v69_at X M N W C _ _ _ _).trans ?_
      rw [rowOf_split g]
      exact headed_v _ (n.val / 128) (by omega) (by omega) ⟨n.val % 128, by omega⟩ n (by show n.val = 128 * (n.val / 128) + n.val % 128; omega) _
        (congrArg (sumAt X M N W C g) (Fin.ext (by
          show (8 + (n.val / 128 - 4 - 4)) * 128 + n.val % 128 = 128 * (n.val / 128) + n.val % 128; omega)))

theorem result6_eq : val_main_v89 (F := Ideal) X M N W C = array6 X M N W C :=
  funext fun y => (congrArg (val_main_v89 (F := Ideal) X M N W C) (ValueIdx.eq_ix2 y)).trans (v89_at X M N W C (y 0) (y 1))

theorem result7_eq : val_main_v91 (F := Ideal) X M N W = array7 X M N W :=
  funext fun y => (congrArg (val_main_v91 (F := Ideal) X M N W) (ValueIdx.eq_ix2 y)).trans (v91_at X M N W (y 0) (y 1))

theorem result8_eq : val_main_v92 (F := Ideal) X M N G = array8 X M N G :=
  funext fun y => (congrArg (val_main_v92 (F := Ideal) X M N G) (ValueIdx.eq_ix2 y)).trans (v92_at X M N G (y 0) (y 1))

theorem result9_eq : val_main_v95 (F := Ideal) X M N W = array9 X M N W :=
  funext fun y => (congrArg (val_main_v95 (F := Ideal) X M N W) (ValueIdx.eq_ix2 y)).trans (v95_at X M N W (y 0) (y 1))

end Cert.Inproj.Ref

end
-- ==== Proof.lean ====
/- The certificate: the frames, the idealizations, and the equations of the chunked band attention, of the experts
and of the input projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Equation
public import proofs.«01_k».proof.Proof.Precondition
public import proofs.«01_k».proof.Proof.Experts.Pre
public import proofs.«01_k».proof.Proof.ExpertsIdeal.Pre
public import proofs.«01_k».proof.Proof.ExpertsIdeal.Array
public import proofs.«01_k».proof.Proof.ExpertsIdeal.Ref
public import proofs.«01_k».proof.Proof.Inproj.Array
public import proofs.«01_k».proof.Proof.Inproj.Ref
public import Idealize.ShloMosaic.Adequacy
public import Idealize.ShloMosaic.Init

@[expose] public section

noncomputable section

namespace Cert.Proof

open Idealize.ShloMosaic Idealize.ShloMosaic.TcCoe Idealize.SL.Sem

/-- The kernel as printed runs, leaves its arguments unchanged and every semaphore at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference's: host operations only, no semaphores. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem frame_reference_of_pre : Cert.quiescent_ReferenceIdeal_pre_finite_scores (hPre_finite_scores := Cert.Attn.pre_facts) :=
  fun m ρ _ => frame_reference m ρ trivial

/-- The three named constants: the printed words are the roundings the idealization names. -/
theorem preserves : Cert.preserves_Kernel_KernelIdeal :=
  ⟨IdealRules.named_const.statement Cert.KernelIdeal.κ "log2e" .f32 0x3FB8AA3B#32 _ rfl,
   IdealRules.named_const.statement Cert.KernelIdeal.κ "masked" .f32 0xF149F2CA#32 _ rfl,
   IdealRules.named_const.statement Cert.KernelIdeal.κ "scale_log2e" .f32 0x3E38AA3B#32 _ rfl⟩

/-- From memories that agree on the arguments, with real queries, keys and bias, both idealized programs leave the same
    attention array. -/
theorem algebraic : Cert.algebraic_KernelIdeal_ReferenceIdeal_pre_finite_scores (hPre_finite_scores := Cert.Attn.pre_facts) := by
  intro m ρ m' ρ' hpre hag
  refine ⟨fun c => Cert.Attn.attnArray (Cert.Attn.packed m c) (Cert.Attn.reversed m c), Cert.Attn.run_array m ρ, ?_⟩
  refine (θ_run _ _ _).mono (fun _ h c => ⟨(h c).1.trans ?_, (h c).2⟩) (Cert.ReferenceIdeal.Value.run m' ρ')
  have hreal : Cert.Attn.Real (Cert.Attn.packed m c) (m ((c : Thread Cert.KernelIdeal.nD Cert.KernelIdeal.τ).loc Cert.KernelIdeal.main_arg1)) :=
    @Cert.Attn.real_of_pre Cert.Attn.pre_facts _ _ (hpre c).1 (hpre c).2
  rw [Cert.ReferenceIdeal.Read.val_main_v83_eq, (hag c).1, (hag c).2]
  show _ = Cert.Attn.attnArray (Cert.Attn.packed m c) (Cert.Attn.reversed m c)
  rw [Cert.Attn.reversed_eq]
  exact (Cert.Attn.arrays_eq _ _ hreal).symm

/-- The experts as printed run, leave their arguments unchanged and every semaphore at zero, under the precondition on the tables. -/
theorem frame_kernel2 : Cert.quiescent_Kernel2 (hPre_routed := Cert.Kernel2Ideal.Own.Pre.facts) := fun m ρ h =>
  Cert.Kernel2.Own.frame_routed m ρ (@Cert.Kernel2.Own.routed_of Bits _ Cert.Kernel2Ideal.Own.Pre.facts _ _ _ _ _ _ _ _ _ (h 0).1 (h 0).2.1 (h 0).2.2.1 (h 0).2.2.2.1 (h 0).2.2.2.2.1 (h 0).2.2.2.2.2)

/-- What the precondition says of the idealized program's tables. -/
theorem routed_ideal (m : (ℓ : Loc Cert.Kernel2Ideal.nD Cert.Kernel2Ideal.τ Cert.Kernel2Ideal.sig) → Buf (Elt Ideal) ℓ)
    (h : Cert.Pre_Kernel2Ideal (hPre_routed := Cert.Kernel2Ideal.Own.Pre.facts) m) : Cert.Kernel2Ideal.Own.Rt m :=
  @Cert.Kernel2Ideal.Own.routed_of Ideal _ Cert.Kernel2Ideal.Own.Pre.facts _ _ _ _ _ _ _ _ _ (h 0).1 (h 0).2.1 (h 0).2.2.1 (h 0).2.2.2.1 (h 0).2.2.2.2.1 (h 0).2.2.2.2.2

/-- So does their idealization. -/
theorem frame_ideal2 : Cert.quiescent_Kernel2Ideal (hPre_routed := Cert.Kernel2Ideal.Own.Pre.facts) := fun m ρ h =>
  Cert.Kernel2Ideal.Own.frame_routed m ρ (routed_ideal m h)

/-- So does their reference. -/
theorem frame_reference2 : Cert.quiescent_Reference2Ideal := fun m ρ _ =>
  (θ_run Cert.Reference2Ideal.defs _ _).mono (fun r h => ⟨fun c => (h c).2, sem_eq_zero_of_no_sems rfl r.2⟩)
    (Cert.Reference2Ideal.Value.run m ρ)

theorem frame_reference2_of_pre : Cert.quiescent_Reference2Ideal_pre_routed (hPre_routed := Cert.Kernel2Ideal.Own.Pre.facts) :=
  fun m ρ _ => frame_reference2 m ρ trivial

/-- No constant of the experts is named. -/
theorem preserves2 : Cert.preserves_Kernel2_Kernel2Ideal := trivial

/-- From memories that agree on the arguments, under the precondition on the tables, the experts and their reference leave the
    same array. -/
theorem algebraic2 : Cert.algebraic_Kernel2Ideal_Reference2Ideal (hPre_routed := Cert.Kernel2Ideal.Own.Pre.facts) := by
  intro m ρ m' ρ' hpre hag
  have hR := routed_ideal m hpre
  refine ⟨fun c => Cert.Kernel2Ideal.Own.resultOf m c, Cert.Kernel2Ideal.Own.run_array m ρ hR, ?_⟩
  refine (θ_run _ _ _).mono (fun _ h c => ⟨(h c).1.trans ?_, (h c).2⟩) (Cert.Reference2Ideal.Value.run m' ρ')
  obtain ⟨h0, h1, -, h3, -, h5, h6, h7, h8⟩ := hag c
  rw [Cert.Reference2Ideal.Read.val_main_v62_eq, h0, h1, h3, h5, h6, h7, h8]
  obtain rfl : c = 0 := Subsingleton.elim _ _
  exact Cert.Experts.Ref.result_eq _ _ _ _ _ _ _ fun t => hR.be_lt t

/-- The input projection as printed runs, leaves its arguments unchanged and every semaphore at zero. -/
theorem frame_kernel3 : Cert.quiescent_Kernel3 := fun m ρ _ => Cert.Kernel3.Gen.frame m ρ

/-- So does its idealization. -/
theorem frame_ideal3 : Cert.quiescent_Kernel3Ideal := fun m ρ _ => Cert.Kernel3Ideal.Gen.frame m ρ

/-- So does its reference's. -/
theorem frame_reference3 : Cert.quiescent_Reference3Ideal := fun m ρ _ =>
  (θ_run Cert.Reference3Ideal.defs _ _).mono (fun r h => ⟨fun c => (h c).2.2.2.2, sem_eq_zero_of_no_sems rfl r.2⟩)
    (Cert.Reference3Ideal.Value.run m ρ)

/-- No operation of the input projection is rewritten. -/
theorem preserves3 : Cert.preserves_Kernel3_Kernel3Ideal := trivial

/-- The input projection's four arrays are the reference's. -/
theorem algebraic3 : Cert.algebraic_Kernel3Ideal_Reference3Ideal := by
  intro m ρ m' ρ' _ hag
  refine ⟨fun c => Cert.Inproj.array6 (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3))
      (m ((c : Thread Cert.Kernel3Ideal.nD Cert.Kernel3Ideal.τ).loc Cert.Kernel3Ideal.main_arg5)),
    fun c => Cert.Inproj.array7 (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)),
    fun c => Cert.Inproj.array8 (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg4)),
    fun c => Cert.Inproj.array9 (m ((c : Thread Cert.Kernel3Ideal.nD Cert.Kernel3Ideal.τ).loc Cert.Kernel3Ideal.main_arg0))
      (m ((c : Thread Cert.Kernel3Ideal.nD Cert.Kernel3Ideal.τ).loc Cert.Kernel3Ideal.main_arg1))
      (m ((c : Thread Cert.Kernel3Ideal.nD Cert.Kernel3Ideal.τ).loc Cert.Kernel3Ideal.main_arg2))
      (m ((c : Thread Cert.Kernel3Ideal.nD Cert.Kernel3Ideal.τ).loc Cert.Kernel3Ideal.main_arg3)),
    (θ_run _ _ _).mono (fun r h c => ⟨(h c).1.trans (Cert.Inproj.result6 m c),
    (h c).2.1.trans (Cert.Inproj.result7 m c), (h c).2.2.1.trans (Cert.Inproj.result8 m c),
    (h c).2.2.2.1.trans (Cert.Inproj.result9 m c), (h c).2.2.2.2⟩) (Cert.Kernel3Ideal.Value.run_blocks m ρ), ?_⟩
  refine (θ_run _ _ _).mono (fun _ h c => ⟨(h c).1.trans ?_, (h c).2.1.trans ?_, (h c).2.2.1.trans ?_,
    (h c).2.2.2.1.trans ?_, (h c).2.2.2.2⟩) (Cert.Reference3Ideal.Value.run m' ρ')
  · obtain ⟨h0, h1, h2, h3, h4, h5⟩ := hag c
    refine (Cert.Reference3Ideal.Read.val_main_v89_eq _).trans ?_
    refine (Cert.Inproj.Ref.result6_eq (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))
      (m' ((c.tc : Thread Cert.Reference3Ideal.nD Cert.Reference3Ideal.τ).loc Cert.Reference3Ideal.main_arg5))).trans ?_
    rw [h0, h1, h2, h3, h5]
  · obtain ⟨h0, h1, h2, h3, h4, h5⟩ := hag c
    refine (Cert.Reference3Ideal.Read.val_main_v91_eq _).trans ?_
    refine (Cert.Inproj.Ref.result7_eq (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))).trans ?_
    rw [h0, h1, h2, h3]
  · obtain ⟨h0, h1, h2, h3, h4, h5⟩ := hag c
    refine (Cert.Reference3Ideal.Read.val_main_v92_eq _).trans ?_
    refine (Cert.Inproj.Ref.result8_eq (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg4))).trans ?_
    rw [h0, h1, h2, h4]
  · obtain ⟨h0, h1, h2, h3, h4, h5⟩ := hag c
    refine (Cert.Reference3Ideal.Read.val_main_v95_eq _).trans ?_
    refine (Cert.Inproj.Ref.result9_eq (m' ((c.tc : Thread Cert.Reference3Ideal.nD Cert.Reference3Ideal.τ).loc Cert.Reference3Ideal.main_arg0))
      (m' ((c.tc : Thread Cert.Reference3Ideal.nD Cert.Reference3Ideal.τ).loc Cert.Reference3Ideal.main_arg1))
      (m' ((c.tc : Thread Cert.Reference3Ideal.nD Cert.Reference3Ideal.τ).loc Cert.Reference3Ideal.main_arg2))
      (m' ((c.tc : Thread Cert.Reference3Ideal.nD Cert.Reference3Ideal.τ).loc Cert.Reference3Ideal.main_arg3))).trans ?_
    rw [h0, h1, h2, h3]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.pre_facts, Cert.Kernel2Ideal.Own.Pre.facts,
  frame_kernel, frame_ideal, fun m ρ _ => Cert.KernelIdeal.Gen.frame m ρ, frame_reference, frame_reference_of_pre,
  frame_kernel2, frame_ideal2, frame_reference2, frame_reference2_of_pre,
  frame_kernel3, frame_ideal3, frame_reference3, preserves, algebraic, preserves2, algebraic2, preserves3, algebraic3⟩

end Cert.Proof

end
